-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_readable [hPre_readable : Cert.Pre_readable.Facts] (m : (ℓ : Loc Cert.KernelIdeal.nD Cert.KernelIdeal.τ Cert.KernelIdeal.sig) → Buf (Elt Ideal) ℓ) : Prop :=
  ∀ c : Dev Cert.KernelIdeal.nD,
    (Cert.Pre_readable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_readable [hPre_readable : Cert.Pre_readable.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_readable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojReferenceIdeal (m : (ℓ : Loc Cert.InprojReferenceIdeal.nD Cert.InprojReferenceIdeal.τ Cert.InprojReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_readable [hKernelIdeal : Cert.KernelIdeal.Facts] [hPre_readable : Cert.Pre_readable.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_readable m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_readable [hReferenceIdeal : Cert.ReferenceIdeal.Facts] [hPre_readable : Cert.Pre_readable.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_readable m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6)
      ∧ r.2.mem ((c.tc : Thread Cert.FfnReferenceIdeal.nD Cert.FfnReferenceIdeal.τ).loc Cert.FfnReferenceIdeal.main_arg7) = m ((c.tc : Thread Cert.FfnReferenceIdeal.nD Cert.FfnReferenceIdeal.τ).loc Cert.FfnReferenceIdeal.main_arg7))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10)
      ∧ r.2.mem ((c.tc : Thread Cert.MergeReferenceIdeal.nD Cert.MergeReferenceIdeal.τ).loc Cert.MergeReferenceIdeal.main_arg11) = m ((c.tc : Thread Cert.MergeReferenceIdeal.nD Cert.MergeReferenceIdeal.τ).loc Cert.MergeReferenceIdeal.main_arg11))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5)
      ∧ r.2.mem ((c.tc : Thread Cert.Inproj.nD Cert.Inproj.τ).loc Cert.Inproj.main_arg6) = m ((c.tc : Thread Cert.Inproj.nD Cert.Inproj.τ).loc Cert.Inproj.main_arg6)
      ∧ r.2.mem ((c.tc : Thread Cert.Inproj.nD Cert.Inproj.τ).loc Cert.Inproj.main_arg7) = m ((c.tc : Thread Cert.Inproj.nD Cert.Inproj.τ).loc Cert.Inproj.main_arg7)
      ∧ r.2.mem ((c.tc : Thread Cert.Inproj.nD Cert.Inproj.τ).loc Cert.Inproj.main_arg8) = m ((c.tc : Thread Cert.Inproj.nD Cert.Inproj.τ).loc Cert.Inproj.main_arg8)
      ∧ r.2.mem ((c.tc : Thread Cert.Inproj.nD Cert.Inproj.τ).loc Cert.Inproj.main_arg9) = m ((c.tc : Thread Cert.Inproj.nD Cert.Inproj.τ).loc Cert.Inproj.main_arg9)
      ∧ r.2.mem ((c.tc : Thread Cert.Inproj.nD Cert.Inproj.τ).loc Cert.Inproj.main_arg10) = m ((c.tc : Thread Cert.Inproj.nD Cert.Inproj.τ).loc Cert.Inproj.main_arg10)
      ∧ r.2.mem ((c.tc : Thread Cert.Inproj.nD Cert.Inproj.τ).loc Cert.Inproj.main_arg11) = m ((c.tc : Thread Cert.Inproj.nD Cert.Inproj.τ).loc Cert.Inproj.main_arg11)
      ∧ r.2.mem ((c.tc : Thread Cert.Inproj.nD Cert.Inproj.τ).loc Cert.Inproj.main_arg12) = m ((c.tc : Thread Cert.Inproj.nD Cert.Inproj.τ).loc Cert.Inproj.main_arg12)
      ∧ r.2.mem ((c.tc : Thread Cert.Inproj.nD Cert.Inproj.τ).loc Cert.Inproj.main_arg13) = m ((c.tc : Thread Cert.Inproj.nD Cert.Inproj.τ).loc Cert.Inproj.main_arg13))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
      ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
      ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8)
      ∧ r.2.mem ((c.tc : Thread Cert.InprojIdeal.nD Cert.InprojIdeal.τ).loc Cert.InprojIdeal.main_arg9) = m ((c.tc : Thread Cert.InprojIdeal.nD Cert.InprojIdeal.τ).loc Cert.InprojIdeal.main_arg9)
      ∧ r.2.mem ((c.tc : Thread Cert.InprojIdeal.nD Cert.InprojIdeal.τ).loc Cert.InprojIdeal.main_arg10) = m ((c.tc : Thread Cert.InprojIdeal.nD Cert.InprojIdeal.τ).loc Cert.InprojIdeal.main_arg10)
      ∧ r.2.mem ((c.tc : Thread Cert.InprojIdeal.nD Cert.InprojIdeal.τ).loc Cert.InprojIdeal.main_arg11) = m ((c.tc : Thread Cert.InprojIdeal.nD Cert.InprojIdeal.τ).loc Cert.InprojIdeal.main_arg11)
      ∧ r.2.mem ((c.tc : Thread Cert.InprojIdeal.nD Cert.InprojIdeal.τ).loc Cert.InprojIdeal.main_arg12) = m ((c.tc : Thread Cert.InprojIdeal.nD Cert.InprojIdeal.τ).loc Cert.InprojIdeal.main_arg12)
      ∧ r.2.mem ((c.tc : Thread Cert.InprojIdeal.nD Cert.InprojIdeal.τ).loc Cert.InprojIdeal.main_arg13) = m ((c.tc : Thread Cert.InprojIdeal.nD Cert.InprojIdeal.τ).loc Cert.InprojIdeal.main_arg13))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2)
      ∧ r.2.mem ((c.tc : Thread Cert.InprojReferenceIdeal.nD Cert.InprojReferenceIdeal.τ).loc Cert.InprojReferenceIdeal.main_arg3) = m ((c.tc : Thread Cert.InprojReferenceIdeal.nD Cert.InprojReferenceIdeal.τ).loc Cert.InprojReferenceIdeal.main_arg3)
      ∧ r.2.mem ((c.tc : Thread Cert.InprojReferenceIdeal.nD Cert.InprojReferenceIdeal.τ).loc Cert.InprojReferenceIdeal.main_arg4) = m ((c.tc : Thread Cert.InprojReferenceIdeal.nD Cert.InprojReferenceIdeal.τ).loc Cert.InprojReferenceIdeal.main_arg4)
      ∧ r.2.mem ((c.tc : Thread Cert.InprojReferenceIdeal.nD Cert.InprojReferenceIdeal.τ).loc Cert.InprojReferenceIdeal.main_arg5) = m ((c.tc : Thread Cert.InprojReferenceIdeal.nD Cert.InprojReferenceIdeal.τ).loc Cert.InprojReferenceIdeal.main_arg5)
      ∧ r.2.mem ((c.tc : Thread Cert.InprojReferenceIdeal.nD Cert.InprojReferenceIdeal.τ).loc Cert.InprojReferenceIdeal.main_arg6) = m ((c.tc : Thread Cert.InprojReferenceIdeal.nD Cert.InprojReferenceIdeal.τ).loc Cert.InprojReferenceIdeal.main_arg6)
      ∧ r.2.mem ((c.tc : Thread Cert.InprojReferenceIdeal.nD Cert.InprojReferenceIdeal.τ).loc Cert.InprojReferenceIdeal.main_arg7) = m ((c.tc : Thread Cert.InprojReferenceIdeal.nD Cert.InprojReferenceIdeal.τ).loc Cert.InprojReferenceIdeal.main_arg7)
      ∧ r.2.mem ((c.tc : Thread Cert.InprojReferenceIdeal.nD Cert.InprojReferenceIdeal.τ).loc Cert.InprojReferenceIdeal.main_arg8) = m ((c.tc : Thread Cert.InprojReferenceIdeal.nD Cert.InprojReferenceIdeal.τ).loc Cert.InprojReferenceIdeal.main_arg8)
      ∧ r.2.mem ((c.tc : Thread Cert.InprojReferenceIdeal.nD Cert.InprojReferenceIdeal.τ).loc Cert.InprojReferenceIdeal.main_arg9) = m ((c.tc : Thread Cert.InprojReferenceIdeal.nD Cert.InprojReferenceIdeal.τ).loc Cert.InprojReferenceIdeal.main_arg9)
      ∧ r.2.mem ((c.tc : Thread Cert.InprojReferenceIdeal.nD Cert.InprojReferenceIdeal.τ).loc Cert.InprojReferenceIdeal.main_arg10) = m ((c.tc : Thread Cert.InprojReferenceIdeal.nD Cert.InprojReferenceIdeal.τ).loc Cert.InprojReferenceIdeal.main_arg10)
      ∧ r.2.mem ((c.tc : Thread Cert.InprojReferenceIdeal.nD Cert.InprojReferenceIdeal.τ).loc Cert.InprojReferenceIdeal.main_arg11) = m ((c.tc : Thread Cert.InprojReferenceIdeal.nD Cert.InprojReferenceIdeal.τ).loc Cert.InprojReferenceIdeal.main_arg11)
      ∧ r.2.mem ((c.tc : Thread Cert.InprojReferenceIdeal.nD Cert.InprojReferenceIdeal.τ).loc Cert.InprojReferenceIdeal.main_arg12) = m ((c.tc : Thread Cert.InprojReferenceIdeal.nD Cert.InprojReferenceIdeal.τ).loc Cert.InprojReferenceIdeal.main_arg12)
      ∧ r.2.mem ((c.tc : Thread Cert.InprojReferenceIdeal.nD Cert.InprojReferenceIdeal.τ).loc Cert.InprojReferenceIdeal.main_arg13) = m ((c.tc : Thread Cert.InprojReferenceIdeal.nD Cert.InprojReferenceIdeal.τ).loc Cert.InprojReferenceIdeal.main_arg13))
      ∧ r.2.sem = fun _ => 0)

def preserves_Kernel_KernelIdeal : Prop :=
  True

def algebraic_KernelIdeal_ReferenceIdeal_pre_readable [hKernelIdeal : Cert.KernelIdeal.Facts] [hReferenceIdeal : Cert.ReferenceIdeal.Facts] [hPre_readable : Cert.Pre_readable.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_readable m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)
      ∧ m' ((c.tc : Thread Cert.FfnReferenceIdeal.nD Cert.FfnReferenceIdeal.τ).loc Cert.FfnReferenceIdeal.main_arg7) = m ((c.tc : Thread Cert.FfnIdeal.nD Cert.FfnIdeal.τ).loc Cert.FfnIdeal.main_arg7)) →
    ∃ (v0 : (c : Dev Cert.FfnIdeal.nD) → Buf (Elt Ideal) ((c.tc : Thread Cert.FfnIdeal.nD Cert.FfnIdeal.τ).loc Cert.FfnIdeal.main_v2)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v2) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v112) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6)
          ∧ r.2.mem ((c.tc : Thread Cert.FfnReferenceIdeal.nD Cert.FfnReferenceIdeal.τ).loc Cert.FfnReferenceIdeal.main_arg7) = m' ((c.tc : Thread Cert.FfnReferenceIdeal.nD Cert.FfnReferenceIdeal.τ).loc Cert.FfnReferenceIdeal.main_arg7))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)
      ∧ m' ((c.tc : Thread Cert.MergeReferenceIdeal.nD Cert.MergeReferenceIdeal.τ).loc Cert.MergeReferenceIdeal.main_arg11) = m ((c.tc : Thread Cert.MergeIdeal.nD Cert.MergeIdeal.τ).loc Cert.MergeIdeal.main_arg11)) →
    ∃ (v0 : (c : Dev Cert.MergeIdeal.nD) → Buf (Elt Ideal) ((c.tc : Thread Cert.MergeIdeal.nD Cert.MergeIdeal.τ).loc Cert.MergeIdeal.main_v2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v2) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v161) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10)
          ∧ r.2.mem ((c.tc : Thread Cert.MergeReferenceIdeal.nD Cert.MergeReferenceIdeal.τ).loc Cert.MergeReferenceIdeal.main_arg11) = m' ((c.tc : Thread Cert.MergeReferenceIdeal.nD Cert.MergeReferenceIdeal.τ).loc Cert.MergeReferenceIdeal.main_arg11))

def preserves_Inproj_InprojIdeal : Prop :=
  True

def algebraic_InprojIdeal_InprojReferenceIdeal [hInprojIdeal : Cert.InprojIdeal.Facts] [hInprojReferenceIdeal : Cert.InprojReferenceIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojIdeal m →
    (∀ c : Dev Cert.InprojIdeal.nD,
      m' ((c.tc : Thread Cert.InprojReferenceIdeal.nD Cert.InprojReferenceIdeal.τ).loc Cert.InprojReferenceIdeal.main_arg0) = m ((c.tc : Thread Cert.InprojIdeal.nD Cert.InprojIdeal.τ).loc Cert.InprojIdeal.main_arg0)
      ∧ m' ((c.tc : Thread Cert.InprojReferenceIdeal.nD Cert.InprojReferenceIdeal.τ).loc Cert.InprojReferenceIdeal.main_arg1) = m ((c.tc : Thread Cert.InprojIdeal.nD Cert.InprojIdeal.τ).loc Cert.InprojIdeal.main_arg1)
      ∧ m' ((c.tc : Thread Cert.InprojReferenceIdeal.nD Cert.InprojReferenceIdeal.τ).loc Cert.InprojReferenceIdeal.main_arg2) = m ((c.tc : Thread Cert.InprojIdeal.nD Cert.InprojIdeal.τ).loc Cert.InprojIdeal.main_arg2)
      ∧ m' ((c.tc : Thread Cert.InprojReferenceIdeal.nD Cert.InprojReferenceIdeal.τ).loc Cert.InprojReferenceIdeal.main_arg3) = m ((c.tc : Thread Cert.InprojIdeal.nD Cert.InprojIdeal.τ).loc Cert.InprojIdeal.main_arg3)
      ∧ m' ((c.tc : Thread Cert.InprojReferenceIdeal.nD Cert.InprojReferenceIdeal.τ).loc Cert.InprojReferenceIdeal.main_arg4) = m ((c.tc : Thread Cert.InprojIdeal.nD Cert.InprojIdeal.τ).loc Cert.InprojIdeal.main_arg4)
      ∧ m' ((c.tc : Thread Cert.InprojReferenceIdeal.nD Cert.InprojReferenceIdeal.τ).loc Cert.InprojReferenceIdeal.main_arg5) = m ((c.tc : Thread Cert.InprojIdeal.nD Cert.InprojIdeal.τ).loc Cert.InprojIdeal.main_arg5)
      ∧ m' ((c.tc : Thread Cert.InprojReferenceIdeal.nD Cert.InprojReferenceIdeal.τ).loc Cert.InprojReferenceIdeal.main_arg6) = m ((c.tc : Thread Cert.InprojIdeal.nD Cert.InprojIdeal.τ).loc Cert.InprojIdeal.main_arg6)
      ∧ m' ((c.tc : Thread Cert.InprojReferenceIdeal.nD Cert.InprojReferenceIdeal.τ).loc Cert.InprojReferenceIdeal.main_arg7) = m ((c.tc : Thread Cert.InprojIdeal.nD Cert.InprojIdeal.τ).loc Cert.InprojIdeal.main_arg7)
      ∧ m' ((c.tc : Thread Cert.InprojReferenceIdeal.nD Cert.InprojReferenceIdeal.τ).loc Cert.InprojReferenceIdeal.main_arg8) = m ((c.tc : Thread Cert.InprojIdeal.nD Cert.InprojIdeal.τ).loc Cert.InprojIdeal.main_arg8)
      ∧ m' ((c.tc : Thread Cert.InprojReferenceIdeal.nD Cert.InprojReferenceIdeal.τ).loc Cert.InprojReferenceIdeal.main_arg9) = m ((c.tc : Thread Cert.InprojIdeal.nD Cert.InprojIdeal.τ).loc Cert.InprojIdeal.main_arg9)
      ∧ m' ((c.tc : Thread Cert.InprojReferenceIdeal.nD Cert.InprojReferenceIdeal.τ).loc Cert.InprojReferenceIdeal.main_arg10) = m ((c.tc : Thread Cert.InprojIdeal.nD Cert.InprojIdeal.τ).loc Cert.InprojIdeal.main_arg10)
      ∧ m' ((c.tc : Thread Cert.InprojReferenceIdeal.nD Cert.InprojReferenceIdeal.τ).loc Cert.InprojReferenceIdeal.main_arg11) = m ((c.tc : Thread Cert.InprojIdeal.nD Cert.InprojIdeal.τ).loc Cert.InprojIdeal.main_arg11)
      ∧ m' ((c.tc : Thread Cert.InprojReferenceIdeal.nD Cert.InprojReferenceIdeal.τ).loc Cert.InprojReferenceIdeal.main_arg12) = m ((c.tc : Thread Cert.InprojIdeal.nD Cert.InprojIdeal.τ).loc Cert.InprojIdeal.main_arg12)
      ∧ m' ((c.tc : Thread Cert.InprojReferenceIdeal.nD Cert.InprojReferenceIdeal.τ).loc Cert.InprojReferenceIdeal.main_arg13) = m ((c.tc : Thread Cert.InprojIdeal.nD Cert.InprojIdeal.τ).loc Cert.InprojIdeal.main_arg13)) →
    ∃ (v0 : (c : Dev Cert.InprojIdeal.nD) → Buf (Elt Ideal) ((c.tc : Thread Cert.InprojIdeal.nD Cert.InprojIdeal.τ).loc Cert.InprojIdeal.main_v86_0)) (v1 : (c : Dev Cert.InprojIdeal.nD) → Buf (Elt Ideal) ((c.tc : Thread Cert.InprojIdeal.nD Cert.InprojIdeal.τ).loc Cert.InprojIdeal.main_v86_1)) (v2 : (c : Dev Cert.InprojIdeal.nD) → Buf (Elt Ideal) ((c.tc : Thread Cert.InprojIdeal.nD Cert.InprojIdeal.τ).loc Cert.InprojIdeal.main_v86_2)) (v3 : (c : Dev Cert.InprojIdeal.nD) → Buf (Elt Ideal) ((c.tc : Thread Cert.InprojIdeal.nD Cert.InprojIdeal.τ).loc Cert.InprojIdeal.main_v86_3)) (v4 : (c : Dev Cert.InprojIdeal.nD) → Buf (Elt Ideal) ((c.tc : Thread Cert.InprojIdeal.nD Cert.InprojIdeal.τ).loc Cert.InprojIdeal.main_v86_4)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v86_0) = v0 c
          ∧ r.2.mem ((c.tc : Thread Cert.InprojIdeal.nD Cert.InprojIdeal.τ).loc Cert.InprojIdeal.main_v86_1) = v1 c
          ∧ r.2.mem ((c.tc : Thread Cert.InprojIdeal.nD Cert.InprojIdeal.τ).loc Cert.InprojIdeal.main_v86_2) = v2 c
          ∧ r.2.mem ((c.tc : Thread Cert.InprojIdeal.nD Cert.InprojIdeal.τ).loc Cert.InprojIdeal.main_v86_3) = v3 c
          ∧ r.2.mem ((c.tc : Thread Cert.InprojIdeal.nD Cert.InprojIdeal.τ).loc Cert.InprojIdeal.main_v86_4) = v4 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
          ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
          ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
          ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8)
          ∧ r.2.mem ((c.tc : Thread Cert.InprojIdeal.nD Cert.InprojIdeal.τ).loc Cert.InprojIdeal.main_arg9) = m ((c.tc : Thread Cert.InprojIdeal.nD Cert.InprojIdeal.τ).loc Cert.InprojIdeal.main_arg9)
          ∧ r.2.mem ((c.tc : Thread Cert.InprojIdeal.nD Cert.InprojIdeal.τ).loc Cert.InprojIdeal.main_arg10) = m ((c.tc : Thread Cert.InprojIdeal.nD Cert.InprojIdeal.τ).loc Cert.InprojIdeal.main_arg10)
          ∧ r.2.mem ((c.tc : Thread Cert.InprojIdeal.nD Cert.InprojIdeal.τ).loc Cert.InprojIdeal.main_arg11) = m ((c.tc : Thread Cert.InprojIdeal.nD Cert.InprojIdeal.τ).loc Cert.InprojIdeal.main_arg11)
          ∧ r.2.mem ((c.tc : Thread Cert.InprojIdeal.nD Cert.InprojIdeal.τ).loc Cert.InprojIdeal.main_arg12) = m ((c.tc : Thread Cert.InprojIdeal.nD Cert.InprojIdeal.τ).loc Cert.InprojIdeal.main_arg12)
          ∧ r.2.mem ((c.tc : Thread Cert.InprojIdeal.nD Cert.InprojIdeal.τ).loc Cert.InprojIdeal.main_arg13) = m ((c.tc : Thread Cert.InprojIdeal.nD Cert.InprojIdeal.τ).loc Cert.InprojIdeal.main_arg13))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          r.2.mem ((c.tc : Thread Cert.InprojReferenceIdeal.nD Cert.InprojReferenceIdeal.τ).loc Cert.InprojReferenceIdeal.main_v242) = v0 c
          ∧ r.2.mem ((c.tc : Thread Cert.InprojReferenceIdeal.nD Cert.InprojReferenceIdeal.τ).loc Cert.InprojReferenceIdeal.main_v64) = v1 c
          ∧ r.2.mem ((c.tc : Thread Cert.InprojReferenceIdeal.nD Cert.InprojReferenceIdeal.τ).loc Cert.InprojReferenceIdeal.main_v244) = v2 c
          ∧ r.2.mem ((c.tc : Thread Cert.InprojReferenceIdeal.nD Cert.InprojReferenceIdeal.τ).loc Cert.InprojReferenceIdeal.main_v252) = v3 c
          ∧ r.2.mem ((c.tc : Thread Cert.InprojReferenceIdeal.nD Cert.InprojReferenceIdeal.τ).loc Cert.InprojReferenceIdeal.main_v260) = v4 c
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1)
          ∧ r.2.mem ((c.tc : Thread Cert.InprojReferenceIdeal.nD Cert.InprojReferenceIdeal.τ).loc Cert.InprojReferenceIdeal.main_arg2) = m' ((c.tc : Thread Cert.InprojReferenceIdeal.nD Cert.InprojReferenceIdeal.τ).loc Cert.InprojReferenceIdeal.main_arg2)
          ∧ r.2.mem ((c.tc : Thread Cert.InprojReferenceIdeal.nD Cert.InprojReferenceIdeal.τ).loc Cert.InprojReferenceIdeal.main_arg3) = m' ((c.tc : Thread Cert.InprojReferenceIdeal.nD Cert.InprojReferenceIdeal.τ).loc Cert.InprojReferenceIdeal.main_arg3)
          ∧ r.2.mem ((c.tc : Thread Cert.InprojReferenceIdeal.nD Cert.InprojReferenceIdeal.τ).loc Cert.InprojReferenceIdeal.main_arg4) = m' ((c.tc : Thread Cert.InprojReferenceIdeal.nD Cert.InprojReferenceIdeal.τ).loc Cert.InprojReferenceIdeal.main_arg4)
          ∧ r.2.mem ((c.tc : Thread Cert.InprojReferenceIdeal.nD Cert.InprojReferenceIdeal.τ).loc Cert.InprojReferenceIdeal.main_arg5) = m' ((c.tc : Thread Cert.InprojReferenceIdeal.nD Cert.InprojReferenceIdeal.τ).loc Cert.InprojReferenceIdeal.main_arg5)
          ∧ r.2.mem ((c.tc : Thread Cert.InprojReferenceIdeal.nD Cert.InprojReferenceIdeal.τ).loc Cert.InprojReferenceIdeal.main_arg6) = m' ((c.tc : Thread Cert.InprojReferenceIdeal.nD Cert.InprojReferenceIdeal.τ).loc Cert.InprojReferenceIdeal.main_arg6)
          ∧ r.2.mem ((c.tc : Thread Cert.InprojReferenceIdeal.nD Cert.InprojReferenceIdeal.τ).loc Cert.InprojReferenceIdeal.main_arg7) = m' ((c.tc : Thread Cert.InprojReferenceIdeal.nD Cert.InprojReferenceIdeal.τ).loc Cert.InprojReferenceIdeal.main_arg7)
          ∧ r.2.mem ((c.tc : Thread Cert.InprojReferenceIdeal.nD Cert.InprojReferenceIdeal.τ).loc Cert.InprojReferenceIdeal.main_arg8) = m' ((c.tc : Thread Cert.InprojReferenceIdeal.nD Cert.InprojReferenceIdeal.τ).loc Cert.InprojReferenceIdeal.main_arg8)
          ∧ r.2.mem ((c.tc : Thread Cert.InprojReferenceIdeal.nD Cert.InprojReferenceIdeal.τ).loc Cert.InprojReferenceIdeal.main_arg9) = m' ((c.tc : Thread Cert.InprojReferenceIdeal.nD Cert.InprojReferenceIdeal.τ).loc Cert.InprojReferenceIdeal.main_arg9)
          ∧ r.2.mem ((c.tc : Thread Cert.InprojReferenceIdeal.nD Cert.InprojReferenceIdeal.τ).loc Cert.InprojReferenceIdeal.main_arg10) = m' ((c.tc : Thread Cert.InprojReferenceIdeal.nD Cert.InprojReferenceIdeal.τ).loc Cert.InprojReferenceIdeal.main_arg10)
          ∧ r.2.mem ((c.tc : Thread Cert.InprojReferenceIdeal.nD Cert.InprojReferenceIdeal.τ).loc Cert.InprojReferenceIdeal.main_arg11) = m' ((c.tc : Thread Cert.InprojReferenceIdeal.nD Cert.InprojReferenceIdeal.τ).loc Cert.InprojReferenceIdeal.main_arg11)
          ∧ r.2.mem ((c.tc : Thread Cert.InprojReferenceIdeal.nD Cert.InprojReferenceIdeal.τ).loc Cert.InprojReferenceIdeal.main_arg12) = m' ((c.tc : Thread Cert.InprojReferenceIdeal.nD Cert.InprojReferenceIdeal.τ).loc Cert.InprojReferenceIdeal.main_arg12)
          ∧ r.2.mem ((c.tc : Thread Cert.InprojReferenceIdeal.nD Cert.InprojReferenceIdeal.τ).loc Cert.InprojReferenceIdeal.main_arg13) = m' ((c.tc : Thread Cert.InprojReferenceIdeal.nD Cert.InprojReferenceIdeal.τ).loc Cert.InprojReferenceIdeal.main_arg13))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hMerge : Cert.Merge.Facts) (hMergeIdeal : Cert.MergeIdeal.Facts) (hMergeReferenceIdeal : Cert.MergeReferenceIdeal.Facts) (hInproj : Cert.Inproj.Facts) (hInprojIdeal : Cert.InprojIdeal.Facts) (hInprojReferenceIdeal : Cert.InprojReferenceIdeal.Facts) (hPre_readable : Cert.Pre_readable.Facts),
    quiescent_Kernel (hKernel := hKernel)
    ∧ quiescent_KernelIdeal (hKernelIdeal := hKernelIdeal)
    ∧ quiescent_KernelIdeal_pre_readable (hKernelIdeal := hKernelIdeal) (hPre_readable := hPre_readable)
    ∧ quiescent_ReferenceIdeal (hReferenceIdeal := hReferenceIdeal)
    ∧ quiescent_ReferenceIdeal_pre_readable (hReferenceIdeal := hReferenceIdeal) (hPre_readable := hPre_readable)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Inproj (hInproj := hInproj)
    ∧ quiescent_InprojIdeal (hInprojIdeal := hInprojIdeal)
    ∧ quiescent_InprojReferenceIdeal (hInprojReferenceIdeal := hInprojReferenceIdeal)
    ∧ preserves_Kernel_KernelIdeal
    ∧ algebraic_KernelIdeal_ReferenceIdeal_pre_readable (hKernelIdeal := hKernelIdeal) (hReferenceIdeal := hReferenceIdeal) (hPre_readable := hPre_readable)
    ∧ preserves_Ffn_FfnIdeal
    ∧ algebraic_FfnIdeal_FfnReferenceIdeal (hFfnIdeal := hFfnIdeal) (hFfnReferenceIdeal := hFfnReferenceIdeal)
    ∧ preserves_Merge_MergeIdeal
    ∧ algebraic_MergeIdeal_MergeReferenceIdeal (hMergeIdeal := hMergeIdeal) (hMergeReferenceIdeal := hMergeReferenceIdeal)
    ∧ preserves_Inproj_InprojIdeal
    ∧ algebraic_InprojIdeal_InprojReferenceIdeal (hInprojIdeal := hInprojIdeal) (hInprojReferenceIdeal := hInprojReferenceIdeal)
-- ==== Pre_readable.lean ====
abbrev S16896x1024 : Shape := ⟨2, ![16896, 1024]⟩
abbrev S16896x8x128 : Shape := ⟨3, ![16896, 8, 128]⟩
abbrev S16896x8x1 : Shape := ⟨3, ![16896, 8, 1]⟩
abbrev S16896x8 : Shape := ⟨2, ![16896, 8]⟩
abbrev S_ : Shape := ⟨0, ![]⟩

class Facts : Prop where
  bitsLt_bf16_f32 : FTy.bits .bf16 < FTy.bits .f32
  shapeCasts_S16896x1024_S16896x8x128 : S16896x1024.ShapeCasts S16896x8x128
  slices_S16896x8x128_S16896x8x1_0_0_64 : S16896x8x128.Slices ![0, 0, 64] S16896x8x1
  shapeCasts_S16896x8x1_S16896x8 : S16896x8x1.ShapeCasts S16896x8
  bcast_S_S16896x1024 : S_.BroadcastsInDim S16896x1024 (![] : Fin 0 → Fin S16896x1024.rank)
  reducesTo_S16896x1024_S_d0_1 : S16896x1024.ReducesTo [0, 1] S_
  h_S_ : 0 < S_.numel
  bcast_S_S16896x8 : S_.BroadcastsInDim S16896x8 (![] : Fin 0 → Fin S16896x8.rank)
  reducesTo_S16896x8_S_d0_1 : S16896x8.ReducesTo [0, 1] S_

variable [Facts]

def fn_part1 {F : FTy → Type} [FloatOps F] (main_v14 : IVec S_ 1) (main_v17 : IVec S_ 1) : IVec S_ 1 :=
  let main_v18 : IVec S_ 1 := andi main_v14 main_v17
  main_v18

def fn {F : FTy → Type} [FloatOps F] (main_arg0 : FVec F S16896x1024 .bf16) (main_arg1 : FVec F S16896x1024 .bf16) (main_arg2 : FVec F S16896x1024 .bf16) : IVec S_ 1 :=
  let main_v0 : FVec F S16896x1024 .f32 := (extf .f32 · bitsLt_bf16_f32) main_arg2
  let main_v1 : FVec F S16896x8x128 .f32 := shapeCast S16896x8x128 main_v0 shapeCasts_S16896x1024_S16896x8x128
  let main_v2 : FVec F S16896x8x1 .f32 := (extractStridedSlice S16896x8x1 ![0, 0, 64] · slices_S16896x8x128_S16896x8x1_0_0_64) main_v1
  let main_v3 : FVec F S16896x8 .f32 := shapeCast S16896x8 main_v2 shapeCasts_S16896x8x1_S16896x8
  let main_v4 : FVec F S16896x1024 .f32 := (extf .f32 · bitsLt_bf16_f32) main_arg0
  let main_v5 : FVec F S16896x1024 .f32 := Host.absf main_v4
  let main_cst : FVec F S_ .f32 := constant S_ .f32 0x7F800000#32
  let main_v6 : FVec F S16896x1024 .f32 := broadcastInDim S16896x1024 ![] bcast_S_S16896x1024 main_cst
  let main_v7 : IVec S16896x1024 1 := cmpf .olt main_v5 main_v6
  let main_c : IVec S_ 1 := constantI S_ 1 1#1
  let main_v8 : IVec S_ 1 := (fun x v => Host.reduce IntOp.andi x v reducesTo_S16896x1024_S_d0_1 h_S_) main_v7 main_c
  let main_v9 : FVec F S16896x1024 .f32 := (extf .f32 · bitsLt_bf16_f32) main_arg1
  let main_v10 : FVec F S16896x1024 .f32 := Host.absf main_v9
  let main_cst_0 : FVec F S_ .f32 := constant S_ .f32 0x7F800000#32
  let main_v11 : FVec F S16896x1024 .f32 := broadcastInDim S16896x1024 ![] bcast_S_S16896x1024 main_cst_0
  let main_v12 : IVec S16896x1024 1 := cmpf .olt main_v10 main_v11
  let main_c_1 : IVec S_ 1 := constantI S_ 1 1#1
  let main_v13 : IVec S_ 1 := (fun x v => Host.reduce IntOp.andi x v reducesTo_S16896x1024_S_d0_1 h_S_) main_v12 main_c_1
  let main_v14 : IVec S_ 1 := andi main_v8 main_v13
  let main_cst_2 : FVec F S_ .f32 := constant S_ .f32 0x3F800000#32
  let main_v15 : FVec F S16896x8 .f32 := broadcastInDim S16896x8 ![] bcast_S_S16896x8 main_cst_2
  let main_v16 : IVec S16896x8 1 := cmpf .oeq main_v3 main_v15
  let main_c_3 : IVec S_ 1 := constantI S_ 1 1#1
  let main_v17 : IVec S_ 1 := (fun x v => Host.reduce IntOp.andi x v reducesTo_S16896x8_S_d0_1 h_S_) main_v16 main_c_3
  fn_part1 (F := F) main_v14 main_v17
-- ==== Kernel.lean ====
abbrev S16896x1024 : Shape := ⟨2, ![16896, 1024]⟩
abbrev S16384x512 : Shape := ⟨2, ![16384, 512]⟩
abbrev S512x256 : Shape := ⟨2, ![512, 256]⟩
abbrev S8448x256 : Shape := ⟨2, ![8448, 256]⟩
abbrev S512x128 : Shape := ⟨2, ![512, 128]⟩
abbrev S512x1 : Shape := ⟨2, ![512, 1]⟩
abbrev S2816x128 : Shape := ⟨2, ![2816, 128]⟩
abbrev S512x2816 : Shape := ⟨2, ![512, 2816]⟩
abbrev S512 : Shape := ⟨1, ![512]⟩

abbrev nBuf : Space → Nat
  | .hbm => 4
  | .vmem => 8
  | .smem => 0
  | _ => 0

abbrev bufTy : (tb : Table) → Fin (tcTables nBuf tb) → BufTy
  | .hbm, ⟨0, _⟩ => ⟨S16896x1024, .bf16⟩
  | .hbm, ⟨1, _⟩ => ⟨S16896x1024, .bf16⟩
  | .hbm, ⟨2, _⟩ => ⟨S16896x1024, .bf16⟩
  | .hbm, ⟨3, _⟩ => ⟨S16384x512, .bf16⟩
  | .local _ .vmem, ⟨0, _⟩ => ⟨S512x256, .bf16⟩
  | .local _ .vmem, ⟨1, _⟩ => ⟨S512x256, .bf16⟩
  | .local _ .vmem, ⟨2, _⟩ => ⟨S8448x256, .bf16⟩
  | .local _ .vmem, ⟨3, _⟩ => ⟨S8448x256, .bf16⟩
  | .local _ .vmem, ⟨4, _⟩ => ⟨S8448x256, .bf16⟩
  | .local _ .vmem, ⟨5, _⟩ => ⟨S8448x256, .bf16⟩
  | .local _ .vmem, ⟨6, _⟩ => ⟨S512x128, .bf16⟩
  | .local _ .vmem, ⟨7, _⟩ => ⟨S512x128, .bf16⟩
  | _, _ => ⟨S16896x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8448x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8448x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S16896x1024 : Shape := ⟨2, ![16896, 1024]⟩
abbrev S16384x1024 : Shape := ⟨2, ![16384, 1024]⟩
abbrev S2x8192x8x128 : Shape := ⟨4, ![2, 8192, 8, 128]⟩
abbrev S2x8448x8x128 : Shape := ⟨4, ![2, 8448, 8, 128]⟩
abbrev S2x8448x8x64 : Shape := ⟨4, ![2, 8448, 8, 64]⟩
abbrev S2x8x8192x8448 : Shape := ⟨4, ![2, 8, 8192, 8448]⟩
abbrev S_ : Shape := ⟨0, ![]⟩
abbrev S2x8x8192 : Shape := ⟨3, ![2, 8, 8192]⟩
abbrev S2x8x8192x1 : Shape := ⟨4, ![2, 8, 8192, 1]⟩
abbrev S2x8x64x8192 : Shape := ⟨4, ![2, 8, 64, 8192]⟩
abbrev S2x8192x8x64 : Shape := ⟨4, ![2, 8192, 8, 64]⟩
abbrev S16384x512 : Shape := ⟨2, ![16384, 512]⟩

abbrev nBuf : Space → Nat
  | .hbm => 36
  | .vmem => 0
  | .smem => 0
  | _ => 0

abbrev bufTy : (tb : Table) → Fin (tcTables nBuf tb) → BufTy
  | .hbm, ⟨0, _⟩ => ⟨S16896x1024, .bf16⟩
  | .hbm, ⟨1, _⟩ => ⟨S16896x1024, .bf16⟩
  | .hbm, ⟨2, _⟩ => ⟨S16896x1024, .bf16⟩
  | .hbm, ⟨3, _⟩ => ⟨S16384x1024, .bf16⟩
  | .hbm, ⟨4, _⟩ => ⟨S16384x1024, .f32⟩
  | .hbm, ⟨5, _⟩ => ⟨S2x8192x8x128, .f32⟩
  | .hbm, ⟨6, _⟩ => ⟨S16896x1024, .f32⟩
  | .hbm, ⟨7, _⟩ => ⟨S2x8448x8x128, .f32⟩
  | .hbm, ⟨8, _⟩ => ⟨S16896x1024, .f32⟩
  | .hbm, ⟨9, _⟩ => ⟨S2x8448x8x128, .f32⟩
  | .hbm, ⟨10, _⟩ => ⟨S2x8448x8x64, .f32⟩
  | .hbm, ⟨11, _⟩ => ⟨S2x8x8192x8448, .f32⟩
  | .hbm, ⟨12, _⟩ => ⟨S_, .f32⟩
  | .hbm, ⟨13, _⟩ => ⟨S_, .f32⟩
  | .hbm, ⟨14, _⟩ => ⟨S2x8x8192x8448, .f32⟩
  | .hbm, ⟨15, _⟩ => ⟨S2x8x8192x8448, .f32⟩
  | .hbm, ⟨16, _⟩ => ⟨S_, .f32⟩
  | .hbm, ⟨17, _⟩ => ⟨S2x8x8192, .f32⟩
  | .hbm, ⟨18, _⟩ => ⟨S_, .f32⟩
  | .hbm, ⟨19, _⟩ => ⟨S2x8x8192, .f32⟩
  | .hbm, ⟨20, _⟩ => ⟨S2x8x8192, .f32⟩
  | .hbm, ⟨21, _⟩ => ⟨S2x8x8192x1, .f32⟩
  | .hbm, ⟨22, _⟩ => ⟨S2x8x8192x8448, .f32⟩
  | .hbm, ⟨23, _⟩ => ⟨S2x8x8192x8448, .f32⟩
  | .hbm, ⟨24, _⟩ => ⟨S2x8x8192x8448, .f32⟩
  | .hbm, ⟨25, _⟩ => ⟨S_, .f32⟩
  | .hbm, ⟨26, _⟩ => ⟨S2x8x8192, .f32⟩
  | .hbm, ⟨27, _⟩ => ⟨S2x8x8192x1, .f32⟩
  | .hbm, ⟨28, _⟩ => ⟨S2x8x8192x8448, .f32⟩
  | .hbm, ⟨29, _⟩ => ⟨S2x8x8192x8448, .f32⟩
  | .hbm, ⟨30, _⟩ => ⟨S2x8x8192x8448, .bf16⟩
  | .hbm, ⟨31, _⟩ => ⟨S2x8x8192x8448, .f32⟩
  | .hbm, ⟨32, _⟩ => ⟨S2x8x64x8192, .f32⟩
  | .hbm, ⟨33, _⟩ => ⟨S2x8192x8x64, .f32⟩
  | .hbm, ⟨34, _⟩ => ⟨S16384x512, .f32⟩
  | .hbm, ⟨35, _⟩ => ⟨S16384x512, .bf16⟩
  | _, _ => ⟨S16896x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]
-- ==== Ffn.lean ====
abbrev S16384x1024 : Shape := ⟨2, ![16384, 1024]⟩
abbrev S512x1024 : Shape := ⟨2, ![512, 1024]⟩
abbrev S2x8x9x1024 : Shape := ⟨4, ![2, 8, 9, 1024]⟩
abbrev S1024 : Shape := ⟨1, ![1024]⟩
abbrev S2x2x1024x2816 : Shape := ⟨4, ![2, 2, 1024, 2816]⟩
abbrev S2x2x2816x1024 : Shape := ⟨4, ![2, 2, 2816, 1024]⟩
abbrev S1x1024 : Shape := ⟨2, ![1, 1024]⟩
abbrev S16896x1024 : Shape := ⟨2, ![16896, 1024]⟩
abbrev S1x1x9x1024 : Shape := ⟨4, ![1, 1, 9, 1024]⟩
abbrev S1x1x1024x2816 : Shape := ⟨4, ![1, 1, 1024, 2816]⟩
abbrev S1x1x2816x1024 : Shape := ⟨4, ![1, 1, 2816, 1024]⟩
abbrev S1x1x1x1024 : Shape := ⟨4, ![1, 1, 1, 1024]⟩
abbrev S256x1024 : Shape := ⟨2, ![256, 1024]⟩
abbrev S256 : Shape := ⟨1, ![256]⟩
abbrev S256x1 : Shape := ⟨2, ![256, 1]⟩
abbrev S1x1x1024x256 : Shape := ⟨4, ![1, 1, 1024, 256]⟩
abbrev S1024x256 : Shape := ⟨2, ![1024, 256]⟩
abbrev S256x256 : Shape := ⟨2, ![256, 256]⟩
abbrev S1x1x256x1024 : Shape := ⟨4, ![1, 1, 256, 1024]⟩

abbrev nBuf : Space → Nat
  | .hbm => 11
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S512x1024, .f32⟩
  | .hbm, ⟨2, _⟩ => ⟨S2x8x9x1024, .f32⟩
  | .hbm, ⟨3, _⟩ => ⟨S1024, .f32⟩
  | .hbm, ⟨4, _⟩ => ⟨S1024, .f32⟩
  | .hbm, ⟨5, _⟩ => ⟨S2x2x1024x2816, .f32⟩
  | .hbm, ⟨6, _⟩ => ⟨S2x2x1024x2816, .f32⟩
  | .hbm, ⟨7, _⟩ => ⟨S2x2x2816x1024, .f32⟩
  | .hbm, ⟨8, _⟩ => ⟨S1x1024, .f32⟩
  | .hbm, ⟨9, _⟩ => ⟨S1x1024, .f32⟩
  | .hbm, ⟨10, _⟩ => ⟨S16896x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1x9x1024, .f32⟩
  | .local _ .vmem, ⟨5, _⟩ => ⟨S1x1x9x1024, .f32⟩
  | .local _ .vmem, ⟨6, _⟩ => ⟨S1x1024, .f32⟩
  | .local _ .vmem, ⟨7, _⟩ => ⟨S1x1024, .f32⟩
  | .local _ .vmem, ⟨8, _⟩ => ⟨S1x1x1024x2816, .f32⟩
  | .local _ .vmem, ⟨9, _⟩ => ⟨S1x1x1024x2816, .f32⟩
  | .local _ .vmem, ⟨10, _⟩ => ⟨S1x1x2816x1024, .f32⟩
  | .local _ .vmem, ⟨11, _⟩ => ⟨S512x1024, .f32⟩
  | .local _ .vmem, ⟨12, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 4 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.minsi v17 c2_i32
  let c0_i32_4 : BitVec 32 := 0#32
  let c0_i32_5 : BitVec 32 := 0#32
  let c0_i32_6 : BitVec 32 := 0#32
  let c0_i32_7 : BitVec 32 := 0#32
  ![c0_i32_4.toNat, v18.toNat, c0_i32_5.toNat, c0_i32_6.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x9x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1024x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x2816x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnReferenceIdeal.lean ====
abbrev S16384x1024 : Shape := ⟨2, ![16384, 1024]⟩
abbrev S512x1024 : Shape := ⟨2, ![512, 1024]⟩
abbrev S2x8x9x1024 : Shape := ⟨4, ![2, 8, 9, 1024]⟩
abbrev S1024 : Shape := ⟨1, ![1024]⟩
abbrev S2x2x1024x2816 : Shape := ⟨4, ![2, 2, 1024, 2816]⟩
abbrev S2x2x2816x1024 : Shape := ⟨4, ![2, 2, 2816, 1024]⟩
abbrev S1x1x1024x2816 : Shape := ⟨4, ![1, 1, 1024, 2816]⟩
abbrev S1024x2816 : Shape := ⟨2, ![1024, 2816]⟩
abbrev S1x1x2816x1024 : Shape := ⟨4, ![1, 1, 2816, 1024]⟩
abbrev S2816x1024 : Shape := ⟨2, ![2816, 1024]⟩
abbrev S2x8192x1024 : Shape := ⟨3, ![2, 8192, 1024]⟩
abbrev S1x2x1x1024 : Shape := ⟨4, ![1, 2, 1, 1024]⟩
abbrev S2x1024 : Shape := ⟨2, ![2, 1024]⟩
abbrev S2x1x1024 : Shape := ⟨3, ![2, 1, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2816 : Shape := ⟨3, ![2, 8192, 2816]⟩
abbrev S2x256x1024 : Shape := ⟨3, ![2, 256, 1024]⟩
abbrev S1x1x1x1024 : Shape := ⟨4, ![1, 1, 1, 1024]⟩
abbrev S2x256 : Shape := ⟨2, ![2, 256]⟩
abbrev S2x256x1 : Shape := ⟨3, ![2, 256, 1]⟩
abbrev S2x256x2816 : Shape := ⟨3, ![2, 256, 2816]⟩
abbrev S16896x1024 : Shape := ⟨2, ![16896, 1024]⟩

abbrev nBuf : Space → Nat
  | .hbm => 153
  | .vmem => 0
  | .smem => 0
  | _ => 0

abbrev hbmTy0_0 (i : Nat) : BufTy := match i % 128 with
  | 0 => ⟨S16384x1024, .f32⟩
  | 1 => ⟨S512x1024, .f32⟩
  | 2 => ⟨S2x8x9x1024, .f32⟩
  | 3 => ⟨S1024, .f32⟩
  | 4 => ⟨S1024, .f32⟩
  | 5 => ⟨S2x2x1024x2816, .f32⟩
  | 6 => ⟨S2x2x1024x2816, .f32⟩
  | 7 => ⟨S2x2x2816x1024, .f32⟩
  | 8 => ⟨S1x1x1024x2816, .f32⟩
  | 9 => ⟨S1024x2816, .f32⟩
  | 10 => ⟨S1x1x1024x2816, .f32⟩
  | 11 => ⟨S1024x2816, .f32⟩
  | 12 => ⟨S1x1x2816x1024, .f32⟩
  | 13 => ⟨S2816x1024, .f32⟩
  | 14 => ⟨S2x8192x1024, .f32⟩
  | 15 => ⟨S1x2x1x1024, .f32⟩
  | 16 => ⟨S2x1024, .f32⟩
  | 17 => ⟨S2x1x1024, .f32⟩
  | 18 => ⟨S1x2x1x1024, .f32⟩
  | 19 => ⟨S2x1024, .f32⟩
  | 20 => ⟨S2x1x1024, .f32⟩
  | 21 => ⟨S1x2x1x1024, .f32⟩
  | 22 => ⟨S2x1024, .f32⟩
  | 23 => ⟨S2x1x1024, .f32⟩
  | 24 => ⟨S2x8192x1024, .f32⟩
  | 25 => ⟨S_, .f32⟩
  | 26 => ⟨S2x8192, .f32⟩
  | 27 => ⟨S2x8192x1, .f32⟩
  | 28 => ⟨S_, .f32⟩
  | 29 => ⟨S2x8192x1, .f32⟩
  | 30 => ⟨S2x8192x1, .f32⟩
  | 31 => ⟨S_, .f32⟩
  | 32 => ⟨S2x8192x1, .f32⟩
  | 33 => ⟨S2x8192x1, .f32⟩
  | 34 => ⟨S2x8192x1, .f32⟩
  | 35 => ⟨S2x8192x1024, .f32⟩
  | 36 => ⟨S2x8192x1024, .f32⟩
  | 37 => ⟨S1x1x1024, .f32⟩
  | 38 => ⟨S2x8192x1024, .f32⟩
  | 39 => ⟨S2x8192x1024, .f32⟩
  | 40 => ⟨S_, .f32⟩
  | 41 => ⟨S2x1x1024, .f32⟩
  | 42 => ⟨S2x1x1024, .f32⟩
  | 43 => ⟨S2x8192x1024, .f32⟩
  | 44 => ⟨S2x8192x1024, .f32⟩
  | 45 => ⟨S2x8192x1024, .f32⟩
  | 46 => ⟨S2x8192x1024, .f32⟩
  | 47 => ⟨S2x8192x2816, .f32⟩
  | 48 => ⟨S2x8192x2816, .f32⟩
  | 49 => ⟨S2x8192x2816, .f32⟩
  | 50 => ⟨S_, .f32⟩
  | 51 => ⟨S2x8192x2816, .f32⟩
  | 52 => ⟨S2x8192x2816, .f32⟩
  | 53 => ⟨S_, .f32⟩
  | 54 => ⟨S2x8192x2816, .f32⟩
  | 55 => ⟨S2x8192x2816, .f32⟩
  | 56 => ⟨S2x8192x2816, .f32⟩
  | 57 => ⟨S2x8192x2816, .f32⟩
  | 58 => ⟨S2x8192x2816, .f32⟩
  | 59 => ⟨S2x8192x1024, .f32⟩
  | 60 => ⟨S_, .f32⟩
  | 61 => ⟨S2x1x1024, .f32⟩
  | 62 => ⟨S2x1x1024, .f32⟩
  | 63 => ⟨S2x8192x1024, .f32⟩
  | 64 => ⟨S_, .f32⟩
  | 65 => ⟨S2x8192, .f32⟩
  | 66 => ⟨S2x8192x1, .f32⟩
  | 67 => ⟨S_, .f32⟩
  | 68 => ⟨S2x8192x1, .f32⟩
  | 69 => ⟨S2x8192x1, .f32⟩
  | 70 => ⟨S_, .f32⟩
  | 71 => ⟨S2x8192x1, .f32⟩
  | 72 => ⟨S2x8192x1, .f32⟩
  | 73 => ⟨S2x8192x1, .f32⟩
  | 74 => ⟨S2x8192x1024, .f32⟩
  | 75 => ⟨S2x8192x1024, .f32⟩
  | 76 => ⟨S1x1x1024, .f32⟩
  | 77 => ⟨S2x8192x1024, .f32⟩
  | 78 => ⟨S2x8192x1024, .f32⟩
  | 79 => ⟨S2x8192x1024, .f32⟩
  | 80 => ⟨S2x8192x1024, .f32⟩
  | 81 => ⟨S2x8192x1024, .f32⟩
  | 82 => ⟨S2x256x1024, .f32⟩
  | 83 => ⟨S1x1x1x1024, .f32⟩
  | 84 => ⟨S1024, .f32⟩
  | 85 => ⟨S1x1x1x1024, .f32⟩
  | 86 => ⟨S1024, .f32⟩
  | 87 => ⟨S1x1x1x1024, .f32⟩
  | 88 => ⟨S1024, .f32⟩
  | 89 => ⟨S2x256x1024, .f32⟩
  | 90 => ⟨S_, .f32⟩
  | 91 => ⟨S2x256, .f32⟩
  | 92 => ⟨S2x256x1, .f32⟩
  | 93 => ⟨S_, .f32⟩
  | 94 => ⟨S2x256x1, .f32⟩
  | 95 => ⟨S2x256x1, .f32⟩
  | 96 => ⟨S_, .f32⟩
  | 97 => ⟨S2x256x1, .f32⟩
  | 98 => ⟨S2x256x1, .f32⟩
  | 99 => ⟨S2x256x1, .f32⟩
  | 100 => ⟨S2x256x1024, .f32⟩
  | 101 => ⟨S2x256x1024, .f32⟩
  | 102 => ⟨S1x1x1024, .f32⟩
  | 103 => ⟨S2x256x1024, .f32⟩
  | 104 => ⟨S2x256x1024, .f32⟩
  | 105 => ⟨S_, .f32⟩
  | 106 => ⟨S1024, .f32⟩
  | 107 => ⟨S1024, .f32⟩
  | 108 => ⟨S1x1x1024, .f32⟩
  | 109 => ⟨S2x256x1024, .f32⟩
  | 110 => ⟨S2x256x1024, .f32⟩
  | 111 => ⟨S1x1x1024, .f32⟩
  | 112 => ⟨S2x256x1024, .f32⟩
  | 113 => ⟨S2x256x1024, .f32⟩
  | 114 => ⟨S2x256x2816, .f32⟩
  | 115 => ⟨S2x256x2816, .f32⟩
  | 116 => ⟨S2x256x2816, .f32⟩
  | 117 => ⟨S_, .f32⟩
  | 118 => ⟨S2x256x2816, .f32⟩
  | 119 => ⟨S2x256x2816, .f32⟩
  | 120 => ⟨S_, .f32⟩
  | 121 => ⟨S2x256x2816, .f32⟩
  | 122 => ⟨S2x256x2816, .f32⟩
  | 123 => ⟨S2x256x2816, .f32⟩
  | 124 => ⟨S2x256x2816, .f32⟩
  | 125 => ⟨S2x256x2816, .f32⟩
  | 126 => ⟨S2x256x1024, .f32⟩
  | 127 => ⟨S_, .f32⟩
  | _ => ⟨S16384x1024, .f32⟩

abbrev hbmTy0_1 (i : Nat) : BufTy := match i % 128 with
  | 0 => ⟨S1024, .f32⟩
  | 1 => ⟨S1024, .f32⟩
  | 2 => ⟨S2x256x1024, .f32⟩
  | 3 => ⟨S_, .f32⟩
  | 4 => ⟨S2x256, .f32⟩
  | 5 => ⟨S2x256x1, .f32⟩
  | 6 => ⟨S_, .f32⟩
  | 7 => ⟨S2x256x1, .f32⟩
  | 8 => ⟨S2x256x1, .f32⟩
  | 9 => ⟨S_, .f32⟩
  | 10 => ⟨S2x256x1, .f32⟩
  | 11 => ⟨S2x256x1, .f32⟩
  | 12 => ⟨S2x256x1, .f32⟩
  | 13 => ⟨S2x256x1024, .f32⟩
  | 14 => ⟨S2x256x1024, .f32⟩
  | 15 => ⟨S1x1x1024, .f32⟩
  | 16 => ⟨S2x256x1024, .f32⟩
  | 17 => ⟨S2x256x1024, .f32⟩
  | 18 => ⟨S1x1x1024, .f32⟩
  | 19 => ⟨S2x256x1024, .f32⟩
  | 20 => ⟨S2x256x1024, .f32⟩
  | 21 => ⟨S2x256x1024, .f32⟩
  | 22 => ⟨S16384x1024, .f32⟩
  | 23 => ⟨S512x1024, .f32⟩
  | 24 => ⟨S16896x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_cst_0 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_3 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_4 : Ref sig .tc := ⟨.hbm, 64, rfl⟩
abbrev main_v43 : Ref sig .tc := ⟨.hbm, 65, rfl⟩
abbrev main_v44 : Ref sig .tc := ⟨.hbm, 66, rfl⟩
abbrev main_cst_5 : Ref sig .tc := ⟨.hbm, 67, rfl⟩
abbrev main_v45 : Ref sig .tc := ⟨.hbm, 68, rfl⟩
abbrev main_v46 : Ref sig .tc := ⟨.hbm, 69, rfl⟩
abbrev main_cst_6 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_7 : Ref sig .tc := ⟨.hbm, 90, rfl⟩
abbrev main_v66 : Ref sig .tc := ⟨.hbm, 91, rfl⟩
abbrev main_v67 : Ref sig .tc := ⟨.hbm, 92, rfl⟩
abbrev main_cst_8 : Ref sig .tc := ⟨.hbm, 93, rfl⟩
abbrev main_v68 : Ref sig .tc := ⟨.hbm, 94, rfl⟩
abbrev main_v69 : Ref sig .tc := ⟨.hbm, 95, rfl⟩
abbrev main_cst_9 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_10 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_call1_v0 : Ref sig .tc := ⟨.hbm, 115, rfl⟩
abbrev main_call1_v1 : Ref sig .tc := ⟨.hbm, 116, rfl⟩
abbrev main_call1_cst : Ref sig .tc := ⟨.hbm, 117, rfl⟩
abbrev main_call1_v2 : Ref sig .tc := ⟨.hbm, 118, rfl⟩
abbrev main_call1_v3 : Ref sig .tc := ⟨.hbm, 119, rfl⟩
abbrev main_call1_cst_0 : Ref sig .tc := ⟨.hbm, 120, rfl⟩
abbrev main_call1_v4 : Ref sig .tc := ⟨.hbm, 121, rfl⟩
abbrev main_call1_v5 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_cst_11 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_cst_12 : Ref sig .tc := ⟨.hbm, 131, rfl⟩
abbrev main_v94 : Ref sig .tc := ⟨.hbm, 132, rfl⟩
abbrev main_v95 : Ref sig .tc := ⟨.hbm, 133, rfl⟩
abbrev main_cst_13 : Ref sig .tc := ⟨.hbm, 134, rfl⟩
abbrev main_v96 : Ref sig .tc := ⟨.hbm, 135, rfl⟩
abbrev main_v97 : Ref sig .tc := ⟨.hbm, 136, rfl⟩
abbrev main_cst_14 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩

abbrev nD : Nat := 1
abbrev τ : Topo := Topo.v7x

variable {F : FTy → Type} [FloatOps F]
-- ==== Merge.lean ====
abbrev S16896x1024 : Shape := ⟨2, ![16896, 1024]⟩
abbrev S2x8x9x1024 : Shape := ⟨4, ![2, 8, 9, 1024]⟩
abbrev S1024 : Shape := ⟨1, ![1024]⟩
abbrev S1024x3072 : Shape := ⟨2, ![1024, 3072]⟩
abbrev S16896x512 : Shape := ⟨2, ![16896, 512]⟩
abbrev S16384x512 : Shape := ⟨2, ![16384, 512]⟩
abbrev S512x512 : Shape := ⟨2, ![512, 512]⟩
abbrev S2x3x512x1024 : Shape := ⟨4, ![2, 3, 512, 1024]⟩
abbrev S2x1024x1024 : Shape := ⟨3, ![2, 1024, 1024]⟩
abbrev S1x1024 : Shape := ⟨2, ![1, 1024]⟩
abbrev S512x1024 : Shape := ⟨2, ![512, 1024]⟩
abbrev S1x1x9x1024 : Shape := ⟨4, ![1, 1, 9, 1024]⟩
abbrev S256x512 : Shape := ⟨2, ![256, 512]⟩
abbrev S1x3x512x1024 : Shape := ⟨4, ![1, 3, 512, 1024]⟩
abbrev S1x1024x1024 : Shape := ⟨3, ![1, 1024, 1024]⟩
abbrev S1x1x512x1024 : Shape := ⟨4, ![1, 1, 512, 1024]⟩
abbrev S256x1024 : Shape := ⟨2, ![256, 1024]⟩
abbrev S1x1x1x1024 : Shape := ⟨4, ![1, 1, 1, 1024]⟩
abbrev S256 : Shape := ⟨1, ![256]⟩
abbrev S256x1 : Shape := ⟨2, ![256, 1]⟩
abbrev S1024x1024 : Shape := ⟨2, ![1024, 1024]⟩

abbrev nBuf : Space → Nat
  | .hbm => 15
  | .vmem => 23
  | .smem => 0
  | _ => 0

abbrev bufTy : (tb : Table) → Fin (tcTables nBuf tb) → BufTy
  | .hbm, ⟨0, _⟩ => ⟨S16896x1024, .f32⟩
  | .hbm, ⟨1, _⟩ => ⟨S2x8x9x1024, .f32⟩
  | .hbm, ⟨2, _⟩ => ⟨S1024, .f32⟩
  | .hbm, ⟨3, _⟩ => ⟨S1024, .f32⟩
  | .hbm, ⟨4, _⟩ => ⟨S1024x3072, .bf16⟩
  | .hbm, ⟨5, _⟩ => ⟨S16896x512, .bf16⟩
  | .hbm, ⟨6, _⟩ => ⟨S16384x512, .f32⟩
  | .hbm, ⟨7, _⟩ => ⟨S16384x512, .bf16⟩
  | .hbm, ⟨8, _⟩ => ⟨S512x512, .f32⟩
  | .hbm, ⟨9, _⟩ => ⟨S512x512, .bf16⟩
  | .hbm, ⟨10, _⟩ => ⟨S2x3x512x1024, .bf16⟩
  | .hbm, ⟨11, _⟩ => ⟨S2x1024x1024, .bf16⟩
  | .hbm, ⟨12, _⟩ => ⟨S1x1024, .f32⟩
  | .hbm, ⟨13, _⟩ => ⟨S1x1024, .f32⟩
  | .hbm, ⟨14, _⟩ => ⟨S16896x1024, .f32⟩
  | .local _ .vmem, ⟨0, _⟩ => ⟨S512x1024, .f32⟩
  | .local _ .vmem, ⟨1, _⟩ => ⟨S512x1024, .f32⟩
  | .local _ .vmem, ⟨2, _⟩ => ⟨S1x1x9x1024, .f32⟩
  | .local _ .vmem, ⟨3, _⟩ => ⟨S1x1x9x1024, .f32⟩
  | .local _ .vmem, ⟨4, _⟩ => ⟨S1x1024, .f32⟩
  | .local _ .vmem, ⟨5, _⟩ => ⟨S1x1024, .f32⟩
  | .local _ .vmem, ⟨6, _⟩ => ⟨S1024x3072, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S512x512, .f32⟩
  | .local _ .vmem, ⟨12, _⟩ => ⟨S512x512, .f32⟩
  | .local _ .vmem, ⟨13, _⟩ => ⟨S512x512, .bf16⟩
  | .local _ .vmem, ⟨14, _⟩ => ⟨S512x512, .bf16⟩
  | .local _ .vmem, ⟨15, _⟩ => ⟨S512x512, .f32⟩
  | .local _ .vmem, ⟨16, _⟩ => ⟨S512x512, .f32⟩
  | .local _ .vmem, ⟨17, _⟩ => ⟨S512x512, .bf16⟩
  | .local _ .vmem, ⟨18, _⟩ => ⟨S512x512, .bf16⟩
  | .local _ .vmem, ⟨19, _⟩ => ⟨S1x3x512x1024, .bf16⟩
  | .local _ .vmem, ⟨20, _⟩ => ⟨S1x1024x1024, .bf16⟩
  | .local _ .vmem, ⟨21, _⟩ => ⟨S512x1024, .f32⟩
  | .local _ .vmem, ⟨22, _⟩ => ⟨S512x1024, .f32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c2_i32 : BitVec 32 := 2#32
  let v0 : BitVec 32 := Scalar.muli arg0 c2_i32
  let c256_i32 : BitVec 32 := 256#32
  let v1 : BitVec 32 := Scalar.muli v0 c256_i32
  let c8192_i32 : BitVec 32 := 8192#32
  let v2 : BitVec 32 := Scalar.divsi v1 c8192_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c8192_i32 c0_i32_1
  let v9 : BitVec 32 := Scalar.extui v8
  let c0_i32_2 : BitVec 32 := 0#32
  let v10 : BitVec 1 := Scalar.cmpi .slt c8192_i32 c0_i32_2
  let v11 : BitVec 32 := Scalar.extui v10
  let v12 : BitVec 32 := Scalar.subi v9 v11
  let v13 : BitVec 1 := Scalar.cmpi .ne v7 v12
  let v14 : BitVec 32 := Scalar.remsi v1 c8192_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c2_i32_4 : BitVec 32 := 2#32
  let v19 : BitVec 32 := Scalar.minsi v18 c2_i32_4
  let c0_i32_5 : BitVec 32 := 0#32
  let c0_i32_6 : BitVec 32 := 0#32
  let c0_i32_7 : BitVec 32 := 0#32
  let c0_i32_8 : BitVec 32 := 0#32
  ![c0_i32_5.toNat, v19.toNat, c0_i32_6.toNat, c0_i32_7.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c64_i32 : BitVec 32 := 64#32
  let v2 : BitVec 32 := Scalar.subi v1 c64_i32
  let c32_i32 : BitVec 32 := 32#32
  let v3 : BitVec 32 := Scalar.divsi v1 c32_i32
  let c0_i32_0 : BitVec 32 := 0#32
  let v4 : BitVec 1 := Scalar.cmpi .sgt v1 c0_i32_0
  let v5 : BitVec 32 := Scalar.extui v4
  let c0_i32_1 : BitVec 32 := 0#32
  let v6 : BitVec 1 := Scalar.cmpi .slt v1 c0_i32_1
  let v7 : BitVec 32 := Scalar.extui v6
  let v8 : BitVec 32 := Scalar.subi v5 v7
  let c0_i32_2 : BitVec 32 := 0#32
  let v9 : BitVec 1 := Scalar.cmpi .sgt c32_i32 c0_i32_2
  let v10 : BitVec 32 := Scalar.extui v9
  let c0_i32_3 : BitVec 32 := 0#32
  let v11 : BitVec 1 := Scalar.cmpi .slt c32_i32 c0_i32_3
  let v12 : BitVec 32 := Scalar.extui v11
  let v13 : BitVec 32 := Scalar.subi v10 v12
  let v14 : BitVec 1 := Scalar.cmpi .ne v8 v13
  let v15 : BitVec 32 := Scalar.remsi v1 c32_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c33_i32 : BitVec 32 := 33#32
  let v20 : BitVec 32 := Scalar.muli v19 c33_i32
  let c32_i32_5 : BitVec 32 := 32#32
  let c0_i32_6 : BitVec 32 := 0#32
  let v21 : BitVec 1 := Scalar.cmpi .eq c32_i32_5 c0_i32_6
  let c1_i32_7 : BitVec 32 := 1#32
  let v22 : BitVec 32 := Scalar.select v21 c1_i32_7 c32_i32_5
  let v23 : BitVec 32 := Scalar.remsi v1 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let v31 : BitVec 32 := Scalar.addi v20 v30
  let c1_i32_11 : BitVec 32 := 1#32
  let v32 : BitVec 32 := Scalar.divsi v2 c1_i32_11
  let c0_i32_12 : BitVec 32 := 0#32
  let v33 : BitVec 1 := Scalar.cmpi .sgt v2 c0_i32_12
  let v34 : BitVec 32 := Scalar.extui v33
  let c0_i32_13 : BitVec 32 := 0#32
  let v35 : BitVec 1 := Scalar.cmpi .slt v2 c0_i32_13
  let v36 : BitVec 32 := Scalar.extui v35
  let v37 : BitVec 32 := Scalar.subi v34 v36
  let c0_i32_14 : BitVec 32 := 0#32
  let v38 : BitVec 1 := Scalar.cmpi .sgt c1_i32_11 c0_i32_14
  let v39 : BitVec 32 := Scalar.extui v38
  let c0_i32_15 : BitVec 32 := 0#32
  let v40 : BitVec 1 := Scalar.cmpi .slt c1_i32_11 c0_i32_15
  let v41 : BitVec 32 := Scalar.extui v40
  let v42 : BitVec 32 := Scalar.subi v39 v41
  let v43 : BitVec 1 := Scalar.cmpi .ne v37 v42
  let v44 : BitVec 32 := Scalar.remsi v2 c1_i32_11
  let c0_i32_16 : BitVec 32 := 0#32
  let v45 : BitVec 1 := Scalar.cmpi .ne v44 c0_i32_16
  let v46 : BitVec 1 := Scalar.andi v43 v45
  let c1_i32_17 : BitVec 32 := 1#32
  let v47 : BitVec 32 := Scalar.subi v32 c1_i32_17
  let v48 : BitVec 32 := Scalar.select v46 v47 v32
  let c33_i32_18 : BitVec 32 := 33#32
  let v49 : BitVec 32 := Scalar.muli v48 c33_i32_18
  let c32_i32_19 : BitVec 32 := 32#32
  let v50 : BitVec 32 := Scalar.addi v49 c32_i32_19
  let c1_i32_20 : BitVec 32 := 1#32
  let c0_i32_21 : BitVec 32 := 0#32
  let v51 : BitVec 1 := Scalar.cmpi .eq c1_i32_20 c0_i32_21
  let c1_i32_22 : BitVec 32 := 1#32
  let v52 : BitVec 32 := Scalar.select v51 c1_i32_22 c1_i32_20
  let v53 : BitVec 32 := Scalar.remsi v2 v52
  let c0_i32_23 : BitVec 32 := 0#32
  let v54 : BitVec 1 := Scalar.cmpi .ne v53 c0_i32_23
  let c0_i32_24 : BitVec 32 := 0#32
  let v55 : BitVec 1 := Scalar.cmpi .slt v53 c0_i32_24
  let c0_i32_25 : BitVec 32 := 0#32
  let v56 : BitVec 1 := Scalar.cmpi .slt v52 c0_i32_25
  let v57 : BitVec 1 := Scalar.xori v55 v56
  let v58 : BitVec 1 := Scalar.andi v57 v54
  let v59 : BitVec 32 := Scalar.addi v53 v52
  let v60 : BitVec 32 := Scalar.select v58 v59 v53
  let v61 : BitVec 32 := Scalar.addi v50 v60
  let c0_i32_26 : BitVec 32 := 0#32
  let v62 : BitVec 1 := Scalar.cmpi .slt v2 c0_i32_26
  let v63 : BitVec 32 := Scalar.select v62 v31 v61
  let c0_i32_27 : BitVec 32 := 0#32
  let c0_i32_28 : BitVec 32 := 0#32
  ![v63.toNat, c0_i32_27.toNat]

def cc0_transform_6 (i : grid0.Coords) : Fin 2 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let c64_i32 : BitVec 32 := 64#32
  let v2 : BitVec 32 := Scalar.subi v1 c64_i32
  let c32_i32 : BitVec 32 := 32#32
  let v3 : BitVec 32 := Scalar.divsi v1 c32_i32
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v1 c32_i32
  let c0_i32_3 : BitVec 32 := 0#32
  let v16 : BitVec 1 := Scalar.cmpi .ne v15 c0_i32_3
  let v17 : BitVec 1 := Scalar.andi v14 v16
  let c1_i32_4 : BitVec 32 := 1#32
  let v18 : BitVec 32 := Scalar.subi v3 c1_i32_4
  let v19 : BitVec 32 := Scalar.select v17 v18 v3
  let c33_i32 : BitVec 32 := 33#32
  let v20 : BitVec 32 := Scalar.muli v19 c33_i32
  let c32_i32_5 : BitVec 32 := 32#32
  let c0_i32_6 : BitVec 32 := 0#32
  let v21 : BitVec 1 := Scalar.cmpi .eq c32_i32_5 c0_i32_6
  let c1_i32_7 : BitVec 32 := 1#32
  let v22 : BitVec 32 := Scalar.select v21 c1_i32_7 c32_i32_5
  let v23 : BitVec 32 := Scalar.remsi v1 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let v31 : BitVec 32 := Scalar.addi v20 v30
  let c1_i32_11 : BitVec 32 := 1#32
  let v32 : BitVec 32 := Scalar.divsi v2 c1_i32_11
  let c0_i32_12 : BitVec 32 := 0#32
  let v33 : BitVec 1 := Scalar.cmpi .sgt v2 c0_i32_12
  let v34 : BitVec 32 := Scalar.extui v33
  let c0_i32_13 : BitVec 32 := 0#32
  let v35 : BitVec 1 := Scalar.cmpi .slt v2 c0_i32_13
  let v36 : BitVec 32 := Scalar.extui v35
  let v37 : BitVec 32 := Scalar.subi v34 v36
  let c0_i32_14 : BitVec 32 := 0#32
  let v38 : BitVec 1 := Scalar.cmpi .sgt c1_i32_11 c0_i32_14
  let v39 : BitVec 32 := Scalar.extui v38
  let c0_i32_15 : BitVec 32 := 0#32
  let v40 : BitVec 1 := Scalar.cmpi .slt c1_i32_11 c0_i32_15
  let v41 : BitVec 32 := Scalar.extui v40
  let v42 : BitVec 32 := Scalar.subi v39 v41
  let v43 : BitVec 1 := Scalar.cmpi .ne v37 v42
  let v44 : BitVec 32 := Scalar.remsi v2 c1_i32_11
  let c0_i32_16 : BitVec 32 := 0#32
  let v45 : BitVec 1 := Scalar.cmpi .ne v44 c0_i32_16
  let v46 : BitVec 1 := Scalar.andi v43 v45
  let c1_i32_17 : BitVec 32 := 1#32
  let v47 : BitVec 32 := Scalar.subi v32 c1_i32_17
  let v48 : BitVec 32 := Scalar.select v46 v47 v32
  let c33_i32_18 : BitVec 32 := 33#32
  let v49 : BitVec 32 := Scalar.muli v48 c33_i32_18
  let c32_i32_19 : BitVec 32 := 32#32
  let v50 : BitVec 32 := Scalar.addi v49 c32_i32_19
  let c1_i32_20 : BitVec 32 := 1#32
  let c0_i32_21 : BitVec 32 := 0#32
  let v51 : BitVec 1 := Scalar.cmpi .eq c1_i32_20 c0_i32_21
  let c1_i32_22 : BitVec 32 := 1#32
  let v52 : BitVec 32 := Scalar.select v51 c1_i32_22 c1_i32_20
  let v53 : BitVec 32 := Scalar.remsi v2 v52
  let c0_i32_23 : BitVec 32 := 0#32
  let v54 : BitVec 1 := Scalar.cmpi .ne v53 c0_i32_23
  let c0_i32_24 : BitVec 32 := 0#32
  let v55 : BitVec 1 := Scalar.cmpi .slt v53 c0_i32_24
  let c0_i32_25 : BitVec 32 := 0#32
  let v56 : BitVec 1 := Scalar.cmpi .slt v52 c0_i32_25
  let v57 : BitVec 1 := Scalar.xori v55 v56
  let v58 : BitVec 1 := Scalar.andi v57 v54
  let v59 : BitVec 32 := Scalar.addi v53 v52
  let v60 : BitVec 32 := Scalar.select v58 v59 v53
  let v61 : BitVec 32 := Scalar.addi v50 v60
  let c0_i32_26 : BitVec 32 := 0#32
  let v62 : BitVec 1 := Scalar.cmpi .slt v2 c0_i32_26
  let v63 : BitVec 32 := Scalar.select v62 v31 v61
  let c0_i32_27 : BitVec 32 := 0#32
  let c0_i32_28 : BitVec 32 := 0#32
  ![v63.toNat, c0_i32_27.toNat]

def cc0_transform_7 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_10 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x3x512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MergeReferenceIdeal.lean ====
abbrev S16896x1024 : Shape := ⟨2, ![16896, 1024]⟩
abbrev S2x8x9x1024 : Shape := ⟨4, ![2, 8, 9, 1024]⟩
abbrev S1024 : Shape := ⟨1, ![1024]⟩
abbrev S1024x3072 : Shape := ⟨2, ![1024, 3072]⟩
abbrev S16896x512 : Shape := ⟨2, ![16896, 512]⟩
abbrev S16384x512 : Shape := ⟨2, ![16384, 512]⟩
abbrev S512x512 : Shape := ⟨2, ![512, 512]⟩
abbrev S2x3x512x1024 : Shape := ⟨4, ![2, 3, 512, 1024]⟩
abbrev S2x1024x1024 : Shape := ⟨3, ![2, 1024, 1024]⟩
abbrev S1x3x512x1024 : Shape := ⟨4, ![1, 3, 512, 1024]⟩
abbrev S3x512x1024 : Shape := ⟨3, ![3, 512, 1024]⟩
abbrev S1x1024x1024 : Shape := ⟨3, ![1, 1024, 1024]⟩
abbrev S1024x1024 : Shape := ⟨2, ![1024, 1024]⟩
abbrev S2x8448x512 : Shape := ⟨3, ![2, 8448, 512]⟩
abbrev S16384x1024 : Shape := ⟨2, ![16384, 1024]⟩
abbrev S2x8192x1024 : Shape := ⟨3, ![2, 8192, 1024]⟩
abbrev S1x2x1x1024 : Shape := ⟨4, ![1, 2, 1, 1024]⟩
abbrev S2x1024 : Shape := ⟨2, ![2, 1024]⟩
abbrev S2x1x1024 : Shape := ⟨3, ![2, 1, 1024]⟩
abbrev S2x8192x512 : Shape := ⟨3, ![2, 8192, 512]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x3072 : Shape := ⟨3, ![2, 8192, 3072]⟩
abbrev S1x512x1024 : Shape := ⟨3, ![1, 512, 1024]⟩
abbrev S512x1024 : Shape := ⟨2, ![512, 1024]⟩
abbrev S2x256x1024 : Shape := ⟨3, ![2, 256, 1024]⟩
abbrev S1x1x1x1024 : Shape := ⟨4, ![1, 1, 1, 1024]⟩
abbrev S2x256x512 : Shape := ⟨3, ![2, 256, 512]⟩
abbrev S2x256 : Shape := ⟨2, ![2, 256]⟩
abbrev S2x256x1 : Shape := ⟨3, ![2, 256, 1]⟩
abbrev S2x256x3072 : Shape := ⟨3, ![2, 256, 3072]⟩

abbrev nBuf : Space → Nat
  | .hbm => 192
  | .vmem => 0
  | .smem => 0
  | _ => 0

abbrev hbmTy0_0 (i : Nat) : BufTy := match i % 128 with
  | 0 => ⟨S16896x1024, .f32⟩
  | 1 => ⟨S2x8x9x1024, .f32⟩
  | 2 => ⟨S1024, .f32⟩
  | 3 => ⟨S1024, .f32⟩
  | 4 => ⟨S1024x3072, .bf16⟩
  | 5 => ⟨S16896x512, .bf16⟩
  | 6 => ⟨S16384x512, .f32⟩
  | 7 => ⟨S16384x512, .bf16⟩
  | 8 => ⟨S512x512, .f32⟩
  | 9 => ⟨S512x512, .bf16⟩
  | 10 => ⟨S2x3x512x1024, .bf16⟩
  | 11 => ⟨S2x1024x1024, .bf16⟩
  | 12 => ⟨S1024x3072, .f32⟩
  | 13 => ⟨S1x3x512x1024, .bf16⟩
  | 14 => ⟨S3x512x1024, .bf16⟩
  | 15 => ⟨S3x512x1024, .f32⟩
  | 16 => ⟨S1x1024x1024, .bf16⟩
  | 17 => ⟨S1024x1024, .bf16⟩
  | 18 => ⟨S1024x1024, .f32⟩
  | 19 => ⟨S16896x512, .f32⟩
  | 20 => ⟨S2x8448x512, .f32⟩
  | 21 => ⟨S16384x1024, .f32⟩
  | 22 => ⟨S2x8192x1024, .f32⟩
  | 23 => ⟨S1x2x1x1024, .f32⟩
  | 24 => ⟨S2x1024, .f32⟩
  | 25 => ⟨S2x1x1024, .f32⟩
  | 26 => ⟨S1x2x1x1024, .f32⟩
  | 27 => ⟨S2x1024, .f32⟩
  | 28 => ⟨S2x1x1024, .f32⟩
  | 29 => ⟨S1x2x1x1024, .f32⟩
  | 30 => ⟨S2x1024, .f32⟩
  | 31 => ⟨S2x1x1024, .f32⟩
  | 32 => ⟨S2x8192x512, .f32⟩
  | 33 => ⟨S2x8192x512, .f32⟩
  | 34 => ⟨S16384x512, .f32⟩
  | 35 => ⟨S2x8192x512, .f32⟩
  | 36 => ⟨S2x8192x1024, .f32⟩
  | 37 => ⟨S_, .f32⟩
  | 38 => ⟨S2x8192, .f32⟩
  | 39 => ⟨S2x8192x1, .f32⟩
  | 40 => ⟨S_, .f32⟩
  | 41 => ⟨S2x8192x1, .f32⟩
  | 42 => ⟨S2x8192x1, .f32⟩
  | 43 => ⟨S_, .f32⟩
  | 44 => ⟨S2x8192x1, .f32⟩
  | 45 => ⟨S2x8192x1, .f32⟩
  | 46 => ⟨S2x8192x1, .f32⟩
  | 47 => ⟨S2x8192x1024, .f32⟩
  | 48 => ⟨S2x8192x1024, .f32⟩
  | 49 => ⟨S1x1x1024, .f32⟩
  | 50 => ⟨S2x8192x1024, .f32⟩
  | 51 => ⟨S2x8192x1024, .f32⟩
  | 52 => ⟨S_, .f32⟩
  | 53 => ⟨S2x1x1024, .f32⟩
  | 54 => ⟨S2x1x1024, .f32⟩
  | 55 => ⟨S2x8192x1024, .f32⟩
  | 56 => ⟨S2x8192x1024, .f32⟩
  | 57 => ⟨S2x8192x1024, .f32⟩
  | 58 => ⟨S2x8192x1024, .f32⟩
  | 59 => ⟨S2x8192x3072, .f32⟩
  | 60 => ⟨S2x8192x3072, .f32⟩
  | 61 => ⟨S2x8192x3072, .f32⟩
  | 62 => ⟨S_, .f32⟩
  | 63 => ⟨S2x8192x3072, .f32⟩
  | 64 => ⟨S2x8192x3072, .f32⟩
  | 65 => ⟨S_, .f32⟩
  | 66 => ⟨S2x8192x3072, .f32⟩
  | 67 => ⟨S2x8192x3072, .f32⟩
  | 68 => ⟨S2x8192x1024, .f32⟩
  | 69 => ⟨S2x8192x1024, .f32⟩
  | 70 => ⟨S2x8192x1024, .f32⟩
  | 71 => ⟨S1x512x1024, .f32⟩
  | 72 => ⟨S512x1024, .f32⟩
  | 73 => ⟨S2x8192x1024, .f32⟩
  | 74 => ⟨S2x8192x1024, .f32⟩
  | 75 => ⟨S1x512x1024, .f32⟩
  | 76 => ⟨S512x1024, .f32⟩
  | 77 => ⟨S2x8192x1024, .f32⟩
  | 78 => ⟨S2x8192x1024, .f32⟩
  | 79 => ⟨S2x8192x1024, .f32⟩
  | 80 => ⟨S1x512x1024, .f32⟩
  | 81 => ⟨S512x1024, .f32⟩
  | 82 => ⟨S2x8192x1024, .f32⟩
  | 83 => ⟨S2x8192x1024, .f32⟩
  | 84 => ⟨S2x8192x1024, .f32⟩
  | 85 => ⟨S2x8192x1024, .f32⟩
  | 86 => ⟨S2x8192x1024, .f32⟩
  | 87 => ⟨S_, .f32⟩
  | 88 => ⟨S2x8192, .f32⟩
  | 89 => ⟨S2x8192x1, .f32⟩
  | 90 => ⟨S_, .f32⟩
  | 91 => ⟨S2x8192x1, .f32⟩
  | 92 => ⟨S2x8192x1, .f32⟩
  | 93 => ⟨S_, .f32⟩
  | 94 => ⟨S2x8192x1, .f32⟩
  | 95 => ⟨S2x8192x1, .f32⟩
  | 96 => ⟨S2x8192x1, .f32⟩
  | 97 => ⟨S2x8192x1024, .f32⟩
  | 98 => ⟨S2x8192x1024, .f32⟩
  | 99 => ⟨S1x1x1024, .f32⟩
  | 100 => ⟨S2x8192x1024, .f32⟩
  | 101 => ⟨S2x8192x1024, .f32⟩
  | 102 => ⟨S2x8192x1024, .f32⟩
  | 103 => ⟨S2x8192x1024, .f32⟩
  | 104 => ⟨S2x8192x1024, .f32⟩
  | 105 => ⟨S512x1024, .f32⟩
  | 106 => ⟨S2x256x1024, .f32⟩
  | 107 => ⟨S1x1x1x1024, .f32⟩
  | 108 => ⟨S1024, .f32⟩
  | 109 => ⟨S1x1x1x1024, .f32⟩
  | 110 => ⟨S1024, .f32⟩
  | 111 => ⟨S1x1x1x1024, .f32⟩
  | 112 => ⟨S1024, .f32⟩
  | 113 => ⟨S2x256x512, .f32⟩
  | 114 => ⟨S2x256x512, .f32⟩
  | 115 => ⟨S512x512, .f32⟩
  | 116 => ⟨S2x256x512, .f32⟩
  | 117 => ⟨S2x256x1024, .f32⟩
  | 118 => ⟨S_, .f32⟩
  | 119 => ⟨S2x256, .f32⟩
  | 120 => ⟨S2x256x1, .f32⟩
  | 121 => ⟨S_, .f32⟩
  | 122 => ⟨S2x256x1, .f32⟩
  | 123 => ⟨S2x256x1, .f32⟩
  | 124 => ⟨S_, .f32⟩
  | 125 => ⟨S2x256x1, .f32⟩
  | 126 => ⟨S2x256x1, .f32⟩
  | 127 => ⟨S2x256x1, .f32⟩
  | _ => ⟨S16896x1024, .f32⟩

abbrev hbmTy0_1 (i : Nat) : BufTy := match i % 128 with
  | 0 => ⟨S2x256x1024, .f32⟩
  | 1 => ⟨S2x256x1024, .f32⟩
  | 2 => ⟨S1x1x1024, .f32⟩
  | 3 => ⟨S2x256x1024, .f32⟩
  | 4 => ⟨S2x256x1024, .f32⟩
  | 5 => ⟨S_, .f32⟩
  | 6 => ⟨S1024, .f32⟩
  | 7 => ⟨S1024, .f32⟩
  | 8 => ⟨S1x1x1024, .f32⟩
  | 9 => ⟨S2x256x1024, .f32⟩
  | 10 => ⟨S2x256x1024, .f32⟩
  | 11 => ⟨S1x1x1024, .f32⟩
  | 12 => ⟨S2x256x1024, .f32⟩
  | 13 => ⟨S2x256x1024, .f32⟩
  | 14 => ⟨S2x256x3072, .f32⟩
  | 15 => ⟨S2x256x3072, .f32⟩
  | 16 => ⟨S2x256x3072, .f32⟩
  | 17 => ⟨S_, .f32⟩
  | 18 => ⟨S2x256x3072, .f32⟩
  | 19 => ⟨S2x256x3072, .f32⟩
  | 20 => ⟨S_, .f32⟩
  | 21 => ⟨S2x256x3072, .f32⟩
  | 22 => ⟨S2x256x3072, .f32⟩
  | 23 => ⟨S2x256x1024, .f32⟩
  | 24 => ⟨S2x256x1024, .f32⟩
  | 25 => ⟨S2x256x1024, .f32⟩
  | 26 => ⟨S1x512x1024, .f32⟩
  | 27 => ⟨S512x1024, .f32⟩
  | 28 => ⟨S2x256x1024, .f32⟩
  | 29 => ⟨S2x256x1024, .f32⟩
  | 30 => ⟨S1x512x1024, .f32⟩
  | 31 => ⟨S512x1024, .f32⟩
  | 32 => ⟨S2x256x1024, .f32⟩
  | 33 => ⟨S2x256x1024, .f32⟩
  | 34 => ⟨S2x256x1024, .f32⟩
  | 35 => ⟨S1x512x1024, .f32⟩
  | 36 => ⟨S512x1024, .f32⟩
  | 37 => ⟨S2x256x1024, .f32⟩
  | 38 => ⟨S2x256x1024, .f32⟩
  | 39 => ⟨S2x256x1024, .f32⟩
  | 40 => ⟨S2x256x1024, .f32⟩
  | 41 => ⟨S2x256x1024, .f32⟩
  | 42 => ⟨S_, .f32⟩
  | 43 => ⟨S2x256, .f32⟩
  | 44 => ⟨S2x256x1, .f32⟩
  | 45 => ⟨S_, .f32⟩
  | 46 => ⟨S2x256x1, .f32⟩
  | 47 => ⟨S2x256x1, .f32⟩
  | 48 => ⟨S_, .f32⟩
  | 49 => ⟨S2x256x1, .f32⟩
  | 50 => ⟨S2x256x1, .f32⟩
  | 51 => ⟨S2x256x1, .f32⟩
  | 52 => ⟨S2x256x1024, .f32⟩
  | 53 => ⟨S2x256x1024, .f32⟩
  | 54 => ⟨S1x1x1024, .f32⟩
  | 55 => ⟨S2x256x1024, .f32⟩
  | 56 => ⟨S2x256x1024, .f32⟩
  | 57 => ⟨S1x1x1024, .f32⟩
  | 58 => ⟨S2x256x1024, .f32⟩
  | 59 => ⟨S2x256x1024, .f32⟩
  | 60 => ⟨S2x256x1024, .f32⟩
  | 61 => ⟨S16384x1024, .f32⟩
  | 62 => ⟨S512x1024, .f32⟩
  | 63 => ⟨S16896x1024, .f32⟩
  | _ => ⟨S16896x1024, .f32⟩

abbrev hbmTy (i : Nat) : BufTy := match i / 128 with
  | 0 => hbmTy0_0 i
  | 1 => hbmTy0_1 i
  | _ => ⟨S16896x1024, .f32⟩

abbrev bufTy : (tb : Table) → Fin (tcTables nBuf tb) → BufTy
  | .hbm, ⟨i, _⟩ => hbmTy i
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst : Ref sig .tc := ⟨.hbm, 37, rfl⟩
abbrev main_v25 : Ref sig .tc := ⟨.hbm, 38, rfl⟩
abbrev main_v26 : Ref sig .tc := ⟨.hbm, 39, rfl⟩
abbrev main_cst_0 : Ref sig .tc := ⟨.hbm, 40, rfl⟩
abbrev main_v27 : Ref sig .tc := ⟨.hbm, 41, rfl⟩
abbrev main_v28 : Ref sig .tc := ⟨.hbm, 42, rfl⟩
abbrev main_cst_1 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_2 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_3 : Ref sig .tc := ⟨.hbm, 62, rfl⟩
abbrev main_v46 : Ref sig .tc := ⟨.hbm, 63, rfl⟩
abbrev main_v47 : Ref sig .tc := ⟨.hbm, 64, rfl⟩
abbrev main_cst_4 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_5 : Ref sig .tc := ⟨.hbm, 87, rfl⟩
abbrev main_v69 : Ref sig .tc := ⟨.hbm, 88, rfl⟩
abbrev main_v70 : Ref sig .tc := ⟨.hbm, 89, rfl⟩
abbrev main_cst_6 : Ref sig .tc := ⟨.hbm, 90, rfl⟩
abbrev main_v71 : Ref sig .tc := ⟨.hbm, 91, rfl⟩
abbrev main_v72 : Ref sig .tc := ⟨.hbm, 92, rfl⟩
abbrev main_cst_7 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_cst_8 : Ref sig .tc := ⟨.hbm, 118, rfl⟩
abbrev main_v97 : Ref sig .tc := ⟨.hbm, 119, rfl⟩
abbrev main_v98 : Ref sig .tc := ⟨.hbm, 120, rfl⟩
abbrev main_cst_9 : Ref sig .tc := ⟨.hbm, 121, rfl⟩
abbrev main_v99 : Ref sig .tc := ⟨.hbm, 122, rfl⟩
abbrev main_v100 : Ref sig .tc := ⟨.hbm, 123, rfl⟩
abbrev main_cst_10 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_cst_11 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_cst_12 : Ref sig .tc := ⟨.hbm, 145, rfl⟩
abbrev main_v120 : Ref sig .tc := ⟨.hbm, 146, rfl⟩
abbrev main_v121 : Ref sig .tc := ⟨.hbm, 147, rfl⟩
abbrev main_cst_13 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩
abbrev main_v140 : Ref sig .tc := ⟨.hbm, 167, rfl⟩
abbrev main_v141 : Ref sig .tc := ⟨.hbm, 168, rfl⟩
abbrev main_v142 : Ref sig .tc := ⟨.hbm, 169, rfl⟩
abbrev main_cst_14 : Ref sig .tc := ⟨.hbm, 170, rfl⟩
abbrev main_v143 : Ref sig .tc := ⟨.hbm, 171, rfl⟩
abbrev main_v144 : Ref sig .tc := ⟨.hbm, 172, rfl⟩
abbrev main_cst_15 : Ref sig .tc := ⟨.hbm, 173, rfl⟩
abbrev main_v145 : Ref sig .tc := ⟨.hbm, 174, rfl⟩
abbrev main_v146 : Ref sig .tc := ⟨.hbm, 175, rfl⟩
abbrev main_cst_16 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_v159 : Ref sig .tc := ⟨.hbm, 189, rfl⟩
abbrev main_v160 : Ref sig .tc := ⟨.hbm, 190, rfl⟩
abbrev main_v161 : Ref sig .tc := ⟨.hbm, 191, rfl⟩

abbrev nD : Nat := 1
abbrev τ : Topo := Topo.v7x

variable {F : FTy → Type} [FloatOps F]
-- ==== Inproj.lean ====
abbrev S16896x1024 : Shape := ⟨2, ![16896, 1024]⟩
abbrev S2x8x9x1024 : Shape := ⟨4, ![2, 8, 9, 1024]⟩
abbrev S1024 : Shape := ⟨1, ![1024]⟩
abbrev S2x1024x5824 : Shape := ⟨3, ![2, 1024, 5824]⟩
abbrev S2x2x16x256 : Shape := ⟨4, ![2, 2, 16, 256]⟩
abbrev S2x2x256 : Shape := ⟨3, ![2, 2, 256]⟩
abbrev S2x384 : Shape := ⟨2, ![2, 384]⟩
abbrev S2x384x768 : Shape := ⟨3, ![2, 384, 768]⟩
abbrev S2x256 : Shape := ⟨2, ![2, 256]⟩
abbrev S2x256x1024 : Shape := ⟨3, ![2, 256, 1024]⟩
abbrev S8192x8 : Shape := ⟨2, ![8192, 8]⟩
abbrev S32 : Shape := ⟨1, ![32]⟩
abbrev S8192x32 : Shape := ⟨2, ![8192, 32]⟩
abbrev S_ : Shape := ⟨0, ![]⟩
abbrev S8192x64 : Shape := ⟨2, ![8192, 64]⟩
abbrev S8192x256 : Shape := ⟨2, ![8192, 256]⟩
abbrev S256x32 : Shape := ⟨2, ![256, 32]⟩
abbrev S256x64 : Shape := ⟨2, ![256, 64]⟩
abbrev S256x256 : Shape := ⟨2, ![256, 256]⟩
abbrev S8448x256 : Shape := ⟨2, ![8448, 256]⟩
abbrev S1x1024x5824 : Shape := ⟨3, ![1, 1024, 5824]⟩
abbrev S1024x5824 : Shape := ⟨2, ![1024, 5824]⟩
abbrev S1024x1536 : Shape := ⟨2, ![1024, 1536]⟩
abbrev S1024x32 : Shape := ⟨2, ![1024, 32]⟩
abbrev S1024x128 : Shape := ⟨2, ![1024, 128]⟩
abbrev S1024x512 : Shape := ⟨2, ![1024, 512]⟩
abbrev S1024x384 : Shape := ⟨2, ![1024, 384]⟩
abbrev S1024x256 : Shape := ⟨2, ![1024, 256]⟩
abbrev S32x1 : Shape := ⟨2, ![32, 1]⟩
abbrev S1024x64 : Shape := ⟨2, ![1024, 64]⟩
abbrev S1024x2944 : Shape := ⟨2, ![1024, 2944]⟩
abbrev S1024x3072 : Shape := ⟨2, ![1024, 3072]⟩
abbrev S1x2x16x256 : Shape := ⟨4, ![1, 2, 16, 256]⟩
abbrev S2x16x256 : Shape := ⟨3, ![2, 16, 256]⟩
abbrev S128x512 : Shape := ⟨2, ![128, 512]⟩
abbrev S1x16x256 : Shape := ⟨3, ![1, 16, 256]⟩
abbrev S16x256 : Shape := ⟨2, ![16, 256]⟩
abbrev S1 : Shape := ⟨1, ![1]⟩
abbrev S2 : Shape := ⟨1, ![2]⟩
abbrev S1x2x256 : Shape := ⟨3, ![1, 2, 256]⟩
abbrev S1x512 : Shape := ⟨2, ![1, 512]⟩
abbrev S1x384x768 : Shape := ⟨3, ![1, 384, 768]⟩
abbrev S384x768 : Shape := ⟨2, ![384, 768]⟩
abbrev S384x8x96 : Shape := ⟨3, ![384, 8, 96]⟩
abbrev S384x8x32 : Shape := ⟨3, ![384, 8, 32]⟩
abbrev S384x8x128 : Shape := ⟨3, ![384, 8, 128]⟩
abbrev S384x1024 : Shape := ⟨2, ![384, 1024]⟩
abbrev S1x256x1024 : Shape := ⟨3, ![1, 256, 1024]⟩
abbrev S256x1024 : Shape := ⟨2, ![256, 1024]⟩
abbrev S256x8x128 : Shape := ⟨3, ![256, 8, 128]⟩
abbrev S256x8x64 : Shape := ⟨3, ![256, 8, 64]⟩
abbrev S256x2048 : Shape := ⟨2, ![256, 2048]⟩
abbrev S1x384 : Shape := ⟨2, ![1, 384]⟩
abbrev S384 : Shape := ⟨1, ![384]⟩
abbrev S1x256 : Shape := ⟨2, ![1, 256]⟩
abbrev S256 : Shape := ⟨1, ![256]⟩
abbrev S1x1024 : Shape := ⟨2, ![1, 1024]⟩
abbrev S16896x2048 : Shape := ⟨2, ![16896, 2048]⟩
abbrev S16896x512 : Shape := ⟨2, ![16896, 512]⟩
abbrev S1x1x9x1024 : Shape := ⟨4, ![1, 1, 9, 1024]⟩
abbrev S256x512 : Shape := ⟨2, ![256, 512]⟩
abbrev S1x1x1x1024 : Shape := ⟨4, ![1, 1, 1, 1024]⟩
abbrev S256x1 : Shape := ⟨2, ![256, 1]⟩
abbrev S1024x768 : Shape := ⟨2, ![1024, 768]⟩
abbrev S256x768 : Shape := ⟨2, ![256, 768]⟩
abbrev S1024x2176 : Shape := ⟨2, ![1024, 2176]⟩
abbrev S256x2176 : Shape := ⟨2, ![256, 2176]⟩
abbrev S256x384 : Shape := ⟨2, ![256, 384]⟩
abbrev S256x1280 : Shape := ⟨2, ![256, 1280]⟩
abbrev S256x128 : Shape := ⟨2, ![256, 128]⟩

abbrev nBuf : Space → Nat
  | .hbm => 134
  | .vmem => 24
  | .smem => 0
  | _ => 0

abbrev hbmTy0_0 (i : Nat) : BufTy := match i % 128 with
  | 0 => ⟨S16896x1024, .f32⟩
  | 1 => ⟨S2x8x9x1024, .f32⟩
  | 2 => ⟨S1024, .f32⟩
  | 3 => ⟨S2x1024x5824, .f32⟩
  | 4 => ⟨S2x2x16x256, .f32⟩
  | 5 => ⟨S2x2x256, .f32⟩
  | 6 => ⟨S2x384, .f32⟩
  | 7 => ⟨S2x384x768, .f32⟩
  | 8 => ⟨S2x256, .f32⟩
  | 9 => ⟨S2x256x1024, .f32⟩
  | 10 => ⟨S8192x8, .f32⟩
  | 11 => ⟨S8192x8, .f32⟩
  | 12 => ⟨S8192x8, .f32⟩
  | 13 => ⟨S8192x8, .f32⟩
  | 14 => ⟨S32, .i32⟩
  | 15 => ⟨S32, .i1⟩
  | 16 => ⟨S32, .i32⟩
  | 17 => ⟨S32, .i1⟩
  | 18 => ⟨S8192x32, .f32⟩
  | 19 => ⟨S8192x8, .f32⟩
  | 20 => ⟨S8192x8, .f32⟩
  | 21 => ⟨S8192x32, .f32⟩
  | 22 => ⟨S_, .f32⟩
  | 23 => ⟨S8192x64, .f32⟩
  | 24 => ⟨S_, .f32⟩
  | 25 => ⟨S8192x32, .f32⟩
  | 26 => ⟨S_, .f32⟩
  | 27 => ⟨S8192x64, .f32⟩
  | 28 => ⟨S_, .f32⟩
  | 29 => ⟨S8192x32, .f32⟩
  | 30 => ⟨S8192x256, .f32⟩
  | 31 => ⟨S_, .f32⟩
  | 32 => ⟨S256x32, .f32⟩
  | 33 => ⟨S_, .f32⟩
  | 34 => ⟨S256x32, .f32⟩
  | 35 => ⟨S_, .f32⟩
  | 36 => ⟨S256x64, .f32⟩
  | 37 => ⟨S_, .f32⟩
  | 38 => ⟨S256x32, .f32⟩
  | 39 => ⟨S_, .f32⟩
  | 40 => ⟨S256x64, .f32⟩
  | 41 => ⟨S_, .f32⟩
  | 42 => ⟨S256x32, .f32⟩
  | 43 => ⟨S256x256, .f32⟩
  | 44 => ⟨S8448x256, .f32⟩
  | 45 => ⟨S1x1024x5824, .f32⟩
  | 46 => ⟨S1024x5824, .f32⟩
  | 47 => ⟨S1024x1536, .f32⟩
  | 48 => ⟨S1024x32, .f32⟩
  | 49 => ⟨S_, .i32⟩
  | 50 => ⟨S_, .f32⟩
  | 51 => ⟨S1024x128, .f32⟩
  | 52 => ⟨S1024x512, .f32⟩
  | 53 => ⟨S1024x384, .f32⟩
  | 54 => ⟨S1024x256, .f32⟩
  | 55 => ⟨S1024x32, .f32⟩
  | 56 => ⟨S_, .i32⟩
  | 57 => ⟨S32, .i32⟩
  | 58 => ⟨S32, .i32⟩
  | 59 => ⟨S32, .i32⟩
  | 60 => ⟨S32x1, .i32⟩
  | 61 => ⟨S1024x32, .f32⟩
  | 62 => ⟨S1024x64, .f32⟩
  | 63 => ⟨S_, .i32⟩
  | 64 => ⟨S_, .f32⟩
  | 65 => ⟨S1024x128, .f32⟩
  | 66 => ⟨S1024x2944, .f32⟩
  | 67 => ⟨S1024x2944, .bf16⟩
  | 68 => ⟨S1024x3072, .f32⟩
  | 69 => ⟨S1024x3072, .bf16⟩
  | 70 => ⟨S1x2x16x256, .f32⟩
  | 71 => ⟨S2x16x256, .f32⟩
  | 72 => ⟨S_, .f32⟩
  | 73 => ⟨S128x512, .f32⟩
  | 74 => ⟨S1x16x256, .f32⟩
  | 75 => ⟨S16x256, .f32⟩
  | 76 => ⟨S_, .i32⟩
  | 77 => ⟨S1, .i32⟩
  | 78 => ⟨S_, .i32⟩
  | 79 => ⟨S1, .i32⟩
  | 80 => ⟨S2, .i32⟩
  | 81 => ⟨S128x512, .f32⟩
  | 82 => ⟨S1x16x256, .f32⟩
  | 83 => ⟨S16x256, .f32⟩
  | 84 => ⟨S_, .i32⟩
  | 85 => ⟨S1, .i32⟩
  | 86 => ⟨S_, .i32⟩
  | 87 => ⟨S1, .i32⟩
  | 88 => ⟨S2, .i32⟩
  | 89 => ⟨S128x512, .f32⟩
  | 90 => ⟨S128x512, .bf16⟩
  | 91 => ⟨S1x2x256, .f32⟩
  | 92 => ⟨S2x256, .f32⟩
  | 93 => ⟨S1x512, .f32⟩
  | 94 => ⟨S1x384x768, .f32⟩
  | 95 => ⟨S384x768, .f32⟩
  | 96 => ⟨S384x8x96, .f32⟩
  | 97 => ⟨S384x8x32, .f32⟩
  | 98 => ⟨S_, .i32⟩
  | 99 => ⟨S32, .i32⟩
  | 100 => ⟨S32, .i32⟩
  | 101 => ⟨S32, .i32⟩
  | 102 => ⟨S32x1, .i32⟩
  | 103 => ⟨S384x8x32, .f32⟩
  | 104 => ⟨S384x8x128, .f32⟩
  | 105 => ⟨S384x1024, .f32⟩
  | 106 => ⟨S384x1024, .bf16⟩
  | 107 => ⟨S1x256x1024, .f32⟩
  | 108 => ⟨S256x1024, .f32⟩
  | 109 => ⟨S256x8x128, .f32⟩
  | 110 => ⟨S256x8x64, .f32⟩
  | 111 => ⟨S_, .i32⟩
  | 112 => ⟨S_, .f32⟩
  | 113 => ⟨S256x8x128, .f32⟩
  | 114 => ⟨S256x8x64, .f32⟩
  | 115 => ⟨S_, .i32⟩
  | 116 => ⟨S_, .f32⟩
  | 117 => ⟨S256x8x128, .f32⟩
  | 118 => ⟨S256x1024, .f32⟩
  | 119 => ⟨S256x1024, .f32⟩
  | 120 => ⟨S256x2048, .f32⟩
  | 121 => ⟨S256x2048, .bf16⟩
  | 122 => ⟨S1x384, .f32⟩
  | 123 => ⟨S384, .f32⟩
  | 124 => ⟨S1x384, .f32⟩
  | 125 => ⟨S1x256, .f32⟩
  | 126 => ⟨S256, .f32⟩
  | 127 => ⟨S1x256, .f32⟩
  | _ => ⟨S16896x1024, .f32⟩

abbrev hbmTy0_1 (i : Nat) : BufTy := match i % 128 with
  | 0 => ⟨S1x1024, .f32⟩
  | 1 => ⟨S16896x2048, .f32⟩
  | 2 => ⟨S16896x512, .f32⟩
  | 3 => ⟨S16896x1024, .bf16⟩
  | 4 => ⟨S16896x1024, .bf16⟩
  | 5 => ⟨S16896x1024, .bf16⟩
  | _ => ⟨S16896x1024, .f32⟩

abbrev hbmTy (i : Nat) : BufTy := match i / 128 with
  | 0 => hbmTy0_0 i
  | 1 => hbmTy0_1 i
  | _ => ⟨S16896x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S1x1x9x1024, .f32⟩
  | .local _ .vmem, ⟨3, _⟩ => ⟨S1x1x9x1024, .f32⟩
  | .local _ .vmem, ⟨4, _⟩ => ⟨S1x1024, .f32⟩
  | .local _ .vmem, ⟨5, _⟩ => ⟨S1024x2944, .bf16⟩
  | .local _ .vmem, ⟨6, _⟩ => ⟨S128x512, .bf16⟩
  | .local _ .vmem, ⟨7, _⟩ => ⟨S1x512, .f32⟩
  | .local _ .vmem, ⟨8, _⟩ => ⟨S1x384, .f32⟩
  | .local _ .vmem, ⟨9, _⟩ => ⟨S384x1024, .bf16⟩
  | .local _ .vmem, ⟨10, _⟩ => ⟨S1x256, .f32⟩
  | .local _ .vmem, ⟨11, _⟩ => ⟨S256x2048, .bf16⟩
  | .local _ .vmem, ⟨12, _⟩ => ⟨S256x256, .f32⟩
  | .local _ .vmem, ⟨13, _⟩ => ⟨S256x256, .f32⟩
  | .local _ .vmem, ⟨14, _⟩ => ⟨S256x2048, .f32⟩
  | .local _ .vmem, ⟨15, _⟩ => ⟨S256x2048, .f32⟩
  | .local _ .vmem, ⟨16, _⟩ => ⟨S256x512, .f32⟩
  | .local _ .vmem, ⟨17, _⟩ => ⟨S256x512, .f32⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_c_0 : Ref sig .tc := ⟨.hbm, 15, rfl⟩
abbrev main_c_1 : Ref sig .tc := ⟨.hbm, 16, rfl⟩
abbrev main_c_2 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_cst_3 : Ref sig .tc := ⟨.hbm, 24, rfl⟩
abbrev main_v5 : Ref sig .tc := ⟨.hbm, 25, rfl⟩
abbrev main_cst_4 : Ref sig .tc := ⟨.hbm, 26, rfl⟩
abbrev main_v6 : Ref sig .tc := ⟨.hbm, 27, rfl⟩
abbrev main_cst_5 : Ref sig .tc := ⟨.hbm, 28, rfl⟩
abbrev main_v7 : Ref sig .tc := ⟨.hbm, 29, rfl⟩
abbrev main_v8 : Ref sig .tc := ⟨.hbm, 30, rfl⟩
abbrev main_cst_6 : Ref sig .tc := ⟨.hbm, 31, rfl⟩
abbrev main_v9 : Ref sig .tc := ⟨.hbm, 32, rfl⟩
abbrev main_cst_7 : Ref sig .tc := ⟨.hbm, 33, rfl⟩
abbrev main_v10 : Ref sig .tc := ⟨.hbm, 34, rfl⟩
abbrev main_cst_8 : Ref sig .tc := ⟨.hbm, 35, rfl⟩
abbrev main_v11 : Ref sig .tc := ⟨.hbm, 36, rfl⟩
abbrev main_cst_9 : Ref sig .tc := ⟨.hbm, 37, rfl⟩
abbrev main_v12 : Ref sig .tc := ⟨.hbm, 38, rfl⟩
abbrev main_cst_10 : Ref sig .tc := ⟨.hbm, 39, rfl⟩
abbrev main_v13 : Ref sig .tc := ⟨.hbm, 40, rfl⟩
abbrev main_cst_11 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_c_12 : Ref sig .tc := ⟨.hbm, 49, rfl⟩
abbrev main_call0_v0 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_c_13 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_c_14 : Ref sig .tc := ⟨.hbm, 63, rfl⟩
abbrev main_call1_v0 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_cst_15 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_c_16 : Ref sig .tc := ⟨.hbm, 76, rfl⟩
abbrev main_v42 : Ref sig .tc := ⟨.hbm, 77, rfl⟩
abbrev main_c_17 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_c_18 : Ref sig .tc := ⟨.hbm, 84, rfl⟩
abbrev main_v48 : Ref sig .tc := ⟨.hbm, 85, rfl⟩
abbrev main_c_19 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_c_20 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_c_21 : Ref sig .tc := ⟨.hbm, 111, rfl⟩
abbrev main_call2_v0 : Ref sig .tc := ⟨.hbm, 112, rfl⟩
abbrev main_v72 : Ref sig .tc := ⟨.hbm, 113, rfl⟩
abbrev main_v73 : Ref sig .tc := ⟨.hbm, 114, rfl⟩
abbrev main_c_22 : Ref sig .tc := ⟨.hbm, 115, rfl⟩
abbrev main_call3_v0 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86_0 : Ref sig .tc := ⟨.hbm, 129, rfl⟩
abbrev main_v86_1 : Ref sig .tc := ⟨.hbm, 130, rfl⟩
abbrev main_v86_2 : Ref sig .tc := ⟨.hbm, 131, rfl⟩
abbrev main_v86_3 : Ref sig .tc := ⟨.hbm, 132, rfl⟩
abbrev main_v86_4 : Ref sig .tc := ⟨.hbm, 133, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c256_i32 : BitVec 32 := 256#32
  let v0 : BitVec 32 := Scalar.muli arg0 c256_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.minsi v17 c2_i32
  let c0_i32_4 : BitVec 32 := 0#32
  let c0_i32_5 : BitVec 32 := 0#32
  let c0_i32_6 : BitVec 32 := 0#32
  let c0_i32_7 : BitVec 32 := 0#32
  ![c0_i32_4.toNat, v18.toNat, c0_i32_5.toNat, c0_i32_6.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c256_i32 : BitVec 32 := 256#32
  let v0 : BitVec 32 := Scalar.muli arg0 c256_i32
  let c16384_i32 : BitVec 32 := 16384#32
  let v1 : BitVec 1 := Scalar.cmpi .slt v0 c16384_i32
  let c256_i32_0 : BitVec 32 := 256#32
  let v2 : BitVec 32 := Scalar.muli arg0 c256_i32_0
  let c8192_i32 : BitVec 32 := 8192#32
  let c0_i32 : BitVec 32 := 0#32
  let v3 : BitVec 1 := Scalar.cmpi .eq c8192_i32 c0_i32
  let c1_i32 : BitVec 32 := 1#32
  let v4 : BitVec 32 := Scalar.select v3 c1_i32 c8192_i32
  let v5 : BitVec 32 := Scalar.remsi v2 v4
  let c0_i32_1 : BitVec 32 := 0#32
  let v6 : BitVec 1 := Scalar.cmpi .ne v5 c0_i32_1
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let v10 : BitVec 1 := Scalar.andi v9 v6
  let v11 : BitVec 32 := Scalar.addi v5 v4
  let v12 : BitVec 32 := Scalar.select v10 v11 v5
  let c256_i32_4 : BitVec 32 := 256#32
  let v13 : BitVec 32 := Scalar.divsi v12 c256_i32_4
  let c0_i32_5 : BitVec 32 := 0#32
  let v14 : BitVec 1 := Scalar.cmpi .sgt v12 c0_i32_5
  let v15 : BitVec 32 := Scalar.extui v14
  let c0_i32_6 : BitVec 32 := 0#32
  let v16 : BitVec 1 := Scalar.cmpi .slt v12 c0_i32_6
  let v17 : BitVec 32 := Scalar.extui v16
  let v18 : BitVec 32 := Scalar.subi v15 v17
  let c0_i32_7 : BitVec 32 := 0#32
  let v19 : BitVec 1 := Scalar.cmpi .sgt c256_i32_4 c0_i32_7
  let v20 : BitVec 32 := Scalar.extui v19
  let c0_i32_8 : BitVec 32 := 0#32
  let v21 : BitVec 1 := Scalar.cmpi .slt c256_i32_4 c0_i32_8
  let v22 : BitVec 32 := Scalar.extui v21
  let v23 : BitVec 32 := Scalar.subi v20 v22
  let v24 : BitVec 1 := Scalar.cmpi .ne v18 v23
  let v25 : BitVec 32 := Scalar.remsi v12 c256_i32_4
  let c0_i32_9 : BitVec 32 := 0#32
  let v26 : BitVec 1 := Scalar.cmpi .ne v25 c0_i32_9
  let v27 : BitVec 1 := Scalar.andi v24 v26
  let c1_i32_10 : BitVec 32 := 1#32
  let v28 : BitVec 32 := Scalar.subi v13 c1_i32_10
  let v29 : BitVec 32 := Scalar.select v27 v28 v13
  let c32_i32 : BitVec 32 := 32#32
  let v30 : BitVec 32 := Scalar.select v1 v29 c32_i32
  let c0_i32_11 : BitVec 32 := 0#32
  let c0_i32_12 : BitVec 32 := 0#32
  ![v30.toNat, c0_i32_11.toNat]

def cc0_transform_11 (i : grid0.Coords) : Fin 2 → Nat :=
  let arg0 : BitVec 32 := BitVec.ofNat 32 (i 0).val
  let c64_i32 : BitVec 32 := 64#32
  let v0 : BitVec 32 := Scalar.subi arg0 c64_i32
  let c32_i32 : BitVec 32 := 32#32
  let v1 : BitVec 32 := Scalar.divsi arg0 c32_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c33_i32 : BitVec 32 := 33#32
  let v18 : BitVec 32 := Scalar.muli v17 c33_i32
  let c32_i32_4 : BitVec 32 := 32#32
  let c0_i32_5 : BitVec 32 := 0#32
  let v19 : BitVec 1 := Scalar.cmpi .eq c32_i32_4 c0_i32_5
  let c1_i32_6 : BitVec 32 := 1#32
  let v20 : BitVec 32 := Scalar.select v19 c1_i32_6 c32_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let v29 : BitVec 32 := Scalar.addi v18 v28
  let c1_i32_10 : BitVec 32 := 1#32
  let v30 : BitVec 32 := Scalar.divsi v0 c1_i32_10
  let c0_i32_11 : BitVec 32 := 0#32
  let v31 : BitVec 1 := Scalar.cmpi .sgt v0 c0_i32_11
  let v32 : BitVec 32 := Scalar.extui v31
  let c0_i32_12 : BitVec 32 := 0#32
  let v33 : BitVec 1 := Scalar.cmpi .slt v0 c0_i32_12
  let v34 : BitVec 32 := Scalar.extui v33
  let v35 : BitVec 32 := Scalar.subi v32 v34
  let c0_i32_13 : BitVec 32 := 0#32
  let v36 : BitVec 1 := Scalar.cmpi .sgt c1_i32_10 c0_i32_13
  let v37 : BitVec 32 := Scalar.extui v36
  let c0_i32_14 : BitVec 32 := 0#32
  let v38 : BitVec 1 := Scalar.cmpi .slt c1_i32_10 c0_i32_14
  let v39 : BitVec 32 := Scalar.extui v38
  let v40 : BitVec 32 := Scalar.subi v37 v39
  let v41 : BitVec 1 := Scalar.cmpi .ne v35 v40
  let v42 : BitVec 32 := Scalar.remsi v0 c1_i32_10
  let c0_i32_15 : BitVec 32 := 0#32
  let v43 : BitVec 1 := Scalar.cmpi .ne v42 c0_i32_15
  let v44 : BitVec 1 := Scalar.andi v41 v43
  let c1_i32_16 : BitVec 32 := 1#32
  let v45 : BitVec 32 := Scalar.subi v30 c1_i32_16
  let v46 : BitVec 32 := Scalar.select v44 v45 v30
  let c33_i32_17 : BitVec 32 := 33#32
  let v47 : BitVec 32 := Scalar.muli v46 c33_i32_17
  let c32_i32_18 : BitVec 32 := 32#32
  let v48 : BitVec 32 := Scalar.addi v47 c32_i32_18
  let c1_i32_19 : BitVec 32 := 1#32
  let c0_i32_20 : BitVec 32 := 0#32
  let v49 : BitVec 1 := Scalar.cmpi .eq c1_i32_19 c0_i32_20
  let c1_i32_21 : BitVec 32 := 1#32
  let v50 : BitVec 32 := Scalar.select v49 c1_i32_21 c1_i32_19
  let v51 : BitVec 32 := Scalar.remsi v0 v50
  let c0_i32_22 : BitVec 32 := 0#32
  let v52 : BitVec 1 := Scalar.cmpi .ne v51 c0_i32_22
  let c0_i32_23 : BitVec 32 := 0#32
  let v53 : BitVec 1 := Scalar.cmpi .slt v51 c0_i32_23
  let c0_i32_24 : BitVec 32 := 0#32
  let v54 : BitVec 1 := Scalar.cmpi .slt v50 c0_i32_24
  let v55 : BitVec 1 := Scalar.xori v53 v54
  let v56 : BitVec 1 := Scalar.andi v55 v52
  let v57 : BitVec 32 := Scalar.addi v51 v50
  let v58 : BitVec 32 := Scalar.select v56 v57 v51
  let v59 : BitVec 32 := Scalar.addi v48 v58
  let c0_i32_25 : BitVec 32 := 0#32
  let v60 : BitVec 1 := Scalar.cmpi .slt v0 c0_i32_25
  let v61 : BitVec 32 := Scalar.select v60 v29 v59
  let c0_i32_26 : BitVec 32 := 0#32
  let c0_i32_27 : BitVec 32 := 0#32
  ![v61.toNat, c0_i32_26.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c64_i32 : BitVec 32 := 64#32
  let v0 : BitVec 32 := Scalar.subi arg0 c64_i32
  let c32_i32 : BitVec 32 := 32#32
  let v1 : BitVec 32 := Scalar.divsi arg0 c32_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c33_i32 : BitVec 32 := 33#32
  let v18 : BitVec 32 := Scalar.muli v17 c33_i32
  let c32_i32_4 : BitVec 32 := 32#32
  let c0_i32_5 : BitVec 32 := 0#32
  let v19 : BitVec 1 := Scalar.cmpi .eq c32_i32_4 c0_i32_5
  let c1_i32_6 : BitVec 32 := 1#32
  let v20 : BitVec 32 := Scalar.select v19 c1_i32_6 c32_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let v29 : BitVec 32 := Scalar.addi v18 v28
  let c1_i32_10 : BitVec 32 := 1#32
  let v30 : BitVec 32 := Scalar.divsi v0 c1_i32_10
  let c0_i32_11 : BitVec 32 := 0#32
  let v31 : BitVec 1 := Scalar.cmpi .sgt v0 c0_i32_11
  let v32 : BitVec 32 := Scalar.extui v31
  let c0_i32_12 : BitVec 32 := 0#32
  let v33 : BitVec 1 := Scalar.cmpi .slt v0 c0_i32_12
  let v34 : BitVec 32 := Scalar.extui v33
  let v35 : BitVec 32 := Scalar.subi v32 v34
  let c0_i32_13 : BitVec 32 := 0#32
  let v36 : BitVec 1 := Scalar.cmpi .sgt c1_i32_10 c0_i32_13
  let v37 : BitVec 32 := Scalar.extui v36
  let c0_i32_14 : BitVec 32 := 0#32
  let v38 : BitVec 1 := Scalar.cmpi .slt c1_i32_10 c0_i32_14
  let v39 : BitVec 32 := Scalar.extui v38
  let v40 : BitVec 32 := Scalar.subi v37 v39
  let v41 : BitVec 1 := Scalar.cmpi .ne v35 v40
  let v42 : BitVec 32 := Scalar.remsi v0 c1_i32_10
  let c0_i32_15 : BitVec 32 := 0#32
  let v43 : BitVec 1 := Scalar.cmpi .ne v42 c0_i32_15
  let v44 : BitVec 1 := Scalar.andi v41 v43
  let c1_i32_16 : BitVec 32 := 1#32
  let v45 : BitVec 32 := Scalar.subi v30 c1_i32_16
  let v46 : BitVec 32 := Scalar.select v44 v45 v30
  let c33_i32_17 : BitVec 32 := 33#32
  let v47 : BitVec 32 := Scalar.muli v46 c33_i32_17
  let c32_i32_18 : BitVec 32 := 32#32
  let v48 : BitVec 32 := Scalar.addi v47 c32_i32_18
  let c1_i32_19 : BitVec 32 := 1#32
  let c0_i32_20 : BitVec 32 := 0#32
  let v49 : BitVec 1 := Scalar.cmpi .eq c1_i32_19 c0_i32_20
  let c1_i32_21 : BitVec 32 := 1#32
  let v50 : BitVec 32 := Scalar.select v49 c1_i32_21 c1_i32_19
  let v51 : BitVec 32 := Scalar.remsi v0 v50
  let c0_i32_22 : BitVec 32 := 0#32
  let v52 : BitVec 1 := Scalar.cmpi .ne v51 c0_i32_22
  let c0_i32_23 : BitVec 32 := 0#32
  let v53 : BitVec 1 := Scalar.cmpi .slt v51 c0_i32_23
  let c0_i32_24 : BitVec 32 := 0#32
  let v54 : BitVec 1 := Scalar.cmpi .slt v50 c0_i32_24
  let v55 : BitVec 1 := Scalar.xori v53 v54
  let v56 : BitVec 1 := Scalar.andi v55 v52
  let v57 : BitVec 32 := Scalar.addi v51 v50
  let v58 : BitVec 32 := Scalar.select v56 v57 v51
  let v59 : BitVec 32 := Scalar.addi v48 v58
  let c0_i32_25 : BitVec 32 := 0#32
  let v60 : BitVec 1 := Scalar.cmpi .slt v0 c0_i32_25
  let v61 : BitVec 32 := Scalar.select v60 v29 v59
  let c0_i32_26 : BitVec 32 := 0#32
  let c0_i32_27 : BitVec 32 := 0#32
  ![v61.toNat, c0_i32_26.toNat]

def cc0_transform_15 (i : grid0.Coords) : Fin 2 → Nat :=
  let arg0 : BitVec 32 := BitVec.ofNat 32 (i 0).val
  let c64_i32 : BitVec 32 := 64#32
  let v0 : BitVec 32 := Scalar.subi arg0 c64_i32
  let c32_i32 : BitVec 32 := 32#32
  let v1 : BitVec 32 := Scalar.divsi arg0 c32_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c33_i32 : BitVec 32 := 33#32
  let v18 : BitVec 32 := Scalar.muli v17 c33_i32
  let c32_i32_4 : BitVec 32 := 32#32
  let c0_i32_5 : BitVec 32 := 0#32
  let v19 : BitVec 1 := Scalar.cmpi .eq c32_i32_4 c0_i32_5
  let c1_i32_6 : BitVec 32 := 1#32
  let v20 : BitVec 32 := Scalar.select v19 c1_i32_6 c32_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let v29 : BitVec 32 := Scalar.addi v18 v28
  let c1_i32_10 : BitVec 32 := 1#32
  let v30 : BitVec 32 := Scalar.divsi v0 c1_i32_10
  let c0_i32_11 : BitVec 32 := 0#32
  let v31 : BitVec 1 := Scalar.cmpi .sgt v0 c0_i32_11
  let v32 : BitVec 32 := Scalar.extui v31
  let c0_i32_12 : BitVec 32 := 0#32
  let v33 : BitVec 1 := Scalar.cmpi .slt v0 c0_i32_12
  let v34 : BitVec 32 := Scalar.extui v33
  let v35 : BitVec 32 := Scalar.subi v32 v34
  let c0_i32_13 : BitVec 32 := 0#32
  let v36 : BitVec 1 := Scalar.cmpi .sgt c1_i32_10 c0_i32_13
  let v37 : BitVec 32 := Scalar.extui v36
  let c0_i32_14 : BitVec 32 := 0#32
  let v38 : BitVec 1 := Scalar.cmpi .slt c1_i32_10 c0_i32_14
  let v39 : BitVec 32 := Scalar.extui v38
  let v40 : BitVec 32 := Scalar.subi v37 v39
  let v41 : BitVec 1 := Scalar.cmpi .ne v35 v40
  let v42 : BitVec 32 := Scalar.remsi v0 c1_i32_10
  let c0_i32_15 : BitVec 32 := 0#32
  let v43 : BitVec 1 := Scalar.cmpi .ne v42 c0_i32_15
  let v44 : BitVec 1 := Scalar.andi v41 v43
  let c1_i32_16 : BitVec 32 := 1#32
  let v45 : BitVec 32 := Scalar.subi v30 c1_i32_16
  let v46 : BitVec 32 := Scalar.select v44 v45 v30
  let c33_i32_17 : BitVec 32 := 33#32
  let v47 : BitVec 32 := Scalar.muli v46 c33_i32_17
  let c32_i32_18 : BitVec 32 := 32#32
  let v48 : BitVec 32 := Scalar.addi v47 c32_i32_18
  let c1_i32_19 : BitVec 32 := 1#32
  let c0_i32_20 : BitVec 32 := 0#32
  let v49 : BitVec 1 := Scalar.cmpi .eq c1_i32_19 c0_i32_20
  let c1_i32_21 : BitVec 32 := 1#32
  let v50 : BitVec 32 := Scalar.select v49 c1_i32_21 c1_i32_19
  let v51 : BitVec 32 := Scalar.remsi v0 v50
  let c0_i32_22 : BitVec 32 := 0#32
  let v52 : BitVec 1 := Scalar.cmpi .ne v51 c0_i32_22
  let c0_i32_23 : BitVec 32 := 0#32
  let v53 : BitVec 1 := Scalar.cmpi .slt v51 c0_i32_23
  let c0_i32_24 : BitVec 32 := 0#32
  let v54 : BitVec 1 := Scalar.cmpi .slt v50 c0_i32_24
  let v55 : BitVec 1 := Scalar.xori v53 v54
  let v56 : BitVec 1 := Scalar.andi v55 v52
  let v57 : BitVec 32 := Scalar.addi v51 v50
  let v58 : BitVec 32 := Scalar.select v56 v57 v51
  let v59 : BitVec 32 := Scalar.addi v48 v58
  let c0_i32_25 : BitVec 32 := 0#32
  let v60 : BitVec 1 := Scalar.cmpi .slt v0 c0_i32_25
  let v61 : BitVec 32 := Scalar.select v60 v29 v59
  let c0_i32_26 : BitVec 32 := 0#32
  let c0_i32_27 : BitVec 32 := 0#32
  ![v61.toNat, c0_i32_26.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2944 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S384x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== InprojReferenceIdeal.lean ====
abbrev S16896x1024 : Shape := ⟨2, ![16896, 1024]⟩
abbrev S2x8x9x1024 : Shape := ⟨4, ![2, 8, 9, 1024]⟩
abbrev S1024 : Shape := ⟨1, ![1024]⟩
abbrev S2x1024x5824 : Shape := ⟨3, ![2, 1024, 5824]⟩
abbrev S2x2x16x256 : Shape := ⟨4, ![2, 2, 16, 256]⟩
abbrev S2x2x256 : Shape := ⟨3, ![2, 2, 256]⟩
abbrev S2x384 : Shape := ⟨2, ![2, 384]⟩
abbrev S2x384x768 : Shape := ⟨3, ![2, 384, 768]⟩
abbrev S2x256 : Shape := ⟨2, ![2, 256]⟩
abbrev S2x256x1024 : Shape := ⟨3, ![2, 256, 1024]⟩
abbrev S8192x8 : Shape := ⟨2, ![8192, 8]⟩
abbrev S16384x1024 : Shape := ⟨2, ![16384, 1024]⟩
abbrev S2x8192x1024 : Shape := ⟨3, ![2, 8192, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1x2x1x1024 : Shape := ⟨4, ![1, 2, 1, 1024]⟩
abbrev S2x1024 : Shape := ⟨2, ![2, 1024]⟩
abbrev S2x1x1024 : Shape := ⟨3, ![2, 1, 1024]⟩
abbrev S512x1024 : Shape := ⟨2, ![512, 1024]⟩
abbrev S512 : Shape := ⟨1, ![512]⟩
abbrev S512x1 : Shape := ⟨2, ![512, 1]⟩
abbrev S1x1024 : Shape := ⟨2, ![1, 1024]⟩
abbrev S1x1x1x1024 : Shape := ⟨4, ![1, 1, 1, 1024]⟩
abbrev S1x1024x2752 : Shape := ⟨3, ![1, 1024, 2752]⟩
abbrev S1024x2752 : Shape := ⟨2, ![1024, 2752]⟩
abbrev S16896x2752 : Shape := ⟨2, ![16896, 2752]⟩
abbrev S16896x256 : Shape := ⟨2, ![16896, 256]⟩
abbrev S16896x512 : Shape := ⟨2, ![16896, 512]⟩
abbrev S16896x16 : Shape := ⟨2, ![16896, 16]⟩
abbrev S16896x384 : Shape := ⟨2, ![16896, 384]⟩
abbrev S16896x32 : Shape := ⟨2, ![16896, 32]⟩
abbrev S1x1x16x256 : Shape := ⟨4, ![1, 1, 16, 256]⟩
abbrev S16x256 : Shape := ⟨2, ![16, 256]⟩
abbrev S1x1x256 : Shape := ⟨3, ![1, 1, 256]⟩
abbrev S256 : Shape := ⟨1, ![256]⟩
abbrev S1x256 : Shape := ⟨2, ![1, 256]⟩
abbrev S16896x2048 : Shape := ⟨2, ![16896, 2048]⟩
abbrev S1x384 : Shape := ⟨2, ![1, 384]⟩
abbrev S384 : Shape := ⟨1, ![384]⟩
abbrev S16896 : Shape := ⟨1, ![16896]⟩
abbrev S16896x1 : Shape := ⟨2, ![16896, 1]⟩
abbrev S1x384x768 : Shape := ⟨3, ![1, 384, 768]⟩
abbrev S384x768 : Shape := ⟨2, ![384, 768]⟩
abbrev S16896x768 : Shape := ⟨2, ![16896, 768]⟩
abbrev S16896x8x96 : Shape := ⟨3, ![16896, 8, 96]⟩
abbrev S1x256x1024 : Shape := ⟨3, ![1, 256, 1024]⟩
abbrev S256x1024 : Shape := ⟨2, ![256, 1024]⟩
abbrev S16896x8x128 : Shape := ⟨3, ![16896, 8, 128]⟩
abbrev S16896x8x32 : Shape := ⟨3, ![16896, 8, 32]⟩
abbrev S8192x1x8 : Shape := ⟨3, ![8192, 1, 8]⟩
abbrev S16384x8x32 : Shape := ⟨3, ![16384, 8, 32]⟩
abbrev S2x8192x8x32 : Shape := ⟨4, ![2, 8192, 8, 32]⟩
abbrev S2x8192x8x16 : Shape := ⟨4, ![2, 8192, 8, 16]⟩
abbrev S2x8192x8x8 : Shape := ⟨4, ![2, 8192, 8, 8]⟩
abbrev S1x8192x1x8 : Shape := ⟨4, ![1, 8192, 1, 8]⟩
abbrev S512x8x32 : Shape := ⟨3, ![512, 8, 32]⟩
abbrev S16896x1x32 : Shape := ⟨3, ![16896, 1, 32]⟩
abbrev S16384x1x32 : Shape := ⟨3, ![16384, 1, 32]⟩
abbrev S2x8192x1x32 : Shape := ⟨4, ![2, 8192, 1, 32]⟩
abbrev S2x8192x1x16 : Shape := ⟨4, ![2, 8192, 1, 16]⟩
abbrev S2x8192x1x8 : Shape := ⟨4, ![2, 8192, 1, 8]⟩
abbrev S512x1x32 : Shape := ⟨3, ![512, 1, 32]⟩
abbrev S16896x8x1 : Shape := ⟨3, ![16896, 8, 1]⟩
abbrev S16896x8x64 : Shape := ⟨3, ![16896, 8, 64]⟩
abbrev S16896x8x63 : Shape := ⟨3, ![16896, 8, 63]⟩
abbrev S16384x2048 : Shape := ⟨2, ![16384, 2048]⟩
abbrev S2x8192x2048 : Shape := ⟨3, ![2, 8192, 2048]⟩
abbrev S512x2048 : Shape := ⟨2, ![512, 2048]⟩
abbrev S2x256x2048 : Shape := ⟨3, ![2, 256, 2048]⟩
abbrev S2x8448x2048 : Shape := ⟨3, ![2, 8448, 2048]⟩
abbrev S2x8448x1024 : Shape := ⟨3, ![2, 8448, 1024]⟩

abbrev nBuf : Space → Nat
  | .hbm => 326
  | .vmem => 0
  | .smem => 0
  | _ => 0

abbrev hbmTy0_0 (i : Nat) : BufTy := match i % 128 with
  | 0 => ⟨S16896x1024, .f32⟩
  | 1 => ⟨S2x8x9x1024, .f32⟩
  | 2 => ⟨S1024, .f32⟩
  | 3 => ⟨S2x1024x5824, .f32⟩
  | 4 => ⟨S2x2x16x256, .f32⟩
  | 5 => ⟨S2x2x256, .f32⟩
  | 6 => ⟨S2x384, .f32⟩
  | 7 => ⟨S2x384x768, .f32⟩
  | 8 => ⟨S2x256, .f32⟩
  | 9 => ⟨S2x256x1024, .f32⟩
  | 10 => ⟨S8192x8, .f32⟩
  | 11 => ⟨S8192x8, .f32⟩
  | 12 => ⟨S8192x8, .f32⟩
  | 13 => ⟨S8192x8, .f32⟩
  | 14 => ⟨S16384x1024, .f32⟩
  | 15 => ⟨S2x8192x1024, .f32⟩
  | 16 => ⟨S2x8192x1024, .f32⟩
  | 17 => ⟨S_, .f32⟩
  | 18 => ⟨S2x8192, .f32⟩
  | 19 => ⟨S2x8192x1, .f32⟩
  | 20 => ⟨S_, .f32⟩
  | 21 => ⟨S2x8192x1, .f32⟩
  | 22 => ⟨S2x8192x1, .f32⟩
  | 23 => ⟨S_, .f32⟩
  | 24 => ⟨S2x8192x1, .f32⟩
  | 25 => ⟨S2x8192x1, .f32⟩
  | 26 => ⟨S2x8192x1, .f32⟩
  | 27 => ⟨S2x8192x1024, .f32⟩
  | 28 => ⟨S2x8192x1024, .f32⟩
  | 29 => ⟨S1x1x1024, .f32⟩
  | 30 => ⟨S2x8192x1024, .f32⟩
  | 31 => ⟨S2x8192x1024, .f32⟩
  | 32 => ⟨S1x2x1x1024, .f32⟩
  | 33 => ⟨S2x1024, .f32⟩
  | 34 => ⟨S2x1x1024, .f32⟩
  | 35 => ⟨S_, .f32⟩
  | 36 => ⟨S2x1x1024, .f32⟩
  | 37 => ⟨S2x1x1024, .f32⟩
  | 38 => ⟨S2x8192x1024, .f32⟩
  | 39 => ⟨S2x8192x1024, .f32⟩
  | 40 => ⟨S1x2x1x1024, .f32⟩
  | 41 => ⟨S2x1024, .f32⟩
  | 42 => ⟨S2x1x1024, .f32⟩
  | 43 => ⟨S2x8192x1024, .f32⟩
  | 44 => ⟨S2x8192x1024, .f32⟩
  | 45 => ⟨S512x1024, .f32⟩
  | 46 => ⟨S512x1024, .f32⟩
  | 47 => ⟨S_, .f32⟩
  | 48 => ⟨S512, .f32⟩
  | 49 => ⟨S512x1, .f32⟩
  | 50 => ⟨S_, .f32⟩
  | 51 => ⟨S512x1, .f32⟩
  | 52 => ⟨S512x1, .f32⟩
  | 53 => ⟨S_, .f32⟩
  | 54 => ⟨S512x1, .f32⟩
  | 55 => ⟨S512x1, .f32⟩
  | 56 => ⟨S512x1, .f32⟩
  | 57 => ⟨S512x1024, .f32⟩
  | 58 => ⟨S512x1024, .f32⟩
  | 59 => ⟨S1x1024, .f32⟩
  | 60 => ⟨S512x1024, .f32⟩
  | 61 => ⟨S512x1024, .f32⟩
  | 62 => ⟨S1x1x1x1024, .f32⟩
  | 63 => ⟨S1024, .f32⟩
  | 64 => ⟨S_, .f32⟩
  | 65 => ⟨S1024, .f32⟩
  | 66 => ⟨S1024, .f32⟩
  | 67 => ⟨S1x1024, .f32⟩
  | 68 => ⟨S512x1024, .f32⟩
  | 69 => ⟨S512x1024, .f32⟩
  | 70 => ⟨S1x1x1x1024, .f32⟩
  | 71 => ⟨S1024, .f32⟩
  | 72 => ⟨S1x1024, .f32⟩
  | 73 => ⟨S512x1024, .f32⟩
  | 74 => ⟨S512x1024, .f32⟩
  | 75 => ⟨S16384x1024, .f32⟩
  | 76 => ⟨S16896x1024, .f32⟩
  | 77 => ⟨S1x1024x2752, .f32⟩
  | 78 => ⟨S1024x2752, .f32⟩
  | 79 => ⟨S16896x2752, .f32⟩
  | 80 => ⟨S16896x256, .f32⟩
  | 81 => ⟨S16896x256, .f32⟩
  | 82 => ⟨S16896x512, .f32⟩
  | 83 => ⟨S16896x512, .f32⟩
  | 84 => ⟨S16896x16, .f32⟩
  | 85 => ⟨S16896x16, .f32⟩
  | 86 => ⟨S16896x512, .f32⟩
  | 87 => ⟨S16896x384, .f32⟩
  | 88 => ⟨S16896x256, .f32⟩
  | 89 => ⟨S16896x32, .f32⟩
  | 90 => ⟨S1x1x16x256, .f32⟩
  | 91 => ⟨S16x256, .f32⟩
  | 92 => ⟨S16896x256, .f32⟩
  | 93 => ⟨S1x1x256, .f32⟩
  | 94 => ⟨S256, .f32⟩
  | 95 => ⟨S1x256, .f32⟩
  | 96 => ⟨S16896x256, .f32⟩
  | 97 => ⟨S16896x256, .f32⟩
  | 98 => ⟨S16896x256, .f32⟩
  | 99 => ⟨S_, .f32⟩
  | 100 => ⟨S16896x256, .f32⟩
  | 101 => ⟨S16896x256, .f32⟩
  | 102 => ⟨S16896x256, .f32⟩
  | 103 => ⟨S16896x256, .f32⟩
  | 104 => ⟨S16896x256, .i1⟩
  | 105 => ⟨S16896x256, .f32⟩
  | 106 => ⟨S16896x256, .f32⟩
  | 107 => ⟨S16896x256, .f32⟩
  | 108 => ⟨S16896x256, .f32⟩
  | 109 => ⟨S16896x256, .f32⟩
  | 110 => ⟨S16896x256, .f32⟩
  | 111 => ⟨S16896x256, .f32⟩
  | 112 => ⟨S16896x256, .f32⟩
  | 113 => ⟨S16896x256, .f32⟩
  | 114 => ⟨S_, .f32⟩
  | 115 => ⟨S16896x256, .f32⟩
  | 116 => ⟨S16896x256, .f32⟩
  | 117 => ⟨S1x1x16x256, .f32⟩
  | 118 => ⟨S16x256, .f32⟩
  | 119 => ⟨S16896x256, .f32⟩
  | 120 => ⟨S1x1x256, .f32⟩
  | 121 => ⟨S256, .f32⟩
  | 122 => ⟨S1x256, .f32⟩
  | 123 => ⟨S16896x256, .f32⟩
  | 124 => ⟨S16896x256, .f32⟩
  | 125 => ⟨S16896x256, .f32⟩
  | 126 => ⟨S_, .f32⟩
  | 127 => ⟨S16896x256, .f32⟩
  | _ => ⟨S16896x1024, .f32⟩

abbrev hbmTy0_1 (i : Nat) : BufTy := match i % 128 with
  | 0 => ⟨S16896x256, .f32⟩
  | 1 => ⟨S16896x256, .f32⟩
  | 2 => ⟨S16896x256, .f32⟩
  | 3 => ⟨S16896x256, .i1⟩
  | 4 => ⟨S16896x256, .f32⟩
  | 5 => ⟨S16896x256, .f32⟩
  | 6 => ⟨S16896x256, .f32⟩
  | 7 => ⟨S16896x256, .f32⟩
  | 8 => ⟨S16896x256, .f32⟩
  | 9 => ⟨S16896x256, .f32⟩
  | 10 => ⟨S16896x256, .f32⟩
  | 11 => ⟨S16896x256, .f32⟩
  | 12 => ⟨S16896x256, .f32⟩
  | 13 => ⟨S_, .f32⟩
  | 14 => ⟨S16896x256, .f32⟩
  | 15 => ⟨S16896x256, .f32⟩
  | 16 => ⟨S_, .f32⟩
  | 17 => ⟨S16896x256, .f32⟩
  | 18 => ⟨S16896x256, .f32⟩
  | 19 => ⟨S16896x2048, .f32⟩
  | 20 => ⟨S1x384, .f32⟩
  | 21 => ⟨S384, .f32⟩
  | 22 => ⟨S16896x384, .f32⟩
  | 23 => ⟨S_, .f32⟩
  | 24 => ⟨S16896, .f32⟩
  | 25 => ⟨S16896x1, .f32⟩
  | 26 => ⟨S_, .f32⟩
  | 27 => ⟨S16896x1, .f32⟩
  | 28 => ⟨S16896x1, .f32⟩
  | 29 => ⟨S_, .f32⟩
  | 30 => ⟨S16896x1, .f32⟩
  | 31 => ⟨S16896x1, .f32⟩
  | 32 => ⟨S16896x1, .f32⟩
  | 33 => ⟨S16896x384, .f32⟩
  | 34 => ⟨S16896x384, .f32⟩
  | 35 => ⟨S1x384, .f32⟩
  | 36 => ⟨S16896x384, .f32⟩
  | 37 => ⟨S16896x384, .f32⟩
  | 38 => ⟨S1x384x768, .f32⟩
  | 39 => ⟨S384x768, .f32⟩
  | 40 => ⟨S16896x768, .f32⟩
  | 41 => ⟨S16896x8x96, .f32⟩
  | 42 => ⟨S1x256, .f32⟩
  | 43 => ⟨S256, .f32⟩
  | 44 => ⟨S16896x256, .f32⟩
  | 45 => ⟨S_, .f32⟩
  | 46 => ⟨S16896, .f32⟩
  | 47 => ⟨S16896x1, .f32⟩
  | 48 => ⟨S_, .f32⟩
  | 49 => ⟨S16896x1, .f32⟩
  | 50 => ⟨S16896x1, .f32⟩
  | 51 => ⟨S_, .f32⟩
  | 52 => ⟨S16896x1, .f32⟩
  | 53 => ⟨S16896x1, .f32⟩
  | 54 => ⟨S16896x1, .f32⟩
  | 55 => ⟨S16896x256, .f32⟩
  | 56 => ⟨S16896x256, .f32⟩
  | 57 => ⟨S1x256, .f32⟩
  | 58 => ⟨S16896x256, .f32⟩
  | 59 => ⟨S16896x256, .f32⟩
  | 60 => ⟨S1x256x1024, .f32⟩
  | 61 => ⟨S256x1024, .f32⟩
  | 62 => ⟨S16896x1024, .f32⟩
  | 63 => ⟨S16896x8x128, .f32⟩
  | 64 => ⟨S16896x8x32, .f32⟩
  | 65 => ⟨S8192x1x8, .f32⟩
  | 66 => ⟨S8192x1x8, .f32⟩
  | 67 => ⟨S8192x1x8, .f32⟩
  | 68 => ⟨S8192x1x8, .f32⟩
  | 69 => ⟨S16384x8x32, .f32⟩
  | 70 => ⟨S2x8192x8x32, .f32⟩
  | 71 => ⟨S2x8192x8x16, .f32⟩
  | 72 => ⟨S2x8192x8x8, .f32⟩
  | 73 => ⟨S2x8192x8x8, .f32⟩
  | 74 => ⟨S1x8192x1x8, .f32⟩
  | 75 => ⟨S2x8192x8x8, .f32⟩
  | 76 => ⟨S2x8192x8x8, .f32⟩
  | 77 => ⟨S1x8192x1x8, .f32⟩
  | 78 => ⟨S2x8192x8x8, .f32⟩
  | 79 => ⟨S2x8192x8x8, .f32⟩
  | 80 => ⟨S2x8192x8x8, .f32⟩
  | 81 => ⟨S1x8192x1x8, .f32⟩
  | 82 => ⟨S2x8192x8x8, .f32⟩
  | 83 => ⟨S2x8192x8x8, .f32⟩
  | 84 => ⟨S1x8192x1x8, .f32⟩
  | 85 => ⟨S2x8192x8x8, .f32⟩
  | 86 => ⟨S2x8192x8x8, .f32⟩
  | 87 => ⟨S2x8192x8x8, .f32⟩
  | 88 => ⟨S2x8192x8x16, .f32⟩
  | 89 => ⟨S2x8192x8x16, .f32⟩
  | 90 => ⟨S2x8192x8x8, .f32⟩
  | 91 => ⟨S2x8192x8x8, .f32⟩
  | 92 => ⟨S1x8192x1x8, .f32⟩
  | 93 => ⟨S2x8192x8x8, .f32⟩
  | 94 => ⟨S2x8192x8x8, .f32⟩
  | 95 => ⟨S1x8192x1x8, .f32⟩
  | 96 => ⟨S2x8192x8x8, .f32⟩
  | 97 => ⟨S2x8192x8x8, .f32⟩
  | 98 => ⟨S2x8192x8x8, .f32⟩
  | 99 => ⟨S1x8192x1x8, .f32⟩
  | 100 => ⟨S2x8192x8x8, .f32⟩
  | 101 => ⟨S2x8192x8x8, .f32⟩
  | 102 => ⟨S1x8192x1x8, .f32⟩
  | 103 => ⟨S2x8192x8x8, .f32⟩
  | 104 => ⟨S2x8192x8x8, .f32⟩
  | 105 => ⟨S2x8192x8x8, .f32⟩
  | 106 => ⟨S2x8192x8x16, .f32⟩
  | 107 => ⟨S2x8192x8x32, .f32⟩
  | 108 => ⟨S16384x8x32, .f32⟩
  | 109 => ⟨S512x8x32, .f32⟩
  | 110 => ⟨S16896x8x32, .f32⟩
  | 111 => ⟨S16896x1x32, .f32⟩
  | 112 => ⟨S8192x1x8, .f32⟩
  | 113 => ⟨S8192x1x8, .f32⟩
  | 114 => ⟨S8192x1x8, .f32⟩
  | 115 => ⟨S8192x1x8, .f32⟩
  | 116 => ⟨S16384x1x32, .f32⟩
  | 117 => ⟨S2x8192x1x32, .f32⟩
  | 118 => ⟨S2x8192x1x16, .f32⟩
  | 119 => ⟨S2x8192x1x8, .f32⟩
  | 120 => ⟨S2x8192x1x8, .f32⟩
  | 121 => ⟨S1x8192x1x8, .f32⟩
  | 122 => ⟨S2x8192x1x8, .f32⟩
  | 123 => ⟨S2x8192x1x8, .f32⟩
  | 124 => ⟨S1x8192x1x8, .f32⟩
  | 125 => ⟨S2x8192x1x8, .f32⟩
  | 126 => ⟨S2x8192x1x8, .f32⟩
  | 127 => ⟨S2x8192x1x8, .f32⟩
  | _ => ⟨S16896x1024, .f32⟩

abbrev hbmTy0_2 (i : Nat) : BufTy := match i % 128 with
  | 0 => ⟨S1x8192x1x8, .f32⟩
  | 1 => ⟨S2x8192x1x8, .f32⟩
  | 2 => ⟨S2x8192x1x8, .f32⟩
  | 3 => ⟨S1x8192x1x8, .f32⟩
  | 4 => ⟨S2x8192x1x8, .f32⟩
  | 5 => ⟨S2x8192x1x8, .f32⟩
  | 6 => ⟨S2x8192x1x8, .f32⟩
  | 7 => ⟨S2x8192x1x16, .f32⟩
  | 8 => ⟨S2x8192x1x16, .f32⟩
  | 9 => ⟨S2x8192x1x8, .f32⟩
  | 10 => ⟨S2x8192x1x8, .f32⟩
  | 11 => ⟨S1x8192x1x8, .f32⟩
  | 12 => ⟨S2x8192x1x8, .f32⟩
  | 13 => ⟨S2x8192x1x8, .f32⟩
  | 14 => ⟨S1x8192x1x8, .f32⟩
  | 15 => ⟨S2x8192x1x8, .f32⟩
  | 16 => ⟨S2x8192x1x8, .f32⟩
  | 17 => ⟨S2x8192x1x8, .f32⟩
  | 18 => ⟨S1x8192x1x8, .f32⟩
  | 19 => ⟨S2x8192x1x8, .f32⟩
  | 20 => ⟨S2x8192x1x8, .f32⟩
  | 21 => ⟨S1x8192x1x8, .f32⟩
  | 22 => ⟨S2x8192x1x8, .f32⟩
  | 23 => ⟨S2x8192x1x8, .f32⟩
  | 24 => ⟨S2x8192x1x8, .f32⟩
  | 25 => ⟨S2x8192x1x16, .f32⟩
  | 26 => ⟨S2x8192x1x32, .f32⟩
  | 27 => ⟨S16384x1x32, .f32⟩
  | 28 => ⟨S512x1x32, .f32⟩
  | 29 => ⟨S16896x1x32, .f32⟩
  | 30 => ⟨S16896x8x32, .f32⟩
  | 31 => ⟨S_, .f32⟩
  | 32 => ⟨S16896x8x32, .f32⟩
  | 33 => ⟨S_, .f32⟩
  | 34 => ⟨S16896x8x1, .f32⟩
  | 35 => ⟨S16896x8x64, .f32⟩
  | 36 => ⟨S16896x8x128, .f32⟩
  | 37 => ⟨S_, .f32⟩
  | 38 => ⟨S16896x8x128, .f32⟩
  | 39 => ⟨S16896x8x128, .f32⟩
  | 40 => ⟨S16896x8x64, .f32⟩
  | 41 => ⟨S16896x8x128, .f32⟩
  | 42 => ⟨S16896x8x64, .f32⟩
  | 43 => ⟨S_, .f32⟩
  | 44 => ⟨S16896x8x63, .f32⟩
  | 45 => ⟨S16896x8x128, .f32⟩
  | 46 => ⟨S16384x2048, .f32⟩
  | 47 => ⟨S2x8192x2048, .f32⟩
  | 48 => ⟨S512x2048, .f32⟩
  | 49 => ⟨S2x256x2048, .f32⟩
  | 50 => ⟨S2x8448x2048, .f32⟩
  | 51 => ⟨S16896x2048, .f32⟩
  | 52 => ⟨S16896x1024, .f32⟩
  | 53 => ⟨S16896x1024, .bf16⟩
  | 54 => ⟨S16896x1024, .f32⟩
  | 55 => ⟨S16896x1024, .bf16⟩
  | 56 => ⟨S16384x1024, .bf16⟩
  | 57 => ⟨S2x8192x1024, .bf16⟩
  | 58 => ⟨S512x1024, .bf16⟩
  | 59 => ⟨S2x256x1024, .bf16⟩
  | 60 => ⟨S2x8448x1024, .bf16⟩
  | 61 => ⟨S16896x1024, .bf16⟩
  | 62 => ⟨S16896x1024, .f32⟩
  | 63 => ⟨S16896x1024, .bf16⟩
  | 64 => ⟨S16384x1024, .bf16⟩
  | 65 => ⟨S2x8192x1024, .bf16⟩
  | 66 => ⟨S512x1024, .bf16⟩
  | 67 => ⟨S2x256x1024, .bf16⟩
  | 68 => ⟨S2x8448x1024, .bf16⟩
  | 69 => ⟨S16896x1024, .bf16⟩
  | _ => ⟨S16896x1024, .f32⟩

abbrev hbmTy (i : Nat) : BufTy := match i / 128 with
  | 0 => hbmTy0_0 i
  | 1 => hbmTy0_1 i
  | 2 => hbmTy0_2 i
  | _ => ⟨S16896x1024, .f32⟩

abbrev bufTy : (tb : Table) → Fin (tcTables nBuf tb) → BufTy
  | .hbm, ⟨i, _⟩ => hbmTy i
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_cst_1 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_3 : Ref sig .tc := ⟨.hbm, 47, rfl⟩
abbrev main_v29 : Ref sig .tc := ⟨.hbm, 48, rfl⟩
abbrev main_v30 : Ref sig .tc := ⟨.hbm, 49, rfl⟩
abbrev main_cst_4 : Ref sig .tc := ⟨.hbm, 50, rfl⟩
abbrev main_v31 : Ref sig .tc := ⟨.hbm, 51, rfl⟩
abbrev main_v32 : Ref sig .tc := ⟨.hbm, 52, rfl⟩
abbrev main_cst_5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_6 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_call0_v0 : Ref sig .tc := ⟨.hbm, 98, rfl⟩
abbrev main_call0_call0_cst : Ref sig .tc := ⟨.hbm, 99, rfl⟩
abbrev main_call0_call0_v0 : Ref sig .tc := ⟨.hbm, 100, rfl⟩
abbrev main_call0_call0_v1 : Ref sig .tc := ⟨.hbm, 101, rfl⟩
abbrev main_call0_call0_v2 : Ref sig .tc := ⟨.hbm, 102, rfl⟩
abbrev main_call0_call0_v3 : Ref sig .tc := ⟨.hbm, 103, rfl⟩
abbrev main_call0_call0_v4 : Ref sig .tc := ⟨.hbm, 104, rfl⟩
abbrev main_call0_call0_v5 : Ref sig .tc := ⟨.hbm, 105, rfl⟩
abbrev main_call0_call0_v6 : Ref sig .tc := ⟨.hbm, 106, rfl⟩
abbrev main_call0_call0_v7 : Ref sig .tc := ⟨.hbm, 107, rfl⟩
abbrev main_call0_call0_v8 : Ref sig .tc := ⟨.hbm, 108, rfl⟩
abbrev main_call0_call0_v9 : Ref sig .tc := ⟨.hbm, 109, rfl⟩
abbrev main_call0_call0_v10 : Ref sig .tc := ⟨.hbm, 110, rfl⟩
abbrev main_call0_call0_v11 : Ref sig .tc := ⟨.hbm, 111, rfl⟩
abbrev main_call0_v1 : Ref sig .tc := ⟨.hbm, 112, rfl⟩
abbrev main_v76 : Ref sig .tc := ⟨.hbm, 113, rfl⟩
abbrev main_cst_7 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_call1_v0 : Ref sig .tc := ⟨.hbm, 125, rfl⟩
abbrev main_call1_call0_cst : Ref sig .tc := ⟨.hbm, 126, rfl⟩
abbrev main_call1_call0_v0 : Ref sig .tc := ⟨.hbm, 127, rfl⟩
abbrev main_call1_call0_v1 : Ref sig .tc := ⟨.hbm, 128, rfl⟩
abbrev main_call1_call0_v2 : Ref sig .tc := ⟨.hbm, 129, rfl⟩
abbrev main_call1_call0_v3 : Ref sig .tc := ⟨.hbm, 130, rfl⟩
abbrev main_call1_call0_v4 : Ref sig .tc := ⟨.hbm, 131, rfl⟩
abbrev main_call1_call0_v5 : Ref sig .tc := ⟨.hbm, 132, rfl⟩
abbrev main_call1_call0_v6 : Ref sig .tc := ⟨.hbm, 133, rfl⟩
abbrev main_call1_call0_v7 : Ref sig .tc := ⟨.hbm, 134, rfl⟩
abbrev main_call1_call0_v8 : Ref sig .tc := ⟨.hbm, 135, rfl⟩
abbrev main_call1_call0_v9 : Ref sig .tc := ⟨.hbm, 136, rfl⟩
abbrev main_call1_call0_v10 : Ref sig .tc := ⟨.hbm, 137, rfl⟩
abbrev main_call1_call0_v11 : Ref sig .tc := ⟨.hbm, 138, rfl⟩
abbrev main_call1_v1 : Ref sig .tc := ⟨.hbm, 139, rfl⟩
abbrev main_v87 : Ref sig .tc := ⟨.hbm, 140, rfl⟩
abbrev main_cst_8 : Ref sig .tc := ⟨.hbm, 141, rfl⟩
abbrev main_v88 : Ref sig .tc := ⟨.hbm, 142, rfl⟩
abbrev main_v89 : Ref sig .tc := ⟨.hbm, 143, rfl⟩
abbrev main_cst_9 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_cst_10 : Ref sig .tc := ⟨.hbm, 151, rfl⟩
abbrev main_v96 : Ref sig .tc := ⟨.hbm, 152, rfl⟩
abbrev main_v97 : Ref sig .tc := ⟨.hbm, 153, rfl⟩
abbrev main_cst_11 : Ref sig .tc := ⟨.hbm, 154, rfl⟩
abbrev main_v98 : Ref sig .tc := ⟨.hbm, 155, rfl⟩
abbrev main_v99 : Ref sig .tc := ⟨.hbm, 156, rfl⟩
abbrev main_cst_12 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_v114 : Ref sig .tc := ⟨.hbm, 172, rfl⟩
abbrev main_cst_13 : Ref sig .tc := ⟨.hbm, 173, rfl⟩
abbrev main_v115 : Ref sig .tc := ⟨.hbm, 174, rfl⟩
abbrev main_v116 : Ref sig .tc := ⟨.hbm, 175, rfl⟩
abbrev main_cst_14 : Ref sig .tc := ⟨.hbm, 176, rfl⟩
abbrev main_v117 : Ref sig .tc := ⟨.hbm, 177, rfl⟩
abbrev main_v118 : Ref sig .tc := ⟨.hbm, 178, rfl⟩
abbrev main_cst_15 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev main_v125 : Ref sig .tc := ⟨.hbm, 186, rfl⟩
abbrev main_v126 : Ref sig .tc := ⟨.hbm, 187, rfl⟩
abbrev main_v127 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩
abbrev main_v146 : Ref sig .tc := ⟨.hbm, 207, rfl⟩
abbrev main_v147 : Ref sig .tc := ⟨.hbm, 208, rfl⟩
abbrev main_v148 : Ref sig .tc := ⟨.hbm, 209, rfl⟩
abbrev main_v149 : Ref sig .tc := ⟨.hbm, 210, rfl⟩
abbrev main_v150 : Ref sig .tc := ⟨.hbm, 211, rfl⟩
abbrev main_v151 : Ref sig .tc := ⟨.hbm, 212, rfl⟩
abbrev main_v152 : Ref sig .tc := ⟨.hbm, 213, rfl⟩
abbrev main_v153 : Ref sig .tc := ⟨.hbm, 214, rfl⟩
abbrev main_v154 : Ref sig .tc := ⟨.hbm, 215, rfl⟩
abbrev main_v155 : Ref sig .tc := ⟨.hbm, 216, rfl⟩
abbrev main_v156 : Ref sig .tc := ⟨.hbm, 217, rfl⟩
abbrev main_v157 : Ref sig .tc := ⟨.hbm, 218, rfl⟩
abbrev main_v158 : Ref sig .tc := ⟨.hbm, 219, rfl⟩
abbrev main_v159 : Ref sig .tc := ⟨.hbm, 220, rfl⟩
abbrev main_v160 : Ref sig .tc := ⟨.hbm, 221, rfl⟩
abbrev main_v161 : Ref sig .tc := ⟨.hbm, 222, rfl⟩
abbrev main_v162 : Ref sig .tc := ⟨.hbm, 223, rfl⟩
abbrev main_v163 : Ref sig .tc := ⟨.hbm, 224, rfl⟩
abbrev main_v164 : Ref sig .tc := ⟨.hbm, 225, rfl⟩
abbrev main_v165 : Ref sig .tc := ⟨.hbm, 226, rfl⟩
abbrev main_v166 : Ref sig .tc := ⟨.hbm, 227, rfl⟩
abbrev main_v167 : Ref sig .tc := ⟨.hbm, 228, rfl⟩
abbrev main_v168 : Ref sig .tc := ⟨.hbm, 229, rfl⟩
abbrev main_v169 : Ref sig .tc := ⟨.hbm, 230, rfl⟩
abbrev main_v170 : Ref sig .tc := ⟨.hbm, 231, rfl⟩
abbrev main_v171 : Ref sig .tc := ⟨.hbm, 232, rfl⟩
abbrev main_v172 : Ref sig .tc := ⟨.hbm, 233, rfl⟩
abbrev main_v173 : Ref sig .tc := ⟨.hbm, 234, rfl⟩
abbrev main_v174 : Ref sig .tc := ⟨.hbm, 235, rfl⟩
abbrev main_v175 : Ref sig .tc := ⟨.hbm, 236, rfl⟩
abbrev main_v176 : Ref sig .tc := ⟨.hbm, 237, rfl⟩
abbrev main_v177 : Ref sig .tc := ⟨.hbm, 238, rfl⟩
abbrev main_v178 : Ref sig .tc := ⟨.hbm, 239, rfl⟩
abbrev main_v179 : Ref sig .tc := ⟨.hbm, 240, rfl⟩
abbrev main_v180 : Ref sig .tc := ⟨.hbm, 241, rfl⟩
abbrev main_v181 : Ref sig .tc := ⟨.hbm, 242, rfl⟩
abbrev main_v182 : Ref sig .tc := ⟨.hbm, 243, rfl⟩
abbrev main_v183 : Ref sig .tc := ⟨.hbm, 244, rfl⟩
abbrev main_v184 : Ref sig .tc := ⟨.hbm, 245, rfl⟩
abbrev main_v185 : Ref sig .tc := ⟨.hbm, 246, rfl⟩
abbrev main_v186 : Ref sig .tc := ⟨.hbm, 247, rfl⟩
abbrev main_v187 : Ref sig .tc := ⟨.hbm, 248, rfl⟩
abbrev main_v188 : Ref sig .tc := ⟨.hbm, 249, rfl⟩
abbrev main_v189 : Ref sig .tc := ⟨.hbm, 250, rfl⟩
abbrev main_v190 : Ref sig .tc := ⟨.hbm, 251, rfl⟩
abbrev main_v191 : Ref sig .tc := ⟨.hbm, 252, rfl⟩
abbrev main_v192 : Ref sig .tc := ⟨.hbm, 253, rfl⟩
abbrev main_v193 : Ref sig .tc := ⟨.hbm, 254, rfl⟩
abbrev main_v194 : Ref sig .tc := ⟨.hbm, 255, rfl⟩
abbrev main_v195 : Ref sig .tc := ⟨.hbm, 256, rfl⟩
abbrev main_v196 : Ref sig .tc := ⟨.hbm, 257, rfl⟩
abbrev main_v197 : Ref sig .tc := ⟨.hbm, 258, rfl⟩
abbrev main_v198 : Ref sig .tc := ⟨.hbm, 259, rfl⟩
abbrev main_v199 : Ref sig .tc := ⟨.hbm, 260, rfl⟩
abbrev main_v200 : Ref sig .tc := ⟨.hbm, 261, rfl⟩
abbrev main_v201 : Ref sig .tc := ⟨.hbm, 262, rfl⟩
abbrev main_v202 : Ref sig .tc := ⟨.hbm, 263, rfl⟩
abbrev main_v203 : Ref sig .tc := ⟨.hbm, 264, rfl⟩
abbrev main_v204 : Ref sig .tc := ⟨.hbm, 265, rfl⟩
abbrev main_v205 : Ref sig .tc := ⟨.hbm, 266, rfl⟩
abbrev main_v206 : Ref sig .tc := ⟨.hbm, 267, rfl⟩
abbrev main_v207 : Ref sig .tc := ⟨.hbm, 268, rfl⟩
abbrev main_v208 : Ref sig .tc := ⟨.hbm, 269, rfl⟩
abbrev main_v209 : Ref sig .tc := ⟨.hbm, 270, rfl⟩
abbrev main_v210 : Ref sig .tc := ⟨.hbm, 271, rfl⟩
abbrev main_v211 : Ref sig .tc := ⟨.hbm, 272, rfl⟩
abbrev main_v212 : Ref sig .tc := ⟨.hbm, 273, rfl⟩
abbrev main_v213 : Ref sig .tc := ⟨.hbm, 274, rfl⟩
abbrev main_v214 : Ref sig .tc := ⟨.hbm, 275, rfl⟩
abbrev main_v215 : Ref sig .tc := ⟨.hbm, 276, rfl⟩
abbrev main_v216 : Ref sig .tc := ⟨.hbm, 277, rfl⟩
abbrev main_v217 : Ref sig .tc := ⟨.hbm, 278, rfl⟩
abbrev main_v218 : Ref sig .tc := ⟨.hbm, 279, rfl⟩
abbrev main_v219 : Ref sig .tc := ⟨.hbm, 280, rfl⟩
abbrev main_v220 : Ref sig .tc := ⟨.hbm, 281, rfl⟩
abbrev main_v221 : Ref sig .tc := ⟨.hbm, 282, rfl⟩
abbrev main_v222 : Ref sig .tc := ⟨.hbm, 283, rfl⟩
abbrev main_v223 : Ref sig .tc := ⟨.hbm, 284, rfl⟩
abbrev main_v224 : Ref sig .tc := ⟨.hbm, 285, rfl⟩
abbrev main_v225 : Ref sig .tc := ⟨.hbm, 286, rfl⟩
abbrev main_cst_16 : Ref sig .tc := ⟨.hbm, 287, rfl⟩
abbrev main_v226 : Ref sig .tc := ⟨.hbm, 288, rfl⟩
abbrev main_cst_17 : Ref sig .tc := ⟨.hbm, 289, rfl⟩
abbrev main_v227 : Ref sig .tc := ⟨.hbm, 290, rfl⟩
abbrev main_v228 : Ref sig .tc := ⟨.hbm, 291, rfl⟩
abbrev main_v229 : Ref sig .tc := ⟨.hbm, 292, rfl⟩
abbrev main_cst_18 : Ref sig .tc := ⟨.hbm, 293, rfl⟩
abbrev main_v230 : Ref sig .tc := ⟨.hbm, 294, rfl⟩
abbrev main_v231 : Ref sig .tc := ⟨.hbm, 295, rfl⟩
abbrev main_v232 : Ref sig .tc := ⟨.hbm, 296, rfl⟩
abbrev main_v233 : Ref sig .tc := ⟨.hbm, 297, rfl⟩
abbrev main_v234 : Ref sig .tc := ⟨.hbm, 298, rfl⟩
abbrev main_cst_19 : Ref sig .tc := ⟨.hbm, 299, rfl⟩
abbrev main_v235 : Ref sig .tc := ⟨.hbm, 300, rfl⟩
abbrev main_v236 : Ref sig .tc := ⟨.hbm, 301, rfl⟩
abbrev main_v237 : Ref sig .tc := ⟨.hbm, 302, rfl⟩
abbrev main_v238 : Ref sig .tc := ⟨.hbm, 303, rfl⟩
abbrev main_v239 : Ref sig .tc := ⟨.hbm, 304, rfl⟩
abbrev main_v240 : Ref sig .tc := ⟨.hbm, 305, rfl⟩
abbrev main_v241 : Ref sig .tc := ⟨.hbm, 306, rfl⟩
abbrev main_v242 : Ref sig .tc := ⟨.hbm, 307, rfl⟩
abbrev main_v243 : Ref sig .tc := ⟨.hbm, 308, rfl⟩
abbrev main_v244 : Ref sig .tc := ⟨.hbm, 309, rfl⟩
abbrev main_v245 : Ref sig .tc := ⟨.hbm, 310, rfl⟩
abbrev main_v246 : Ref sig .tc := ⟨.hbm, 311, rfl⟩
abbrev main_v247 : Ref sig .tc := ⟨.hbm, 312, rfl⟩
abbrev main_v248 : Ref sig .tc := ⟨.hbm, 313, rfl⟩
abbrev main_v249 : Ref sig .tc := ⟨.hbm, 314, rfl⟩
abbrev main_v250 : Ref sig .tc := ⟨.hbm, 315, rfl⟩
abbrev main_v251 : Ref sig .tc := ⟨.hbm, 316, rfl⟩
abbrev main_v252 : Ref sig .tc := ⟨.hbm, 317, rfl⟩
abbrev main_v253 : Ref sig .tc := ⟨.hbm, 318, rfl⟩
abbrev main_v254 : Ref sig .tc := ⟨.hbm, 319, rfl⟩
abbrev main_v255 : Ref sig .tc := ⟨.hbm, 320, rfl⟩
abbrev main_v256 : Ref sig .tc := ⟨.hbm, 321, rfl⟩
abbrev main_v257 : Ref sig .tc := ⟨.hbm, 322, rfl⟩
abbrev main_v258 : Ref sig .tc := ⟨.hbm, 323, rfl⟩
abbrev main_v259 : Ref sig .tc := ⟨.hbm, 324, rfl⟩
abbrev main_v260 : Ref sig .tc := ⟨.hbm, 325, rfl⟩

abbrev nD : Nat := 1
abbrev τ : Topo := Topo.v7x

variable {F : FTy → Type} [FloatOps F]
-- ==== Proof.Attn.Softmax.lean ====
/- Softmax-weighted sums over the extended reals: the mathematics that the blocked attention kernel and the
   plain softmax share. Scores are real; the values they weigh are any extended reals. -/
module

public import Idealize.ShloMosaic.PureOps.Ideal

@[expose] public section

noncomputable section

namespace Attn

open Idealize.ShloMosaic

/-- A nonnegative real factor distributes over a sum of extended reals. -/
theorem real_mul_sum {ι : Type*} (S : Finset ι) (c : ℝ) (hc : 0 ≤ c) (f : ι → EReal) :
    (c : EReal) * ∑ k ∈ S, f k = ∑ k ∈ S, (c : EReal) * f k := by
  classical
  induction S using Finset.induction_on with
  | empty => simp
  | insert a S ha ih =>
    rw [Finset.sum_insert ha, Finset.sum_insert ha,
      EReal.left_distrib_of_nonneg_of_ne_top (by exact_mod_cast hc) (EReal.coe_ne_top c), ih]

/-- A sum of reals, read in the extended reals. -/
theorem coe_sum {ι : Type*} (S : Finset ι) (f : ι → ℝ) :
    ((∑ k ∈ S, f k : ℝ) : EReal) = ∑ k ∈ S, (f k : EReal) := by
  classical
  induction S using Finset.induction_on with
  | empty => simp
  | insert a S ha ih => rw [Finset.sum_insert ha, Finset.sum_insert ha, EReal.coe_add, ih]

/-- The greatest of some reals and of a start below `⊤` is below `⊤`. -/
theorem fold_max_ne_top {ι : Type*} (S : Finset ι) (b : EReal) (hb : b ≠ ⊤) (f : ι → EReal)
    (hf : ∀ k, f k ≠ ⊤) : S.fold max b f ≠ ⊤ := by
  classical
  induction S using Finset.induction_on with
  | empty => simpa using hb
  | insert a S ha ih =>
    rw [Finset.fold_insert ha]
    rcases max_choice (f a) (S.fold max b f) with h | h <;> rw [h]
    · exact hf a
    · exact ih

/-- The greatest of some reals is above `⊥` as soon as there is one. -/
theorem fold_max_ne_bot {ι : Type*} (S : Finset ι) (b : EReal) (f : ι → EReal) (k : ι) (hk : k ∈ S)
    (hf : f k ≠ ⊥) : S.fold max b f ≠ ⊥ := by
  have h : f k ≤ S.fold max b f := (Finset.le_fold_max (f k)).2 (.inr ⟨k, hk, le_rfl⟩)
  intro e
  rw [e] at h
  exact hf (le_bot_iff.1 h)

/-- The maximum of a nonempty family of reals, from `⊥`, is a real. -/
theorem fold_max_real {n : ℕ} [NeZero n] (s : Fin n → ℝ) :
    ∃ M : ℝ, (Finset.univ.fold max (⊥ : EReal) fun k => (s k : EReal)) = M := by
  refine ⟨_, (EReal.coe_toReal ?_ ?_).symm⟩
  · exact fold_max_ne_top _ _ (by simp) _ fun k => EReal.coe_ne_top _
  · exact fold_max_ne_bot _ _ _ 0 (Finset.mem_univ _) (EReal.coe_ne_bot _)

/-- One chunk of the running softmax sum: moving from the shift `m` to the shift `m'` rescales what was summed. -/
theorem rescale {ι : Type*} (S : Finset ι) (s : ι → ℝ) (v : ι → EReal) (m m' : ℝ) :
    Ideal.exp2 ((m : EReal) - (m' : EReal)) * ∑ k ∈ S, Ideal.exp2 ((s k : EReal) - (m : EReal)) * v k
      = ∑ k ∈ S, Ideal.exp2 ((s k : EReal) - (m' : EReal)) * v k := by
  have e : ∀ a b : ℝ, Ideal.exp2 ((a : EReal) - (b : EReal)) = ((2 : ℝ) ^ (a - b) : ℝ) := fun a b => by
    rw [← EReal.coe_sub]; rfl
  simp only [e]
  rw [real_mul_sum _ _ (by positivity)]
  refine Finset.sum_congr rfl fun k _ => ?_
  rw [← mul_assoc, ← EReal.coe_mul, ← Real.rpow_add (by norm_num)]
  congr 3
  ring

/-- The base-2 softmax sum over its own normaliser is the softmax of the scores times `log 2`, whatever the
    shifts `m` and `M` are. -/
theorem softmax_eq {ι : Type*} [Fintype ι] [Nonempty ι] (s : ι → ℝ) (v : ι → EReal) (m M : ℝ) :
    (∑ k, Ideal.exp2 ((s k : EReal) - (m : EReal)) * v k)
        * Ideal.div 1 (∑ k, Ideal.exp2 ((s k : EReal) - (m : EReal)) * 1)
      = ∑ k, Ideal.div (Ideal.exp (((s k * Real.log 2 : ℝ) : EReal) - (M : EReal)))
          (0 + ∑ j, Ideal.exp (((s j * Real.log 2 : ℝ) : EReal) - (M : EReal))) * v k := by
  have e2 : ∀ a b : ℝ, Ideal.exp2 ((a : EReal) - (b : EReal)) = ((2 : ℝ) ^ (a - b) : ℝ) := fun a b => by
    rw [← EReal.coe_sub]; rfl
  have e1 : ∀ a b : ℝ, Ideal.exp ((a : EReal) - (b : EReal)) = (Real.exp (a - b) : ℝ) := fun a b => by
    rw [← EReal.coe_sub]; rfl
  simp only [e2, e1, mul_one, zero_add]
  set C : ℝ := Real.exp (M - m * Real.log 2) with hC
  have hCpos : 0 < C := Real.exp_pos _
  have hpow : ∀ k, (2 : ℝ) ^ (s k - m) = C * Real.exp (s k * Real.log 2 - M) := fun k => by
    rw [hC, ← Real.exp_add, Real.rpow_def_of_pos (by norm_num)]
    congr 1; ring
  simp only [hpow]
  set Z : ℝ := ∑ j, Real.exp (s j * Real.log 2 - M) with hZ
  have hZpos : 0 < Z := Finset.sum_pos (fun _ _ => Real.exp_pos _) Finset.univ_nonempty
  have d : ∀ a b : ℝ, 0 < b → Ideal.div (a : EReal) (b : EReal) = ((a / b : ℝ) : EReal) := fun a b hb => by
    unfold Ideal.div
    rw [if_neg (by exact_mod_cast hb.ne'), ← EReal.coe_inv, ← EReal.coe_mul, div_eq_mul_inv]
  have hden : (∑ k, ((C * Real.exp (s k * Real.log 2 - M) : ℝ) : EReal)) = ((C * Z : ℝ) : EReal) := by
    rw [← coe_sum, ← Finset.mul_sum]
  have h1 : Ideal.div 1 ((C * Z : ℝ) : EReal) = ((1 / (C * Z) : ℝ) : EReal) := by
    have := d 1 (C * Z) (by positivity)
    simpa using this
  rw [hden, h1, ← coe_sum, ← hZ, mul_comm, real_mul_sum _ _ (by positivity)]
  refine Finset.sum_congr rfl fun k _ => ?_
  rw [d _ _ hZpos, ← mul_assoc, ← EReal.coe_mul]
  congr 2
  field_simp

end Attn

end
-- ==== Proof.Attn.Block.lean ====
/- What the attention body computes of one block, named in the body's own steps: the scores of a chunk of keys, the
   running maximum, the running weighted sum, and a head's output. -/
module

public import proofs.«01_k».proof.Proof.Gen.KernelIdeal.Value
public import proofs.«01_k».proof.Proof.Attn.Softmax
public import Idealize.ShloMosaic.Lib.Pointwise

@[expose] public section

noncomputable section

namespace Attn

open Idealize.ShloMosaic Cert.KernelIdeal Cert.KernelIdeal.Gen
open Cert.KernelIdeal.Facts

/-- The scores of a chunk of keys: each query row against each key row. -/
def score (q : FVec Ideal S512x128 .bf16) (k : FVec Ideal S2816x128 .bf16) : FVec Ideal S512x2816 .f32 := k0_pay4 (F := Ideal) q k

/-- The running maximum of each query row after a chunk of scores. -/
def mNew (s : FVec Ideal S512x2816 .f32) (m : FVec Ideal S512x1 .f32) : FVec Ideal S512x1 .f32 :=
  maximumf m (shapeCast S512x1 (multiReduction .maximumf [1] S512 s 0xFF800000#32 reduces_S512x2816_S512 (.inl rfl) rfl)
    shapeCasts_S512_S512x1)

/-- The running weighted sum after a chunk: what was summed, rescaled, plus the chunk's weighted values. -/
def accNew (s : FVec Ideal S512x2816 .f32) (m : FVec Ideal S512x1 .f32) (acc : FVec Ideal S512x128 .f32)
    (v : FVec Ideal S2816x128 .bf16) : FVec Ideal S512x128 .f32 :=
  addf (mulf (broadcastTo S512x128 (exp2 (subf m (mNew s m))) broadcasts_S512x1_S512x128) acc)
    (matmul dot_S512x2816_S2816x128_S512x128_1_0_0_1_n_n none
      (truncf .bf16 (exp2 (subf s (broadcastTo S512x2816 (mNew s m) broadcasts_S512x1_S512x2816))) bitsLt_bf16_f32)
      v (constant S512x128 .f32 0x00000000#32))

/-- A head's weighted sum over the three chunks of keys and values. -/
def headAcc (q : FVec Ideal S512x128 .bf16) (k0 k1 k2 v0 v1 v2 : FVec Ideal S2816x128 .bf16) : FVec Ideal S512x128 .f32 :=
  accNew (score q k2) (mNew (score q k1) (mNew (score q k0) k0_pay2))
    (accNew (score q k1) (mNew (score q k0) k0_pay2) (accNew (score q k0) k0_pay2 k0_pay3 v0) v1) v2

/-- A head's output: its weighted sum over the weights' own sum, which lane 64 holds. -/
def headOut (acc : FVec Ideal S512x128 .f32) : FVec Ideal S512x128 .f32 :=
  mulf acc (broadcastTo S512x128
    (divf (broadcast S512x1 (Scalar.ofBits (F := Ideal) .f32 0x3F800000#32))
      (extractStridedSlice S512x1 ![0, 64] acc slices_S512x128_o0_64_S512x1)) broadcasts_S512x1_S512x128)

/-- Two heads' outputs side by side: the first head's in lanes 0 to 63, the second's in lanes 64 to 127. -/
def pairOut (a b : FVec Ideal S512x128 .f32) : FVec Ideal S512x128 .bf16 :=
  truncf .bf16 (select (cmpi .slt (iota .tc S512x128 32 [1] iota_S512x128_d1_w32) (broadcast S512x128 64#32))
    a (dynamicRotate 1 64#32 none b rotates_S512x128_d1)) bitsLt_bf16_f32

theorem pay9_eq (q : FVec Ideal S512x128 .bf16) (k v : FVec Ideal S2816x128 .bf16) :
    k0_pay9 q k v = accNew (score q k) k0_pay2 k0_pay3 v := by
  dsimp only [k0_pay9, k0_pay8, score, accNew, mNew]

theorem pay15_eq (s : FVec Ideal S512x2816 .f32) (m : FVec Ideal S512x1 .f32) (a : FVec Ideal S512x128 .f32)
    (v : FVec Ideal S2816x128 .bf16) : k0_pay15 s m a v = accNew s m a v := by
  dsimp only [k0_pay15, k0_pay14, accNew, mNew]

theorem pay17_eq (q : FVec Ideal S512x128 .bf16) (k v v' : FVec Ideal S2816x128 .bf16) (s : FVec Ideal S512x2816 .f32) :
    k0_pay17 k0_pay2 k0_pay3 s v (k0_pay10 q k) (k0_pay11 q k) v'
      = accNew s (mNew (score q k) k0_pay2) (accNew (score q k) k0_pay2 k0_pay3 v) v' := by
  dsimp only [k0_pay17, k0_pay16, k0_pay11, k0_pay10, k0_pay5, score, k0_pay4, accNew, mNew]

theorem pay8_eq (q : FVec Ideal S512x128 .bf16) (k : FVec Ideal S2816x128 .bf16) :
    k0_pay8 q k = mNew (score q k) k0_pay2 := rfl

theorem pay10_eq (q : FVec Ideal S512x128 .bf16) (k : FVec Ideal S2816x128 .bf16) :
    k0_pay10 q k = mNew (score q k) k0_pay2 := rfl

theorem pay14_eq (s : FVec Ideal S512x2816 .f32) (m : FVec Ideal S512x1 .f32) : k0_pay14 s m = mNew s m := rfl
theorem pay16_eq (s : FVec Ideal S512x2816 .f32) (m : FVec Ideal S512x1 .f32) : k0_pay16 s m = mNew s m := rfl

theorem pay18_eq (q : FVec Ideal S512x128 .bf16) (k : FVec Ideal S2816x128 .bf16) :
    k0_pay18 q k = multiReduction .maximumf [1] S512 (score q k) 0xFF800000#32 reduces_S512x2816_S512 (.inl rfl) rfl := rfl

theorem pay12_eq (q : FVec Ideal S512x128 .bf16) (k : FVec Ideal S2816x128 .bf16) : k0_pay12 q k = score q k := rfl
theorem pay13_eq (q : FVec Ideal S512x128 .bf16) (k : FVec Ideal S2816x128 .bf16) : k0_pay13 q k = score q k := rfl
theorem pay6_eq (q : FVec Ideal S512x128 .bf16) (k : FVec Ideal S2816x128 .bf16) : k0_pay6 q k = score q k := rfl
theorem pay7_eq (q : FVec Ideal S512x128 .bf16) (k : FVec Ideal S2816x128 .bf16) : k0_pay7 q k = score q k := rfl

theorem pay1_eq (s s' : FVec Ideal S512x2816 .f32) (m m' : FVec Ideal S512x1 .f32) (a a' : FVec Ideal S512x128 .f32)
    (v v' : FVec Ideal S2816x128 .bf16) :
    k0_pay1 s s' m a m' a' v
        (multiReduction .maximumf [1] S512 s 0xFF800000#32 reduces_S512x2816_S512 (.inl rfl) rfl) v'
      = pairOut (headOut (accNew s m a v)) (headOut (accNew s' m' a' v')) := by
  dsimp only [k0_pay1, pairOut, headOut, accNew, mNew]

theorem zeros2 : (![0, 0] : Fin 2 → Nat) = fun _ => 0 := funext fun a => by fin_cases a <;> rfl

/-- The body's one store fills the output window, so the window holds what was stored. -/
theorem canon_out (w : S512x128.Idx → Elt Ideal .bf16) :
    View.canon [(⟨r0_8, w⟩ : View.Piece (Elt Ideal) S512x128 .bf16)] = w := by
  rw [View.canon_unit_zero zeros2]

/-- The block that the body leaves in the output window. -/
theorem out_eq (x0 : Vec Ideal S512x256 .bf16) (x1 x2 : Vec Ideal S8448x256 .bf16) :
    out0_3 x0 x1 x2 = pairOut
      (headOut (headAcc (View.ld x0 r0_0) (View.ld x1 r0_2) (View.ld x1 r0_4) (View.ld x1 r0_6)
        (View.ld x2 r0_2) (View.ld x2 r0_4) (View.ld x2 r0_6)))
      (headOut (headAcc (View.ld x0 r0_1) (View.ld x1 r0_3) (View.ld x1 r0_5) (View.ld x1 r0_7)
        (View.ld x2 r0_3) (View.ld x2 r0_5) (View.ld x2 r0_7))) := by
  unfold_out out0_3
  rw [canon_out, pay18_eq, pay12_eq, pay13_eq, pay1_eq, pay17_eq, pay15_eq, pay9_eq, pay14_eq, pay16_eq, pay6_eq, pay7_eq,
    pay8_eq, pay10_eq]
  unfold headAcc
  with_reducible rfl

/-- The pattern of minus infinity denotes the least extended real. -/
theorem ofBits_ninf : Ideal.ofBits .f32 0xFF800000#32 = ⊥ := by
  simp [Ideal.ofBits, Ideal.ieee]

/-- The lanes below 64, as the body's comparison tells them. -/
theorem lane_slt (e : Fin 128) :
    IntOp.cmpi CmpIPredicate.slt (BitVec.ofNat 32 e.val) 64#32 = if e.val < 64 then 1#1 else 0#1 := by
  revert e; decide

theorem col_apply (x : FVec Ideal S512 .f32) (i : Fin 512) :
    shapeCast S512x1 x shapeCasts_S512_S512x1 (ix2 i 0) = x (ix1 i) := by pointwise

theorem rowMax_apply (s : FVec Ideal S512x2816 .f32) (i : Fin 512) :
    multiReduction .maximumf [1] S512 s 0xFF800000#32 reduces_S512x2816_S512 (.inl rfl) rfl (ix1 i)
      = Finset.univ.fold max (Ideal.ofBits .f32 0xFF800000#32 : EReal) fun k : Fin 2816 => s (ix2 i k) := by
  pointwise

theorem mNew_apply (s : FVec Ideal S512x2816 .f32) (m : FVec Ideal S512x1 .f32) (i : Fin 512) :
    mNew s m (ix2 i 0) = max (m (ix2 i 0)) (Finset.univ.fold max (⊥ : EReal) fun k : Fin 2816 => s (ix2 i k)) := by
  refine (show mNew s m (ix2 i 0) = max (m (ix2 i 0)) _ from rfl).trans ?_
  rw [col_apply, rowMax_apply, ofBits_ninf]

theorem score_apply (q : FVec Ideal S512x128 .bf16) (k : FVec Ideal S2816x128 .bf16) (i : Fin 512) (j : Fin 2816) :
    (score q k (ix2 i j) : EReal) = ∑ d : Fin 128, (q (ix2 i d) : EReal) * k (ix2 j d) := by
  pointwise [score, k0_pay4]

theorem accNew_apply (s : FVec Ideal S512x2816 .f32) (m : FVec Ideal S512x1 .f32) (acc : FVec Ideal S512x128 .f32)
    (v : FVec Ideal S2816x128 .bf16) (i : Fin 512) (e : Fin 128) :
    accNew s m acc v (ix2 i e)
      = Ideal.exp2 (m (ix2 i 0) - mNew s m (ix2 i 0)) * acc (ix2 i e)
        + ∑ k : Fin 2816, Ideal.exp2 (s (ix2 i k) - mNew s m (ix2 i 0)) * v (ix2 k e) := by
  pointwise [accNew]
  rfl

theorem headOut_apply (acc : FVec Ideal S512x128 .f32) (i : Fin 512) (e : Fin 128) :
    headOut acc (ix2 i e) = acc (ix2 i e) * Ideal.div 1 (acc (ix2 i 64)) := by
  pointwise [headOut]

theorem pairOut_apply (a b : FVec Ideal S512x128 .f32) (i : Fin 512) (e : Fin 128) :
    pairOut a b (ix2 i e) = if e.val < 64 then a (ix2 i e) else b (ix2 i ⟨e.val - 64, by omega⟩) := by
  pointwise [pairOut]
  rw [lane_slt]
  by_cases h : e.val < 64
  · rw [if_pos h, if_pos h]; rfl
  · rw [if_neg h, if_neg h]
    have : (e.val + 128 - 64) % 128 = e.val - 64 := by omega
    simp only [this]; rfl

end Attn

end
-- ==== Proof.Attn.Row.lean ====
/- One row of the attention body's output block: three chunks' running softmax is the softmax over all the keys. -/
module

public import proofs.«01_k».proof.Proof.Attn.Block

@[expose] public section

noncomputable section

namespace Attn

open Idealize.ShloMosaic Cert.KernelIdeal Cert.KernelIdeal.Gen
open Cert.KernelIdeal.Facts

/-- The score of one query against key `j`. -/
def dot (q : Fin 128 → EReal) (k : Fin 8448 → Fin 128 → EReal) (j : Fin 8448) : EReal := ∑ d, q d * k j d

/-- One element of attention's result: the values `v` weighed by the softmax of the query's scores times `log 2`. -/
def rowOut (q : Fin 128 → EReal) (k : Fin 8448 → Fin 128 → EReal) (v : Fin 8448 → EReal) : EReal :=
  ∑ j, Ideal.div
      (Ideal.exp (dot q k j * Real.log 2 - Finset.univ.fold max ⊥ fun n => dot q k n * (Real.log 2 : EReal)))
      (0 + ∑ l, Ideal.exp (dot q k l * Real.log 2 - Finset.univ.fold max ⊥ fun n => dot q k n * (Real.log 2 : EReal)))
    * v j

/-- An extended real that is neither infinity. -/
def Fin' (x : EReal) : Prop := x ≠ ⊤ ∧ x ≠ ⊥

/-- A query and keys without infinities have real scores. -/
theorem dot_real {q : Fin 128 → EReal} {k : Fin 8448 → Fin 128 → EReal} (hq : ∀ d, Fin' (q d)) (hk : ∀ j d, Fin' (k j d)) :
    ∃ s : Fin 8448 → ℝ, ∀ j, dot q k j = s j := by
  refine ⟨fun j => ∑ d, (q d).toReal * (k j d).toReal, fun j => ?_⟩
  unfold dot
  rw [coe_sum]
  refine Finset.sum_congr rfl fun d _ => ?_
  rw [EReal.coe_mul, EReal.coe_toReal (hq d).1 (hq d).2, EReal.coe_toReal (hk j d).1 (hk j d).2]

/-- `rowOut` with the scores named as reals and any real in place of their maximum. -/
theorem rowOut_eq {q : Fin 128 → EReal} {k : Fin 8448 → Fin 128 → EReal} (v : Fin 8448 → EReal) (s : Fin 8448 → ℝ)
    (hs : ∀ j, dot q k j = s j) (m : ℝ) :
    (∑ j, Ideal.exp2 ((s j : EReal) - (m : EReal)) * v j)
        * Ideal.div 1 (∑ j, Ideal.exp2 ((s j : EReal) - (m : EReal)) * 1) = rowOut q k v := by
  have e : ∀ j, dot q k j * (Real.log 2 : EReal) = ((s j * Real.log 2 : ℝ) : EReal) := fun j => by
    rw [hs, EReal.coe_mul]
  obtain ⟨M, hM⟩ := fold_max_real fun j => s j * Real.log 2
  unfold rowOut
  simp only [e, hM]
  exact softmax_eq s v m M

/-- A sum over three times `n` indices, as the sums over its thirds. -/
theorem sum_thirds (n N : ℕ) (hN : N = n + n + n) (f : Fin N → EReal) :
    ∑ j, f j = ((∑ j : Fin n, f ⟨j.val, by omega⟩) + ∑ j : Fin n, f ⟨n + j.val, by omega⟩)
      + ∑ j : Fin n, f ⟨n + n + j.val, by omega⟩ := by
  subst hN
  rw [Fin.sum_univ_add, Fin.sum_univ_add]
  rfl

/-- The sum over all the keys, as the three chunks' sums. -/
theorem sum_chunks (f : Fin 8448 → EReal) :
    ∑ j, f j = ((∑ j : Fin 2816, f ⟨j.val, by omega⟩) + ∑ j : Fin 2816, f ⟨2816 + j.val, by omega⟩)
      + ∑ j : Fin 2816, f ⟨5632 + j.val, by omega⟩ := by
  simpa using sum_thirds 2816 8448 rfl f

/-- The running maximum of a row over one chunk of real scores is real again. -/
theorem mNew_real (s : FVec Ideal S512x2816 .f32) (m : FVec Ideal S512x1 .f32) (i : Fin 512) (r : Fin 2816 → ℝ)
    (hr : ∀ j, s (ix2 i j) = (r j : EReal)) (hm : (m (ix2 i 0) : EReal) ≠ ⊤) : ∃ m' : ℝ, mNew s m (ix2 i 0) = (m' : EReal) := by
  rw [mNew_apply]
  simp only [hr]
  obtain ⟨M, hM⟩ := fold_max_real r
  rw [hM]
  refine ⟨_, (EReal.coe_toReal ?_ ?_).symm⟩
  · rcases max_choice (m (ix2 i 0) : EReal) (M : EReal) with h | h <;> rw [h]
    · exact hm
    · exact EReal.coe_ne_top _
  · exact fun e => EReal.coe_ne_bot M (le_bot_iff.1 (e ▸ le_max_right _ _))

theorem pay2_apply (i : Fin 512) : (k0_pay2 (F := Ideal) (ix2 i 0) : EReal) = ⊥ := ofBits_ninf

theorem pay3_apply (i : Fin 512) (e : Fin 128) : (k0_pay3 (F := Ideal) (ix2 i e) : EReal) = 0 := by
  pointwise [k0_pay3]

/-- A head's weighted sum at an element: for some real shift, the weights are the powers of two of the shifted scores. -/
theorem headAcc_apply (q : FVec Ideal S512x128 .bf16) (k0 k1 k2 v0 v1 v2 : FVec Ideal S2816x128 .bf16) (i : Fin 512)
    (r0 r1 r2 : Fin 2816 → ℝ) (h0 : ∀ j, score q k0 (ix2 i j) = (r0 j : EReal))
    (h1 : ∀ j, score q k1 (ix2 i j) = (r1 j : EReal)) (h2 : ∀ j, score q k2 (ix2 i j) = (r2 j : EReal)) :
    ∃ m : ℝ, ∀ e : Fin 128, headAcc q k0 k1 k2 v0 v1 v2 (ix2 i e)
      = ((∑ j, Ideal.exp2 ((r0 j : EReal) - m) * v0 (ix2 j e)) + ∑ j, Ideal.exp2 ((r1 j : EReal) - m) * v1 (ix2 j e))
        + ∑ j, Ideal.exp2 ((r2 j : EReal) - m) * v2 (ix2 j e) := by
  obtain ⟨m0, e0⟩ := mNew_real (score q k0) k0_pay2 i r0 h0 (by rw [pay2_apply]; exact bot_ne_top)
  obtain ⟨m1, e1⟩ := mNew_real (score q k1) (mNew (score q k0) k0_pay2) i r1 h1 (by rw [e0]; exact EReal.coe_ne_top _)
  obtain ⟨m2, e2⟩ := mNew_real (score q k2) (mNew (score q k1) (mNew (score q k0) k0_pay2)) i r2 h2
    (by rw [e1]; exact EReal.coe_ne_top _)
  have d : ∀ (a b : ℝ) (x y : EReal), Ideal.exp2 ((a : EReal) - (b : EReal)) * (x + y)
      = Ideal.exp2 ((a : EReal) - (b : EReal)) * x + Ideal.exp2 ((a : EReal) - (b : EReal)) * y := fun a b x y => by
    have : Ideal.exp2 ((a : EReal) - (b : EReal)) = ((2 : ℝ) ^ (a - b) : ℝ) := by rw [← EReal.coe_sub]; rfl
    rw [this]
    exact EReal.left_distrib_of_nonneg_of_ne_top (by exact_mod_cast (by positivity : (0 : ℝ) ≤ 2 ^ (a - b)))
      (EReal.coe_ne_top _) _ _
  refine ⟨m2, fun e => ?_⟩
  unfold headAcc
  rw [accNew_apply, accNew_apply, accNew_apply]
  simp only [e0, e1, e2, h0, h1, h2, pay3_apply, mul_zero, zero_add]
  rw [d, rescale, rescale, rescale]

/-- A head's output at an element, from the head's query rows, key rows and value rows: the softmax-weighted values,
    when queries and keys have no infinities and lane 64 of the values is 1. -/
theorem head_row (q : FVec Ideal S512x128 .bf16) (k0 k1 k2 v0 v1 v2 : FVec Ideal S2816x128 .bf16) (i : Fin 512) (e : Fin 128)
    (Q : Fin 128 → EReal) (K : Fin 8448 → Fin 128 → EReal) (V : Fin 8448 → Fin 128 → EReal)
    (eq : ∀ d, q (ix2 i d) = Q d)
    (ek0 : ∀ (j : Fin 2816) d, k0 (ix2 j d) = K ⟨j.val, by omega⟩ d)
    (ek1 : ∀ (j : Fin 2816) d, k1 (ix2 j d) = K ⟨2816 + j.val, by omega⟩ d)
    (ek2 : ∀ (j : Fin 2816) d, k2 (ix2 j d) = K ⟨5632 + j.val, by omega⟩ d)
    (ev0 : ∀ (j : Fin 2816) d, v0 (ix2 j d) = V ⟨j.val, by omega⟩ d)
    (ev1 : ∀ (j : Fin 2816) d, v1 (ix2 j d) = V ⟨2816 + j.val, by omega⟩ d)
    (ev2 : ∀ (j : Fin 2816) d, v2 (ix2 j d) = V ⟨5632 + j.val, by omega⟩ d)
    (hq : ∀ d, Fin' (Q d)) (hk : ∀ j d, Fin' (K j d)) (hv : ∀ j, V j 64 = 1) :
    headOut (headAcc q k0 k1 k2 v0 v1 v2) (ix2 i e) = rowOut Q K fun j => V j e := by
  obtain ⟨s, hs⟩ := dot_real hq hk
  obtain ⟨m, hm⟩ := headAcc_apply q k0 k1 k2 v0 v1 v2 i (fun j => s ⟨j.val, by omega⟩)
    (fun j => s ⟨2816 + j.val, by omega⟩) (fun j => s ⟨5632 + j.val, by omega⟩)
    (fun j => by rw [score_apply, ← hs]; simp only [eq, ek0]; rfl)
    (fun j => by rw [score_apply, ← hs]; simp only [eq, ek1]; rfl)
    (fun j => by rw [score_apply, ← hs]; simp only [eq, ek2]; rfl)
  have all : ∀ e : Fin 128, headAcc q k0 k1 k2 v0 v1 v2 (ix2 i e)
      = ∑ j, Ideal.exp2 ((s j : EReal) - (m : EReal)) * V j e := fun e => by
    rw [hm e, sum_chunks]
    simp only [ev0, ev1, ev2]
  rw [headOut_apply, all, all]
  simp only [hv]
  exact rowOut_eq _ s hs m

end Attn

end
-- ==== Proof.Attn.Array.lean ====
/- The attention kernel's result array, element by element. -/
module

public import proofs.«01_k».proof.Proof.Attn.Row
public import Idealize.ShloMosaic.Lib.Pipeline.ValueKit

@[expose] public section

noncomputable section

namespace Attn

open Idealize.ShloMosaic Cert.KernelIdeal Cert.KernelIdeal.Gen Idealize.ShloMosaic.TcCoe
open Cert.KernelIdeal.Facts
open Idealize.ShloMosaic.Pipeline (Dat)

/-- An element of a block of the output: lanes 0 to 63 are the first head's, lanes 64 to 127 the second's. -/
theorem block_apply (x0 : Vec Ideal S512x256 .bf16) (x1 x2 : Vec Ideal S8448x256 .bf16) (i : Fin 512) (e : Fin 128)
    (hq : ∀ l : Fin 256, Fin' (x0 (ix2 i l))) (hk : ∀ (j : Fin 8448) (l : Fin 256), Fin' (x1 (ix2 j l)))
    (hv : ∀ (j : Fin 8448) (h : Fin 2), (x2 (ix2 j ⟨h.val * 128 + 64, by omega⟩) : EReal) = 1) :
    out0_3 x0 x1 x2 (ix2 i e) = rowOut (fun d => x0 (ix2 i ⟨e.val / 64 * 128 + d.val, by omega⟩))
      (fun j d => x1 (ix2 j ⟨e.val / 64 * 128 + d.val, by omega⟩))
      (fun j => x2 (ix2 j ⟨e.val / 64 * 128 + e.val % 64, by omega⟩)) := by
  rw [out_eq, pairOut_apply]
  by_cases h : e.val < 64
  · have e0 : e.val / 64 = 0 := by omega
    have e1 : e.val % 64 = e.val := by omega
    rw [if_pos h]
    simp only [e0, e1]
    refine head_row _ _ _ _ _ _ _ i e _ _ (fun j d => x2 (ix2 j ⟨0 * 128 + d.val, by omega⟩)) ?_ ?_ ?_ ?_ ?_ ?_ ?_
      (fun d => hq _) (fun j d => hk _ _) (fun j => hv j 0)
    all_goals intros; pointwise
  · have e0 : e.val / 64 = 1 := by omega
    have e1 : e.val % 64 = e.val - 64 := by omega
    rw [if_neg h]
    simp only [e0, e1]
    refine head_row _ _ _ _ _ _ _ i ⟨e.val - 64, by omega⟩ _ _ (fun j d => x2 (ix2 j ⟨1 * 128 + d.val, by omega⟩)) ?_ ?_ ?_
      ?_ ?_ ?_ ?_ (fun d => hq _) (fun j d => hk _ _) (fun j => hv j 1)
    all_goals intros; pointwise

/-- Attention's result array as a function of queries, keys and values: row `R` is query `R` of sequence `R / 8192`, column
    `E` is element `E % 64` of head `E / 64`; a head has 128 columns of the queries, keys and values, a sequence 8448 rows
    of keys and values. -/
def G (q k v : S16896x1024.Idx → EReal) : S16384x512.Idx → EReal := fun I =>
  rowOut (fun d => q (ix2 ⟨(I 0).val, by have := (I 0).isLt; simp at this; omega⟩
      ⟨(I 1).val / 64 * 128 + d.val, by have := (I 1).isLt; simp at this; omega⟩))
    (fun j d => k (ix2 ⟨(I 0).val / 8192 * 8448 + j.val, by have := (I 0).isLt; simp at this; omega⟩
      ⟨(I 1).val / 64 * 128 + d.val, by have := (I 1).isLt; simp at this; omega⟩))
    (fun j => v (ix2 ⟨(I 0).val / 8192 * 8448 + j.val, by have := (I 0).isLt; simp at this; omega⟩
      ⟨(I 1).val / 64 * 128 + (I 1).val % 64, by have := (I 1).isLt; simp at this; omega⟩))

/-- The windows move together: the queries' block with the output's, the keys' and values' by sequence. -/
theorem idx_facts : ∀ t : Fin cfg0.N,
    win0_0.index t 0 = win0_3.index t 0 ∧ win0_0.index t 1 = win0_3.index t 1
    ∧ win0_1.index t 0 = win0_3.index t 0 / 16 ∧ win0_1.index t 1 = win0_3.index t 1
    ∧ win0_2.index t 0 = win0_3.index t 0 / 16 ∧ win0_2.index t 1 = win0_3.index t 1
    ∧ win0_3.index t 0 < 32 ∧ win0_3.index t 1 < 4 :=
  (by decide +kernel : ∀ t : Fin grid0.N, _)

variable (m : (ℓ : Loc nD τ sig) → Buf (Elt Ideal) ℓ)

/-- The kernel's result array, when queries and keys have no infinities and lane 64 of every head's values is 1. -/
theorem final (c : Dev nD) (q k v : S16896x1024.Idx → EReal)
    (eq : m ((c : Thread nD τ).loc main_arg0) = q) (ek : m ((c : Thread nD τ).loc main_arg1) = k)
    (ev : m ((c : Thread nD τ).loc main_arg2) = v)
    (hq : ∀ I, Fin' (q I)) (hk : ∀ I, Fin' (k I))
    (hv : ∀ (j : Fin 16896) (h : Fin 8), v (ix2 j ⟨h.val * 128 + 64, by omega⟩) = 1) :
    (dats m 0 c).arrAt 3 cfg0.N = G q k v := by
  refine (dats m 0 c).arrAt_eq_of_covers 3 _ (by decide +kernel) fun t hf y => ?_
  obtain ⟨f0, f1, f2, f3, f4, f5, f6, f7⟩ := idx_facts t
  have e0 : ∀ x : S512x256.Idx, (iblk m c 0 t : S512x256.Idx → EReal) x = q ((win0_0.blk t).view.emb x) := fun x => by
    rw [← eq]; rfl
  have e1 : ∀ x : S8448x256.Idx, (iblk m c 1 t : S8448x256.Idx → EReal) x = k ((win0_1.blk t).view.emb x) := fun x => by
    rw [← ek]; rfl
  have e2 : ∀ x : S8448x256.Idx, (iblk m c 2 t : S8448x256.Idx → EReal) x = v ((win0_2.blk t).view.emb x) := fun x => by
    rw [← ev]; rfl
  blk_simp
  rw [after0_3]
  obtain ⟨i, e, rfl⟩ : ∃ (i : Fin 512) (e : Fin 128), y = ix2 i e := ⟨y 0, y 1, by funext a; fin_cases a <;> rfl⟩
  refine (block_apply _ _ _ i e (fun l => ?_) (fun j l => ?_) (fun j h => ?_)).trans ?_
  · rw [e0]; exact hq _
  · rw [e1]; exact hk _
  · rw [e2]
    refine Eq.trans (congrArg v ?_) (hv ⟨win0_2.index t 0 * 8448 + j.val, by omega⟩ ⟨win0_2.index t 1 * 2 + h.val, by omega⟩)
    blk_ext []
  · have g0 : (((win0_3.blk t).view.emb (ix2 i e) 0 : Fin _) : ℕ) = win0_3.index t 0 * 512 + i.val := by blk_simp
    have g1 : (((win0_3.blk t).view.emb (ix2 i e) 1 : Fin _) : ℕ) = win0_3.index t 1 * 128 + e.val := by blk_simp
    unfold G
    refine congr (congr (congrArg rowOut (funext fun d => ?_)) (funext fun j => funext fun d => ?_)) (funext fun j => ?_)
    · rw [e0]
      refine congrArg q ?_
      blk_ext [g0, g1]
    · rw [e1]
      refine congrArg k ?_
      blk_ext [g0, g1]
    · rw [e2]
      refine congrArg v ?_
      blk_ext [g0, g1]

end Attn

end
-- ==== Proof.Attn.Reference.lean ====
/- The plain softmax attention, element by element. -/
module

public import proofs.«01_k».proof.Proof.Attn.Array
public import proofs.«01_k».proof.Proof.Gen.ReferenceIdeal.Read

@[expose] public section

noncomputable section

namespace Attn.Reference

open Idealize.ShloMosaic Cert.ReferenceIdeal Cert.ReferenceIdeal.Gen Cert.ReferenceIdeal.Read

variable (q k v : S16896x1024.Idx → EReal)

/-- Query `r` of sequence `b`, at head `h`. -/
def Q (b : Fin 2) (h : Fin 8) (r : Fin 8192) (d : Fin 128) : EReal :=
  q (ix2 ⟨b.val * 8192 + r.val, by omega⟩ ⟨h.val * 128 + d.val, by omega⟩)

/-- Key (or value) `j` of sequence `b`, at head `h`. -/
def K (b : Fin 2) (h : Fin 8) (j : Fin 8448) (d : Fin 128) : EReal :=
  k (ix2 ⟨b.val * 8448 + j.val, by omega⟩ ⟨h.val * 128 + d.val, by omega⟩)

/-- The pattern of two denotes two. -/
theorem ofBits_two : Ideal.ofBits .f32 0x40000000#32 = ((2 : ℝ) : EReal) := by
  simp [Ideal.ofBits, Ideal.ieee, -EReal.coe_mul]; norm_num

theorem scale_apply (i : S2x8x8192x8448.Idx) : (val_main_v10 (F := Ideal) i : EReal) = (Real.log 2 : ℝ) := by
  rw [val_main_v10_apply, val_main_v9_apply, val_main_cst_apply]
  show Ideal.log (Ideal.ofBits .f32 0x40000000#32) = _
  rw [ofBits_two]
  show (if (2:ℝ) ≤ 0 then (⊥ : EReal) else _) = _
  rw [if_neg (by norm_num)]

/-- The scores times `log 2`. -/
theorem scores_apply (b : Fin 2) (h : Fin 8) (r : Fin 8192) (j : Fin 8448) :
    (val_main_v11 (F := Ideal) q k (ix4 b h r j) : EReal) = dot (Q q b h r) (K k b h) j * (Real.log 2 : ℝ) := by
  rw [val_main_v11_apply, val_main_v8_apply, scale_apply]
  show (_ : EReal) * _ = _
  congr 1
  unfold dot
  refine Finset.sum_congr rfl fun d _ => ?_
  rw [val_main_v2_apply, val_main_v1_apply, val_main_v0_apply, val_main_v4_apply, val_main_v3_apply]
  unfold Q K
  refine congr (congrArg _ (congrArg q ?_)) (congrArg k ?_)
  · funext a
    have := d.isLt; have := h.isLt
    fin_cases a <;> refine Fin.ext ?_ <;> simp [ix4, ix2] <;> omega
  · funext a
    have := d.isLt; have := h.isLt
    fin_cases a <;> refine Fin.ext ?_ <;> simp [ix4, ix2] <;> omega

/-- The greatest score of a query. -/
theorem max_apply (b : Fin 2) (h : Fin 8) (r : Fin 8192) :
    (val_main_v14 (F := Ideal) q k (ix3 b h r) : EReal)
      = Finset.univ.fold max ⊥ fun n => dot (Q q b h r) (K k b h) n * (Real.log 2 : ℝ) := by
  have e : (val_main_v12 (F := Ideal) q k (ix3 b h r) : EReal)
      = Finset.univ.fold max ⊥ fun n => dot (Q q b h r) (K k b h) n * (Real.log 2 : ℝ) := by
    simp only [← scores_apply]
    unfold val_main_v12
    generalize val_main_v11 (F := Ideal) q k = y
    pointwise
    rw [val_main_cst_0_apply]
    exact congrArg (fun z : EReal => Finset.univ.fold max z fun x => y (ix4 b h r x)) ofBits_ninf
  rw [val_main_v14_apply, e, val_main_v13_apply, val_main_cst_1_apply]
  show max (Ideal.ofBits .f32 0xFF800000#32) _ = _
  rw [ofBits_ninf]
  exact max_eq_right bot_le

/-- A score's exponential, shifted by the greatest. -/
theorem exp_apply (b : Fin 2) (h : Fin 8) (r : Fin 8192) (j : Fin 8448) :
    (val_main_v18 (F := Ideal) q k (ix4 b h r j) : EReal)
      = Ideal.exp (dot (Q q b h r) (K k b h) j * (Real.log 2 : ℝ)
          - Finset.univ.fold max ⊥ fun n => dot (Q q b h r) (K k b h) n * (Real.log 2 : ℝ)) := by
  rw [val_main_v18_apply, val_main_v17_apply, val_main_v16_apply, val_main_v15_apply, scores_apply]
  have e : idx_main_v15 (idx_main_v16 (ix4 b h r j)) = ix3 b h r := by funext a; fin_cases a <;> rfl
  rw [e, max_apply]
  rfl

/-- A weight: an exponential over the sum of the exponentials. -/
theorem weight_apply (b : Fin 2) (h : Fin 8) (r : Fin 8192) (j : Fin 8448) :
    (val_main_v24 (F := Ideal) q k (ix4 b h r j) : EReal)
      = Ideal.div (Ideal.exp (dot (Q q b h r) (K k b h) j * (Real.log 2 : ℝ)
          - Finset.univ.fold max ⊥ fun n => dot (Q q b h r) (K k b h) n * (Real.log 2 : ℝ)))
        (0 + ∑ l, Ideal.exp (dot (Q q b h r) (K k b h) l * (Real.log 2 : ℝ)
          - Finset.univ.fold max ⊥ fun n => dot (Q q b h r) (K k b h) n * (Real.log 2 : ℝ))) := by
  rw [val_main_v24_apply, val_main_v23_apply, val_main_v22_apply, val_main_v21_apply, val_main_v20_apply, exp_apply]
  have e : idx_main_v20 (idx_main_v21 (ix4 b h r j)) = ix3 b h r := by funext a; fin_cases a <;> rfl
  rw [e, val_main_v19_apply]
  have e' : ∀ l, idx_main_v19 (ix3 b h r) l = ix4 b h r l := fun l => by funext a; fin_cases a <;> rfl
  simp only [e', exp_apply, val_main_cst_2_apply]
  rw [show (FloatOps.ofBits FTy.f32 0x00000000#32 : Ideal .f32) = (0 : EReal) from by
    show Ideal.ofBits .f32 0x00000000#32 = 0
    simp [Ideal.ofBits, Ideal.ieee]]
  rfl

/-- The plain attention's result is `G`. -/
theorem result : (val_main_v28 (F := Ideal) q k v : S16384x512.Idx → EReal) = G q k v := by
  funext I
  obtain ⟨R, E, rfl⟩ : ∃ (R : Fin 16384) (E : Fin 512), I = ix2 R E := ⟨I 0, I 1, by funext a; fin_cases a <;> rfl⟩
  rw [val_main_v28_apply, val_main_v27_apply, val_main_v26_apply, val_main_v25_apply]
  have hR := R.isLt
  have hE := E.isLt
  have er : ∀ n, ridx_main_v25 (idx_main_v26 (idx_main_v27 (ix2 R E))) n
      = ix4 ⟨R.val / 8192, by omega⟩ ⟨E.val / 64, by omega⟩ ⟨R.val % 8192, by omega⟩ n := fun n => by
    funext a; fin_cases a <;> refine Fin.ext ?_ <;> simp [ix4, ix2] <;> omega
  simp only [er, weight_apply]
  unfold G rowOut
  show (∑ _, (_ : EReal) * _) = _
  have eQ : Q q ⟨R.val / 8192, by omega⟩ ⟨E.val / 64, by omega⟩ ⟨R.val % 8192, by omega⟩
      = fun d => q (ix2 ⟨R.val, by omega⟩ ⟨E.val / 64 * 128 + d.val, by omega⟩) := funext fun d => by
    unfold Q
    refine congrArg q ?_
    funext a; fin_cases a <;> refine Fin.ext ?_ <;> simp [ix2] <;> omega
  rw [eQ]
  refine Finset.sum_congr rfl fun n _ => ?_
  rw [mul_comm]
  refine congr (congrArg _ rfl) ?_
  rw [val_main_v7_apply, val_main_v6_apply, val_main_v5_apply]
  refine congrArg v ?_
  have := n.isLt
  funext a; fin_cases a <;> refine Fin.ext ?_ <;> simp [ix2] <;> omega

end Attn.Reference

end
-- ==== Proof.Attn.Pre.lean ====
/- What the claim's precondition says of an input, element by element. -/
module

public import proofs.«01_k».proof.Proof.Attn.Reference
public import proofs.«01_k».proof.Proof.Gen.Pre_readable
public import Idealize.ShloMosaic.Lib.ReduceAll

@[expose] public section

noncomputable section

namespace Attn

open Idealize.ShloMosaic
open Cert.Pre_readable Cert.Pre_readable.Gen

/-- The pattern of plus infinity denotes the greatest extended real. -/
theorem ofBits_inf : Ideal.ofBits .f32 0x7F800000#32 = ⊤ := by
  simp [Ideal.ofBits, Ideal.ieee]

theorem ofBits_one : Ideal.ofBits .f32 0x3F800000#32 = 1 := by
  simp [Ideal.ofBits, Ideal.ieee, -EReal.coe_mul]; norm_num

/-- An extended real whose absolute value is below infinity is neither infinity. -/
theorem fin_of_abs {x : EReal} (h : max x (-x) < ⊤) : Fin' x :=
  ⟨fun e => by subst e; simp at h, fun e => by subst e; simp at h⟩

/-- Two bits whose conjunction is 1 are both 1. -/
theorem and_one {c d : BitVec 1} (h : IntOp.andi c d = 1#1) : c = 1#1 ∧ d = 1#1 := by
  revert c d; decide

/-- A precondition's input: queries and keys have no infinities, and lane 64 of every head's values is 1. -/
theorem pre_facts (q k v : FVec Ideal S16896x1024 .bf16) (h : fn (F := Ideal) q k v = fun _ => 1#1) :
    (∀ I, Fin' (q I)) ∧ (∀ I, Fin' (k I))
      ∧ ∀ (j : Fin 16896) (h : Fin 8), (v (ix2 j ⟨h.val * 128 + 64, by omega⟩) : EReal) = 1 := by
  have h0 := congrFun h (Shape.Idx.first h_S_)
  unfold fn fn_part1 at h0
  dsimp only at h0
  obtain ⟨h1, h2⟩ := and_one h0
  obtain ⟨h3, h4⟩ := and_one h1
  have sub : Subsingleton S_.Idx := ⟨fun a b => funext fun x => x.elim0⟩
  have abs : ∀ (x : FVec Ideal S16896x1024 .bf16) (I : S16896x1024.Idx),
      (cmpf .olt (Host.absf (extf .f32 x bitsLt_bf16_f32))
        (broadcastInDim S16896x1024 ![] bcast_S_S16896x1024 (constant S_ .f32 0x7F800000#32))) I = 1#1 → Fin' (x I) := fun x I e => by
    refine fin_of_abs ?_
    have e' : Ideal.cmp .olt (max (x I : EReal) (-(x I : EReal))) (Ideal.ofBits .f32 0x7F800000#32) = 1#1 := e
    rw [ofBits_inf] at e'
    by_contra hn
    simp [Ideal.cmp, hn] at e'
  refine ⟨fun I => abs q I (Host.reduce_andi_all _ _ _ _ _ h3 I), fun I => abs k I (Host.reduce_andi_all _ _ _ _ _ h4 I),
    fun j h => ?_⟩
  have h5 := Host.reduce_andi_all _ _ _ _ _ h2 (ix2 j h)
  have e' : Ideal.cmp .oeq (shapeCast S16896x8 (extractStridedSlice S16896x8x1 ![0, 0, 64]
      (shapeCast S16896x8x128 (extf .f32 v bitsLt_bf16_f32 : FVec Ideal S16896x1024 .f32) shapeCasts_S16896x1024_S16896x8x128)
      slices_S16896x8x128_S16896x8x1_0_0_64) shapeCasts_S16896x8x1_S16896x8 (ix2 j h))
      (Ideal.ofBits .f32 0x3F800000#32) = 1#1 := h5
  rw [ofBits_one] at e'
  have e : (shapeCast S16896x8 (extractStridedSlice S16896x8x1 ![0, 0, 64]
      (shapeCast S16896x8x128 (extf .f32 v bitsLt_bf16_f32 : FVec Ideal S16896x1024 .f32) shapeCasts_S16896x1024_S16896x8x128)
      slices_S16896x8x128_S16896x8x1_0_0_64) shapeCasts_S16896x8x1_S16896x8 (ix2 j h) : EReal)
      = v (ix2 j ⟨h.val * 128 + 64, by omega⟩) := by
    pointwise
  rw [e] at e'
  by_contra hn
  simp [Ideal.cmp, hn] at e'

end Attn

end
-- ==== Proof.Attn.Claims.lean ====
/- The attention's claims, each from the modules before: the three frames and the equality of the kernel's result with
   the reference's. -/
module

public import proofs.«01_k».proof.Defs
public import proofs.«01_k».proof.Proof.Attn.Pre
public import proofs.«01_k».proof.Proof.Attn.Reference
public import proofs.«01_k».proof.Proof.Gen.Kernel.Frame
public import proofs.«01_k».proof.Proof.Gen.KernelIdeal.Frame
public import proofs.«01_k».proof.Proof.Gen.ReferenceIdeal.Run
public import proofs.«01_k».proof.Proof.Gen.ReferenceIdeal.Read

@[expose] public section

noncomputable section

namespace Attn.Claims

open Idealize.ShloMosaic Idealize.SL.Sem

/-- The reference of the attention terminates with its arguments unchanged and every counter at zero. -/
theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ fun r => (∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
            = m ((c.tc : Thread Cert.ReferenceIdeal.nD Cert.ReferenceIdeal.τ).loc Cert.ReferenceIdeal.main_arg2))
      ∧ r.2.sem = fun _ => 0 :=
  (θ_run Cert.ReferenceIdeal.defs _ _).mono
    (fun r h => ⟨fun c => (h c).2, sem_eq_zero_of_no_sems (by decide) r.2⟩)
    (Cert.ReferenceIdeal.Value.run (F := Ideal) m ρ)

/-- From memories that agree on the queries, the keys and the values, and hold what the precondition asks, the kernel
    and the reference end with the same result: the softmax-weighted values of every head. -/
theorem algebraic : Cert.algebraic_KernelIdeal_ReferenceIdeal_pre_readable := by
  intro m g m' g' hpre hag
  refine ⟨fun c => (G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))), ?_, ?_⟩
  · refine (θ_run Cert.KernelIdeal.defs _ _).mono (fun r h c => ⟨(h c).1.trans ?_, (h c).2⟩)
      (Cert.KernelIdeal.Value.run_blocks (F := Ideal) m g)
    have hp := pre_facts _ _ _ (hpre c)
    exact final m c _ _ _ rfl rfl rfl hp.1 hp.2.1 hp.2.2
  · refine (θ_run Cert.ReferenceIdeal.defs _ _).mono (fun r h c => ⟨(h c).1.trans ?_, (h c).2⟩)
      (Cert.ReferenceIdeal.Value.run (F := Ideal) m' g')
    refine (Cert.ReferenceIdeal.Read.val_main_v28_eq _ _ _).trans ?_
    rw [(hag c).1, (hag c).2.1, (hag c).2.2]
    exact Attn.Reference.result _ _ _

end Attn.Claims

end
-- ==== Proof.Ffn.Block.lean ====
/- What the feed-forward body computes of one block of rows, named in the body's own steps: the modulated rows, one chunk
   of hidden columns at a time, and the residual sum. -/
module

public import proofs.«01_k».proof.Proof.Gen.FfnIdeal.Value
public import proofs.«01_k».proof.Proof.Attn.Claims
public import Idealize.ShloMosaic.Lib.Pointwise

@[expose] public section

noncomputable section

namespace Ffn

open Idealize.ShloMosaic Cert.FfnIdeal Cert.FfnIdeal.Gen
open Cert.FfnIdeal.Facts

/-- Rows divided by the root of their mean square, before any gain. -/
def normed (y : FVec Ideal S256x1024 .f32) : FVec Ideal S256x1024 .f32 :=
  mulf y (broadcastTo S256x1024 (rsqrt (addf (divf (shapeCast S256x1
    (multiReduction .add [1] S256 (mulf y y) 0x00000000#32 reduces_S256x1024_S256 (.inl rfl) rfl) shapeCasts_S256_S256x1)
    (broadcast S256x1 (Scalar.ofBits (F := Ideal) .f32 0x44800000#32)))
    (broadcast S256x1 (Scalar.ofBits (F := Ideal) .f32 0x358637BD#32)))) broadcasts_S256x1_S256x1024)

/-- The rows the block works on: the context's from grid point 32 on, the latents' before. -/
def pick (i : grid0.Coords) (lat ctx : FVec Ideal S256x1024 .f32) : FVec Ideal S256x1024 .f32 := k0_pay4 (F := Ideal) i lat ctx

/-- The rows normalised with their gain, then scaled and shifted by the condition. -/
def modulated (x : FVec Ideal S256x1024 .f32) (gain : FVec Ideal S1x1024 .f32) (shift scale : FVec Ideal S1x1x1x1024 .f32) :
    FVec Ideal S256x1024 .bf16 :=
  truncf .bf16 (addf (mulf (mulf (normed x) (broadcastTo S256x1024 (shapeCast S1x1024 gain shapeCasts_S1x1024_S1x1024)
      broadcasts_S1x1024_S256x1024))
    (broadcastTo S256x1024 (addf (broadcast S1x1024 (Scalar.ofBits (F := Ideal) .f32 0x3F800000#32))
      (shapeCast S1x1024 scale shapeCasts_S1x1x1x1024_S1x1024)) broadcasts_S1x1024_S256x1024))
    (broadcastTo S256x1024 (shapeCast S1x1024 shift shapeCasts_S1x1x1x1024_S1x1024) broadcasts_S1x1024_S256x1024))
    bitsLt_bf16_f32

/-- A chunk of 256 hidden columns of the rows. -/
def up (h : FVec Ideal S256x1024 .bf16) (w : FVec Ideal S1x1x1024x256 .f32) : FVec Ideal S256x256 .f32 :=
  matmul dot_S256x1024_S1024x256_S256x256_1_0_0_1_n_n none h
    (truncf .bf16 (shapeCast S1024x256 w shapeCasts_S1x1x1024x256_S1024x256) bitsLt_bf16_f32)
    (constant S256x256 .f32 0x00000000#32)

/-- The gated unit of a chunk: the gate times its logistic, times the other branch. -/
def act (a b : FVec Ideal S256x256 .f32) : FVec Ideal S256x256 .f32 := mulf (mulf a (logistic a)) b

/-- A chunk's contribution added to what earlier chunks have summed. -/
def step (h : FVec Ideal S256x1024 .bf16) (acc : FVec Ideal S256x1024 .f32) (g u : FVec Ideal S1x1x1024x256 .f32)
    (d : FVec Ideal S1x1x256x1024 .f32) : FVec Ideal S256x1024 .f32 :=
  addf acc (matmul dot_S256x256_S256x1024_S256x1024_1_0_0_1_n_n none
    (truncf .bf16 (act (up h g) (up h u)) bitsLt_bf16_f32)
    (truncf .bf16 (shapeCast S256x1024 d shapeCasts_S1x1x256x1024_S256x1024) bitsLt_bf16_f32)
    (constant S256x1024 .f32 0x00000000#32))

/-- The eleven chunks one after the other, from zero. -/
def steps (h : FVec Ideal S256x1024 .bf16)
    (g0 g1 g2 g3 g4 g5 g6 g7 g8 g9 g10
      u0 u1 u2 u3 u4 u5 u6 u7 u8 u9 u10 : FVec Ideal S1x1x1024x256 .f32)
    (d0 d1 d2 d3 d4 d5 d6 d7 d8 d9 d10 : FVec Ideal S1x1x256x1024 .f32) : FVec Ideal S256x1024 .f32 :=
    step h (step h (step h (step h (step h (step h (step h (step h (step h (step h (step h (k0_pay8 (F := Ideal)) g0
    u0 d0) g1 u1 d1) g2 u2 d2) g3 u3 d3) g4 u4 d4) g5 u5 d5) g6 u6 d6) g7 u7 d7) g8 u8 d8) g9 u9 d9) g10 u10 d10

/-- The rows plus half the condition's gate times the normalised sum with its own gain. -/
def finish (x : FVec Ideal S256x1024 .f32) (gate : FVec Ideal S1x1x1x1024 .f32) (gain : FVec Ideal S1x1024 .f32)
    (y : FVec Ideal S256x1024 .f32) : FVec Ideal S256x1024 .f32 :=
  addf x (mulf (broadcastTo S256x1024 (mulf (broadcast S1x1024 (Scalar.ofBits (F := Ideal) .f32 0x3F000000#32))
      (shapeCast S1x1024 gate shapeCasts_S1x1x1x1024_S1x1024)) broadcasts_S1x1024_S256x1024)
    (mulf (normed y) (broadcastTo S256x1024 (shapeCast S1x1024 gain shapeCasts_S1x1024_S1x1024) broadcasts_S1x1024_S256x1024)))

theorem pay6_eq (i : grid0.Coords) (a b : FVec Ideal S256x1024 .f32) :
    k0_pay6 (F := Ideal) a (Scalar.cmpi .sge (BitVec.ofNat 32 (i 0).val) 32#32) b = pick i a b := rfl

theorem pay4_eq (i : grid0.Coords) (a b : FVec Ideal S256x1024 .f32) : k0_pay4 (F := Ideal) i a b = pick i a b := rfl

theorem pay5_eq (i : grid0.Coords) (a b : FVec Ideal S256x1024 .f32) (gain : FVec Ideal S1x1024 .f32)
    (shift scale : FVec Ideal S1x1x1x1024 .f32) :
    k0_pay5 (F := Ideal) i a b gain shift scale = modulated (pick i a b) gain shift scale := by
  dsimp only [k0_pay5, modulated, normed, pick]

theorem pay7_eq (i : grid0.Coords) (a b : FVec Ideal S256x1024 .f32) (gain : FVec Ideal S1x1024 .f32)
    (shift scale : FVec Ideal S1x1x1x1024 .f32) :
    k0_pay7 (F := Ideal) a (Scalar.cmpi .sge (BitVec.ofNat 32 (i 0).val) 32#32) b gain shift scale
      = modulated (pick i a b) gain shift scale := by
  dsimp only [k0_pay7, k0_pay6, k0_pay4, modulated, normed, pick]

theorem pay2_eq (x y : FVec Ideal S256x1024 .f32) (gate : FVec Ideal S1x1x1x1024 .f32) (gain : FVec Ideal S1x1024 .f32) :
    k0_pay2 (F := Ideal) (k0_pay3 (F := Ideal) gate) x y gain = finish x gate gain y := by
  dsimp only [k0_pay2, k0_pay3, finish, normed]

theorem pay1_eq (x y : FVec Ideal S256x1024 .f32) (gate : FVec Ideal S1x1x1x1024 .f32) (gain : FVec Ideal S1x1024 .f32) :
    k0_pay1 (F := Ideal) x (k0_pay98 (F := Ideal) (k0_pay3 (F := Ideal) gate)) (k0_pay99 (F := Ideal) gain) (normed y)
      = finish x gate gain y := by
  dsimp only [k0_pay1, k0_pay3, k0_pay98, k0_pay99, finish, normed]

section halves

variable (h : FVec Ideal S256x1024 .bf16)
  (g0 g1 g2 g3 g4 g5 g6 g7 g8 g9 g10
    u0 u1 u2 u3 u4 u5 u6 u7 u8 u9 u10 : FVec Ideal S1x1x1024x256 .f32)
  (d0 d1 d2 d3 d4 d5 d6 d7 d8 d9 d10 : FVec Ideal S1x1x256x1024 .f32)

/-- The first 256 rows' chunks, as the body orders them, are the eleven chunks, normalised. -/
theorem first_eq :
    k0_pay100 (k0_pay83 h u9) (k0_pay86 (k0_pay73 h g8) (k0_pay75 h u8) (k0_pay78 (k0_pay60 (k0_pay49 h g5) (k0_pay51
    h u5) (k0_pay54 (k0_pay40 h g4) (k0_pay42 h u4) (k0_pay45 (k0_pay27 (k0_pay15 h g1) (k0_pay17 h u1) (k0_pay20 h
    (k0_pay8 (F := Ideal)) (k0_pay10 g0) (k0_pay11 u0) d0) d1) (k0_pay31 h g3) (k0_pay33 h u3) (k0_pay35 h (k0_pay22
    g2) u2) d2 d3) d4) d5) (k0_pay64 h g7) (k0_pay66 h u7) (k0_pay68 h (k0_pay57 u6) (k0_pay58 h g6)) d6 d7) d8)
    (k0_pay90 h g10) (k0_pay92 h u10) (k0_pay94 h (k0_pay80 g9)) d9 d10
    = normed (steps h g0 g1 g2 g3 g4 g5 g6 g7 g8 g9 g10
        u0 u1 u2 u3 u4 u5 u6 u7 u8 u9 u10
        d0 d1 d2 d3 d4 d5 d6 d7 d8 d9 d10) := rfl

/-- The last 256 rows' chunks, as the body orders them, are the eleven chunks. -/
theorem second_eq :
    k0_pay97 (k0_pay82 h (k0_pay80 g9)) (k0_pay84 h u9) (k0_pay87 (k0_pay74 h g8) (k0_pay76 h u8) (k0_pay79 (k0_pay61
    (k0_pay50 h g5) (k0_pay52 h u5) (k0_pay55 (k0_pay37 (k0_pay24 h (k0_pay22 g2)) (k0_pay25 h u2) (k0_pay28 (k0_pay16
    h g1) (k0_pay18 h u1) (k0_pay21 h (k0_pay9 (F := Ideal)) (k0_pay10 g0) (k0_pay11 u0) d0) d1) d2) (k0_pay41 h g4)
    (k0_pay43 h u4) (k0_pay46 (k0_pay32 h g3) (k0_pay34 h u3) d3) d4) d5) (k0_pay65 h g7) (k0_pay67 h u7) (k0_pay69 h
    (k0_pay56 g6) (k0_pay57 u6)) d6 d7) d8) (k0_pay91 h g10) (k0_pay93 h u10) d9 d10
    = steps h g0 g1 g2 g3 g4 g5 g6 g7 g8 g9 g10
        u0 u1 u2 u3 u4 u5 u6 u7 u8 u9 u10
        d0 d1 d2 d3 d4 d5 d6 d7 d8 d9 d10 := rfl

end halves

/-- What one half of the body leaves in its rows of the output window. -/
def half (i : grid0.Coords) (lat ctx : FVec Ideal S256x1024 .f32) (x2 : Vec Ideal S1x1x9x1024 .f32)
    (x3 x4 : Vec Ideal S1x1024 .f32) (x5 x6 : Vec Ideal S1x1x1024x2816 .f32) (x7 : Vec Ideal S1x1x2816x1024 .f32) :
    FVec Ideal S256x1024 .f32 :=
  finish (pick i lat ctx) (View.ld x2 r0_0) (View.ld x4 r0_2)
    (steps (modulated (pick i lat ctx) (View.ld x3 r0_2)
        (View.ld x2 r0_3) (View.ld x2 r0_4))
      (View.ld x5 r0_6) (View.ld x5 r0_7) (View.ld x5 r0_9) (View.ld x5 r0_11) (View.ld x5 r0_13) (View.ld x5 r0_15)
      (View.ld x5 r0_17) (View.ld x5 r0_19) (View.ld x5 r0_21) (View.ld x5 r0_23) (View.ld x5 r0_25) (View.ld x6 r0_6)
      (View.ld x6 r0_7) (View.ld x6 r0_9) (View.ld x6 r0_11) (View.ld x6 r0_13) (View.ld x6 r0_15) (View.ld x6 r0_17)
      (View.ld x6 r0_19) (View.ld x6 r0_21) (View.ld x6 r0_23) (View.ld x6 r0_25) (View.ld x7 r0_8) (View.ld x7 r0_10)
      (View.ld x7 r0_12) (View.ld x7 r0_14) (View.ld x7 r0_16) (View.ld x7 r0_18) (View.ld x7 r0_20) (View.ld x7
      r0_22) (View.ld x7 r0_24) (View.ld x7 r0_26) (View.ld x7 r0_27))

/-- The block that the body leaves in the output window: two halves of 256 rows. -/
theorem out_eq (i : grid0.Coords) (x0 x1 : Vec Ideal S512x1024 .f32) (x2 : Vec Ideal S1x1x9x1024 .f32)
    (x3 x4 : Vec Ideal S1x1024 .f32) (x5 x6 : Vec Ideal S1x1x1024x2816 .f32) (x7 : Vec Ideal S1x1x2816x1024 .f32) :
    out0_8 i x0 x1 x2 x3 x4 x5 x6 x7 = View.canon [
      (⟨r0_5, half i (View.ld x0 r0_5) (View.ld x1 r0_5) x2 x3 x4 x5 x6 x7⟩ : View.Piece (Elt Ideal) S512x1024 .f32),
      ⟨r0_1, half i (View.ld x0 r0_1) (View.ld x1 r0_1) x2 x3 x4 x5 x6 x7⟩] := by
  unfold_out out0_8
  rw [first_eq, second_eq, pay6_eq, pay7_eq, pay5_eq, pay4_eq, pay2_eq, pay1_eq]
  unfold half
  with_reducible rfl

end Ffn

end
-- ==== Proof.Ffn.Row.lean ====
/- One row of the feed-forward body's output block: the eleven chunks are one sum over all the hidden columns. -/
module

public import proofs.«01_k».proof.Proof.Ffn.Block

@[expose] public section

noncomputable section

namespace Ffn

open Idealize.ShloMosaic Cert.FfnIdeal Cert.FfnIdeal.Gen
open Cert.FfnIdeal.Facts

/-- A row divided by the root of its mean square. -/
def rms (x : Fin 1024 → EReal) (k : Fin 1024) : EReal :=
  x k * Ideal.rsqrt (Ideal.div (∑ d, x d * x d) (Ideal.ofBits .f32 0x44800000#32) + Ideal.ofBits .f32 0x358637BD#32)

/-- A row normalised with its gain, then scaled and shifted by the condition. -/
def hidden (x gain shift scale : Fin 1024 → EReal) (k : Fin 1024) : EReal :=
  rms x k * gain k * (Ideal.ofBits .f32 0x3F800000#32 + scale k) + shift k

/-- The gated unit at one hidden column: `a` times its logistic, times `b`. -/
def unit (h a b : Fin 1024 → EReal) : EReal :=
  (∑ k, h k * a k) * Ideal.logistic (∑ k, h k * a k) * ∑ k, h k * b k

/-- The feed-forward network of a modulated row. -/
def mlp (h : Fin 1024 → EReal) (wg wu : Fin 1024 → Fin 2816 → EReal) (wd : Fin 2816 → Fin 1024 → EReal) (j : Fin 1024) : EReal :=
  ∑ f, unit h (fun k => wg k f) (fun k => wu k f) * wd f j

/-- One element of the result: the row plus half the condition's gate times the normalised network. -/
def rowOut (x shift scale gate pre post : Fin 1024 → EReal) (wg wu : Fin 1024 → Fin 2816 → EReal)
    (wd : Fin 2816 → Fin 1024 → EReal) (j : Fin 1024) : EReal :=
  x j + Ideal.ofBits .f32 0x3F000000#32 * gate j * (rms (mlp (hidden x pre shift scale) wg wu wd) j * post j)

theorem col_apply (x : FVec Ideal S256 .f32) (i : Fin 256) :
    shapeCast S256x1 x shapeCasts_S256_S256x1 (ix2 i 0) = x (ix1 i) := by pointwise

theorem sumSq_apply (y : FVec Ideal S256x1024 .f32) (i : Fin 256) :
    multiReduction .add [1] S256 (mulf y y) 0x00000000#32 reduces_S256x1024_S256 (.inl rfl) rfl (ix1 i)
      = (∑ k : Fin 1024, (y (ix2 i k) : EReal) * y (ix2 i k) : EReal) := by
  pointwise

theorem normed_apply (y : FVec Ideal S256x1024 .f32) (i : Fin 256) (j : Fin 1024) :
    normed y (ix2 i j) = rms (fun k => y (ix2 i k)) j := by
  unfold normed
  generalize e : multiReduction .add [1] S256 (mulf y y) 0x00000000#32 reduces_S256x1024_S256 (.inl rfl) rfl = s
  have es := congrFun e (ix1 i)
  rw [sumSq_apply] at es
  pointwise
  rw [← es]
  rfl

theorem modulated_apply (x : FVec Ideal S256x1024 .f32) (gain : FVec Ideal S1x1024 .f32)
    (shift scale : FVec Ideal S1x1x1x1024 .f32) (i : Fin 256) (k : Fin 1024) :
    modulated x gain shift scale (ix2 i k) = hidden (fun k => x (ix2 i k)) (fun k => gain (ix2 0 k))
      (fun k => shift (ix4 0 0 0 k)) (fun k => scale (ix4 0 0 0 k)) k := by
  unfold hidden
  rw [← normed_apply]
  unfold modulated
  generalize normed x = y
  pointwise

theorem up_apply (h : FVec Ideal S256x1024 .bf16) (w : FVec Ideal S1x1x1024x256 .f32) (i : Fin 256) (f : Fin 256) :
    up h w (ix2 i f) = (∑ k : Fin 1024, (h (ix2 i k) : EReal) * w (ix4 0 0 k f) : EReal) := by
  pointwise [up]

theorem step_apply (h : FVec Ideal S256x1024 .bf16) (acc : FVec Ideal S256x1024 .f32) (g u : FVec Ideal S1x1x1024x256 .f32)
    (d : FVec Ideal S1x1x256x1024 .f32) (i : Fin 256) (j : Fin 1024) :
    step h acc g u d (ix2 i j) = acc (ix2 i j) + ∑ f : Fin 256,
      unit (fun k => h (ix2 i k)) (fun k => g (ix4 0 0 k f)) (fun k => u (ix4 0 0 k f)) * d (ix4 0 0 f j) := by
  unfold unit step act
  simp only [← up_apply]
  generalize up h g = a
  generalize up h u = b
  pointwise

theorem finish_apply (x : FVec Ideal S256x1024 .f32) (gate : FVec Ideal S1x1x1x1024 .f32) (gain : FVec Ideal S1x1024 .f32)
    (y : FVec Ideal S256x1024 .f32) (i : Fin 256) (j : Fin 1024) :
    finish x gate gain y (ix2 i j) = x (ix2 i j) + Ideal.ofBits .f32 0x3F000000#32 * gate (ix4 0 0 0 j)
      * (rms (fun k => y (ix2 i k)) j * gain (ix2 0 j)) := by
  rw [← normed_apply]
  unfold finish
  generalize normed y = y
  pointwise

/-- A sum over `a` blocks of `b` indices, block by block. -/
theorem sum_blocks (a b N : ℕ) (hN : N = a * b) (F : Fin N → EReal) :
    ∑ f, F f = ∑ c : Fin a, ∑ f : Fin b, F ⟨c.val * b + f.val, by
      subst hN; calc c.val * b + f.val < c.val * b + b := by omega
        _ = (c.val + 1) * b := by ring
        _ ≤ a * b := Nat.mul_le_mul_right _ c.isLt⟩ := by
  subst hN
  rw [← finProdFinEquiv.sum_comp, Fintype.sum_prod_type]
  refine Finset.sum_congr rfl fun c _ => Finset.sum_congr rfl fun f _ => congrArg F (Fin.ext ?_)
  show f.val + b * c.val = _
  ring

/-- The sum over all the hidden columns, as the eleven chunks' sums in order. -/
theorem sum_chunks (F : Fin 2816 → EReal) (z : EReal) (hz : z = 0) (S : Fin 11 → EReal)
    (hS : ∀ c : Fin 11, S c = ∑ f : Fin 256, F ⟨c.val * 256 + f.val, by omega⟩) :
    z + S 0 + S 1 + S 2 + S 3 + S 4 + S 5 + S 6 + S 7 + S 8 + S 9 + S 10 = ∑ f, F f := by
  rw [sum_blocks 11 256 2816 rfl F, hz, zero_add]
  simp only [← hS]
  simp only [Fin.sum_univ_castSucc, Fin.sum_univ_zero, zero_add]
  rfl

theorem zeros_apply (i : Fin 256) (j : Fin 1024) : (k0_pay8 (F := Ideal) (ix2 i j) : EReal) = 0 := by
  pointwise [k0_pay8]

/-- The eleven chunks are the network of the row, when the chunks are the weights' columns and rows in order. -/
theorem steps_apply (h : FVec Ideal S256x1024 .bf16)
    (g0 g1 g2 g3 g4 g5 g6 g7 g8 g9 g10
      u0 u1 u2 u3 u4 u5 u6 u7 u8 u9 u10 : FVec Ideal S1x1x1024x256 .f32)
    (d0 d1 d2 d3 d4 d5 d6 d7 d8 d9 d10 : FVec Ideal S1x1x256x1024 .f32)
    (wg wu : Fin 1024 → Fin 2816 → EReal) (wd : Fin 2816 → Fin 1024 → EReal)
    (eg : ∀ (c : Fin 11) (k : Fin 1024) (f : Fin 256), ((![g0, g1, g2, g3, g4, g5, g6, g7, g8, g9, g10] : Fin 11 → FVec Ideal S1x1x1024x256 .f32) c
      (ix4 0 0 k f) : EReal) = wg k ⟨c.val * 256 + f.val, by omega⟩)
    (eu : ∀ (c : Fin 11) (k : Fin 1024) (f : Fin 256), ((![u0, u1, u2, u3, u4, u5, u6, u7, u8, u9, u10] : Fin 11 → FVec Ideal S1x1x1024x256 .f32) c
      (ix4 0 0 k f) : EReal) = wu k ⟨c.val * 256 + f.val, by omega⟩)
    (ed : ∀ (c : Fin 11) (f : Fin 256) (j : Fin 1024), ((![d0, d1, d2, d3, d4, d5, d6, d7, d8, d9, d10] : Fin 11 → FVec Ideal S1x1x256x1024 .f32) c
      (ix4 0 0 f j) : EReal) = wd ⟨c.val * 256 + f.val, by omega⟩ j) (i : Fin 256) (j : Fin 1024) :
    steps h g0 g1 g2 g3 g4 g5 g6 g7 g8 g9 g10
        u0 u1 u2 u3 u4 u5 u6 u7 u8 u9 u10
        d0 d1 d2 d3 d4 d5 d6 d7 d8 d9 d10 (ix2 i j)
      = mlp (fun k => h (ix2 i k)) wg wu wd j := by
  unfold steps mlp
  simp only [step_apply]
  refine sum_chunks (fun f => unit (fun k => h (ix2 i k)) (fun k => wg k f) (fun k => wu k f) * wd f j) _ (zeros_apply i j)
    (fun c => ∑ f : Fin 256, unit (fun k => h (ix2 i k))
      (fun k => (![g0, g1, g2, g3, g4, g5, g6, g7, g8, g9, g10] : Fin 11 → FVec Ideal S1x1x1024x256 .f32) c (ix4 0 0 k f))
      (fun k => (![u0, u1, u2, u3, u4, u5, u6, u7, u8, u9, u10] : Fin 11 → FVec Ideal S1x1x1024x256 .f32) c (ix4 0 0 k f))
      * (![d0, d1, d2, d3, d4, d5, d6, d7, d8, d9, d10] : Fin 11 → FVec Ideal S1x1x256x1024 .f32) c (ix4 0 0 f j)) fun c => ?_
  refine Finset.sum_congr rfl fun f _ => ?_
  simp only [eg, eu, ed]

/-- Whether a grid point is the context's, as the body's comparison tells it. -/
theorem ctx_sge (n : Fin 33) :
    IntOp.cmpi CmpIPredicate.sge (BitVec.ofNat 32 n.val) 32#32 = if 32 ≤ n.val then 1#1 else 0#1 := by
  revert n; decide

theorem pick_eq (i : grid0.Coords) (lat ctx : FVec Ideal S256x1024 .f32) :
    pick i lat ctx = if 32 ≤ (i 0).val then ctx else lat := by
  unfold pick k0_pay4
  dsimp only [Scalar.cmpi, Scalar.select]
  rw [ctx_sge (i 0)]
  by_cases h : 32 ≤ (i 0).val
  · rw [if_pos h, if_pos h]; rfl
  · rw [if_neg h, if_neg h]; rfl

/-- An element of one half of the block. -/
theorem half_apply (i : grid0.Coords) (lat ctx : FVec Ideal S256x1024 .f32) (x2 : Vec Ideal S1x1x9x1024 .f32)
    (x3 x4 : Vec Ideal S1x1024 .f32) (x5 x6 : Vec Ideal S1x1x1024x2816 .f32) (x7 : Vec Ideal S1x1x2816x1024 .f32)
    (r : Fin 256) (j : Fin 1024) :
    half i lat ctx x2 x3 x4 x5 x6 x7 (ix2 r j) = rowOut (fun k => pick i lat ctx (ix2 r k))
      (fun k => x2 (ix4 0 0 0 k)) (fun k => x2 (ix4 0 0 1 k)) (fun k => x2 (ix4 0 0 2 k)) (fun k => x3 (ix2 0 k))
      (fun k => x4 (ix2 0 k)) (fun k f => x5 (ix4 0 0 k f)) (fun k f => x6 (ix4 0 0 k f)) (fun f j => x7 (ix4 0 0 f j)) j := by
  have c0 : ∀ k : Fin 1024, View.ld x2 r0_3 (ix4 0 0 0 k) = x2 (ix4 0 0 0 k) := fun k => by pointwise
  have c1 : ∀ k : Fin 1024, View.ld x2 r0_4 (ix4 0 0 0 k) = x2 (ix4 0 0 1 k) := fun k => by pointwise
  have c2 : ∀ k : Fin 1024, View.ld x2 r0_0 (ix4 0 0 0 k) = x2 (ix4 0 0 2 k) := fun k => by pointwise
  have p3 : ∀ k : Fin 1024, View.ld x3 r0_2 (ix2 0 k) = x3 (ix2 0 k) := fun k => by pointwise
  have p4 : ∀ k : Fin 1024, View.ld x4 r0_2 (ix2 0 k) = x4 (ix2 0 k) := fun k => by pointwise
  unfold half rowOut
  rw [finish_apply, c2, p4]
  congr 3
  refine congrFun (congrArg rms (funext fun k => ?_)) j
  rw [steps_apply _ _ _ _ _ _ _ _ _ _ _ _ _ _ _ _ _ _ _ _ _ _ _ _ _ _ _ _ _ _ _ _ _ _ (fun k f => x5 (ix4 0 0 k f))
    (fun k f => x6 (ix4 0 0 k f)) (fun f j => x7 (ix4 0 0 f j))]
  · refine congrFun (congrFun (congrFun (congrFun (congrArg mlp (funext fun d => ?_)) _) _) _) k
    rw [modulated_apply]
    simp only [c0, c1, p3]
  · intro c k f
    fin_cases c <;> pointwise
  · intro c k f
    fin_cases c <;> pointwise
  · intro c f j
    fin_cases c <;> pointwise

end Ffn

end
-- ==== Proof.Ffn.Array.lean ====
/- The feed-forward kernel's result array, element by element. -/
module

public import proofs.«01_k».proof.Proof.Ffn.Row
public import Idealize.ShloMosaic.Lib.Pipeline.ValueKit

@[expose] public section

noncomputable section

namespace Ffn

open Idealize.ShloMosaic Cert.FfnIdeal Cert.FfnIdeal.Gen Idealize.ShloMosaic.TcCoe
open Cert.FfnIdeal.Facts
open Idealize.ShloMosaic.Pipeline (Dat)

/-- The block's two halves, read at one row: the first piece holds rows 256 to 511, the second rows 0 to 255. -/
theorem canon_halves (hi lo : FVec Ideal S256x1024 .f32) (r : Fin 512) (j : Fin 1024) :
    View.canon [(⟨r0_5, hi⟩ : View.Piece (Elt Ideal) S512x1024 .f32), ⟨r0_1, lo⟩] (ix2 r j)
      = if h : r.val < 256 then lo (ix2 ⟨r.val, h⟩ j) else hi (ix2 ⟨r.val - 256, by omega⟩ j) := by
  by_cases h : r.val < 256
  · rw [dif_pos h, View.canon_cons_of_not_mem]
    · have e : ix2 r j = r0_1.emb (ix2 ⟨r.val, h⟩ j) := by
        funext a
        refine Fin.ext ?_
        fin_cases a
        · show r.val = 0 + 1 * r.val; omega
        · show j.val = 0 + 1 * j.val; omega
      rw [e, View.canon_cons_emb]
    · intro hm
      have := ((Rect.mem_set_unit (inb := inb_S512x1024_S256x1024_256_0).1 hm) 0).1
      have : 256 ≤ r.val := this
      omega
  · rw [dif_neg h]
    have e : ix2 r j = r0_5.emb (ix2 ⟨r.val - 256, by omega⟩ j) := by
      funext a
      refine Fin.ext ?_
      fin_cases a
      · show r.val = 256 + 1 * (r.val - 256); omega
      · show j.val = 0 + 1 * j.val; omega
    rw [e, View.canon_cons_emb]

/-- An element of a block of the output. -/
theorem block_apply (i : grid0.Coords) (x0 x1 : Vec Ideal S512x1024 .f32) (x2 : Vec Ideal S1x1x9x1024 .f32)
    (x3 x4 : Vec Ideal S1x1024 .f32) (x5 x6 : Vec Ideal S1x1x1024x2816 .f32) (x7 : Vec Ideal S1x1x2816x1024 .f32)
    (r : Fin 512) (j : Fin 1024) :
    out0_8 i x0 x1 x2 x3 x4 x5 x6 x7 (ix2 r j)
      = rowOut (fun k => if 32 ≤ (i 0).val then x1 (ix2 r k) else x0 (ix2 r k))
      (fun k => x2 (ix4 0 0 0 k)) (fun k => x2 (ix4 0 0 1 k)) (fun k => x2 (ix4 0 0 2 k)) (fun k => x3 (ix2 0 k))
      (fun k => x4 (ix2 0 k)) (fun k f => x5 (ix4 0 0 k f)) (fun k f => x6 (ix4 0 0 k f)) (fun f j => x7 (ix4 0 0 f j)) j := by
  rw [out_eq, canon_halves]
  by_cases h : r.val < 256
  · have e : ∀ (x : Vec Ideal S512x1024 .f32) (k : Fin 1024), View.ld x r0_1 (ix2 ⟨r.val, h⟩ k) = x (ix2 r k) := fun x k => by
      pointwise
    rw [dif_pos h, half_apply, pick_eq]
    congr 1
    funext k
    rw [← e x0, ← e x1]
    split <;> rfl
  · have e : ∀ (x : Vec Ideal S512x1024 .f32) (k : Fin 1024), View.ld x r0_5 (ix2 ⟨r.val - 256, by omega⟩ k) = x (ix2 r k) :=
      fun x k => by
        refine congrArg x ?_
        funext a
        refine Fin.ext ?_
        fin_cases a <;> simp [ix2] <;> omega
    rw [dif_neg h, half_apply, pick_eq]
    congr 1
    funext k
    rw [← e x0, ← e x1]
    split <;> rfl

/-- Row `R` of the latents followed by the context. -/
def row (x0 : S16384x1024.Idx → EReal) (x1 : S512x1024.Idx → EReal) (R : Fin 16896) (k : Fin 1024) : EReal :=
  if h : R.val < 16384 then x0 (ix2 ⟨R.val, h⟩ k) else x1 (ix2 ⟨R.val - 16384, by omega⟩ k)

/-- Vector `n` of the condition of row `R`: a latent row has its sequence's condition, a context row the third. -/
def cond (x2 : S2x8x9x1024.Idx → EReal) (R : Fin 16896) (n : Fin 9) (k : Fin 1024) : EReal :=
  x2 (ix4 0 ⟨R.val / 8192, by omega⟩ n k)

/-- The half feed-forward's result array as a function of the latents, the context, the conditions, the two gains and the
    three stacks of weights, of which it reads the first. -/
def G (x0 : S16384x1024.Idx → EReal) (x1 : S512x1024.Idx → EReal) (x2 : S2x8x9x1024.Idx → EReal) (x3 x4 : S1024.Idx → EReal)
    (x5 x6 : S2x2x1024x2816.Idx → EReal) (x7 : S2x2x2816x1024.Idx → EReal) : S16896x1024.Idx → EReal := fun I =>
  rowOut (row x0 x1 (I 0)) (cond x2 (I 0) 0) (cond x2 (I 0) 1) (cond x2 (I 0) 2) (fun k => x3 (ix1 k)) (fun k => x4 (ix1 k))
    (fun k f => x5 (ix4 0 0 k f)) (fun k f => x6 (ix4 0 0 k f)) (fun f j => x7 (ix4 0 0 f j)) (I 1)

/-- Where each window stands at a grid point: the output at the point itself, the latents with it up to point 31, the context
    at its only block, the conditions at the row the point's rows have, the gains and the weights at the first. -/
theorem idx_facts : ∀ t : Fin cfg0.N,
    win0_8.index t 0 = t.val ∧ win0_8.index t 1 = 0 ∧ ((grid0.coords t) 0).val = t.val
    ∧ win0_0.index t 0 = min t.val 31 ∧ win0_0.index t 1 = 0
    ∧ win0_1.index t 0 = 0 ∧ win0_1.index t 1 = 0
    ∧ win0_2.index t 0 = 0 ∧ win0_2.index t 1 = t.val / 16 ∧ win0_2.index t 2 = 0 ∧ win0_2.index t 3 = 0 :=
  (by decide +kernel : ∀ t : Fin grid0.N, _)

theorem idx_weights : ∀ t : Fin cfg0.N,
    win0_3.index t 0 = 0 ∧ win0_3.index t 1 = 0 ∧ win0_4.index t 0 = 0 ∧ win0_4.index t 1 = 0
    ∧ win0_5.index t 0 = 0 ∧ win0_5.index t 1 = 0 ∧ win0_5.index t 2 = 0 ∧ win0_5.index t 3 = 0
    ∧ win0_6.index t 0 = 0 ∧ win0_6.index t 1 = 0 ∧ win0_6.index t 2 = 0 ∧ win0_6.index t 3 = 0
    ∧ win0_7.index t 0 = 0 ∧ win0_7.index t 1 = 0 ∧ win0_7.index t 2 = 0 ∧ win0_7.index t 3 = 0 :=
  (by decide +kernel : ∀ t : Fin grid0.N, _)

variable (m : (ℓ : Loc nD τ sig) → Buf (Elt Ideal) ℓ)

/-- A vector seen as one row: element `k` of the row is element `k` of the vector. -/
theorem asRow_apply (x : FVec Ideal S1024 .f32) (k : Fin 1024) :
    shapeCast S1x1024 x shapeCasts_S1024_S1x1024 (ix2 0 k) = x (ix1 k) := by pointwise

/-- The first gain, as the kernel finds it. -/
theorem V_gain0 (c : Dev nD) (k : Fin 1024) :
    (V m c main_v0 : S1x1024.Idx → EReal) (ix2 0 k) = (m ((c : Thread nD τ).loc main_arg3) : S1024.Idx → EReal) (ix1 k) := by
  have e : (V m c main_v0 : S1x1024.Idx → EReal)
      = shapeCast S1x1024 (m ((c : Thread nD τ).loc main_arg3) : S1024.Idx → EReal) shapeCasts_S1024_S1x1024 := by
    show StableHlo.after hostOps0 _ _ = _
    rw [StableHlo.after_cons, StableHlo.after_cons, StableHlo.after_nil, StableHlo.reshape_result_ne _ _ _ _ _ _ _ (by decide),
      StableHlo.reshape_result]
    rfl
  rw [e]
  exact asRow_apply _ k

/-- The second gain, as the kernel finds it. -/
theorem V_gain1 (c : Dev nD) (k : Fin 1024) :
    (V m c main_v1 : S1x1024.Idx → EReal) (ix2 0 k) = (m ((c : Thread nD τ).loc main_arg4) : S1024.Idx → EReal) (ix1 k) := by
  have e : (V m c main_v1 : S1x1024.Idx → EReal)
      = shapeCast S1x1024 (m ((c : Thread nD τ).loc main_arg4) : S1024.Idx → EReal) shapeCasts_S1024_S1x1024 := by
    show StableHlo.after hostOps0 _ _ = _
    rw [StableHlo.after_cons, StableHlo.after_cons, StableHlo.after_nil, StableHlo.reshape_result,
      StableHlo.reshape_result_ne _ _ _ _ _ _ _ (by decide)]
    rfl
  rw [e]
  exact asRow_apply _ k

/-- The kernel's result array. -/
theorem final (c : Dev nD) (x0 : S16384x1024.Idx → EReal) (x1 : S512x1024.Idx → EReal) (x2 : S2x8x9x1024.Idx → EReal)
    (x3 x4 : S1024.Idx → EReal) (x5 x6 : S2x2x1024x2816.Idx → EReal) (x7 : S2x2x2816x1024.Idx → EReal)
    (h0 : m ((c : Thread nD τ).loc main_arg0) = x0) (h1 : m ((c : Thread nD τ).loc main_arg1) = x1)
    (h2 : m ((c : Thread nD τ).loc main_arg2) = x2) (h3 : m ((c : Thread nD τ).loc main_arg3) = x3)
    (h4 : m ((c : Thread nD τ).loc main_arg4) = x4) (h5 : m ((c : Thread nD τ).loc main_arg5) = x5)
    (h6 : m ((c : Thread nD τ).loc main_arg6) = x6) (h7 : m ((c : Thread nD τ).loc main_arg7) = x7) :
    (dats m 0 c).arrAt 8 cfg0.N = G x0 x1 x2 x3 x4 x5 x6 x7 := by
  refine (dats m 0 c).arrAt_eq_of_covers 8 _ (by decide +kernel) fun t hf y => ?_
  obtain ⟨f0, f1, f2, f3, f4, f5, f6, f7, f8, f9, f10⟩ := idx_facts t
  obtain ⟨w0, w1, w2, w3, w4, w5, w6, w7, w8, w9, w10, w11, w12, w13, w14, w15⟩ := idx_weights t
  have ht : t.val < 33 := t.isLt
  have e0 : ∀ x : S512x1024.Idx, (iblk m c 0 t : S512x1024.Idx → EReal) x = x0 ((win0_0.blk t).view.emb x) := fun x => by
    rw [← h0, ← V_main_arg0 m c]; rfl
  have e1 : ∀ x : S512x1024.Idx, (iblk m c 1 t : S512x1024.Idx → EReal) x = x1 ((win0_1.blk t).view.emb x) := fun x => by
    rw [← h1, ← V_main_arg1 m c]; rfl
  have e2 : ∀ x : S1x1x9x1024.Idx, (iblk m c 2 t : S1x1x9x1024.Idx → EReal) x = x2 ((win0_2.blk t).view.emb x) := fun x => by
    rw [← h2, ← V_main_arg2 m c]; rfl
  have e3 : ∀ k : Fin 1024, (iblk m c 3 t : S1x1024.Idx → EReal) (ix2 0 k) = x3 (ix1 k) := fun k => by
    rw [← h3, ← V_gain0 m c k]
    show (V m c main_v0 : S1x1024.Idx → EReal) ((win0_3.blk t).view.emb (ix2 0 k)) = _
    refine congrArg (V m c main_v0 : S1x1024.Idx → EReal) ?_
    blk_ext []
  have e4 : ∀ k : Fin 1024, (iblk m c 4 t : S1x1024.Idx → EReal) (ix2 0 k) = x4 (ix1 k) := fun k => by
    rw [← h4, ← V_gain1 m c k]
    show (V m c main_v1 : S1x1024.Idx → EReal) ((win0_4.blk t).view.emb (ix2 0 k)) = _
    refine congrArg (V m c main_v1 : S1x1024.Idx → EReal) ?_
    blk_ext []
  have e5 : ∀ x : S1x1x1024x2816.Idx, (iblk m c 5 t : S1x1x1024x2816.Idx → EReal) x = x5 ((win0_5.blk t).view.emb x) := fun x => by
    rw [← h5, ← V_main_arg5 m c]; rfl
  have e6 : ∀ x : S1x1x1024x2816.Idx, (iblk m c 6 t : S1x1x1024x2816.Idx → EReal) x = x6 ((win0_6.blk t).view.emb x) := fun x => by
    rw [← h6, ← V_main_arg6 m c]; rfl
  have e7 : ∀ x : S1x1x2816x1024.Idx, (iblk m c 7 t : S1x1x2816x1024.Idx → EReal) x = x7 ((win0_7.blk t).view.emb x) := fun x => by
    rw [← h7, ← V_main_arg7 m c]; rfl
  blk_simp
  rw [after0_8]
  obtain ⟨i, j, rfl⟩ : ∃ (i : Fin 512) (j : Fin 1024), y = ix2 i j := ⟨y 0, y 1, by funext a; fin_cases a <;> rfl⟩
  refine (block_apply _ _ _ _ _ _ _ _ _ i j).trans ?_
  have g0 : (((win0_8.blk t).view.emb (ix2 i j) 0 : Fin _) : ℕ) = t.val * 512 + i.val := by blk_simp [f0]
  have g1 : ((win0_8.blk t).view.emb (ix2 i j) 1 : Fin _) = j := by
    refine Fin.ext ?_
    have : (((win0_8.blk t).view.emb (ix2 i j) 1 : Fin _) : ℕ) = win0_8.index t 1 * 1024 + j.val := by blk_simp
    rw [this, f1]; omega
  have c2 : ∀ (n : Fin 9) (k : Fin 1024), (iblk m c 2 t : S1x1x9x1024.Idx → EReal) (ix4 0 0 n k)
      = cond x2 ((win0_8.blk t).view.emb (ix2 i j) 0) n k := fun n k => by
    rw [e2]
    unfold cond
    refine congrArg x2 ?_
    blk_ext [g0]
  have c5 : ∀ (k : Fin 1024) (f : Fin 2816), (iblk m c 5 t : S1x1x1024x2816.Idx → EReal) (ix4 0 0 k f) = x5 (ix4 0 0 k f) :=
    fun k f => by
      rw [e5]
      refine congrArg x5 ?_
      blk_ext []
  have c6 : ∀ (k : Fin 1024) (f : Fin 2816), (iblk m c 6 t : S1x1x1024x2816.Idx → EReal) (ix4 0 0 k f) = x6 (ix4 0 0 k f) :=
    fun k f => by
      rw [e6]
      refine congrArg x6 ?_
      blk_ext []
  have c7 : ∀ (f : Fin 2816) (k : Fin 1024), (iblk m c 7 t : S1x1x2816x1024.Idx → EReal) (ix4 0 0 f k) = x7 (ix4 0 0 f k) :=
    fun f k => by
      rw [e7]
      refine congrArg x7 ?_
      blk_ext []
  have cr : ∀ k : Fin 1024, (if 32 ≤ ((grid0.coords t) 0).val then (iblk m c 1 t : S512x1024.Idx → EReal) (ix2 i k)
      else (iblk m c 0 t : S512x1024.Idx → EReal) (ix2 i k)) = row x0 x1 ((win0_8.blk t).view.emb (ix2 i j) 0) k := fun k => by
    unfold row
    by_cases h : 32 ≤ t.val
    · rw [if_pos (by omega), dif_neg (by rw [g0]; omega), e1]
      refine congrArg x1 ?_
      blk_ext [g0]
    · rw [if_neg (by omega), dif_pos (by rw [g0]; omega), e0]
      refine congrArg x0 ?_
      blk_ext [g0]
  unfold G
  rw [g1]
  refine congrFun ?_ j
  refine congr (congr (congr (congr (congr (congr (congr (congr (congrArg rowOut (funext fun k => cr k)) (funext fun k => c2 0 k))
    (funext fun k => c2 1 k)) (funext fun k => c2 2 k)) (funext fun k => e3 k)) (funext fun k => e4 k))
    (funext fun k => funext fun f => c5 k f)) (funext fun k => funext fun f => c6 k f)) (funext fun f => funext fun k => c7 f k)

end Ffn

end
-- ==== Proof.Ffn.Reference.lean ====
/- The plain half feed-forward, element by element. -/
module

public import proofs.«01_k».proof.Proof.Ffn.Array
public import proofs.«01_k».proof.Proof.Gen.FfnReferenceIdeal.Read

@[expose] public section

noncomputable section

namespace Ffn.Reference

open Idealize.ShloMosaic Cert.FfnReferenceIdeal Cert.FfnReferenceIdeal.Gen Cert.FfnReferenceIdeal.Read

/-- The pattern of zero denotes zero. -/
theorem ofBits_zero : Ideal.ofBits .f32 0x00000000#32 = 0 := by
  simp [Ideal.ofBits, Ideal.ieee]

/-- The pattern of one denotes one. -/
theorem ofBits_one : Ideal.ofBits .f32 0x3F800000#32 = 1 := by
  simp [Ideal.ofBits, Ideal.ieee, -EReal.coe_mul]; norm_num

theorem wg_apply (x5 : S2x2x1024x2816.Idx → EReal) (k : Fin 1024) (f : Fin 2816) :
    (val_main_v1 (F := Ideal) x5 (ix2 k f) : EReal) = x5 (ix4 0 0 k f) := by
  rw [val_main_v1_apply, val_main_v0_apply]
  refine congrArg x5 ?_
  funext a; have := k.isLt; have := f.isLt; fin_cases a <;> refine Fin.ext ?_ <;> first | rfl | (simp [ix4, ix2] <;> omega)

theorem wu_apply (x6 : S2x2x1024x2816.Idx → EReal) (k : Fin 1024) (f : Fin 2816) :
    (val_main_v3 (F := Ideal) x6 (ix2 k f) : EReal) = x6 (ix4 0 0 k f) := by
  rw [val_main_v3_apply, val_main_v2_apply]
  refine congrArg x6 ?_
  funext a; have := k.isLt; have := f.isLt; fin_cases a <;> refine Fin.ext ?_ <;> first | rfl | (simp [ix4, ix2] <;> omega)

theorem wd_apply (x7 : S2x2x2816x1024.Idx → EReal) (f : Fin 2816) (k : Fin 1024) :
    (val_main_v5 (F := Ideal) x7 (ix2 f k) : EReal) = x7 (ix4 0 0 f k) := by
  rw [val_main_v5_apply, val_main_v4_apply]
  refine congrArg x7 ?_
  funext a; have := k.isLt; have := f.isLt; fin_cases a <;> refine Fin.ext ?_ <;> first | rfl | (simp [ix4, ix2] <;> omega)

namespace Lat

variable (x0 : S16384x1024.Idx → EReal) (x2 : S2x8x9x1024.Idx → EReal) (x3 x4 : S1024.Idx → EReal)
  (x5 x6 : S2x2x1024x2816.Idx → EReal) (x7 : S2x2x2816x1024.Idx → EReal)

/-- Row `r` of sequence `b` of the latents. -/
def X (b : Fin 2) (r : Fin 8192) (k : Fin 1024) : EReal := x0 (ix2 ⟨b.val * 8192 + r.val, by omega⟩ k)

/-- Vector `n` of the condition of the latents of sequence `b`. -/
def C (b : Fin 2) (n : Fin 9) (k : Fin 1024) : EReal := x2 (ix4 0 ⟨b.val, by omega⟩ n k)

theorem x_apply (b : Fin 2) (r : Fin 8192) (k : Fin 1024) :
    (val_main_v6 (F := Ideal) x0 (ix3 b r k) : EReal) = X x0 b r k := by
  rw [val_main_v6_apply]
  refine congrArg x0 ?_
  funext a; have := b.isLt; have := r.isLt; have := k.isLt; fin_cases a <;> refine Fin.ext ?_ <;> first | rfl | (simp [ix4, ix3, ix2] <;> omega)

theorem shift_apply (b : Fin 2) (r : Fin 8192) (k : Fin 1024) :
    (val_main_v33 (F := Ideal) x2 (ix3 b r k) : EReal) = C x2 b 0 k := by
  rw [val_main_v33_apply, val_main_v9_apply, val_main_v8_apply, val_main_v7_apply]
  refine congrArg x2 ?_
  funext a; have := b.isLt; have := k.isLt; fin_cases a <;> refine Fin.ext ?_ <;> first | rfl | (simp [ix4, ix3, ix2] <;> omega)

theorem scale_apply (b : Fin 2) (r : Fin 8192) (k : Fin 1024) :
    (val_main_v31 (F := Ideal) x2 (ix3 b r k) : EReal) = Ideal.ofBits .f32 0x3F800000#32 + C x2 b 1 k := by
  rw [val_main_v31_apply, val_main_v30_apply, val_main_v29_apply, val_main_cst_2_apply, val_main_v12_apply, val_main_v11_apply, val_main_v10_apply]
  refine congrArg (fun z : EReal => Ideal.ofBits .f32 0x3F800000#32 + z) (congrArg x2 ?_)
  funext a; have := b.isLt; have := k.isLt; fin_cases a <;> refine Fin.ext ?_ <;> first | rfl | (simp [ix4, ix3, ix2] <;> omega)

theorem gate_apply (b : Fin 2) (r : Fin 8192) (k : Fin 1024) :
    (val_main_v55 (F := Ideal) x2 (ix3 b r k) : EReal) = Ideal.ofBits .f32 0x3F000000#32 * C x2 b 2 k := by
  rw [val_main_v55_apply, val_main_v41_apply, val_main_v40_apply, val_main_cst_3_apply, val_main_v15_apply, val_main_v14_apply, val_main_v13_apply]
  refine congrArg (fun z : EReal => Ideal.ofBits .f32 0x3F000000#32 * z) (congrArg x2 ?_)
  funext a; have := b.isLt; have := k.isLt; fin_cases a <;> refine Fin.ext ?_ <;> first | rfl | (simp [ix4, ix3, ix2] <;> omega)

theorem pre_apply (b : Fin 2) (r : Fin 8192) (k : Fin 1024) :
    (val_main_v27 (F := Ideal) x3 (ix3 b r k) : EReal) = x3 (ix1 k) := by
  rw [val_main_v27_apply, val_main_v26_apply]
  refine congrArg x3 ?_
  funext a; fin_cases a; rfl

theorem post_apply (b : Fin 2) (r : Fin 8192) (k : Fin 1024) :
    (val_main_v53 (F := Ideal) x4 (ix3 b r k) : EReal) = x4 (ix1 k) := by
  rw [val_main_v53_apply, val_main_v52_apply]
  refine congrArg x4 ?_
  funext a; fin_cases a; rfl

/-- The rows divided by the root of their mean square. -/
theorem rms_apply (b : Fin 2) (r : Fin 8192) (k : Fin 1024) :
    (val_main_v25 (F := Ideal) x0 (ix3 b r k) : EReal) = rms (X x0 b r) k := by
  rw [val_main_v25_apply, val_main_v24_apply, val_main_v23_apply, val_main_v22_apply, val_main_v20_apply, val_main_v18_apply, val_main_v17_apply, val_main_v19_apply, val_main_v21_apply, val_main_cst_apply, val_main_cst_0_apply, val_main_cst_1_apply, x_apply]
  have e : ∀ d : Fin 1024, idx_main_v17 (idx_main_v18 (idx_main_v24 (ix3 b r k))) d = ix3 b r d := fun d => by
    funext a; fin_cases a <;> rfl
  simp only [e, val_main_v16_apply, x_apply]
  show X x0 b r k * Ideal.rsqrt (Ideal.div (Ideal.ofBits .f32 0x00000000#32 + ∑ d, X x0 b r d * X x0 b r d) _ + _) = _
  rw [ofBits_zero, zero_add]
  rfl

/-- The modulated rows. -/
theorem hidden_apply (b : Fin 2) (r : Fin 8192) (k : Fin 1024) :
    (val_main_v34 (F := Ideal) x0 x2 x3 (ix3 b r k) : EReal)
      = hidden (X x0 b r) (fun k => x3 (ix1 k)) (C x2 b 0) (C x2 b 1) k := by
  rw [val_main_v34_apply, val_main_v32_apply, val_main_v28_apply, rms_apply, pre_apply, scale_apply, shift_apply]
  unfold hidden
  rfl

theorem gateUp_apply (b : Fin 2) (r : Fin 8192) (f : Fin 2816) :
    (val_main_v35 (F := Ideal) x0 x2 x3 x5 (ix3 b r f) : EReal)
      = ∑ k, hidden (X x0 b r) (fun k => x3 (ix1 k)) (C x2 b 0) (C x2 b 1) k * x5 (ix4 0 0 k f) := by
  rw [val_main_v35_apply]
  refine Finset.sum_congr rfl fun k _ => ?_
  have e : lidx_main_v35 (ix3 b r f) k = ix3 b r k := by funext a; fin_cases a <;> rfl
  have e' : ridx_main_v35 (ix3 b r f) k = ix2 k f := by funext a; fin_cases a <;> rfl
  rw [e, e', hidden_apply, wg_apply]

theorem up_apply (b : Fin 2) (r : Fin 8192) (f : Fin 2816) :
    (val_main_v37 (F := Ideal) x0 x2 x3 x6 (ix3 b r f) : EReal)
      = ∑ k, hidden (X x0 b r) (fun k => x3 (ix1 k)) (C x2 b 0) (C x2 b 1) k * x6 (ix4 0 0 k f) := by
  rw [val_main_v37_apply]
  refine Finset.sum_congr rfl fun k _ => ?_
  have e : lidx_main_v37 (ix3 b r f) k = ix3 b r k := by funext a; fin_cases a <;> rfl
  have e' : ridx_main_v37 (ix3 b r f) k = ix2 k f := by funext a; fin_cases a <;> rfl
  rw [e, e', hidden_apply, wu_apply]

/-- The gated units. -/
theorem unit_apply (b : Fin 2) (r : Fin 8192) (f : Fin 2816) :
    (val_main_v38 (F := Ideal) x0 x2 x3 x5 x6 (ix3 b r f) : EReal)
      = unit (hidden (X x0 b r) (fun k => x3 (ix1 k)) (C x2 b 0) (C x2 b 1)) (fun k => x5 (ix4 0 0 k f))
          (fun k => x6 (ix4 0 0 k f)) := by
  rw [val_main_v38_apply, val_main_v36_apply, val_main_call0_v5_apply, val_main_call0_v4_apply, val_main_call0_cst_0_apply, val_main_call0_v3_apply, val_main_call0_v2_apply, val_main_call0_cst_apply, val_main_call0_v1_apply, val_main_call0_v0_apply, gateUp_apply, up_apply]
  unfold unit Ideal.logistic
  rw [← ofBits_one]
  rfl

/-- The network's rows. -/
theorem mlp_apply (b : Fin 2) (r : Fin 8192) (j : Fin 1024) :
    (val_main_v39 (F := Ideal) x0 x2 x3 x5 x6 x7 (ix3 b r j) : EReal)
      = mlp (hidden (X x0 b r) (fun k => x3 (ix1 k)) (C x2 b 0) (C x2 b 1)) (fun k f => x5 (ix4 0 0 k f))
          (fun k f => x6 (ix4 0 0 k f)) (fun f j => x7 (ix4 0 0 f j)) j := by
  rw [val_main_v39_apply]
  refine Finset.sum_congr rfl fun f _ => ?_
  have e : lidx_main_v39 (ix3 b r j) f = ix3 b r f := by funext a; fin_cases a <;> rfl
  have e' : ridx_main_v39 (ix3 b r j) f = ix2 f j := by funext a; fin_cases a <;> rfl
  rw [e, e', unit_apply, wd_apply]

/-- The network's rows divided by the root of their mean square. -/
theorem rmsOut_apply (b : Fin 2) (r : Fin 8192) (j : Fin 1024) :
    (val_main_v51 (F := Ideal) x0 x2 x3 x5 x6 x7 (ix3 b r j) : EReal)
      = rms (mlp (hidden (X x0 b r) (fun k => x3 (ix1 k)) (C x2 b 0) (C x2 b 1)) (fun k f => x5 (ix4 0 0 k f))
          (fun k f => x6 (ix4 0 0 k f)) (fun f j => x7 (ix4 0 0 f j))) j := by
  rw [val_main_v51_apply, val_main_v50_apply, val_main_v49_apply, val_main_v48_apply, val_main_v46_apply, val_main_v44_apply, val_main_v43_apply, val_main_v45_apply, val_main_v47_apply, val_main_cst_4_apply, val_main_cst_5_apply, val_main_cst_6_apply]
  have e : ∀ d : Fin 1024, idx_main_v43 (idx_main_v44 (idx_main_v50 (ix3 b r j))) d = ix3 b r d := fun d => by
    funext a; fin_cases a <;> rfl
  simp only [e, val_main_v42_apply, mlp_apply]
  generalize mlp (hidden (X x0 b r) (fun k => x3 (ix1 k)) (C x2 b 0) (C x2 b 1)) (fun k f => x5 (ix4 0 0 k f))
    (fun k f => x6 (ix4 0 0 k f)) (fun f j => x7 (ix4 0 0 f j)) = y
  show y j * Ideal.rsqrt (Ideal.div (Ideal.ofBits .f32 0x00000000#32 + ∑ d, y d * y d) _ + _) = _
  rw [ofBits_zero, zero_add]
  rfl

/-- The result's rows. -/
theorem out_apply (b : Fin 2) (r : Fin 8192) (j : Fin 1024) :
    (val_main_v57 (F := Ideal) x0 x2 x3 x4 x5 x6 x7 (ix3 b r j) : EReal)
      = rowOut (X x0 b r) (C x2 b 0) (C x2 b 1) (C x2 b 2) (fun k => x3 (ix1 k)) (fun k => x4 (ix1 k))
          (fun k f => x5 (ix4 0 0 k f)) (fun k f => x6 (ix4 0 0 k f)) (fun f j => x7 (ix4 0 0 f j)) j := by
  rw [val_main_v57_apply, val_main_v56_apply, val_main_v54_apply, x_apply, gate_apply, rmsOut_apply, post_apply]
  unfold rowOut
  rfl

end Lat

namespace Ctx

variable (x1 : S512x1024.Idx → EReal) (x2 : S2x8x9x1024.Idx → EReal) (x3 x4 : S1024.Idx → EReal)
  (x5 x6 : S2x2x1024x2816.Idx → EReal) (x7 : S2x2x2816x1024.Idx → EReal)

/-- Row `r` of sequence `b` of the context. -/
def X (b : Fin 2) (r : Fin 256) (k : Fin 1024) : EReal := x1 (ix2 ⟨b.val * 256 + r.val, by omega⟩ k)

/-- Vector `n` of the condition of the context of sequence `b`. -/
def C (b : Fin 2) (n : Fin 9) (k : Fin 1024) : EReal := x2 (ix4 0 2 n k)

theorem x_apply (b : Fin 2) (r : Fin 256) (k : Fin 1024) :
    (val_main_v58 (F := Ideal) x1 (ix3 b r k) : EReal) = X x1 b r k := by
  rw [val_main_v58_apply]
  refine congrArg x1 ?_
  funext a; have := b.isLt; have := r.isLt; have := k.isLt; fin_cases a <;> refine Fin.ext ?_ <;> first | rfl | (simp [ix4, ix3, ix2] <;> omega)

theorem shift_apply (b : Fin 2) (r : Fin 256) (k : Fin 1024) :
    (val_main_v84 (F := Ideal) x2 (ix3 b r k) : EReal) = C x2 b 0 k := by
  rw [val_main_v84_apply, val_main_v83_apply, val_main_v60_apply, val_main_v59_apply]
  refine congrArg x2 ?_
  funext a; have := b.isLt; have := k.isLt; fin_cases a <;> refine Fin.ext ?_ <;> first | rfl | (simp [ix4, ix3, ix2] <;> omega)

theorem scale_apply (b : Fin 2) (r : Fin 256) (k : Fin 1024) :
    (val_main_v81 (F := Ideal) x2 (ix3 b r k) : EReal) = Ideal.ofBits .f32 0x3F800000#32 + C x2 b 1 k := by
  rw [val_main_v81_apply, val_main_v80_apply, val_main_v79_apply, val_main_v78_apply, val_main_cst_10_apply, val_main_v62_apply, val_main_v61_apply]
  refine congrArg (fun z : EReal => Ideal.ofBits .f32 0x3F800000#32 + z) (congrArg x2 ?_)
  funext a; have := b.isLt; have := k.isLt; fin_cases a <;> refine Fin.ext ?_ <;> first | rfl | (simp [ix4, ix3, ix2] <;> omega)

theorem gate_apply (b : Fin 2) (r : Fin 256) (k : Fin 1024) :
    (val_main_v107 (F := Ideal) x2 (ix3 b r k) : EReal) = Ideal.ofBits .f32 0x3F000000#32 * C x2 b 2 k := by
  rw [val_main_v107_apply, val_main_v106_apply, val_main_v92_apply, val_main_v91_apply, val_main_cst_11_apply, val_main_v64_apply, val_main_v63_apply]
  refine congrArg (fun z : EReal => Ideal.ofBits .f32 0x3F000000#32 * z) (congrArg x2 ?_)
  funext a; have := b.isLt; have := k.isLt; fin_cases a <;> refine Fin.ext ?_ <;> first | rfl | (simp [ix4, ix3, ix2] <;> omega)

theorem pre_apply (b : Fin 2) (r : Fin 256) (k : Fin 1024) :
    (val_main_v76 (F := Ideal) x3 (ix3 b r k) : EReal) = x3 (ix1 k) := by
  rw [val_main_v76_apply, val_main_v75_apply]
  refine congrArg x3 ?_
  funext a; fin_cases a; rfl

theorem post_apply (b : Fin 2) (r : Fin 256) (k : Fin 1024) :
    (val_main_v104 (F := Ideal) x4 (ix3 b r k) : EReal) = x4 (ix1 k) := by
  rw [val_main_v104_apply, val_main_v103_apply]
  refine congrArg x4 ?_
  funext a; fin_cases a; rfl

/-- The rows divided by the root of their mean square. -/
theorem rms_apply (b : Fin 2) (r : Fin 256) (k : Fin 1024) :
    (val_main_v74 (F := Ideal) x1 (ix3 b r k) : EReal) = rms (X x1 b r) k := by
  rw [val_main_v74_apply, val_main_v73_apply, val_main_v72_apply, val_main_v71_apply, val_main_v69_apply, val_main_v67_apply, val_main_v66_apply, val_main_v68_apply, val_main_v70_apply, val_main_cst_7_apply, val_main_cst_8_apply, val_main_cst_9_apply, x_apply]
  have e : ∀ d : Fin 1024, idx_main_v66 (idx_main_v67 (idx_main_v73 (ix3 b r k))) d = ix3 b r d := fun d => by
    funext a; fin_cases a <;> rfl
  simp only [e, val_main_v65_apply, x_apply]
  show X x1 b r k * Ideal.rsqrt (Ideal.div (Ideal.ofBits .f32 0x00000000#32 + ∑ d, X x1 b r d * X x1 b r d) _ + _) = _
  rw [ofBits_zero, zero_add]
  rfl

/-- The modulated rows. -/
theorem hidden_apply (b : Fin 2) (r : Fin 256) (k : Fin 1024) :
    (val_main_v85 (F := Ideal) x1 x2 x3 (ix3 b r k) : EReal)
      = hidden (X x1 b r) (fun k => x3 (ix1 k)) (C x2 b 0) (C x2 b 1) k := by
  rw [val_main_v85_apply, val_main_v82_apply, val_main_v77_apply, rms_apply, pre_apply, scale_apply, shift_apply]
  unfold hidden
  rfl

theorem gateUp_apply (b : Fin 2) (r : Fin 256) (f : Fin 2816) :
    (val_main_v86 (F := Ideal) x1 x2 x3 x5 (ix3 b r f) : EReal)
      = ∑ k, hidden (X x1 b r) (fun k => x3 (ix1 k)) (C x2 b 0) (C x2 b 1) k * x5 (ix4 0 0 k f) := by
  rw [val_main_v86_apply]
  refine Finset.sum_congr rfl fun k _ => ?_
  have e : lidx_main_v86 (ix3 b r f) k = ix3 b r k := by funext a; fin_cases a <;> rfl
  have e' : ridx_main_v86 (ix3 b r f) k = ix2 k f := by funext a; fin_cases a <;> rfl
  rw [e, e', hidden_apply, wg_apply]

theorem up_apply (b : Fin 2) (r : Fin 256) (f : Fin 2816) :
    (val_main_v88 (F := Ideal) x1 x2 x3 x6 (ix3 b r f) : EReal)
      = ∑ k, hidden (X x1 b r) (fun k => x3 (ix1 k)) (C x2 b 0) (C x2 b 1) k * x6 (ix4 0 0 k f) := by
  rw [val_main_v88_apply]
  refine Finset.sum_congr rfl fun k _ => ?_
  have e : lidx_main_v88 (ix3 b r f) k = ix3 b r k := by funext a; fin_cases a <;> rfl
  have e' : ridx_main_v88 (ix3 b r f) k = ix2 k f := by funext a; fin_cases a <;> rfl
  rw [e, e', hidden_apply, wu_apply]

/-- The gated units. -/
theorem unit_apply (b : Fin 2) (r : Fin 256) (f : Fin 2816) :
    (val_main_v89 (F := Ideal) x1 x2 x3 x5 x6 (ix3 b r f) : EReal)
      = unit (hidden (X x1 b r) (fun k => x3 (ix1 k)) (C x2 b 0) (C x2 b 1)) (fun k => x5 (ix4 0 0 k f))
          (fun k => x6 (ix4 0 0 k f)) := by
  rw [val_main_v89_apply, val_main_v87_apply, val_main_call1_v5_apply, val_main_call1_v4_apply, val_main_call1_cst_0_apply, val_main_call1_v3_apply, val_main_call1_v2_apply, val_main_call1_cst_apply, val_main_call1_v1_apply, val_main_call1_v0_apply, gateUp_apply, up_apply]
  unfold unit Ideal.logistic
  rw [← ofBits_one]
  rfl

/-- The network's rows. -/
theorem mlp_apply (b : Fin 2) (r : Fin 256) (j : Fin 1024) :
    (val_main_v90 (F := Ideal) x1 x2 x3 x5 x6 x7 (ix3 b r j) : EReal)
      = mlp (hidden (X x1 b r) (fun k => x3 (ix1 k)) (C x2 b 0) (C x2 b 1)) (fun k f => x5 (ix4 0 0 k f))
          (fun k f => x6 (ix4 0 0 k f)) (fun f j => x7 (ix4 0 0 f j)) j := by
  rw [val_main_v90_apply]
  refine Finset.sum_congr rfl fun f _ => ?_
  have e : lidx_main_v90 (ix3 b r j) f = ix3 b r f := by funext a; fin_cases a <;> rfl
  have e' : ridx_main_v90 (ix3 b r j) f = ix2 f j := by funext a; fin_cases a <;> rfl
  rw [e, e', unit_apply, wd_apply]

/-- The network's rows divided by the root of their mean square. -/
theorem rmsOut_apply (b : Fin 2) (r : Fin 256) (j : Fin 1024) :
    (val_main_v102 (F := Ideal) x1 x2 x3 x5 x6 x7 (ix3 b r j) : EReal)
      = rms (mlp (hidden (X x1 b r) (fun k => x3 (ix1 k)) (C x2 b 0) (C x2 b 1)) (fun k f => x5 (ix4 0 0 k f))
          (fun k f => x6 (ix4 0 0 k f)) (fun f j => x7 (ix4 0 0 f j))) j := by
  rw [val_main_v102_apply, val_main_v101_apply, val_main_v100_apply, val_main_v99_apply, val_main_v97_apply, val_main_v95_apply, val_main_v94_apply, val_main_v96_apply, val_main_v98_apply, val_main_cst_12_apply, val_main_cst_13_apply, val_main_cst_14_apply]
  have e : ∀ d : Fin 1024, idx_main_v94 (idx_main_v95 (idx_main_v101 (ix3 b r j))) d = ix3 b r d := fun d => by
    funext a; fin_cases a <;> rfl
  simp only [e, val_main_v93_apply, mlp_apply]
  generalize mlp (hidden (X x1 b r) (fun k => x3 (ix1 k)) (C x2 b 0) (C x2 b 1)) (fun k f => x5 (ix4 0 0 k f))
    (fun k f => x6 (ix4 0 0 k f)) (fun f j => x7 (ix4 0 0 f j)) = y
  show y j * Ideal.rsqrt (Ideal.div (Ideal.ofBits .f32 0x00000000#32 + ∑ d, y d * y d) _ + _) = _
  rw [ofBits_zero, zero_add]
  rfl

/-- The result's rows. -/
theorem out_apply (b : Fin 2) (r : Fin 256) (j : Fin 1024) :
    (val_main_v109 (F := Ideal) x1 x2 x3 x4 x5 x6 x7 (ix3 b r j) : EReal)
      = rowOut (X x1 b r) (C x2 b 0) (C x2 b 1) (C x2 b 2) (fun k => x3 (ix1 k)) (fun k => x4 (ix1 k))
          (fun k f => x5 (ix4 0 0 k f)) (fun k f => x6 (ix4 0 0 k f)) (fun f j => x7 (ix4 0 0 f j)) j := by
  rw [val_main_v109_apply, val_main_v108_apply, val_main_v105_apply, x_apply, gate_apply, rmsOut_apply, post_apply]
  unfold rowOut
  rfl

end Ctx

/-- The reference's result is the kernel's. -/
theorem result (x0 : S16384x1024.Idx → EReal) (x1 : S512x1024.Idx → EReal) (x2 : S2x8x9x1024.Idx → EReal)
    (x3 x4 : S1024.Idx → EReal) (x5 x6 : S2x2x1024x2816.Idx → EReal) (x7 : S2x2x2816x1024.Idx → EReal) :
    val_main_v112 (F := Ideal) x0 x1 x2 x3 x4 x5 x6 x7 = G x0 x1 x2 x3 x4 x5 x6 x7 := by
  funext I
  obtain ⟨R, j, rfl⟩ : ∃ (R : Fin 16896) (j : Fin 1024), I = ix2 R j := ⟨I 0, I 1, by funext a; fin_cases a <;> rfl⟩
  have hj := j.isLt
  have hR := R.isLt
  show _ = rowOut (row x0 x1 R) (cond x2 R 0) (cond x2 R 1) (cond x2 R 2) (fun k => x3 (ix1 k)) (fun k => x4 (ix1 k))
    (fun k f => x5 (ix4 0 0 k f)) (fun k f => x6 (ix4 0 0 k f)) (fun f j => x7 (ix4 0 0 f j)) j
  by_cases h : R.val < 16384
  · have e : (val_main_v112 (F := Ideal) x0 x1 x2 x3 x4 x5 x6 x7 (ix2 R j) : EReal)
        = val_main_v110 (F := Ideal) x0 x2 x3 x4 x5 x6 x7 (ix2 ⟨R.val, h⟩ j) := by
      unfold val_main_v112
      generalize val_main_v110 (F := Ideal) x0 x2 x3 x4 x5 x6 x7 = a
      generalize val_main_v111 (F := Ideal) x1 x2 x3 x4 x5 x6 x7 = b
      pointwise
      rw [dif_pos h]
    have ei : idx_main_v110 (ix2 ⟨R.val, h⟩ j) = ix3 ⟨R.val / 8192, by omega⟩ ⟨R.val % 8192, by omega⟩ j := by
      funext a
      fin_cases a <;> refine Fin.ext ?_ <;> simp [ix3, ix2] <;> omega
    rw [e, val_main_v110_apply, ei, Lat.out_apply]
    have ex : Lat.X x0 ⟨R.val / 8192, by omega⟩ ⟨R.val % 8192, by omega⟩ = row x0 x1 R := funext fun k => by
      unfold Lat.X row
      rw [dif_pos h]
      refine congrArg x0 (congrArg (fun z => ix2 z k) (Fin.ext ?_))
      show R.val / 8192 * 8192 + R.val % 8192 = R.val
      omega
    rw [ex]
    rfl
  · have e : (val_main_v112 (F := Ideal) x0 x1 x2 x3 x4 x5 x6 x7 (ix2 R j) : EReal)
        = val_main_v111 (F := Ideal) x1 x2 x3 x4 x5 x6 x7 (ix2 ⟨R.val - 16384, by omega⟩ j) := by
      unfold val_main_v112
      generalize val_main_v110 (F := Ideal) x0 x2 x3 x4 x5 x6 x7 = a
      generalize val_main_v111 (F := Ideal) x1 x2 x3 x4 x5 x6 x7 = b
      pointwise
      rw [dif_neg h]
    have ei : idx_main_v111 (ix2 ⟨R.val - 16384, by omega⟩ j)
        = ix3 ⟨(R.val - 16384) / 256, by omega⟩ ⟨(R.val - 16384) % 256, by omega⟩ j := by
      funext a
      fin_cases a <;> refine Fin.ext ?_ <;> simp [ix3, ix2] <;> omega
    rw [e, val_main_v111_apply, ei, Ctx.out_apply]
    have ex : Ctx.X x1 ⟨(R.val - 16384) / 256, by omega⟩ ⟨(R.val - 16384) % 256, by omega⟩ = row x0 x1 R := funext fun k => by
      unfold Ctx.X row
      rw [dif_neg h]
      refine congrArg x1 (congrArg (fun z => ix2 z k) (Fin.ext ?_))
      show (R.val - 16384) / 256 * 256 + (R.val - 16384) % 256 = R.val - 16384
      omega
    have ec : ∀ n : Fin 9, Ctx.C x2 ⟨(R.val - 16384) / 256, by omega⟩ n = cond x2 R n := fun n => funext fun k => by
      unfold Ctx.C cond
      refine congrArg x2 (congrArg (fun z => ix4 0 z n k) (Fin.ext ?_))
      show 2 = R.val / 8192
      omega
    rw [ex, ec, ec, ec]

end Ffn.Reference

end
-- ==== Proof.Ffn.Claims.lean ====
/- The feed-forward's claims, each from the modules before: the reference's frame and the equality of the kernel's result
   with the reference's. -/
module

public import proofs.«01_k».proof.Defs
public import proofs.«01_k».proof.Proof.Ffn.Reference
public import proofs.«01_k».proof.Proof.Gen.Ffn.Frame
public import proofs.«01_k».proof.Proof.Gen.FfnIdeal.Frame
public import proofs.«01_k».proof.Proof.Gen.FfnReferenceIdeal.Run
public import proofs.«01_k».proof.Proof.Gen.FfnReferenceIdeal.Read

@[expose] public section

noncomputable section

namespace Ffn.Claims

open Idealize.ShloMosaic Idealize.SL.Sem

/-- The reference of the half feed-forward terminates with its arguments unchanged and every counter at zero. -/
theorem frame_reference (m : (ℓ : Loc Cert.FfnReferenceIdeal.nD Cert.FfnReferenceIdeal.τ Cert.FfnReferenceIdeal.sig) → Buf (Elt Ideal) ℓ)
    (ρ : Dev Cert.FfnReferenceIdeal.nD → PrngReg) :
    θ_run (Cert.FfnReferenceIdeal.defs (F := Ideal)) (onTc (τ := Cert.FfnReferenceIdeal.τ) (Cert.FfnReferenceIdeal.main (F := Ideal)))
      ⟨m, fun _ => 0, ρ⟩ fun r => (∀ c : Dev Cert.FfnReferenceIdeal.nD,
        r.2.mem ((c.tc : Thread Cert.FfnReferenceIdeal.nD Cert.FfnReferenceIdeal.τ).loc Cert.FfnReferenceIdeal.main_arg0)
            = m ((c.tc : Thread Cert.FfnReferenceIdeal.nD Cert.FfnReferenceIdeal.τ).loc Cert.FfnReferenceIdeal.main_arg0)
        ∧ r.2.mem ((c.tc : Thread Cert.FfnReferenceIdeal.nD Cert.FfnReferenceIdeal.τ).loc Cert.FfnReferenceIdeal.main_arg1)
            = m ((c.tc : Thread Cert.FfnReferenceIdeal.nD Cert.FfnReferenceIdeal.τ).loc Cert.FfnReferenceIdeal.main_arg1)
        ∧ r.2.mem ((c.tc : Thread Cert.FfnReferenceIdeal.nD Cert.FfnReferenceIdeal.τ).loc Cert.FfnReferenceIdeal.main_arg2)
            = m ((c.tc : Thread Cert.FfnReferenceIdeal.nD Cert.FfnReferenceIdeal.τ).loc Cert.FfnReferenceIdeal.main_arg2)
        ∧ r.2.mem ((c.tc : Thread Cert.FfnReferenceIdeal.nD Cert.FfnReferenceIdeal.τ).loc Cert.FfnReferenceIdeal.main_arg3)
            = m ((c.tc : Thread Cert.FfnReferenceIdeal.nD Cert.FfnReferenceIdeal.τ).loc Cert.FfnReferenceIdeal.main_arg3)
        ∧ r.2.mem ((c.tc : Thread Cert.FfnReferenceIdeal.nD Cert.FfnReferenceIdeal.τ).loc Cert.FfnReferenceIdeal.main_arg4)
            = m ((c.tc : Thread Cert.FfnReferenceIdeal.nD Cert.FfnReferenceIdeal.τ).loc Cert.FfnReferenceIdeal.main_arg4)
        ∧ r.2.mem ((c.tc : Thread Cert.FfnReferenceIdeal.nD Cert.FfnReferenceIdeal.τ).loc Cert.FfnReferenceIdeal.main_arg5)
            = m ((c.tc : Thread Cert.FfnReferenceIdeal.nD Cert.FfnReferenceIdeal.τ).loc Cert.FfnReferenceIdeal.main_arg5)
        ∧ r.2.mem ((c.tc : Thread Cert.FfnReferenceIdeal.nD Cert.FfnReferenceIdeal.τ).loc Cert.FfnReferenceIdeal.main_arg6)
            = m ((c.tc : Thread Cert.FfnReferenceIdeal.nD Cert.FfnReferenceIdeal.τ).loc Cert.FfnReferenceIdeal.main_arg6)
        ∧ r.2.mem ((c.tc : Thread Cert.FfnReferenceIdeal.nD Cert.FfnReferenceIdeal.τ).loc Cert.FfnReferenceIdeal.main_arg7)
            = m ((c.tc : Thread Cert.FfnReferenceIdeal.nD Cert.FfnReferenceIdeal.τ).loc Cert.FfnReferenceIdeal.main_arg7))
      ∧ r.2.sem = fun _ => 0 :=
  (θ_run Cert.FfnReferenceIdeal.defs _ _).mono
    (fun r h => ⟨fun c => (h c).2, sem_eq_zero_of_no_sems (by decide) r.2⟩)
    (Cert.FfnReferenceIdeal.Value.run (F := Ideal) m ρ)

/-- From memories that agree on the arguments, the kernel and the reference end with the same result: every row plus half
    its condition's gate times the normalised feed-forward network of the modulated row. -/
theorem algebraic : Cert.algebraic_FfnIdeal_FfnReferenceIdeal := by
  intro m g m' g' _ hag
  refine ⟨fun c => G (m ((c.tc : Thread Cert.FfnIdeal.nD Cert.FfnIdeal.τ).loc Cert.FfnIdeal.main_arg0))
      (m ((c.tc : Thread Cert.FfnIdeal.nD Cert.FfnIdeal.τ).loc Cert.FfnIdeal.main_arg1))
      (m ((c.tc : Thread Cert.FfnIdeal.nD Cert.FfnIdeal.τ).loc Cert.FfnIdeal.main_arg2))
      (m ((c.tc : Thread Cert.FfnIdeal.nD Cert.FfnIdeal.τ).loc Cert.FfnIdeal.main_arg3))
      (m ((c.tc : Thread Cert.FfnIdeal.nD Cert.FfnIdeal.τ).loc Cert.FfnIdeal.main_arg4))
      (m ((c.tc : Thread Cert.FfnIdeal.nD Cert.FfnIdeal.τ).loc Cert.FfnIdeal.main_arg5))
      (m ((c.tc : Thread Cert.FfnIdeal.nD Cert.FfnIdeal.τ).loc Cert.FfnIdeal.main_arg6))
      (m ((c.tc : Thread Cert.FfnIdeal.nD Cert.FfnIdeal.τ).loc Cert.FfnIdeal.main_arg7)), ?_, ?_⟩
  · refine (θ_run Cert.FfnIdeal.defs _ _).mono (fun r h c => ⟨(h c).1.trans ?_, (h c).2⟩)
      (Cert.FfnIdeal.Value.run_blocks (F := Ideal) m g)
    exact final m c _ _ _ _ _ _ _ _ rfl rfl rfl rfl rfl rfl rfl rfl
  · refine (θ_run Cert.FfnReferenceIdeal.defs _ _).mono (fun r h c => ⟨(h c).1.trans ?_, (h c).2⟩)
      (Cert.FfnReferenceIdeal.Value.run (F := Ideal) m' g')
    refine (Cert.FfnReferenceIdeal.Read.val_main_v112_eq _ _).trans ?_
    obtain ⟨a0, a1, a2, a3, a4, a5, a6, a7⟩ := hag c
    rw [a0, a1, a2, a3, a4, a5, a6, a7]
    exact Ffn.Reference.result _ _ _ _ _ _ _ _

end Ffn.Claims

end
-- ==== Proof.Merge.Block.lean ====
/- What the merge's body computes of one block of rows, named in the body's own steps: the three branches' projections, the
   gates of the modulated rows, the gated sum, its projection, and the residual sum. -/
module

public import proofs.«01_k».proof.Proof.Gen.MergeIdeal.Value
public import proofs.«01_k».proof.Proof.Ffn.Claims
public import Idealize.ShloMosaic.Lib.Pointwise

@[expose] public section

noncomputable section

namespace Merge

open Idealize.ShloMosaic Cert.MergeIdeal Cert.MergeIdeal.Gen
open Cert.MergeIdeal.Facts

/-- The rows a branch takes: the context's from grid point 32 on, the latents' before. -/
def pick {φ : FTy} (i : grid0.Coords) (lat ctx : FVec Ideal S256x512 φ) : FVec Ideal S256x512 φ :=
  Scalar.select (Scalar.cmpi .sge (BitVec.ofNat 32 (i 0).val) 32#32) ctx lat

/-- A branch's rows times its weights. -/
def branch (y : FVec Ideal S256x512 .bf16) (w : FVec Ideal S1x1x512x1024 .bf16) : FVec Ideal S256x1024 .f32 :=
  matmul dot_S256x512_S512x1024_S256x1024_1_0_0_1_n_n none y (shapeCast S512x1024 w shapeCasts_S1x1x512x1024_S512x1024)
    (constant S256x1024 .f32 0x00000000#32)

/-- The modulated rows times one branch's gate weights. -/
def gates (h : FVec Ideal S256x1024 .bf16) (w : FVec Ideal S1024x1024 .bf16) : FVec Ideal S256x1024 .f32 :=
  matmul dot_S256x1024_S1024x1024_S256x1024_1_0_0_1_n_n none h w (constant S256x1024 .f32 0x00000000#32)

/-- The three branches, each times the logistic of its gate, summed from zero. -/
def mix (a0 a1 a2 b0 b1 b2 : FVec Ideal S256x1024 .f32) : FVec Ideal S256x1024 .f32 :=
  addf (addf (addf (broadcast S256x1024 (Scalar.ofBits (F := Ideal) .f32 0x00000000#32)) (mulf (logistic a0) b0))
    (mulf (logistic a1) b1)) (mulf (logistic a2) b2)

/-- The sum times the output weights. -/
def project (y : FVec Ideal S256x1024 .f32) (w : FVec Ideal S1x1024x1024 .bf16) : FVec Ideal S256x1024 .f32 :=
  matmul dot_S256x1024_S1024x1024_S256x1024_1_0_0_1_n_n none (truncf .bf16 y bitsLt_bf16_f32)
    (shapeCast S1024x1024 w shapeCasts_S1x1024x1024_S1024x1024) (constant S256x1024 .f32 0x00000000#32)

/-- The rows plus the condition's gate times the normalised projection with its own gain. -/
def finish (x : FVec Ideal S256x1024 .f32) (gate : FVec Ideal S1x1x1x1024 .f32) (gain : FVec Ideal S1x1024 .f32)
    (y : FVec Ideal S256x1024 .f32) : FVec Ideal S256x1024 .f32 :=
  addf x (mulf (broadcastTo S256x1024 (shapeCast S1x1024 gate shapeCasts_S1x1x1x1024_S1x1024) broadcasts_S1x1024_S256x1024)
    (mulf (Ffn.normed y) (broadcastTo S256x1024 (shapeCast S1x1024 gain shapeCasts_S1x1024_S1x1024)
      broadcasts_S1x1024_S256x1024)))

/-- What one half of the body leaves in its rows of the output window. -/
def rows (x : FVec Ideal S256x1024 .f32) (ya yb yc : FVec Ideal S256x512 .bf16) (shift scale gate : FVec Ideal S1x1x1x1024 .f32)
    (pre post : FVec Ideal S1x1024 .f32) (g0 g1 g2 : FVec Ideal S1024x1024 .bf16) (b0 b1 b2 : FVec Ideal S1x1x512x1024 .bf16)
    (o : FVec Ideal S1x1024x1024 .bf16) : FVec Ideal S256x1024 .f32 :=
  finish x gate post (project (mix (gates (Ffn.modulated x pre shift scale) g0) (gates (Ffn.modulated x pre shift scale) g1)
    (gates (Ffn.modulated x pre shift scale) g2) (branch ya b0) (branch yb b1) (branch yc b2)) o)

section halves

variable (i : grid0.Coords) (x : FVec Ideal S256x1024 .f32) (ya ycl ycc : FVec Ideal S256x512 .bf16)
  (ybl ybc : FVec Ideal S256x512 .f32) (shift scale gate : FVec Ideal S1x1x1x1024 .f32)
  (pre post : FVec Ideal S1x1024 .f32) (g0 g1 g2 : FVec Ideal S1024x1024 .bf16) (b0 b1 b2 : FVec Ideal S1x1x512x1024 .bf16)
  (o : FVec Ideal S1x1024x1024 .bf16)

theorem modulated_first :
    k0_pay12 (F := Ideal) x (k0_pay8 pre) (k0_pay9 shift) (k0_pay10 scale) (k0_pay11 x) = Ffn.modulated x pre shift scale := rfl

theorem modulated_last : k0_pay13 (F := Ideal) x pre shift scale = Ffn.modulated x pre shift scale := rfl

theorem mix_first (h : FVec Ideal S256x1024 .bf16) (a0 y0 y1 y2 : FVec Ideal S256x1024 .f32) :
    k0_pay15 (F := Ideal) y0 y1 y2 h a0 g1 (constant S256x1024 .f32 0x00000000#32) g2 o
      = project (mix a0 (gates h g1) (gates h g2) y0 y1 y2) o := rfl

theorem mix_last (h : FVec Ideal S256x1024 .bf16) (y0 y1 y2 : FVec Ideal S256x1024 .f32) :
    k0_pay16 (F := Ideal) y0 y1 y2 h g0 g1 g2 o
      = project (mix (gates h g0) (gates h g1) (gates h g2) y0 y1 y2) o := rfl

theorem gate_first :
    k0_pay14 (F := Ideal) x (k0_pay8 pre) (k0_pay9 shift) (k0_pay10 scale) (k0_pay11 x) g0
      = gates (Ffn.modulated x pre shift scale) g0 := rfl

theorem branch0_first : k0_pay1 (F := Ideal) ya b0 = branch ya b0 := rfl
theorem branch1_first : k0_pay2 (F := Ideal) i ybl ybc b1 = branch (truncf .bf16 (pick i ybl ybc) bitsLt_bf16_f32) b1 := rfl
theorem branch2_first : k0_pay3 (F := Ideal) i ycl ycc b2 = branch (pick i ycl ycc) b2 := rfl
theorem branch0_last : k0_pay5 (F := Ideal) ya b0 = branch ya b0 := rfl
theorem branch1_last : k0_pay6 (F := Ideal) (k0_pay4 i ybl ybc) b1 = branch (truncf .bf16 (pick i ybl ybc) bitsLt_bf16_f32) b1 :=
  rfl
theorem branch2_last : k0_pay7 (F := Ideal) (Scalar.cmpi .sge (BitVec.ofNat 32 (i 0).val) 32#32) ycl ycc b2
    = branch (pick i ycl ycc) b2 := rfl
theorem finish_first (y : FVec Ideal S256x1024 .f32) : k0_pay17 (F := Ideal) x y gate post = finish x gate post y := rfl
theorem finish_last (y : FVec Ideal S256x1024 .f32) : k0_pay18 (F := Ideal) x y gate post = finish x gate post y := rfl

end halves

/-- The block that the body leaves in the output window: two halves of 256 rows. -/
theorem out_eq (i : grid0.Coords) (x0 : Vec Ideal S512x1024 .f32) (x1 : Vec Ideal S1x1x9x1024 .f32)
    (x2 x3 : Vec Ideal S1x1024 .f32) (x4 : Vec Ideal S1024x3072 .bf16) (x5 x6 : Vec Ideal S256x512 .bf16)
    (x7 : Vec Ideal S512x512 .f32) (x8 : Vec Ideal S512x512 .bf16) (x9 : Vec Ideal S512x512 .f32)
    (x10 : Vec Ideal S512x512 .bf16) (x11 : Vec Ideal S1x3x512x1024 .bf16) (x12 : Vec Ideal S1x1024x1024 .bf16) :
    out0_13 i x0 x1 x2 x3 x4 x5 x6 x7 x8 x9 x10 x11 x12 = View.canon [
      (⟨r0_7, rows (View.ld x0 r0_7) (View.ld x6 r0_1)
          (truncf .bf16 (pick (φ := .f32) i (View.ld x7 r0_6) (View.ld x9 r0_6)) bitsLt_bf16_f32)
          (pick (φ := .bf16) i (View.ld x8 r0_6) (View.ld x10 r0_6))
          (View.ld x1 r0_9) (View.ld x1 r0_10) (View.ld x1 r0_15) (View.ld x2 r0_8) (View.ld x3 r0_8)
          (View.ld x4 r0_11) (View.ld x4 r0_12) (View.ld x4 r0_13) (View.ld x11 r0_2) (View.ld x11 r0_3) (View.ld x11 r0_4)
          (View.ld x12 r0_14)⟩ : View.Piece (Elt Ideal) S512x1024 .f32),
      ⟨r0_5, rows (View.ld x0 r0_5) (View.ld x5 r0_1)
          (truncf .bf16 (pick (φ := .f32) i (View.ld x7 r0_0) (View.ld x9 r0_0)) bitsLt_bf16_f32)
          (pick (φ := .bf16) i (View.ld x8 r0_0) (View.ld x10 r0_0))
          (View.ld x1 r0_9) (View.ld x1 r0_10) (View.ld x1 r0_15) (View.ld x2 r0_8) (View.ld x3 r0_8)
          (View.ld x4 r0_11) (View.ld x4 r0_12) (View.ld x4 r0_13) (View.ld x11 r0_2) (View.ld x11 r0_3) (View.ld x11 r0_4)
          (View.ld x12 r0_14)⟩] := by
  unfold_out out0_13
  rw [finish_first, finish_last, gate_first, modulated_first, modulated_last, mix_first, mix_last, branch0_first, branch1_first,
    branch2_first, branch0_last, branch1_last, branch2_last]
  unfold rows
  with_reducible rfl

end Merge

end
-- ==== Proof.Merge.Row.lean ====
/- One row of the merge body's output block. -/
module

public import proofs.«01_k».proof.Proof.Merge.Block

@[expose] public section

noncomputable section

namespace Merge

open Idealize.ShloMosaic Cert.MergeIdeal Cert.MergeIdeal.Gen
open Cert.MergeIdeal.Facts

/-- The logistic of a row's gate times a branch, at one column: `h` are the modulated row, `g` the gate weights of the
    branch, `y` the branch's row and `b` its weights. -/
def gated (h : Fin 1024 → EReal) (g : Fin 1024 → EReal) (y b : Fin 512 → EReal) : EReal :=
  Ideal.logistic (∑ k, h k * g k) * ∑ k, y k * b k

/-- The three gated branches of a row, summed; `wg` holds the three branches' gate weights side by side. -/
def mixed (h : Fin 1024 → EReal) (wg : Fin 1024 → Fin 3072 → EReal) (ya yb yc : Fin 512 → EReal)
    (wb : Fin 3 → Fin 512 → Fin 1024 → EReal) (j : Fin 1024) : EReal :=
  gated h (fun k => wg k ⟨j.val, by omega⟩) ya (fun k => wb 0 k j)
    + gated h (fun k => wg k ⟨1024 + j.val, by omega⟩) yb (fun k => wb 1 k j)
    + gated h (fun k => wg k ⟨2048 + j.val, by omega⟩) yc (fun k => wb 2 k j)

/-- One element of the result: the row plus the condition's gate times the normalised projection of the mixed branches. -/
def rowOut (x shift scale gate pre post : Fin 1024 → EReal) (wg : Fin 1024 → Fin 3072 → EReal) (ya yb yc : Fin 512 → EReal)
    (wb : Fin 3 → Fin 512 → Fin 1024 → EReal) (wo : Fin 1024 → Fin 1024 → EReal) (j : Fin 1024) : EReal :=
  x j + gate j * (Ffn.rms (fun j => ∑ d, mixed (Ffn.hidden x pre shift scale) wg ya yb yc wb d * wo d j) j * post j)

theorem branch_apply (y : FVec Ideal S256x512 .bf16) (w : FVec Ideal S1x1x512x1024 .bf16) (i : Fin 256) (j : Fin 1024) :
    branch y w (ix2 i j) = (∑ k : Fin 512, (y (ix2 i k) : EReal) * w (ix4 0 0 k j) : EReal) := by
  pointwise [branch]

theorem gates_apply (h : FVec Ideal S256x1024 .bf16) (w : FVec Ideal S1024x1024 .bf16) (i : Fin 256) (j : Fin 1024) :
    gates h w (ix2 i j) = (∑ k : Fin 1024, (h (ix2 i k) : EReal) * w (ix2 k j) : EReal) := by
  pointwise [gates]

theorem mix_apply (a0 a1 a2 b0 b1 b2 : FVec Ideal S256x1024 .f32) (i : Fin 256) (j : Fin 1024) :
    mix a0 a1 a2 b0 b1 b2 (ix2 i j) = Ideal.logistic (a0 (ix2 i j)) * b0 (ix2 i j)
      + Ideal.logistic (a1 (ix2 i j)) * b1 (ix2 i j) + Ideal.logistic (a2 (ix2 i j)) * b2 (ix2 i j) := by
  rw [← zero_add (Ideal.logistic (a0 (ix2 i j)) * b0 (ix2 i j)), ← Ffn.Reference.ofBits_zero]
  pointwise [mix]

theorem project_apply (y : FVec Ideal S256x1024 .f32) (w : FVec Ideal S1x1024x1024 .bf16) (i : Fin 256) (j : Fin 1024) :
    project y w (ix2 i j) = (∑ k : Fin 1024, (y (ix2 i k) : EReal) * w (ix3 0 k j) : EReal) := by
  pointwise [project]

theorem finish_apply (x : FVec Ideal S256x1024 .f32) (gate : FVec Ideal S1x1x1x1024 .f32) (gain : FVec Ideal S1x1024 .f32)
    (y : FVec Ideal S256x1024 .f32) (i : Fin 256) (j : Fin 1024) :
    finish x gate gain y (ix2 i j) = x (ix2 i j) + gate (ix4 0 0 0 j)
      * (Ffn.rms (fun k => y (ix2 i k)) j * gain (ix2 0 j)) := by
  rw [← Ffn.normed_apply]
  unfold finish
  generalize Ffn.normed y = y
  pointwise

/-- An element of one half of the block, when its loads are the rows and the weights named. -/
theorem rows_apply (x : FVec Ideal S256x1024 .f32) (ya yb yc : FVec Ideal S256x512 .bf16)
    (shift scale gate : FVec Ideal S1x1x1x1024 .f32) (pre post : FVec Ideal S1x1024 .f32) (g0 g1 g2 : FVec Ideal S1024x1024 .bf16)
    (b0 b1 b2 : FVec Ideal S1x1x512x1024 .bf16) (o : FVec Ideal S1x1024x1024 .bf16)
    (wg : Fin 1024 → Fin 3072 → EReal) (wb : Fin 3 → Fin 512 → Fin 1024 → EReal)
    (e0 : ∀ k j : Fin 1024, (g0 (ix2 k j) : EReal) = wg k ⟨j.val, by omega⟩)
    (e1 : ∀ k j : Fin 1024, (g1 (ix2 k j) : EReal) = wg k ⟨1024 + j.val, by omega⟩)
    (e2 : ∀ k j : Fin 1024, (g2 (ix2 k j) : EReal) = wg k ⟨2048 + j.val, by omega⟩)
    (f0 : ∀ (k : Fin 512) (j : Fin 1024), (b0 (ix4 0 0 k j) : EReal) = wb 0 k j)
    (f1 : ∀ (k : Fin 512) (j : Fin 1024), (b1 (ix4 0 0 k j) : EReal) = wb 1 k j)
    (f2 : ∀ (k : Fin 512) (j : Fin 1024), (b2 (ix4 0 0 k j) : EReal) = wb 2 k j) (i : Fin 256) (j : Fin 1024) :
    rows x ya yb yc shift scale gate pre post g0 g1 g2 b0 b1 b2 o (ix2 i j)
      = rowOut (fun k => x (ix2 i k)) (fun k => shift (ix4 0 0 0 k)) (fun k => scale (ix4 0 0 0 k)) (fun k => gate (ix4 0 0 0 k))
        (fun k => pre (ix2 0 k)) (fun k => post (ix2 0 k)) wg (fun k => ya (ix2 i k)) (fun k => yb (ix2 i k))
        (fun k => yc (ix2 i k)) wb (fun k j => o (ix3 0 k j)) j := by
  unfold rows rowOut mixed gated
  simp only [finish_apply, project_apply, mix_apply, gates_apply, branch_apply, Ffn.modulated_apply, e0, e1, e2, f0, f1, f2]

/-- Whether a grid point is the context's, as the body's comparison tells it. -/
theorem pick_eq {φ : FTy} (i : grid0.Coords) (lat ctx : FVec Ideal S256x512 φ) :
    pick i lat ctx = if 32 ≤ (i 0).val then ctx else lat := by
  unfold pick
  dsimp only [Scalar.cmpi, Scalar.select]
  rw [Ffn.ctx_sge (i 0)]
  by_cases h : 32 ≤ (i 0).val
  · rw [if_pos h, if_pos h]; rfl
  · rw [if_neg h, if_neg h]; rfl

/-- The two halves of a block, read at one row: the first piece holds rows 256 to 511, the second rows 0 to 255. -/
theorem canon_halves (hi lo : FVec Ideal S256x1024 .f32) (r : Fin 512) (j : Fin 1024) :
    View.canon [(⟨r0_7, hi⟩ : View.Piece (Elt Ideal) S512x1024 .f32), ⟨r0_5, lo⟩] (ix2 r j)
      = if h : r.val < 256 then lo (ix2 ⟨r.val, h⟩ j) else hi (ix2 ⟨r.val - 256, by omega⟩ j) :=
  Ffn.canon_halves hi lo r j

/-- The first 256 rows of a window. -/
theorem ld_lo (x : Vec Ideal S512x1024 .f32) (r : Fin 256) (k : Fin 1024) :
    View.ld x r0_5 (ix2 r k) = x (ix2 ⟨r.val, by omega⟩ k) := by pointwise

/-- The last 256 rows of a window. -/
theorem ld_hi (x : Vec Ideal S512x1024 .f32) (r : Fin 256) (k : Fin 1024) :
    View.ld x r0_7 (ix2 r k) = x (ix2 ⟨256 + r.val, by omega⟩ k) := by
  refine congrArg x ?_
  funext a
  refine Fin.ext ?_
  fin_cases a <;> simp [ix2]

/-- The first 256 rows of a branch's window. -/
theorem ldy_lo {e : EltTy} (x : Vec Ideal S512x512 e) (r : Fin 256) (k : Fin 512) :
    View.ld x r0_0 (ix2 r k) = x (ix2 ⟨r.val, by omega⟩ k) := by
  refine congrArg x ?_
  funext a
  refine Fin.ext ?_
  fin_cases a <;> simp [ix2]

/-- The last 256 rows of a branch's window. -/
theorem ldy_hi {e : EltTy} (x : Vec Ideal S512x512 e) (r : Fin 256) (k : Fin 512) :
    View.ld x r0_6 (ix2 r k) = x (ix2 ⟨256 + r.val, by omega⟩ k) := by
  refine congrArg x ?_
  funext a
  refine Fin.ext ?_
  fin_cases a <;> simp [ix2]

/-- An element of a block of the output. -/
theorem block_apply (i : grid0.Coords) (x0 : Vec Ideal S512x1024 .f32) (x1 : Vec Ideal S1x1x9x1024 .f32)
    (x2 x3 : Vec Ideal S1x1024 .f32) (x4 : Vec Ideal S1024x3072 .bf16) (x5 x6 : Vec Ideal S256x512 .bf16)
    (x7 : Vec Ideal S512x512 .f32) (x8 : Vec Ideal S512x512 .bf16) (x9 : Vec Ideal S512x512 .f32)
    (x10 : Vec Ideal S512x512 .bf16) (x11 : Vec Ideal S1x3x512x1024 .bf16) (x12 : Vec Ideal S1x1024x1024 .bf16)
    (r : Fin 512) (j : Fin 1024) :
    out0_13 i x0 x1 x2 x3 x4 x5 x6 x7 x8 x9 x10 x11 x12 (ix2 r j)
      = rowOut (fun k => x0 (ix2 r k)) (fun k => x1 (ix4 0 0 3 k)) (fun k => x1 (ix4 0 0 4 k)) (fun k => x1 (ix4 0 0 5 k))
        (fun k => x2 (ix2 0 k)) (fun k => x3 (ix2 0 k)) (fun k j => x4 (ix2 k j))
        (fun k => if h : r.val < 256 then x5 (ix2 ⟨r.val, h⟩ k) else x6 (ix2 ⟨r.val - 256, by omega⟩ k))
        (fun k => if 32 ≤ (i 0).val then x9 (ix2 r k) else x7 (ix2 r k))
        (fun k => if 32 ≤ (i 0).val then x10 (ix2 r k) else x8 (ix2 r k))
        (fun b k j => x11 (ix4 0 b k j)) (fun k j => x12 (ix3 0 k j)) j := by
  have c3 : ∀ k : Fin 1024, View.ld x1 r0_9 (ix4 0 0 0 k) = x1 (ix4 0 0 3 k) := fun k => by pointwise
  have c4 : ∀ k : Fin 1024, View.ld x1 r0_10 (ix4 0 0 0 k) = x1 (ix4 0 0 4 k) := fun k => by pointwise
  have c5 : ∀ k : Fin 1024, View.ld x1 r0_15 (ix4 0 0 0 k) = x1 (ix4 0 0 5 k) := fun k => by pointwise
  have p : ∀ (x : Vec Ideal S1x1024 .f32) (k : Fin 1024), View.ld x r0_8 (ix2 0 k) = x (ix2 0 k) := fun x k => by pointwise
  have e0 : ∀ k j : Fin 1024, View.ld x4 r0_11 (ix2 k j) = x4 (ix2 k ⟨j.val, by omega⟩) := fun k j => by pointwise
  have e1 : ∀ k j : Fin 1024, View.ld x4 r0_12 (ix2 k j) = x4 (ix2 k ⟨1024 + j.val, by omega⟩) := fun k j => by
    refine congrArg x4 ?_
    funext a; refine Fin.ext ?_; fin_cases a <;> simp [ix2]
  have e2 : ∀ k j : Fin 1024, View.ld x4 r0_13 (ix2 k j) = x4 (ix2 k ⟨2048 + j.val, by omega⟩) := fun k j => by
    refine congrArg x4 ?_
    funext a; refine Fin.ext ?_; fin_cases a <;> simp [ix2]
  have f0 : ∀ (k : Fin 512) (j : Fin 1024), View.ld x11 r0_2 (ix4 0 0 k j) = x11 (ix4 0 0 k j) := fun k j => by pointwise
  have f1 : ∀ (k : Fin 512) (j : Fin 1024), View.ld x11 r0_3 (ix4 0 0 k j) = x11 (ix4 0 1 k j) := fun k j => by pointwise
  have f2 : ∀ (k : Fin 512) (j : Fin 1024), View.ld x11 r0_4 (ix4 0 0 k j) = x11 (ix4 0 2 k j) := fun k j => by pointwise
  have o : ∀ k j : Fin 1024, View.ld x12 r0_14 (ix3 0 k j) = x12 (ix3 0 k j) := fun k j => by pointwise
  have y : ∀ (x : Vec Ideal S256x512 .bf16) (q : Fin 256) (k : Fin 512), View.ld x r0_1 (ix2 q k) = x (ix2 q k) := fun x q k => by
    pointwise
  have pk : ∀ {φ : FTy} (lat ctx : FVec Ideal S256x512 φ) (q : Fin 256) (k : Fin 512), (pick i lat ctx (ix2 q k) : EReal)
      = if 32 ≤ (i 0).val then (ctx (ix2 q k) : EReal) else lat (ix2 q k) := fun lat ctx q k => by
    rw [pick_eq]; split <;> rfl
  have tr : ∀ (v : FVec Ideal S256x512 .f32) (q : Fin 256) (k : Fin 512),
      (truncf .bf16 v bitsLt_bf16_f32 (ix2 q k) : EReal) = v (ix2 q k) := fun v q k => rfl
  rw [out_eq, canon_halves]
  by_cases h : r.val < 256
  · rw [dif_pos h, rows_apply _ _ _ _ _ _ _ _ _ _ _ _ _ _ _ _ (fun k j => x4 (ix2 k j)) (fun b k j => x11 (ix4 0 b k j))
      e0 e1 e2 f0 f1 f2]
    simp only [c3, c4, c5, p x2, p x3, o, y x5, y x6, tr, pk, ld_lo x0, ldy_lo x7, ldy_lo x8, ldy_lo x9, ldy_lo x10, dif_pos h]
  · have hr : (⟨256 + (r.val - 256), by omega⟩ : Fin 512) = r := Fin.ext (by show 256 + (r.val - 256) = r.val; omega)
    rw [dif_neg h, rows_apply _ _ _ _ _ _ _ _ _ _ _ _ _ _ _ _ (fun k j => x4 (ix2 k j)) (fun b k j => x11 (ix4 0 b k j))
      e0 e1 e2 f0 f1 f2]
    simp only [c3, c4, c5, p x2, p x3, o, y x5, y x6, tr, pk, ld_hi x0, ldy_hi x7, ldy_hi x8, ldy_hi x9, ldy_hi x10, dif_neg h, hr]

end Merge

end
-- ==== Proof.Merge.Array.lean ====
/- The merge kernel's result array, element by element. -/
module

public import proofs.«01_k».proof.Proof.Merge.Row
public import Idealize.ShloMosaic.Lib.Pipeline.ValueKit

@[expose] public section

noncomputable section

namespace Merge

open Idealize.ShloMosaic Cert.MergeIdeal Cert.MergeIdeal.Gen Idealize.ShloMosaic.TcCoe
open Cert.MergeIdeal.Facts
open Idealize.ShloMosaic.Pipeline (Dat)

/-- Row `R` of a branch held as the latents and the context apart. -/
def apart (lat : S16384x512.Idx → EReal) (ctx : S512x512.Idx → EReal) (R : Fin 16896) (k : Fin 512) : EReal :=
  if h : R.val < 16384 then lat (ix2 ⟨R.val, h⟩ k) else ctx (ix2 ⟨R.val - 16384, by omega⟩ k)

/-- Row `R` of a branch held sample by sample, each sample's 8192 latents before its 256 context rows. -/
def bySample (y : S16896x512.Idx → EReal) (R : Fin 16896) (k : Fin 512) : EReal :=
  if h : R.val < 16384 then y (ix2 ⟨R.val / 8192 * 8448 + R.val % 8192, by omega⟩ k)
  else y (ix2 ⟨(R.val - 16384) / 256 * 8448 + 8192 + (R.val - 16384) % 256, by omega⟩ k)

/-- The merge's result array as a function of the rows, the conditions, the two gains, the gate weights, the three branches'
    rows and the stacks of branch and output weights, of which it reads the first. -/
def G (x0 : S16896x1024.Idx → EReal) (x1 : S2x8x9x1024.Idx → EReal) (x2 : S1024.Idx → EReal) (x3 : S1024.Idx → EReal)
    (x4 : S1024x3072.Idx → EReal) (x5 : S16896x512.Idx → EReal) (x6 : S16384x512.Idx → EReal) (x7 : S16384x512.Idx →
    EReal) (x8 : S512x512.Idx → EReal) (x9 : S512x512.Idx → EReal) (x10 : S2x3x512x1024.Idx → EReal) (x11 :
    S2x1024x1024.Idx → EReal) :
    S16896x1024.Idx → EReal := fun I =>
  rowOut (fun k => x0 (ix2 (I 0) k)) (Ffn.cond x1 (I 0) 3) (Ffn.cond x1 (I 0) 4) (Ffn.cond x1 (I 0) 5) (fun k => x2 (ix1 k))
    (fun k => x3 (ix1 k)) (fun k j => x4 (ix2 k j)) (bySample x5 (I 0)) (apart x6 x8 (I 0)) (apart x7 x9 (I 0))
    (fun b k j => x10 (ix4 0 b k j)) (fun k j => x11 (ix3 0 k j)) (I 1)

/-- Where the rows' and the conditions' windows stand at a grid point: at the point itself and at the row of the conditions
    that the point's rows have. -/
theorem idx_facts : ∀ t : Fin cfg0.N,
    win0_13.index t 0 = t.val ∧ win0_13.index t 1 = 0 ∧ win0_0.index t 0 = t.val ∧ win0_0.index t 1 = 0 ∧ win0_1.index
    t 0 = 0 ∧ win0_1.index t 1 = t.val / 16 ∧ win0_1.index t 2 = 0 ∧ win0_1.index t 3 = 0 ∧ ((grid0.coords t) 0).val =
    t.val :=
  (by decide +kernel : ∀ t : Fin grid0.N, _)

/-- The gains and the weights stand at the first block throughout. -/
theorem idx_weights : ∀ t : Fin cfg0.N,
    win0_2.index t 0 = 0 ∧ win0_2.index t 1 = 0 ∧ win0_3.index t 0 = 0 ∧ win0_3.index t 1 = 0 ∧ win0_4.index t 0 = 0 ∧
    win0_4.index t 1 = 0 ∧ win0_11.index t 0 = 0 ∧ win0_11.index t 1 = 0 ∧ win0_11.index t 2 = 0 ∧ win0_11.index t 3 =
    0 ∧ win0_12.index t 0 = 0 ∧ win0_12.index t 1 = 0 ∧ win0_12.index t 2 = 0 :=
  (by decide +kernel : ∀ t : Fin grid0.N, _)

/-- Where the branches' windows stand: the first branch's two windows at the two blocks of the sample's rows, the others at the
    latents' block up to point 31 and at the context's only block. -/
theorem idx_branches : ∀ t : Fin cfg0.N,
    win0_5.index t 0 = (if t.val < 32 then t.val / 16 * 33 + t.val % 16 * 2 else 32) ∧ win0_5.index t 1 = 0 ∧
    win0_6.index t 0 = (if t.val < 32 then t.val / 16 * 33 + t.val % 16 * 2 + 1 else 65) ∧ win0_6.index t 1 = 0 ∧
    win0_7.index t 0 = min t.val 31 ∧ win0_7.index t 1 = 0 ∧ win0_8.index t 0 = min t.val 31 ∧ win0_8.index t 1 = 0 ∧
    win0_9.index t 0 = 0 ∧ win0_9.index t 1 = 0 ∧ win0_10.index t 0 = 0 ∧ win0_10.index t 1 = 0 :=
  (by decide +kernel : ∀ t : Fin grid0.N, _)

variable (m : (ℓ : Loc nD τ sig) → Buf (Elt Ideal) ℓ)

/-- The first gain, as the kernel finds it. -/
theorem V_gain0 (c : Dev nD) (k : Fin 1024) :
    (V m c main_v0 : S1x1024.Idx → EReal) (ix2 0 k) = (m ((c : Thread nD τ).loc main_arg2) : S1024.Idx → EReal) (ix1 k) := by
  have e : (V m c main_v0 : S1x1024.Idx → EReal)
      = shapeCast S1x1024 (m ((c : Thread nD τ).loc main_arg2) : S1024.Idx → EReal) shapeCasts_S1024_S1x1024 := by
    show StableHlo.after hostOps0 _ _ = _
    rw [StableHlo.after_cons, StableHlo.after_cons, StableHlo.after_nil, StableHlo.reshape_result_ne _ _ _ _ _ _ _ (by decide),
      StableHlo.reshape_result]
    rfl
  rw [e]
  exact Ffn.asRow_apply _ k

/-- The second gain, as the kernel finds it. -/
theorem V_gain1 (c : Dev nD) (k : Fin 1024) :
    (V m c main_v1 : S1x1024.Idx → EReal) (ix2 0 k) = (m ((c : Thread nD τ).loc main_arg3) : S1024.Idx → EReal) (ix1 k) := by
  have e : (V m c main_v1 : S1x1024.Idx → EReal)
      = shapeCast S1x1024 (m ((c : Thread nD τ).loc main_arg3) : S1024.Idx → EReal) shapeCasts_S1024_S1x1024 := by
    show StableHlo.after hostOps0 _ _ = _
    rw [StableHlo.after_cons, StableHlo.after_cons, StableHlo.after_nil, StableHlo.reshape_result,
      StableHlo.reshape_result_ne _ _ _ _ _ _ _ (by decide)]
    rfl
  rw [e]
  exact Ffn.asRow_apply _ k

/-- Row `i` of grid point `t`'s rows. -/
def rowAt (t : Fin cfg0.N) (i : Fin 512) : Fin 16896 :=
  ⟨t.val * 512 + i.val, by have : t.val < 33 := t.isLt; have := i.isLt; omega⟩

/-- The rows' window. -/
theorem win_x (c : Dev nD) (t : Fin cfg0.N) (i : Fin 512) (k : Fin 1024) :
    (iblk m c 0 t : S512x1024.Idx → EReal) (ix2 i k) = (m ((c : Thread nD τ).loc main_arg0) : S16896x1024.Idx → EReal) (ix2 (rowAt t i) k) := by
  obtain ⟨_, _, f2, f3, _, _, _, _, _⟩ := idx_facts t
  have e : ∀ x : S512x1024.Idx, (iblk m c 0 t : S512x1024.Idx → EReal) x = (m ((c : Thread nD τ).loc main_arg0) : S16896x1024.Idx → EReal) ((win0_0.blk t).view.emb x) := fun x => by
    rw [← V_main_arg0 m c]; rfl
  rw [e]
  unfold rowAt
  refine congrArg (m ((c : Thread nD τ).loc main_arg0) : S16896x1024.Idx → EReal) ?_
  blk_ext []

/-- The conditions' window. -/
theorem win_cond (c : Dev nD) (t : Fin cfg0.N) (i : Fin 512) (n : Fin 9) (k : Fin 1024) :
    (iblk m c 1 t : S1x1x9x1024.Idx → EReal) (ix4 0 0 n k) = Ffn.cond (m ((c : Thread nD τ).loc main_arg1) : S2x8x9x1024.Idx → EReal) (rowAt t i) n k := by
  obtain ⟨_, _, _, _, f4, f5, f6, f7, _⟩ := idx_facts t
  have ht : t.val < 33 := t.isLt
  have hi := i.isLt
  have e : ∀ x : S1x1x9x1024.Idx, (iblk m c 1 t : S1x1x9x1024.Idx → EReal) x = (m ((c : Thread nD τ).loc main_arg1) : S2x8x9x1024.Idx → EReal) ((win0_1.blk t).view.emb x) := fun x => by
    rw [← V_main_arg1 m c]; rfl
  rw [e]
  unfold Ffn.cond rowAt
  refine congrArg (m ((c : Thread nD τ).loc main_arg1) : S2x8x9x1024.Idx → EReal) ?_
  blk_ext []

/-- The first gain's window. -/
theorem win_pre (c : Dev nD) (t : Fin cfg0.N) (k : Fin 1024) :
    (iblk m c 2 t : S1x1024.Idx → EReal) (ix2 0 k) = (m ((c : Thread nD τ).loc main_arg2) : S1024.Idx → EReal) (ix1 k) := by
  obtain ⟨w0, w1, _, _, _, _, _, _, _, _, _, _, _⟩ := idx_weights t
  rw [← V_gain0 m c k]
  show (V m c main_v0 : S1x1024.Idx → EReal) ((win0_2.blk t).view.emb (ix2 0 k)) = _
  refine congrArg (V m c main_v0 : S1x1024.Idx → EReal) ?_
  blk_ext []

/-- The second gain's window. -/
theorem win_post (c : Dev nD) (t : Fin cfg0.N) (k : Fin 1024) :
    (iblk m c 3 t : S1x1024.Idx → EReal) (ix2 0 k) = (m ((c : Thread nD τ).loc main_arg3) : S1024.Idx → EReal) (ix1 k) := by
  obtain ⟨_, _, w2, w3, _, _, _, _, _, _, _, _, _⟩ := idx_weights t
  rw [← V_gain1 m c k]
  show (V m c main_v1 : S1x1024.Idx → EReal) ((win0_3.blk t).view.emb (ix2 0 k)) = _
  refine congrArg (V m c main_v1 : S1x1024.Idx → EReal) ?_
  blk_ext []

/-- The gate weights' window. -/
theorem win_gates (c : Dev nD) (t : Fin cfg0.N) (k : Fin 1024) (f : Fin 3072) :
    (iblk m c 4 t : S1024x3072.Idx → EReal) (ix2 k f) = (m ((c : Thread nD τ).loc main_arg4) : S1024x3072.Idx → EReal) (ix2 k f) := by
  obtain ⟨_, _, _, _, w4, w5, _, _, _, _, _, _, _⟩ := idx_weights t
  have e : ∀ x : S1024x3072.Idx, (iblk m c 4 t : S1024x3072.Idx → EReal) x = (m ((c : Thread nD τ).loc main_arg4) : S1024x3072.Idx → EReal) ((win0_4.blk t).view.emb x) := fun x => by
    rw [← V_main_arg4 m c]; rfl
  rw [e]
  refine congrArg (m ((c : Thread nD τ).loc main_arg4) : S1024x3072.Idx → EReal) ?_
  blk_ext []

/-- The branch weights' window. -/
theorem win_wb (c : Dev nD) (t : Fin cfg0.N) (b : Fin 3) (k : Fin 512) (f : Fin 1024) :
    (iblk m c 11 t : S1x3x512x1024.Idx → EReal) (ix4 0 b k f) = (m ((c : Thread nD τ).loc main_arg10) : S2x3x512x1024.Idx → EReal) (ix4 0 b k f) := by
  obtain ⟨_, _, _, _, _, _, w6, w7, w8, w9, _, _, _⟩ := idx_weights t
  have e : ∀ x : S1x3x512x1024.Idx, (iblk m c 11 t : S1x3x512x1024.Idx → EReal) x = (m ((c : Thread nD τ).loc main_arg10) : S2x3x512x1024.Idx → EReal) ((win0_11.blk t).view.emb x) := fun x => by
    rw [← V_main_arg10 m c]; rfl
  rw [e]
  refine congrArg (m ((c : Thread nD τ).loc main_arg10) : S2x3x512x1024.Idx → EReal) ?_
  blk_ext []

/-- The output weights' window. -/
theorem win_wo (c : Dev nD) (t : Fin cfg0.N) (k f : Fin 1024) :
    (iblk m c 12 t : S1x1024x1024.Idx → EReal) (ix3 0 k f) = (m ((c : Thread nD τ).loc main_arg11) : S2x1024x1024.Idx → EReal) (ix3 0 k f) := by
  obtain ⟨_, _, _, _, _, _, _, _, _, _, w10, w11, w12⟩ := idx_weights t
  have e : ∀ x : S1x1024x1024.Idx, (iblk m c 12 t : S1x1024x1024.Idx → EReal) x = (m ((c : Thread nD τ).loc main_arg11) : S2x1024x1024.Idx → EReal) ((win0_12.blk t).view.emb x) := fun x => by
    rw [← V_main_arg11 m c]; rfl
  rw [e]
  refine congrArg (m ((c : Thread nD τ).loc main_arg11) : S2x1024x1024.Idx → EReal) ?_
  blk_ext []

/-- The first branch's window of the first 256 rows. -/
theorem win_ya_lo (c : Dev nD) (t : Fin cfg0.N) (i : Fin 512) (k : Fin 512) (h : i.val < 256) :
    (iblk m c 5 t : S256x512.Idx → EReal) (ix2 ⟨i.val, h⟩ k) = bySample (m ((c : Thread nD τ).loc main_arg5) : S16896x512.Idx → EReal) (rowAt t i) k := by
  obtain ⟨b0, b1, _, _, _, _, _, _, _, _, _, _⟩ := idx_branches t
  have ht : t.val < 33 := t.isLt
  have hi := i.isLt
  have hr : (rowAt t i).val = t.val * 512 + i.val := rfl
  have e : ∀ x : S256x512.Idx, (iblk m c 5 t : S256x512.Idx → EReal) x = (m ((c : Thread nD τ).loc main_arg5) : S16896x512.Idx → EReal) ((win0_5.blk t).view.emb x) := fun x => by
    rw [← V_main_arg5 m c]; rfl
  rw [e]
  unfold bySample
  by_cases h' : t.val < 32
  · rw [dif_pos (by omega)]
    rw [if_pos h'] at b0
    refine congrArg (m ((c : Thread nD τ).loc main_arg5) : S16896x512.Idx → EReal) ?_
    clear e
    blk_ext [hr]
  · rw [dif_neg (by omega)]
    rw [if_neg h'] at b0
    refine congrArg (m ((c : Thread nD τ).loc main_arg5) : S16896x512.Idx → EReal) ?_
    clear e
    blk_ext [hr]

/-- The first branch's window of the last 256 rows. -/
theorem win_ya_hi (c : Dev nD) (t : Fin cfg0.N) (i : Fin 512) (k : Fin 512) (h : 256 ≤ i.val) :
    (iblk m c 6 t : S256x512.Idx → EReal) (ix2 ⟨i.val - 256, by omega⟩ k) = bySample (m ((c : Thread nD τ).loc main_arg5) : S16896x512.Idx → EReal) (rowAt t i) k := by
  obtain ⟨_, _, b2, b3, _, _, _, _, _, _, _, _⟩ := idx_branches t
  have ht : t.val < 33 := t.isLt
  have hi := i.isLt
  have hr : (rowAt t i).val = t.val * 512 + i.val := rfl
  have e : ∀ x : S256x512.Idx, (iblk m c 6 t : S256x512.Idx → EReal) x = (m ((c : Thread nD τ).loc main_arg5) : S16896x512.Idx → EReal) ((win0_6.blk t).view.emb x) := fun x => by
    rw [← V_main_arg5 m c]; rfl
  rw [e]
  unfold bySample
  by_cases h' : t.val < 32
  · rw [dif_pos (by omega)]
    rw [if_pos h'] at b2
    refine congrArg (m ((c : Thread nD τ).loc main_arg5) : S16896x512.Idx → EReal) ?_
    clear e
    blk_ext [hr]
  · rw [dif_neg (by omega)]
    rw [if_neg h'] at b2
    refine congrArg (m ((c : Thread nD τ).loc main_arg5) : S16896x512.Idx → EReal) ?_
    clear e
    blk_ext [hr]

/-- The second branch's window of the latents. -/
theorem win_yb_lat (c : Dev nD) (t : Fin cfg0.N) (i : Fin 512) (k : Fin 512) (h : t.val < 32) :
    (iblk m c 7 t : S512x512.Idx → EReal) (ix2 i k) = apart (m ((c : Thread nD τ).loc main_arg6) : S16384x512.Idx → EReal) (m ((c : Thread nD τ).loc main_arg8) : S512x512.Idx → EReal) (rowAt t i) k := by
  obtain ⟨_, _, _, _, b4, b5, _, _, _, _, _, _⟩ := idx_branches t
  have ht : t.val < 33 := t.isLt
  have hi := i.isLt
  have hr : (rowAt t i).val = t.val * 512 + i.val := rfl
  have e : ∀ x : S512x512.Idx, (iblk m c 7 t : S512x512.Idx → EReal) x = (m ((c : Thread nD τ).loc main_arg6) : S16384x512.Idx → EReal) ((win0_7.blk t).view.emb x) := fun x => by
    rw [← V_main_arg6 m c]; rfl
  rw [e]
  unfold apart
  rw [dif_pos (by omega)]
  refine congrArg (m ((c : Thread nD τ).loc main_arg6) : S16384x512.Idx → EReal) ?_
  blk_ext [hr]

/-- The third branch's window of the latents. -/
theorem win_yc_lat (c : Dev nD) (t : Fin cfg0.N) (i : Fin 512) (k : Fin 512) (h : t.val < 32) :
    (iblk m c 8 t : S512x512.Idx → EReal) (ix2 i k) = apart (m ((c : Thread nD τ).loc main_arg7) : S16384x512.Idx → EReal) (m ((c : Thread nD τ).loc main_arg9) : S512x512.Idx → EReal) (rowAt t i) k := by
  obtain ⟨_, _, _, _, _, _, b6, b7, _, _, _, _⟩ := idx_branches t
  have ht : t.val < 33 := t.isLt
  have hi := i.isLt
  have hr : (rowAt t i).val = t.val * 512 + i.val := rfl
  have e : ∀ x : S512x512.Idx, (iblk m c 8 t : S512x512.Idx → EReal) x = (m ((c : Thread nD τ).loc main_arg7) : S16384x512.Idx → EReal) ((win0_8.blk t).view.emb x) := fun x => by
    rw [← V_main_arg7 m c]; rfl
  rw [e]
  unfold apart
  rw [dif_pos (by omega)]
  refine congrArg (m ((c : Thread nD τ).loc main_arg7) : S16384x512.Idx → EReal) ?_
  blk_ext [hr]

/-- The second branch's window of the context. -/
theorem win_yb_ctx (c : Dev nD) (t : Fin cfg0.N) (i : Fin 512) (k : Fin 512) (h : 32 ≤ t.val) :
    (iblk m c 9 t : S512x512.Idx → EReal) (ix2 i k) = apart (m ((c : Thread nD τ).loc main_arg6) : S16384x512.Idx → EReal) (m ((c : Thread nD τ).loc main_arg8) : S512x512.Idx → EReal) (rowAt t i) k := by
  obtain ⟨_, _, _, _, _, _, _, _, b8, b9, _, _⟩ := idx_branches t
  have ht : t.val < 33 := t.isLt
  have hi := i.isLt
  have hr : (rowAt t i).val = t.val * 512 + i.val := rfl
  have e : ∀ x : S512x512.Idx, (iblk m c 9 t : S512x512.Idx → EReal) x = (m ((c : Thread nD τ).loc main_arg8) : S512x512.Idx → EReal) ((win0_9.blk t).view.emb x) := fun x => by
    rw [← V_main_arg8 m c]; rfl
  rw [e]
  unfold apart
  rw [dif_neg (by omega)]
  refine congrArg (m ((c : Thread nD τ).loc main_arg8) : S512x512.Idx → EReal) ?_
  blk_ext [hr]

/-- The third branch's window of the context. -/
theorem win_yc_ctx (c : Dev nD) (t : Fin cfg0.N) (i : Fin 512) (k : Fin 512) (h : 32 ≤ t.val) :
    (iblk m c 10 t : S512x512.Idx → EReal) (ix2 i k) = apart (m ((c : Thread nD τ).loc main_arg7) : S16384x512.Idx → EReal) (m ((c : Thread nD τ).loc main_arg9) : S512x512.Idx → EReal) (rowAt t i) k := by
  obtain ⟨_, _, _, _, _, _, _, _, _, _, b10, b11⟩ := idx_branches t
  have ht : t.val < 33 := t.isLt
  have hi := i.isLt
  have hr : (rowAt t i).val = t.val * 512 + i.val := rfl
  have e : ∀ x : S512x512.Idx, (iblk m c 10 t : S512x512.Idx → EReal) x = (m ((c : Thread nD τ).loc main_arg9) : S512x512.Idx → EReal) ((win0_10.blk t).view.emb x) := fun x => by
    rw [← V_main_arg9 m c]; rfl
  rw [e]
  unfold apart
  rw [dif_neg (by omega)]
  refine congrArg (m ((c : Thread nD τ).loc main_arg9) : S512x512.Idx → EReal) ?_
  blk_ext [hr]

/-- The kernel's result array. -/
theorem final (c : Dev nD)
    (x0 : S16896x1024.Idx → EReal) (x1 : S2x8x9x1024.Idx → EReal) (x2 : S1024.Idx → EReal) (x3 : S1024.Idx → EReal)
    (x4 : S1024x3072.Idx → EReal) (x5 : S16896x512.Idx → EReal) (x6 : S16384x512.Idx → EReal) (x7 : S16384x512.Idx →
    EReal) (x8 : S512x512.Idx → EReal) (x9 : S512x512.Idx → EReal) (x10 : S2x3x512x1024.Idx → EReal) (x11 :
    S2x1024x1024.Idx → EReal)
    (h0 : m ((c : Thread nD τ).loc main_arg0) = x0) (h1 : m ((c : Thread nD τ).loc main_arg1) = x1) (h2 : m ((c :
    Thread nD τ).loc main_arg2) = x2) (h3 : m ((c : Thread nD τ).loc main_arg3) = x3) (h4 : m ((c : Thread nD τ).loc
    main_arg4) = x4) (h5 : m ((c : Thread nD τ).loc main_arg5) = x5) (h6 : m ((c : Thread nD τ).loc main_arg6) = x6)
    (h7 : m ((c : Thread nD τ).loc main_arg7) = x7) (h8 : m ((c : Thread nD τ).loc main_arg8) = x8) (h9 : m ((c :
    Thread nD τ).loc main_arg9) = x9) (h10 : m ((c : Thread nD τ).loc main_arg10) = x10) (h11 : m ((c : Thread nD
    τ).loc main_arg11) = x11) :
    (dats m 0 c).arrAt 13 cfg0.N = G x0 x1 x2 x3 x4 x5 x6 x7 x8 x9 x10 x11 := by
  subst h0 h1 h2 h3 h4 h5 h6 h7 h8 h9 h10 h11
  refine (dats m 0 c).arrAt_eq_of_covers 13 _ (by decide +kernel) fun t hf y => ?_
  obtain ⟨f0, f1, _, _, _, _, _, _, f8⟩ := idx_facts t
  blk_simp
  rw [after0_13]
  obtain ⟨i, j, rfl⟩ : ∃ (i : Fin 512) (j : Fin 1024), y = ix2 i j := ⟨y 0, y 1, by funext a; fin_cases a <;> rfl⟩
  refine (block_apply _ _ _ _ _ _ _ _ _ _ _ _ _ _ i j).trans ?_
  have g : (win0_13.blk t).view.emb (ix2 i j) = (ix2 (rowAt t i) j : S16896x1024.Idx) := by
    unfold rowAt
    blk_ext []
  have ra : ∀ k : Fin 512, (if h : i.val < 256 then (iblk m c 5 t : S256x512.Idx → EReal) (ix2 ⟨i.val, h⟩ k)
      else (iblk m c 6 t : S256x512.Idx → EReal) (ix2 ⟨i.val - 256, by omega⟩ k))
      = bySample (m ((c : Thread nD τ).loc main_arg5) : S16896x512.Idx → EReal) (rowAt t i) k := fun k => by
    by_cases h : i.val < 256
    · rw [dif_pos h, win_ya_lo m c t i k h]
    · rw [dif_neg h, win_ya_hi m c t i k (by omega)]
  have rb : ∀ k : Fin 512, (if 32 ≤ ((grid0.coords t) 0).val then (iblk m c 9 t : S512x512.Idx → EReal) (ix2 i k)
      else (iblk m c 7 t : S512x512.Idx → EReal) (ix2 i k)) = apart (m ((c : Thread nD τ).loc main_arg6) : S16384x512.Idx → EReal)
        (m ((c : Thread nD τ).loc main_arg8) : S512x512.Idx → EReal) (rowAt t i) k := fun k => by
    by_cases h : 32 ≤ t.val
    · rw [if_pos (by omega), win_yb_ctx m c t i k h]
    · rw [if_neg (by omega), win_yb_lat m c t i k (by omega)]
  have rc : ∀ k : Fin 512, (if 32 ≤ ((grid0.coords t) 0).val then (iblk m c 10 t : S512x512.Idx → EReal) (ix2 i k)
      else (iblk m c 8 t : S512x512.Idx → EReal) (ix2 i k)) = apart (m ((c : Thread nD τ).loc main_arg7) : S16384x512.Idx → EReal)
        (m ((c : Thread nD τ).loc main_arg9) : S512x512.Idx → EReal) (rowAt t i) k := fun k => by
    by_cases h : 32 ≤ t.val
    · rw [if_pos (by omega), win_yc_ctx m c t i k h]
    · rw [if_neg (by omega), win_yc_lat m c t i k (by omega)]
  rw [g]
  refine congrFun ?_ j
  refine congr (congr (congr (congr (congr (congr (congr (congr (congr (congr (congr (congrArg rowOut
    (funext fun k => win_x m c t i k)) (funext fun k => win_cond m c t i 3 k)) (funext fun k => win_cond m c t i 4 k))
    (funext fun k => win_cond m c t i 5 k)) (funext fun k => win_pre m c t k)) (funext fun k => win_post m c t k))
    (funext fun k => funext fun f => win_gates m c t k f)) (funext fun k => ra k)) (funext fun k => rb k)) (funext fun k => rc k))
    (funext fun b => funext fun k => funext fun f => win_wb m c t b k f)) (funext fun k => funext fun f => win_wo m c t k f)

end Merge

end
-- ==== Proof.Merge.Reference.lean ====
/- The plain merge, element by element. -/
module

public import proofs.«01_k».proof.Proof.Merge.Array
public import proofs.«01_k».proof.Proof.Gen.MergeReferenceIdeal.Read

@[expose] public section

noncomputable section

namespace Merge.Reference

open Idealize.ShloMosaic Cert.MergeReferenceIdeal Cert.MergeReferenceIdeal.Gen Cert.MergeReferenceIdeal.Read

/-- The gate weights. -/
theorem wg_apply (x4 : S1024x3072.Idx → EReal) (k : Fin 1024) (f : Fin 3072) :
    (val_main_v0 (F := Ideal) x4 (ix2 k f) : EReal) = x4 (ix2 k f) := rfl

/-- The output weights. -/
theorem wo_apply (x11 : S2x1024x1024.Idx → EReal) (d k : Fin 1024) :
    (val_main_v6 (F := Ideal) x11 (ix2 d k) : EReal) = x11 (ix3 0 d k) := by
  rw [val_main_v6_apply, val_main_v5_apply, val_main_v4_apply]
  refine congrArg x11 ?_
  funext a; have := d.isLt; have := k.isLt; fin_cases a <;> refine Fin.ext ?_ <;> first | rfl | (simp [ix4, ix3, ix2] <;> omega)

/-- The first branch's weights, as the latents read them. -/
theorem wbA54_apply (x10 : S2x3x512x1024.Idx → EReal) (k : Fin 512) (j : Fin 1024) :
    (val_main_v54 (F := Ideal) x10 (ix2 k j) : EReal) = x10 (ix4 0 0 k j) := by
  rw [val_main_v54_apply, val_main_v53_apply, val_main_v3_apply, val_main_v2_apply, val_main_v1_apply]
  refine congrArg x10 ?_
  funext a; have := k.isLt; have := j.isLt; fin_cases a <;> refine Fin.ext ?_ <;> first | rfl | (simp [ix4, ix3, ix2] <;> omega)

/-- The second branch's weights, as the latents read them. -/
theorem wbB58_apply (x10 : S2x3x512x1024.Idx → EReal) (k : Fin 512) (j : Fin 1024) :
    (val_main_v58 (F := Ideal) x10 (ix2 k j) : EReal) = x10 (ix4 0 1 k j) := by
  rw [val_main_v58_apply, val_main_v57_apply, val_main_v3_apply, val_main_v2_apply, val_main_v1_apply]
  refine congrArg x10 ?_
  funext a; have := k.isLt; have := j.isLt; fin_cases a <;> refine Fin.ext ?_ <;> first | rfl | (simp [ix4, ix3, ix2] <;> omega)

/-- The third branch's weights, as the latents read them. -/
theorem wbC63_apply (x10 : S2x3x512x1024.Idx → EReal) (k : Fin 512) (j : Fin 1024) :
    (val_main_v63 (F := Ideal) x10 (ix2 k j) : EReal) = x10 (ix4 0 2 k j) := by
  rw [val_main_v63_apply, val_main_v62_apply, val_main_v3_apply, val_main_v2_apply, val_main_v1_apply]
  refine congrArg x10 ?_
  funext a; have := k.isLt; have := j.isLt; fin_cases a <;> refine Fin.ext ?_ <;> first | rfl | (simp [ix4, ix3, ix2] <;> omega)

/-- The first branch's weights, as the context reads them. -/
theorem wbA128_apply (x10 : S2x3x512x1024.Idx → EReal) (k : Fin 512) (j : Fin 1024) :
    (val_main_v128 (F := Ideal) x10 (ix2 k j) : EReal) = x10 (ix4 0 0 k j) := by
  rw [val_main_v128_apply, val_main_v127_apply, val_main_v3_apply, val_main_v2_apply, val_main_v1_apply]
  refine congrArg x10 ?_
  funext a; have := k.isLt; have := j.isLt; fin_cases a <;> refine Fin.ext ?_ <;> first | rfl | (simp [ix4, ix3, ix2] <;> omega)

/-- The second branch's weights, as the context reads them. -/
theorem wbB132_apply (x10 : S2x3x512x1024.Idx → EReal) (k : Fin 512) (j : Fin 1024) :
    (val_main_v132 (F := Ideal) x10 (ix2 k j) : EReal) = x10 (ix4 0 1 k j) := by
  rw [val_main_v132_apply, val_main_v131_apply, val_main_v3_apply, val_main_v2_apply, val_main_v1_apply]
  refine congrArg x10 ?_
  funext a; have := k.isLt; have := j.isLt; fin_cases a <;> refine Fin.ext ?_ <;> first | rfl | (simp [ix4, ix3, ix2] <;> omega)

/-- The third branch's weights, as the context reads them. -/
theorem wbC137_apply (x10 : S2x3x512x1024.Idx → EReal) (k : Fin 512) (j : Fin 1024) :
    (val_main_v137 (F := Ideal) x10 (ix2 k j) : EReal) = x10 (ix4 0 2 k j) := by
  rw [val_main_v137_apply, val_main_v136_apply, val_main_v3_apply, val_main_v2_apply, val_main_v1_apply]
  refine congrArg x10 ?_
  funext a; have := k.isLt; have := j.isLt; fin_cases a <;> refine Fin.ext ?_ <;> first | rfl | (simp [ix4, ix3, ix2] <;> omega)

namespace Lat

variable (x0 : S16896x1024.Idx → EReal) (x1 : S2x8x9x1024.Idx → EReal) (x2 x3 : S1024.Idx → EReal)
  (x4 : S1024x3072.Idx → EReal) (x5 : S16896x512.Idx → EReal) (x6 x7 : S16384x512.Idx → EReal)
  (x10 : S2x3x512x1024.Idx → EReal) (x11 : S2x1024x1024.Idx → EReal)

/-- Row `r` of sequence `b` of the latents. -/
def X (b : Fin 2) (r : Fin 8192) (k : Fin 1024) : EReal := x0 (ix2 ⟨b.val * 8192 + r.val, by omega⟩ k)

/-- Vector `n` of the condition of the latents of sequence `b`. -/
def C (b : Fin 2) (n : Fin 9) (k : Fin 1024) : EReal := x1 (ix4 0 ⟨b.val, by omega⟩ n k)

/-- Row `r` of sequence `b` of the first branch. -/
def YA (b : Fin 2) (r : Fin 8192) (k : Fin 512) : EReal := x5 (ix2 ⟨b.val * 8448 + r.val, by omega⟩ k)

/-- Row `r` of sequence `b` of another branch. -/
def Y (y : S16384x512.Idx → EReal) (b : Fin 2) (r : Fin 8192) (k : Fin 512) : EReal := y (ix2 ⟨b.val * 8192 + r.val, by omega⟩ k)

theorem x_apply (b : Fin 2) (r : Fin 8192) (k : Fin 1024) :
    (val_main_v10 (F := Ideal) x0 (ix3 b r k) : EReal) = X x0 b r k := by
  rw [val_main_v10_apply, val_main_v9_apply]
  refine congrArg x0 ?_
  funext a; have := b.isLt; have := r.isLt; have := k.isLt; fin_cases a <;> refine Fin.ext ?_ <;> first | rfl | (simp [ix4, ix3, ix2] <;> omega)

theorem shift_apply (b : Fin 2) (r : Fin 8192) (k : Fin 1024) :
    (val_main_v41 (F := Ideal) x1 (ix3 b r k) : EReal) = C x1 b 3 k := by
  rw [val_main_v41_apply, val_main_v13_apply, val_main_v12_apply, val_main_v11_apply]
  refine congrArg x1 ?_
  funext a; have := b.isLt; have := k.isLt; fin_cases a <;> refine Fin.ext ?_ <;> first | rfl | (simp [ix4, ix3, ix2] <;> omega)

theorem scale_apply (b : Fin 2) (r : Fin 8192) (k : Fin 1024) :
    (val_main_v39 (F := Ideal) x1 (ix3 b r k) : EReal) = Ideal.ofBits .f32 0x3F800000#32 + C x1 b 4 k := by
  rw [val_main_v39_apply, val_main_v38_apply, val_main_v37_apply, val_main_cst_2_apply, val_main_v16_apply,
    val_main_v15_apply, val_main_v14_apply]
  refine congrArg (fun z : EReal => Ideal.ofBits .f32 0x3F800000#32 + z) (congrArg x1 ?_)
  funext a; have := b.isLt; have := k.isLt; fin_cases a <;> refine Fin.ext ?_ <;> first | rfl | (simp [ix4, ix3, ix2] <;> omega)

theorem gate_apply (b : Fin 2) (r : Fin 8192) (k : Fin 1024) :
    (val_main_v81 (F := Ideal) x1 (ix3 b r k) : EReal) = C x1 b 5 k := by
  rw [val_main_v81_apply, val_main_v19_apply, val_main_v18_apply, val_main_v17_apply]
  refine congrArg x1 ?_
  funext a; have := b.isLt; have := k.isLt; fin_cases a <;> refine Fin.ext ?_ <;> first | rfl | (simp [ix4, ix3, ix2] <;> omega)

theorem pre_apply (b : Fin 2) (r : Fin 8192) (k : Fin 1024) :
    (val_main_v35 (F := Ideal) x2 (ix3 b r k) : EReal) = x2 (ix1 k) := by
  rw [val_main_v35_apply, val_main_v34_apply]
  refine congrArg x2 ?_
  funext a; fin_cases a; rfl

theorem post_apply (b : Fin 2) (r : Fin 8192) (k : Fin 1024) :
    (val_main_v79 (F := Ideal) x3 (ix3 b r k) : EReal) = x3 (ix1 k) := by
  rw [val_main_v79_apply, val_main_v78_apply]
  refine congrArg x3 ?_
  funext a; fin_cases a; rfl

/-- The rows divided by the root of their mean square. -/
theorem rms_apply (b : Fin 2) (r : Fin 8192) (k : Fin 1024) :
    (val_main_v33 (F := Ideal) x0 (ix3 b r k) : EReal) = Ffn.rms (X x0 b r) k := by
  rw [val_main_v33_apply, val_main_v32_apply, val_main_v31_apply, val_main_v30_apply, val_main_v28_apply,
    val_main_v26_apply, val_main_v25_apply, val_main_v27_apply, val_main_v29_apply, val_main_cst_apply,
    val_main_cst_0_apply, val_main_cst_1_apply, x_apply]
  have e : ∀ d : Fin 1024, idx_main_v25 (idx_main_v26 (idx_main_v32 (ix3 b r k))) d = ix3 b r d := fun d => by
    funext a; fin_cases a <;> rfl
  simp only [e, val_main_v24_apply, x_apply]
  show X x0 b r k * Ideal.rsqrt (Ideal.div (Ideal.ofBits .f32 0x00000000#32 + ∑ d, X x0 b r d * X x0 b r d) _ + _) = _
  rw [Ffn.Reference.ofBits_zero, zero_add]
  rfl

/-- The modulated rows. -/
theorem hidden_apply (b : Fin 2) (r : Fin 8192) (k : Fin 1024) :
    (val_main_v42 (F := Ideal) x0 x1 x2 (ix3 b r k) : EReal)
      = Ffn.hidden (X x0 b r) (fun k => x2 (ix1 k)) (C x1 b 3) (C x1 b 4) k := by
  rw [val_main_v42_apply, val_main_v40_apply, val_main_v36_apply, rms_apply, pre_apply, scale_apply, shift_apply]
  unfold Ffn.hidden
  rfl

/-- The three branches' gates before the logistic, side by side. -/
theorem gateIn_apply (b : Fin 2) (r : Fin 8192) (f : Fin 3072) :
    (val_main_v43 (F := Ideal) x0 x1 x2 x4 (ix3 b r f) : EReal)
      = ∑ k, Ffn.hidden (X x0 b r) (fun k => x2 (ix1 k)) (C x1 b 3) (C x1 b 4) k * x4 (ix2 k f) := by
  rw [val_main_v43_apply]
  refine Finset.sum_congr rfl fun k _ => ?_
  have e : lidx_main_v43 (ix3 b r f) k = ix3 b r k := by funext a; fin_cases a <;> rfl
  have e' : ridx_main_v43 (ix3 b r f) k = ix2 k f := by funext a; fin_cases a <;> rfl
  rw [e, e', hidden_apply, wg_apply]

/-- The three branches' gates, side by side. -/
theorem gate3_apply (b : Fin 2) (r : Fin 8192) (f : Fin 3072) :
    (val_main_v49 (F := Ideal) x0 x1 x2 x4 (ix3 b r f) : EReal)
      = Ideal.logistic (∑ k, Ffn.hidden (X x0 b r) (fun k => x2 (ix1 k)) (C x1 b 3) (C x1 b 4) k * x4 (ix2 k f)) := by
  rw [val_main_v49_apply, val_main_v48_apply, val_main_cst_4_apply, val_main_v47_apply, val_main_v46_apply,
    val_main_cst_3_apply, val_main_v45_apply, val_main_v44_apply, gateIn_apply]
  unfold Ideal.logistic
  rw [← Ffn.Reference.ofBits_one]
  rfl

/-- The gate of the first branch. -/
theorem gateA_apply (b : Fin 2) (r : Fin 8192) (j : Fin 1024) :
    (val_main_v50 (F := Ideal) x0 x1 x2 x4 (ix3 b r j) : EReal)
      = Ideal.logistic (∑ k, Ffn.hidden (X x0 b r) (fun k => x2 (ix1 k)) (C x1 b 3) (C x1 b 4) k
          * x4 (ix2 k ⟨j.val, by omega⟩)) := by
  have e : idx_main_v50 (ix3 b r j) = ix3 b r ⟨j.val, by omega⟩ := by
    funext a; have := b.isLt; have := r.isLt; have := j.isLt; fin_cases a <;> refine Fin.ext ?_ <;> first | rfl | (simp [ix4, ix3, ix2] <;> omega)
  rw [val_main_v50_apply, e, gate3_apply]

/-- The gate of the second branch. -/
theorem gateB_apply (b : Fin 2) (r : Fin 8192) (j : Fin 1024) :
    (val_main_v51 (F := Ideal) x0 x1 x2 x4 (ix3 b r j) : EReal)
      = Ideal.logistic (∑ k, Ffn.hidden (X x0 b r) (fun k => x2 (ix1 k)) (C x1 b 3) (C x1 b 4) k
          * x4 (ix2 k ⟨1024 + j.val, by omega⟩)) := by
  have e : idx_main_v51 (ix3 b r j) = ix3 b r ⟨1024 + j.val, by omega⟩ := by
    funext a; have := b.isLt; have := r.isLt; have := j.isLt; fin_cases a <;> refine Fin.ext ?_ <;> first | rfl | (simp [ix4, ix3, ix2] <;> omega)
  rw [val_main_v51_apply, e, gate3_apply]

/-- The gate of the third branch. -/
theorem gateC_apply (b : Fin 2) (r : Fin 8192) (j : Fin 1024) :
    (val_main_v52 (F := Ideal) x0 x1 x2 x4 (ix3 b r j) : EReal)
      = Ideal.logistic (∑ k, Ffn.hidden (X x0 b r) (fun k => x2 (ix1 k)) (C x1 b 3) (C x1 b 4) k
          * x4 (ix2 k ⟨2048 + j.val, by omega⟩)) := by
  have e : idx_main_v52 (ix3 b r j) = ix3 b r ⟨2048 + j.val, by omega⟩ := by
    funext a; have := b.isLt; have := r.isLt; have := j.isLt; fin_cases a <;> refine Fin.ext ?_ <;> first | rfl | (simp [ix4, ix3, ix2] <;> omega)
  rw [val_main_v52_apply, e, gate3_apply]

/-- The rows of the first branch. -/
theorem ya_apply (b : Fin 2) (r : Fin 8192) (k : Fin 512) :
    (val_main_v20 (F := Ideal) x5 (ix3 b r k) : EReal) = YA x5 b r k := by
  rw [val_main_v20_apply, val_main_v8_apply, val_main_v7_apply]
  refine congrArg x5 ?_
  funext a; have := b.isLt; have := r.isLt; have := k.isLt; fin_cases a <;> refine Fin.ext ?_ <;> first | rfl | (simp [ix4, ix3, ix2] <;> omega)

/-- The rows of the second branch. -/
theorem yb_apply (b : Fin 2) (r : Fin 8192) (k : Fin 512) :
    (val_main_v21 (F := Ideal) x6 (ix3 b r k) : EReal) = Y x6 b r k := by
  rw [val_main_v21_apply]
  refine congrArg x6 ?_
  funext a; have := b.isLt; have := r.isLt; have := k.isLt; fin_cases a <;> refine Fin.ext ?_ <;> first | rfl | (simp [ix4, ix3, ix2] <;> omega)

/-- The rows of the third branch. -/
theorem yc_apply (b : Fin 2) (r : Fin 8192) (k : Fin 512) :
    (val_main_v23 (F := Ideal) x7 (ix3 b r k) : EReal) = Y x7 b r k := by
  rw [val_main_v23_apply, val_main_v22_apply]
  refine congrArg x7 ?_
  funext a; have := b.isLt; have := r.isLt; have := k.isLt; fin_cases a <;> refine Fin.ext ?_ <;> first | rfl | (simp [ix4, ix3, ix2] <;> omega)

/-- The first branch times its weights. -/
theorem branchA_apply (b : Fin 2) (r : Fin 8192) (j : Fin 1024) :
    (val_main_v55 (F := Ideal) x5 x10 (ix3 b r j) : EReal) = ∑ k, YA x5 b r k * x10 (ix4 0 0 k j) := by
  rw [val_main_v55_apply]
  refine Finset.sum_congr rfl fun k _ => ?_
  have e : lidx_main_v55 (ix3 b r j) k = ix3 b r k := by funext a; fin_cases a <;> rfl
  have e' : ridx_main_v55 (ix3 b r j) k = ix2 k j := by funext a; fin_cases a <;> rfl
  rw [e, e', ya_apply, wbA54_apply]

/-- The second branch times its weights. -/
theorem branchB_apply (b : Fin 2) (r : Fin 8192) (j : Fin 1024) :
    (val_main_v59 (F := Ideal) x6 x10 (ix3 b r j) : EReal) = ∑ k, Y x6 b r k * x10 (ix4 0 1 k j) := by
  rw [val_main_v59_apply]
  refine Finset.sum_congr rfl fun k _ => ?_
  have e : lidx_main_v59 (ix3 b r j) k = ix3 b r k := by funext a; fin_cases a <;> rfl
  have e' : ridx_main_v59 (ix3 b r j) k = ix2 k j := by funext a; fin_cases a <;> rfl
  rw [e, e', yb_apply, wbB58_apply]

/-- The third branch times its weights. -/
theorem branchC_apply (b : Fin 2) (r : Fin 8192) (j : Fin 1024) :
    (val_main_v64 (F := Ideal) x7 x10 (ix3 b r j) : EReal) = ∑ k, Y x7 b r k * x10 (ix4 0 2 k j) := by
  rw [val_main_v64_apply]
  refine Finset.sum_congr rfl fun k _ => ?_
  have e : lidx_main_v64 (ix3 b r j) k = ix3 b r k := by funext a; fin_cases a <;> rfl
  have e' : ridx_main_v64 (ix3 b r j) k = ix2 k j := by funext a; fin_cases a <;> rfl
  rw [e, e', yc_apply, wbC63_apply]

/-- The gated branches, summed. -/
theorem mixed_apply (b : Fin 2) (r : Fin 8192) (j : Fin 1024) :
    (val_main_v66 (F := Ideal) x0 x1 x2 x4 x5 x6 x7 x10 (ix3 b r j) : EReal)
      = mixed (Ffn.hidden (X x0 b r) (fun k => x2 (ix1 k)) (C x1 b 3) (C x1 b 4)) (fun k j => x4 (ix2 k j)) (YA x5 b r)
          (Y x6 b r) (Y x7 b r) (fun c k j => x10 (ix4 0 c k j)) j := by
  rw [val_main_v66_apply, val_main_v61_apply, val_main_v56_apply, val_main_v60_apply, val_main_v65_apply,
    gateA_apply, gateB_apply, gateC_apply,
    branchA_apply, branchB_apply, branchC_apply]
  unfold mixed gated
  rfl

/-- The projected rows. -/
theorem project_apply (b : Fin 2) (r : Fin 8192) (j : Fin 1024) :
    (val_main_v67 (F := Ideal) x0 x1 x2 x4 x5 x6 x7 x10 x11 (ix3 b r j) : EReal)
      = ∑ d, mixed (Ffn.hidden (X x0 b r) (fun k => x2 (ix1 k)) (C x1 b 3) (C x1 b 4)) (fun k j => x4 (ix2 k j)) (YA x5 b r)
          (Y x6 b r) (Y x7 b r) (fun c k j => x10 (ix4 0 c k j)) d
          * x11 (ix3 0 d j) := by
  rw [val_main_v67_apply]
  refine Finset.sum_congr rfl fun d _ => ?_
  have e : lidx_main_v67 (ix3 b r j) d = ix3 b r d := by funext a; fin_cases a <;> rfl
  have e' : ridx_main_v67 (ix3 b r j) d = ix2 d j := by funext a; fin_cases a <;> rfl
  rw [e, e', mixed_apply, wo_apply]

/-- The projected rows divided by the root of their mean square. -/
theorem rmsOut_apply (b : Fin 2) (r : Fin 8192) (j : Fin 1024) :
    (val_main_v77 (F := Ideal) x0 x1 x2 x4 x5 x6 x7 x10 x11 (ix3 b r j) : EReal)
      = Ffn.rms (fun j => ∑ d, mixed (Ffn.hidden (X x0 b r) (fun k => x2 (ix1 k)) (C x1 b 3) (C x1 b 4)) (fun k j => x4 (ix2 k j)) (YA x5 b r)
          (Y x6 b r) (Y x7 b r) (fun c k j => x10 (ix4 0 c k j)) d
          * x11 (ix3 0 d j)) j := by
  rw [val_main_v77_apply, val_main_v76_apply, val_main_v75_apply, val_main_v74_apply, val_main_v72_apply,
    val_main_v70_apply, val_main_v69_apply, val_main_v71_apply, val_main_v73_apply, val_main_cst_5_apply,
    val_main_cst_6_apply, val_main_cst_7_apply]
  have e : ∀ d : Fin 1024, idx_main_v69 (idx_main_v70 (idx_main_v76 (ix3 b r j))) d = ix3 b r d := fun d => by
    funext a; fin_cases a <;> rfl
  simp only [e, val_main_v68_apply, project_apply]
  generalize mixed (Ffn.hidden (X x0 b r) (fun k => x2 (ix1 k)) (C x1 b 3) (C x1 b 4)) (fun k j => x4 (ix2 k j)) (YA x5 b r)
    (Y x6 b r) (Y x7 b r) (fun c k j => x10 (ix4 0 c k j)) = q
  generalize hy : (fun j : Fin 1024 => (∑ d, q d * x11 (ix3 0 d j) : EReal)) = y
  have ey : ∀ j : Fin 1024, (∑ d, q d * x11 (ix3 0 d j) : EReal) = y j := fun j => congrFun hy j
  simp only [ey]
  show y j * Ideal.rsqrt (Ideal.div (Ideal.ofBits .f32 0x00000000#32 + ∑ d, y d * y d) _ + _) = _
  rw [Ffn.Reference.ofBits_zero, zero_add]
  rfl

/-- The result's rows. -/
theorem out_apply (b : Fin 2) (r : Fin 8192) (j : Fin 1024) :
    (val_main_v83 (F := Ideal) x0 x1 x2 x3 x4 x5 x6 x7 x10 x11 (ix3 b r j) : EReal)
      = rowOut (X x0 b r) (C x1 b 3) (C x1 b 4) (C x1 b 5) (fun k => x2 (ix1 k)) (fun k => x3 (ix1 k))
          (fun k j => x4 (ix2 k j)) (YA x5 b r) (Y x6 b r) (Y x7 b r) (fun c k j => x10 (ix4 0 c k j))
          (fun d j => x11 (ix3 0 d j)) j := by
  rw [val_main_v83_apply, val_main_v82_apply, val_main_v80_apply, x_apply, gate_apply, rmsOut_apply, post_apply]
  unfold rowOut
  rfl

end Lat

namespace Ctx

variable (x0 : S16896x1024.Idx → EReal) (x1 : S2x8x9x1024.Idx → EReal) (x2 x3 : S1024.Idx → EReal)
  (x4 : S1024x3072.Idx → EReal) (x5 : S16896x512.Idx → EReal) (x8 x9 : S512x512.Idx → EReal)
  (x10 : S2x3x512x1024.Idx → EReal) (x11 : S2x1024x1024.Idx → EReal)

/-- Row `r` of sequence `b` of the context. -/
def X (b : Fin 2) (r : Fin 256) (k : Fin 1024) : EReal := x0 (ix2 ⟨16384 + (b.val * 256 + r.val), by omega⟩ k)

/-- Vector `n` of the condition of the context of sequence `b`. -/
def C (b : Fin 2) (n : Fin 9) (k : Fin 1024) : EReal := x1 (ix4 0 2 n k)

/-- Row `r` of sequence `b` of the first branch. -/
def YA (b : Fin 2) (r : Fin 256) (k : Fin 512) : EReal := x5 (ix2 ⟨b.val * 8448 + (8192 + r.val), by omega⟩ k)

/-- Row `r` of sequence `b` of another branch. -/
def Y (y : S512x512.Idx → EReal) (b : Fin 2) (r : Fin 256) (k : Fin 512) : EReal := y (ix2 ⟨b.val * 256 + r.val, by omega⟩ k)

theorem x_apply (b : Fin 2) (r : Fin 256) (k : Fin 1024) :
    (val_main_v85 (F := Ideal) x0 (ix3 b r k) : EReal) = X x0 b r k := by
  rw [val_main_v85_apply, val_main_v84_apply]
  refine congrArg x0 ?_
  funext a; have := b.isLt; have := r.isLt; have := k.isLt; fin_cases a <;> refine Fin.ext ?_ <;> first | rfl | (simp [ix4, ix3, ix2] <;> omega)

theorem shift_apply (b : Fin 2) (r : Fin 256) (k : Fin 1024) :
    (val_main_v115 (F := Ideal) x1 (ix3 b r k) : EReal) = C x1 b 3 k := by
  rw [val_main_v115_apply, val_main_v114_apply, val_main_v87_apply, val_main_v86_apply]
  refine congrArg x1 ?_
  funext a; have := b.isLt; have := k.isLt; fin_cases a <;> refine Fin.ext ?_ <;> first | rfl | (simp [ix4, ix3, ix2] <;> omega)

theorem scale_apply (b : Fin 2) (r : Fin 256) (k : Fin 1024) :
    (val_main_v112 (F := Ideal) x1 (ix3 b r k) : EReal) = Ideal.ofBits .f32 0x3F800000#32 + C x1 b 4 k := by
  rw [val_main_v112_apply, val_main_v111_apply, val_main_v110_apply, val_main_v109_apply, val_main_cst_11_apply,
    val_main_v89_apply, val_main_v88_apply]
  refine congrArg (fun z : EReal => Ideal.ofBits .f32 0x3F800000#32 + z) (congrArg x1 ?_)
  funext a; have := b.isLt; have := k.isLt; fin_cases a <;> refine Fin.ext ?_ <;> first | rfl | (simp [ix4, ix3, ix2] <;> omega)

theorem gate_apply (b : Fin 2) (r : Fin 256) (k : Fin 1024) :
    (val_main_v156 (F := Ideal) x1 (ix3 b r k) : EReal) = C x1 b 5 k := by
  rw [val_main_v156_apply, val_main_v155_apply, val_main_v91_apply, val_main_v90_apply]
  refine congrArg x1 ?_
  funext a; have := b.isLt; have := k.isLt; fin_cases a <;> refine Fin.ext ?_ <;> first | rfl | (simp [ix4, ix3, ix2] <;> omega)

theorem pre_apply (b : Fin 2) (r : Fin 256) (k : Fin 1024) :
    (val_main_v107 (F := Ideal) x2 (ix3 b r k) : EReal) = x2 (ix1 k) := by
  rw [val_main_v107_apply, val_main_v106_apply]
  refine congrArg x2 ?_
  funext a; fin_cases a; rfl

theorem post_apply (b : Fin 2) (r : Fin 256) (k : Fin 1024) :
    (val_main_v153 (F := Ideal) x3 (ix3 b r k) : EReal) = x3 (ix1 k) := by
  rw [val_main_v153_apply, val_main_v152_apply]
  refine congrArg x3 ?_
  funext a; fin_cases a; rfl

/-- The rows divided by the root of their mean square. -/
theorem rms_apply (b : Fin 2) (r : Fin 256) (k : Fin 1024) :
    (val_main_v105 (F := Ideal) x0 (ix3 b r k) : EReal) = Ffn.rms (X x0 b r) k := by
  rw [val_main_v105_apply, val_main_v104_apply, val_main_v103_apply, val_main_v102_apply, val_main_v100_apply,
    val_main_v98_apply, val_main_v97_apply, val_main_v99_apply, val_main_v101_apply, val_main_cst_8_apply,
    val_main_cst_9_apply, val_main_cst_10_apply, x_apply]
  have e : ∀ d : Fin 1024, idx_main_v97 (idx_main_v98 (idx_main_v104 (ix3 b r k))) d = ix3 b r d := fun d => by
    funext a; fin_cases a <;> rfl
  simp only [e, val_main_v96_apply, x_apply]
  show X x0 b r k * Ideal.rsqrt (Ideal.div (Ideal.ofBits .f32 0x00000000#32 + ∑ d, X x0 b r d * X x0 b r d) _ + _) = _
  rw [Ffn.Reference.ofBits_zero, zero_add]
  rfl

/-- The modulated rows. -/
theorem hidden_apply (b : Fin 2) (r : Fin 256) (k : Fin 1024) :
    (val_main_v116 (F := Ideal) x0 x1 x2 (ix3 b r k) : EReal)
      = Ffn.hidden (X x0 b r) (fun k => x2 (ix1 k)) (C x1 b 3) (C x1 b 4) k := by
  rw [val_main_v116_apply, val_main_v113_apply, val_main_v108_apply, rms_apply, pre_apply, scale_apply, shift_apply]
  unfold Ffn.hidden
  rfl

/-- The three branches' gates before the logistic, side by side. -/
theorem gateIn_apply (b : Fin 2) (r : Fin 256) (f : Fin 3072) :
    (val_main_v117 (F := Ideal) x0 x1 x2 x4 (ix3 b r f) : EReal)
      = ∑ k, Ffn.hidden (X x0 b r) (fun k => x2 (ix1 k)) (C x1 b 3) (C x1 b 4) k * x4 (ix2 k f) := by
  rw [val_main_v117_apply]
  refine Finset.sum_congr rfl fun k _ => ?_
  have e : lidx_main_v117 (ix3 b r f) k = ix3 b r k := by funext a; fin_cases a <;> rfl
  have e' : ridx_main_v117 (ix3 b r f) k = ix2 k f := by funext a; fin_cases a <;> rfl
  rw [e, e', hidden_apply, wg_apply]

/-- The three branches' gates, side by side. -/
theorem gate3_apply (b : Fin 2) (r : Fin 256) (f : Fin 3072) :
    (val_main_v123 (F := Ideal) x0 x1 x2 x4 (ix3 b r f) : EReal)
      = Ideal.logistic (∑ k, Ffn.hidden (X x0 b r) (fun k => x2 (ix1 k)) (C x1 b 3) (C x1 b 4) k * x4 (ix2 k f)) := by
  rw [val_main_v123_apply, val_main_v122_apply, val_main_cst_13_apply, val_main_v121_apply, val_main_v120_apply,
    val_main_cst_12_apply, val_main_v119_apply, val_main_v118_apply, gateIn_apply]
  unfold Ideal.logistic
  rw [← Ffn.Reference.ofBits_one]
  rfl

/-- The gate of the first branch. -/
theorem gateA_apply (b : Fin 2) (r : Fin 256) (j : Fin 1024) :
    (val_main_v124 (F := Ideal) x0 x1 x2 x4 (ix3 b r j) : EReal)
      = Ideal.logistic (∑ k, Ffn.hidden (X x0 b r) (fun k => x2 (ix1 k)) (C x1 b 3) (C x1 b 4) k
          * x4 (ix2 k ⟨j.val, by omega⟩)) := by
  have e : idx_main_v124 (ix3 b r j) = ix3 b r ⟨j.val, by omega⟩ := by
    funext a; have := b.isLt; have := r.isLt; have := j.isLt; fin_cases a <;> refine Fin.ext ?_ <;> first | rfl | (simp [ix4, ix3, ix2] <;> omega)
  rw [val_main_v124_apply, e, gate3_apply]

/-- The gate of the second branch. -/
theorem gateB_apply (b : Fin 2) (r : Fin 256) (j : Fin 1024) :
    (val_main_v125 (F := Ideal) x0 x1 x2 x4 (ix3 b r j) : EReal)
      = Ideal.logistic (∑ k, Ffn.hidden (X x0 b r) (fun k => x2 (ix1 k)) (C x1 b 3) (C x1 b 4) k
          * x4 (ix2 k ⟨1024 + j.val, by omega⟩)) := by
  have e : idx_main_v125 (ix3 b r j) = ix3 b r ⟨1024 + j.val, by omega⟩ := by
    funext a; have := b.isLt; have := r.isLt; have := j.isLt; fin_cases a <;> refine Fin.ext ?_ <;> first | rfl | (simp [ix4, ix3, ix2] <;> omega)
  rw [val_main_v125_apply, e, gate3_apply]

/-- The gate of the third branch. -/
theorem gateC_apply (b : Fin 2) (r : Fin 256) (j : Fin 1024) :
    (val_main_v126 (F := Ideal) x0 x1 x2 x4 (ix3 b r j) : EReal)
      = Ideal.logistic (∑ k, Ffn.hidden (X x0 b r) (fun k => x2 (ix1 k)) (C x1 b 3) (C x1 b 4) k
          * x4 (ix2 k ⟨2048 + j.val, by omega⟩)) := by
  have e : idx_main_v126 (ix3 b r j) = ix3 b r ⟨2048 + j.val, by omega⟩ := by
    funext a; have := b.isLt; have := r.isLt; have := j.isLt; fin_cases a <;> refine Fin.ext ?_ <;> first | rfl | (simp [ix4, ix3, ix2] <;> omega)
  rw [val_main_v126_apply, e, gate3_apply]

/-- The rows of the first branch. -/
theorem ya_apply (b : Fin 2) (r : Fin 256) (k : Fin 512) :
    (val_main_v92 (F := Ideal) x5 (ix3 b r k) : EReal) = YA x5 b r k := by
  rw [val_main_v92_apply, val_main_v8_apply, val_main_v7_apply]
  refine congrArg x5 ?_
  funext a; have := b.isLt; have := r.isLt; have := k.isLt; fin_cases a <;> refine Fin.ext ?_ <;> first | rfl | (simp [ix4, ix3, ix2] <;> omega)

/-- The rows of the second branch. -/
theorem yb_apply (b : Fin 2) (r : Fin 256) (k : Fin 512) :
    (val_main_v93 (F := Ideal) x8 (ix3 b r k) : EReal) = Y x8 b r k := by
  rw [val_main_v93_apply]
  refine congrArg x8 ?_
  funext a; have := b.isLt; have := r.isLt; have := k.isLt; fin_cases a <;> refine Fin.ext ?_ <;> first | rfl | (simp [ix4, ix3, ix2] <;> omega)

/-- The rows of the third branch. -/
theorem yc_apply (b : Fin 2) (r : Fin 256) (k : Fin 512) :
    (val_main_v95 (F := Ideal) x9 (ix3 b r k) : EReal) = Y x9 b r k := by
  rw [val_main_v95_apply, val_main_v94_apply]
  refine congrArg x9 ?_
  funext a; have := b.isLt; have := r.isLt; have := k.isLt; fin_cases a <;> refine Fin.ext ?_ <;> first | rfl | (simp [ix4, ix3, ix2] <;> omega)

/-- The first branch times its weights. -/
theorem branchA_apply (b : Fin 2) (r : Fin 256) (j : Fin 1024) :
    (val_main_v129 (F := Ideal) x5 x10 (ix3 b r j) : EReal) = ∑ k, YA x5 b r k * x10 (ix4 0 0 k j) := by
  rw [val_main_v129_apply]
  refine Finset.sum_congr rfl fun k _ => ?_
  have e : lidx_main_v129 (ix3 b r j) k = ix3 b r k := by funext a; fin_cases a <;> rfl
  have e' : ridx_main_v129 (ix3 b r j) k = ix2 k j := by funext a; fin_cases a <;> rfl
  rw [e, e', ya_apply, wbA128_apply]

/-- The second branch times its weights. -/
theorem branchB_apply (b : Fin 2) (r : Fin 256) (j : Fin 1024) :
    (val_main_v133 (F := Ideal) x8 x10 (ix3 b r j) : EReal) = ∑ k, Y x8 b r k * x10 (ix4 0 1 k j) := by
  rw [val_main_v133_apply]
  refine Finset.sum_congr rfl fun k _ => ?_
  have e : lidx_main_v133 (ix3 b r j) k = ix3 b r k := by funext a; fin_cases a <;> rfl
  have e' : ridx_main_v133 (ix3 b r j) k = ix2 k j := by funext a; fin_cases a <;> rfl
  rw [e, e', yb_apply, wbB132_apply]

/-- The third branch times its weights. -/
theorem branchC_apply (b : Fin 2) (r : Fin 256) (j : Fin 1024) :
    (val_main_v138 (F := Ideal) x9 x10 (ix3 b r j) : EReal) = ∑ k, Y x9 b r k * x10 (ix4 0 2 k j) := by
  rw [val_main_v138_apply]
  refine Finset.sum_congr rfl fun k _ => ?_
  have e : lidx_main_v138 (ix3 b r j) k = ix3 b r k := by funext a; fin_cases a <;> rfl
  have e' : ridx_main_v138 (ix3 b r j) k = ix2 k j := by funext a; fin_cases a <;> rfl
  rw [e, e', yc_apply, wbC137_apply]

/-- The gated branches, summed. -/
theorem mixed_apply (b : Fin 2) (r : Fin 256) (j : Fin 1024) :
    (val_main_v140 (F := Ideal) x0 x1 x2 x4 x5 x8 x9 x10 (ix3 b r j) : EReal)
      = mixed (Ffn.hidden (X x0 b r) (fun k => x2 (ix1 k)) (C x1 b 3) (C x1 b 4)) (fun k j => x4 (ix2 k j)) (YA x5 b r)
          (Y x8 b r) (Y x9 b r) (fun c k j => x10 (ix4 0 c k j)) j := by
  rw [val_main_v140_apply, val_main_v135_apply, val_main_v130_apply, val_main_v134_apply, val_main_v139_apply,
    gateA_apply, gateB_apply, gateC_apply,
    branchA_apply, branchB_apply, branchC_apply]
  unfold mixed gated
  rfl

/-- The projected rows. -/
theorem project_apply (b : Fin 2) (r : Fin 256) (j : Fin 1024) :
    (val_main_v141 (F := Ideal) x0 x1 x2 x4 x5 x8 x9 x10 x11 (ix3 b r j) : EReal)
      = ∑ d, mixed (Ffn.hidden (X x0 b r) (fun k => x2 (ix1 k)) (C x1 b 3) (C x1 b 4)) (fun k j => x4 (ix2 k j)) (YA x5 b r)
          (Y x8 b r) (Y x9 b r) (fun c k j => x10 (ix4 0 c k j)) d
          * x11 (ix3 0 d j) := by
  rw [val_main_v141_apply]
  refine Finset.sum_congr rfl fun d _ => ?_
  have e : lidx_main_v141 (ix3 b r j) d = ix3 b r d := by funext a; fin_cases a <;> rfl
  have e' : ridx_main_v141 (ix3 b r j) d = ix2 d j := by funext a; fin_cases a <;> rfl
  rw [e, e', mixed_apply, wo_apply]

/-- The projected rows divided by the root of their mean square. -/
theorem rmsOut_apply (b : Fin 2) (r : Fin 256) (j : Fin 1024) :
    (val_main_v151 (F := Ideal) x0 x1 x2 x4 x5 x8 x9 x10 x11 (ix3 b r j) : EReal)
      = Ffn.rms (fun j => ∑ d, mixed (Ffn.hidden (X x0 b r) (fun k => x2 (ix1 k)) (C x1 b 3) (C x1 b 4)) (fun k j => x4 (ix2 k j)) (YA x5 b r)
          (Y x8 b r) (Y x9 b r) (fun c k j => x10 (ix4 0 c k j)) d
          * x11 (ix3 0 d j)) j := by
  rw [val_main_v151_apply, val_main_v150_apply, val_main_v149_apply, val_main_v148_apply, val_main_v146_apply,
    val_main_v144_apply, val_main_v143_apply, val_main_v145_apply, val_main_v147_apply, val_main_cst_14_apply,
    val_main_cst_15_apply, val_main_cst_16_apply]
  have e : ∀ d : Fin 1024, idx_main_v143 (idx_main_v144 (idx_main_v150 (ix3 b r j))) d = ix3 b r d := fun d => by
    funext a; fin_cases a <;> rfl
  simp only [e, val_main_v142_apply, project_apply]
  generalize mixed (Ffn.hidden (X x0 b r) (fun k => x2 (ix1 k)) (C x1 b 3) (C x1 b 4)) (fun k j => x4 (ix2 k j)) (YA x5 b r)
    (Y x8 b r) (Y x9 b r) (fun c k j => x10 (ix4 0 c k j)) = q
  generalize hy : (fun j : Fin 1024 => (∑ d, q d * x11 (ix3 0 d j) : EReal)) = y
  have ey : ∀ j : Fin 1024, (∑ d, q d * x11 (ix3 0 d j) : EReal) = y j := fun j => congrFun hy j
  simp only [ey]
  show y j * Ideal.rsqrt (Ideal.div (Ideal.ofBits .f32 0x00000000#32 + ∑ d, y d * y d) _ + _) = _
  rw [Ffn.Reference.ofBits_zero, zero_add]
  rfl

/-- The result's rows. -/
theorem out_apply (b : Fin 2) (r : Fin 256) (j : Fin 1024) :
    (val_main_v158 (F := Ideal) x0 x1 x2 x3 x4 x5 x8 x9 x10 x11 (ix3 b r j) : EReal)
      = rowOut (X x0 b r) (C x1 b 3) (C x1 b 4) (C x1 b 5) (fun k => x2 (ix1 k)) (fun k => x3 (ix1 k))
          (fun k j => x4 (ix2 k j)) (YA x5 b r) (Y x8 b r) (Y x9 b r) (fun c k j => x10 (ix4 0 c k j))
          (fun d j => x11 (ix3 0 d j)) j := by
  rw [val_main_v158_apply, val_main_v157_apply, val_main_v154_apply, x_apply, gate_apply, rmsOut_apply, post_apply]
  unfold rowOut
  rfl

end Ctx

/-- The reference's result is the kernel's. -/
theorem result (x0 : S16896x1024.Idx → EReal) (x1 : S2x8x9x1024.Idx → EReal) (x2 x3 : S1024.Idx → EReal)
    (x4 : S1024x3072.Idx → EReal) (x5 : S16896x512.Idx → EReal) (x6 x7 : S16384x512.Idx → EReal) (x8 x9 : S512x512.Idx → EReal)
    (x10 : S2x3x512x1024.Idx → EReal) (x11 : S2x1024x1024.Idx → EReal) :
    val_main_v161 (F := Ideal) x0 x1 x2 x3 x4 x5 x6 x7 x8 x9 x10 x11 = G x0 x1 x2 x3 x4 x5 x6 x7 x8 x9 x10 x11 := by
  funext I
  obtain ⟨R, j, rfl⟩ : ∃ (R : Fin 16896) (j : Fin 1024), I = ix2 R j := ⟨I 0, I 1, by funext a; fin_cases a <;> rfl⟩
  have hj := j.isLt
  have hR := R.isLt
  show _ = rowOut (fun k => x0 (ix2 R k)) (Ffn.cond x1 R 3) (Ffn.cond x1 R 4) (Ffn.cond x1 R 5) (fun k => x2 (ix1 k))
    (fun k => x3 (ix1 k)) (fun k j => x4 (ix2 k j)) (bySample x5 R) (apart x6 x8 R) (apart x7 x9 R)
    (fun b k j => x10 (ix4 0 b k j)) (fun k j => x11 (ix3 0 k j)) j
  by_cases h : R.val < 16384
  · have e : (val_main_v161 (F := Ideal) x0 x1 x2 x3 x4 x5 x6 x7 x8 x9 x10 x11 (ix2 R j) : EReal)
        = val_main_v159 (F := Ideal) x0 x1 x2 x3 x4 x5 x6 x7 x10 x11 (ix2 ⟨R.val, h⟩ j) := by
      unfold val_main_v161
      generalize val_main_v159 (F := Ideal) x0 x1 x2 x3 x4 x5 x6 x7 x10 x11 = a
      generalize val_main_v160 (F := Ideal) x0 x1 x2 x3 x4 x5 x8 x9 x10 x11 = b
      pointwise
      rw [dif_pos h]
    have ei : idx_main_v159 (ix2 ⟨R.val, h⟩ j) = ix3 ⟨R.val / 8192, by omega⟩ ⟨R.val % 8192, by omega⟩ j := by
      funext a
      fin_cases a <;> refine Fin.ext ?_ <;> simp [ix3, ix2] <;> omega
    rw [e, val_main_v159_apply, ei, Lat.out_apply]
    have ex : Lat.X x0 ⟨R.val / 8192, by omega⟩ ⟨R.val % 8192, by omega⟩ = fun k => x0 (ix2 R k) := funext fun k => by
      unfold Lat.X
      refine congrArg x0 (congrArg (fun z => ix2 z k) (Fin.ext ?_))
      show R.val / 8192 * 8192 + R.val % 8192 = R.val
      omega
    have ea : Lat.YA x5 ⟨R.val / 8192, by omega⟩ ⟨R.val % 8192, by omega⟩ = bySample x5 R := funext fun k => by
      unfold Lat.YA bySample
      rw [dif_pos h]
    have eb : Lat.Y x6 ⟨R.val / 8192, by omega⟩ ⟨R.val % 8192, by omega⟩ = apart x6 x8 R := funext fun k => by
      unfold Lat.Y apart
      rw [dif_pos h]
      refine congrArg x6 (congrArg (fun z => ix2 z k) (Fin.ext ?_))
      show R.val / 8192 * 8192 + R.val % 8192 = R.val
      omega
    have ec : Lat.Y x7 ⟨R.val / 8192, by omega⟩ ⟨R.val % 8192, by omega⟩ = apart x7 x9 R := funext fun k => by
      unfold Lat.Y apart
      rw [dif_pos h]
      refine congrArg x7 (congrArg (fun z => ix2 z k) (Fin.ext ?_))
      show R.val / 8192 * 8192 + R.val % 8192 = R.val
      omega
    have ed : ∀ n : Fin 9, Lat.C x1 ⟨R.val / 8192, by omega⟩ n = Ffn.cond x1 R n := fun n => funext fun k => by
      unfold Lat.C Ffn.cond
      refine congrArg x1 (congrArg (fun z => ix4 0 z n k) (Fin.ext ?_))
      show R.val / 8192 = R.val / 8192
      omega
    rw [ex, ea, eb, ec, ed, ed, ed]
  · have e : (val_main_v161 (F := Ideal) x0 x1 x2 x3 x4 x5 x6 x7 x8 x9 x10 x11 (ix2 R j) : EReal)
        = val_main_v160 (F := Ideal) x0 x1 x2 x3 x4 x5 x8 x9 x10 x11 (ix2 ⟨R.val - 16384, by omega⟩ j) := by
      unfold val_main_v161
      generalize val_main_v159 (F := Ideal) x0 x1 x2 x3 x4 x5 x6 x7 x10 x11 = a
      generalize val_main_v160 (F := Ideal) x0 x1 x2 x3 x4 x5 x8 x9 x10 x11 = b
      pointwise
      rw [dif_neg h]
    have ei : idx_main_v160 (ix2 ⟨R.val - 16384, by omega⟩ j) = ix3 ⟨(R.val - 16384) / 256, by omega⟩ ⟨(R.val - 16384) % 256, by omega⟩ j := by
      funext a
      fin_cases a <;> refine Fin.ext ?_ <;> simp [ix3, ix2] <;> omega
    rw [e, val_main_v160_apply, ei, Ctx.out_apply]
    have ex : Ctx.X x0 ⟨(R.val - 16384) / 256, by omega⟩ ⟨(R.val - 16384) % 256, by omega⟩ = fun k => x0 (ix2 R k) := funext fun k => by
      unfold Ctx.X
      refine congrArg x0 (congrArg (fun z => ix2 z k) (Fin.ext ?_))
      show 16384 + ((R.val - 16384) / 256 * 256 + (R.val - 16384) % 256) = R.val
      omega
    have ea : Ctx.YA x5 ⟨(R.val - 16384) / 256, by omega⟩ ⟨(R.val - 16384) % 256, by omega⟩ = bySample x5 R := funext fun k => by
      unfold Ctx.YA bySample
      rw [dif_neg h]
      refine congrArg x5 (congrArg (fun z => ix2 z k) (Fin.ext ?_))
      show (R.val - 16384) / 256 * 8448 + (8192 + (R.val - 16384) % 256)
        = (R.val - 16384) / 256 * 8448 + 8192 + (R.val - 16384) % 256
      omega
    have eb : Ctx.Y x8 ⟨(R.val - 16384) / 256, by omega⟩ ⟨(R.val - 16384) % 256, by omega⟩ = apart x6 x8 R := funext fun k => by
      unfold Ctx.Y apart
      rw [dif_neg h]
      refine congrArg x8 (congrArg (fun z => ix2 z k) (Fin.ext ?_))
      show (R.val - 16384) / 256 * 256 + (R.val - 16384) % 256 = R.val - 16384
      omega
    have ec : Ctx.Y x9 ⟨(R.val - 16384) / 256, by omega⟩ ⟨(R.val - 16384) % 256, by omega⟩ = apart x7 x9 R := funext fun k => by
      unfold Ctx.Y apart
      rw [dif_neg h]
      refine congrArg x9 (congrArg (fun z => ix2 z k) (Fin.ext ?_))
      show (R.val - 16384) / 256 * 256 + (R.val - 16384) % 256 = R.val - 16384
      omega
    have ed : ∀ n : Fin 9, Ctx.C x1 ⟨(R.val - 16384) / 256, by omega⟩ n = Ffn.cond x1 R n := fun n => funext fun k => by
      unfold Ctx.C Ffn.cond
      refine congrArg x1 (congrArg (fun z => ix4 0 z n k) (Fin.ext ?_))
      show 2 = R.val / 8192
      omega
    rw [ex, ea, eb, ec, ed, ed, ed]

end Merge.Reference

end
-- ==== Proof.Merge.Claims.lean ====
/- The merge's claims, each from the modules before: the reference's frame and the equality of the kernel's result
   with the reference's. -/
module

public import proofs.«01_k».proof.Defs
public import proofs.«01_k».proof.Proof.Merge.Reference
public import proofs.«01_k».proof.Proof.Gen.Merge.Frame
public import proofs.«01_k».proof.Proof.Gen.MergeIdeal.Frame
public import proofs.«01_k».proof.Proof.Gen.MergeReferenceIdeal.Run
public import proofs.«01_k».proof.Proof.Gen.MergeReferenceIdeal.Read

@[expose] public section

noncomputable section

namespace Merge.Claims

open Idealize.ShloMosaic Idealize.SL.Sem

/-- The reference of the merge terminates with its arguments unchanged and every counter at zero. -/
theorem frame_reference (m : (ℓ : Loc Cert.MergeReferenceIdeal.nD Cert.MergeReferenceIdeal.τ Cert.MergeReferenceIdeal.sig) → Buf (Elt Ideal) ℓ)
    (ρ : Dev Cert.MergeReferenceIdeal.nD → PrngReg) :
    θ_run (Cert.MergeReferenceIdeal.defs (F := Ideal)) (onTc (τ := Cert.MergeReferenceIdeal.τ) (Cert.MergeReferenceIdeal.main (F := Ideal)))
      ⟨m, fun _ => 0, ρ⟩ fun r => (∀ c : Dev Cert.MergeReferenceIdeal.nD,
        r.2.mem ((c.tc : Thread Cert.MergeReferenceIdeal.nD Cert.MergeReferenceIdeal.τ).loc Cert.MergeReferenceIdeal.main_arg0)
            = m ((c.tc : Thread Cert.MergeReferenceIdeal.nD Cert.MergeReferenceIdeal.τ).loc Cert.MergeReferenceIdeal.main_arg0)
        ∧ r.2.mem ((c.tc : Thread Cert.MergeReferenceIdeal.nD Cert.MergeReferenceIdeal.τ).loc Cert.MergeReferenceIdeal.main_arg1)
            = m ((c.tc : Thread Cert.MergeReferenceIdeal.nD Cert.MergeReferenceIdeal.τ).loc Cert.MergeReferenceIdeal.main_arg1)
        ∧ r.2.mem ((c.tc : Thread Cert.MergeReferenceIdeal.nD Cert.MergeReferenceIdeal.τ).loc Cert.MergeReferenceIdeal.main_arg2)
            = m ((c.tc : Thread Cert.MergeReferenceIdeal.nD Cert.MergeReferenceIdeal.τ).loc Cert.MergeReferenceIdeal.main_arg2)
        ∧ r.2.mem ((c.tc : Thread Cert.MergeReferenceIdeal.nD Cert.MergeReferenceIdeal.τ).loc Cert.MergeReferenceIdeal.main_arg3)
            = m ((c.tc : Thread Cert.MergeReferenceIdeal.nD Cert.MergeReferenceIdeal.τ).loc Cert.MergeReferenceIdeal.main_arg3)
        ∧ r.2.mem ((c.tc : Thread Cert.MergeReferenceIdeal.nD Cert.MergeReferenceIdeal.τ).loc Cert.MergeReferenceIdeal.main_arg4)
            = m ((c.tc : Thread Cert.MergeReferenceIdeal.nD Cert.MergeReferenceIdeal.τ).loc Cert.MergeReferenceIdeal.main_arg4)
        ∧ r.2.mem ((c.tc : Thread Cert.MergeReferenceIdeal.nD Cert.MergeReferenceIdeal.τ).loc Cert.MergeReferenceIdeal.main_arg5)
            = m ((c.tc : Thread Cert.MergeReferenceIdeal.nD Cert.MergeReferenceIdeal.τ).loc Cert.MergeReferenceIdeal.main_arg5)
        ∧ r.2.mem ((c.tc : Thread Cert.MergeReferenceIdeal.nD Cert.MergeReferenceIdeal.τ).loc Cert.MergeReferenceIdeal.main_arg6)
            = m ((c.tc : Thread Cert.MergeReferenceIdeal.nD Cert.MergeReferenceIdeal.τ).loc Cert.MergeReferenceIdeal.main_arg6)
        ∧ r.2.mem ((c.tc : Thread Cert.MergeReferenceIdeal.nD Cert.MergeReferenceIdeal.τ).loc Cert.MergeReferenceIdeal.main_arg7)
            = m ((c.tc : Thread Cert.MergeReferenceIdeal.nD Cert.MergeReferenceIdeal.τ).loc Cert.MergeReferenceIdeal.main_arg7)
        ∧ r.2.mem ((c.tc : Thread Cert.MergeReferenceIdeal.nD Cert.MergeReferenceIdeal.τ).loc Cert.MergeReferenceIdeal.main_arg8)
            = m ((c.tc : Thread Cert.MergeReferenceIdeal.nD Cert.MergeReferenceIdeal.τ).loc Cert.MergeReferenceIdeal.main_arg8)
        ∧ r.2.mem ((c.tc : Thread Cert.MergeReferenceIdeal.nD Cert.MergeReferenceIdeal.τ).loc Cert.MergeReferenceIdeal.main_arg9)
            = m ((c.tc : Thread Cert.MergeReferenceIdeal.nD Cert.MergeReferenceIdeal.τ).loc Cert.MergeReferenceIdeal.main_arg9)
        ∧ r.2.mem ((c.tc : Thread Cert.MergeReferenceIdeal.nD Cert.MergeReferenceIdeal.τ).loc Cert.MergeReferenceIdeal.main_arg10)
            = m ((c.tc : Thread Cert.MergeReferenceIdeal.nD Cert.MergeReferenceIdeal.τ).loc Cert.MergeReferenceIdeal.main_arg10)
        ∧ r.2.mem ((c.tc : Thread Cert.MergeReferenceIdeal.nD Cert.MergeReferenceIdeal.τ).loc Cert.MergeReferenceIdeal.main_arg11)
            = m ((c.tc : Thread Cert.MergeReferenceIdeal.nD Cert.MergeReferenceIdeal.τ).loc Cert.MergeReferenceIdeal.main_arg11))
      ∧ r.2.sem = fun _ => 0 :=
  (θ_run Cert.MergeReferenceIdeal.defs _ _).mono
    (fun r h => ⟨fun c => (h c).2, sem_eq_zero_of_no_sems (by decide) r.2⟩)
    (Cert.MergeReferenceIdeal.Value.run (F := Ideal) m ρ)

/-- From memories that agree on the arguments, the kernel and the reference end with the same result: every row plus its
    condition's gate times the normalised projection of the three gated branches. -/
theorem algebraic : Cert.algebraic_MergeIdeal_MergeReferenceIdeal := by
  intro m g m' g' _ hag
  refine ⟨fun c => Merge.G (m ((c.tc : Thread Cert.MergeIdeal.nD Cert.MergeIdeal.τ).loc Cert.MergeIdeal.main_arg0))
      (m ((c.tc : Thread Cert.MergeIdeal.nD Cert.MergeIdeal.τ).loc Cert.MergeIdeal.main_arg1))
      (m ((c.tc : Thread Cert.MergeIdeal.nD Cert.MergeIdeal.τ).loc Cert.MergeIdeal.main_arg2))
      (m ((c.tc : Thread Cert.MergeIdeal.nD Cert.MergeIdeal.τ).loc Cert.MergeIdeal.main_arg3))
      (m ((c.tc : Thread Cert.MergeIdeal.nD Cert.MergeIdeal.τ).loc Cert.MergeIdeal.main_arg4))
      (m ((c.tc : Thread Cert.MergeIdeal.nD Cert.MergeIdeal.τ).loc Cert.MergeIdeal.main_arg5))
      (m ((c.tc : Thread Cert.MergeIdeal.nD Cert.MergeIdeal.τ).loc Cert.MergeIdeal.main_arg6))
      (m ((c.tc : Thread Cert.MergeIdeal.nD Cert.MergeIdeal.τ).loc Cert.MergeIdeal.main_arg7))
      (m ((c.tc : Thread Cert.MergeIdeal.nD Cert.MergeIdeal.τ).loc Cert.MergeIdeal.main_arg8))
      (m ((c.tc : Thread Cert.MergeIdeal.nD Cert.MergeIdeal.τ).loc Cert.MergeIdeal.main_arg9))
      (m ((c.tc : Thread Cert.MergeIdeal.nD Cert.MergeIdeal.τ).loc Cert.MergeIdeal.main_arg10))
      (m ((c.tc : Thread Cert.MergeIdeal.nD Cert.MergeIdeal.τ).loc Cert.MergeIdeal.main_arg11)), ?_, ?_⟩
  · refine (θ_run Cert.MergeIdeal.defs _ _).mono (fun r h c => ⟨(h c).1.trans ?_, (h c).2⟩)
      (Cert.MergeIdeal.Value.run_blocks (F := Ideal) m g)
    exact Merge.final m c _ _ _ _ _ _ _ _ _ _ _ _ rfl rfl rfl rfl rfl rfl rfl rfl rfl rfl rfl rfl
  · refine (θ_run Cert.MergeReferenceIdeal.defs _ _).mono (fun r h c => ⟨(h c).1.trans ?_, (h c).2⟩)
      (Cert.MergeReferenceIdeal.Value.run (F := Ideal) m' g')
    refine (Cert.MergeReferenceIdeal.Read.val_main_v161_eq _ _).trans ?_
    obtain ⟨a0, a1, a2, a3, a4, a5, a6, a7, a8, a9, a10, a11⟩ := hag c
    rw [a0, a1, a2, a3, a4, a5, a6, a7, a8, a9, a10, a11]
    exact Merge.Reference.result _ _ _ _ _ _ _ _ _ _ _ _

end Merge.Claims

end
-- ==== Proof.Inproj.Scatter.lean ====
/- The host's two reorderings of weights that no library lemma reads: a block written into an array, and columns picked by
   a table of places. -/
module

public import proofs.«01_k».proof.Proof.Gen.InprojIdeal.Value
public import Idealize.ShloMosaic.Lib.Routing.OpsOrder
public import Idealize.ShloMosaic.Lib.Pointwise

@[expose] public section

noncomputable section

namespace Inproj

open Idealize.ShloMosaic Cert.InprojIdeal Cert.InprojIdeal.Gen
open Cert.InprojIdeal.Facts

/-- A conditional update that never applies leaves the start. -/
theorem foldl_none {α β : Type} (L : List β) (p : β → Prop) [DecidablePred p] (v : β → α) (a : α) (h : ∀ n ∈ L, ¬p n) :
    L.foldl (fun a n => if p n then v n else a) a = a := by
  induction L generalizing a with
  | nil => rfl
  | cons n L ih =>
    rw [List.foldl_cons, if_neg (h n List.mem_cons_self)]
    exact ih a fun k hk => h k (List.mem_cons_of_mem _ hk)

/-- A conditional update that applies at one place only gives that place's value. -/
theorem foldl_one {α β : Type} (L : List β) (p : β → Prop) [DecidablePred p] (v : β → α) (a : α) (b : β) (hb : b ∈ L)
    (pb : p b) (h : ∀ n, p n → n = b) : L.foldl (fun a n => if p n then v n else a) a = v b := by
  induction L generalizing a with
  | nil => exact absurd hb List.not_mem_nil
  | cons n L ih =>
    rw [List.foldl_cons]
    by_cases hn : b ∈ L
    · exact ih _ hn
    · have e : b = n := by
        rcases List.mem_cons.mp hb with e | e
        · exact e
        · exact absurd e hn
      subst e
      rw [if_pos pb]
      exact foldl_none L p v _ fun k hk pk => hn (h k pk ▸ hk)

/-- Where the update at a place lands when the block starts at row `a` and column `b`. -/
theorem lands (idx : IVec S2 32) (a b : ℕ) (ha : (idx (ix1 0)).toInt = a) (hb : (idx (ix1 1)).toInt = b)
    (u : S16x256.Idx) (k : Fin 128) (j : Fin 512) :
    scatter_S128x512_S2_S16x256_01_n_01_0.resultIdx? u idx = some (ix2 k j)
      ↔ k.val = a + (u 0).val ∧ j.val = b + (u 1).val := by
  have s0 : scatter_S128x512_S2_S16x256_01_n_01_0.start u idx 0 = a := by
    rw [← ha]
    refine congrArg (fun z => (idx z).toInt) ?_
    funext e
    fin_cases e
    rfl
  have s1 : scatter_S128x512_S2_S16x256_01_n_01_0.start u idx 1 = b := by
    rw [← hb]
    refine congrArg (fun z => (idx z).toInt) ?_
    funext e
    fin_cases e
    rfl
  have w0 : scatter_S128x512_S2_S16x256_01_n_01_0.window u 0 = (u 0).val := rfl
  have w1 : scatter_S128x512_S2_S16x256_01_n_01_0.window u 1 = (u 1).val := rfl
  unfold ScatterDims.resultIdx?
  have hk := k.isLt
  have hj := j.isLt
  constructor
  · intro h
    split_ifs at h with hr
    have h := Option.some.inj h
    have h0 := congrArg Fin.val (congrFun h 0)
    have h1 := congrArg Fin.val (congrFun h 1)
    have r0 := hr 0
    have r1 := hr 1
    rw [s0, w0] at r0
    rw [s1, w1] at r1
    simp only [s0, w0, s1, w1] at h0 h1
    change _ = k.val at h0
    change _ = j.val at h1
    omega
  · rintro ⟨e0, e1⟩
    rw [dif_pos]
    · refine congrArg some ?_
      funext e
      fin_cases e
      · refine Fin.ext ?_
        show (scatter_S128x512_S2_S16x256_01_n_01_0.start u idx 0
          + (scatter_S128x512_S2_S16x256_01_n_01_0.window u 0 : ℕ)).toNat = k.val
        rw [s0, w0]
        omega
      · refine Fin.ext ?_
        show (scatter_S128x512_S2_S16x256_01_n_01_0.start u idx 1
          + (scatter_S128x512_S2_S16x256_01_n_01_0.window u 1 : ℕ)).toNat = j.val
        rw [s1, w1]
        omega
    · intro e
      fin_cases e
      · show 0 ≤ scatter_S128x512_S2_S16x256_01_n_01_0.start u idx 0
            + (scatter_S128x512_S2_S16x256_01_n_01_0.window u 0 : ℕ)
          ∧ scatter_S128x512_S2_S16x256_01_n_01_0.start u idx 0
            + (scatter_S128x512_S2_S16x256_01_n_01_0.window u 0 : ℕ) < (128 : ℕ)
        rw [s0, w0]
        omega
      · show 0 ≤ scatter_S128x512_S2_S16x256_01_n_01_0.start u idx 1
            + (scatter_S128x512_S2_S16x256_01_n_01_0.window u 1 : ℕ)
          ∧ scatter_S128x512_S2_S16x256_01_n_01_0.start u idx 1
            + (scatter_S128x512_S2_S16x256_01_n_01_0.window u 1 : ℕ) < (512 : ℕ)
        rw [s1, w1]
        omega

/-- An element inside the written block is the update's. -/
theorem scatter_in {α : Type} (x : S128x512.Idx → α) (idx : IVec S2 32) (upd : S16x256.Idx → α) (a b : ℕ)
    (ha : (idx (ix1 0)).toInt = a) (hb : (idx (ix1 1)).toInt = b) (k : Fin 128) (j : Fin 512) (p : Fin 16) (q : Fin 256)
    (hk : k.val = a + p.val) (hj : j.val = b + q.val) :
    Host.scatter scatter_S128x512_S2_S16x256_01_n_01_0 (fun _ b => b) x idx upd (ix2 k j) = upd (ix2 p q) := by
  rw [← Routing.scatterIn_finRange, Routing.scatterIn_at]
  rw [foldl_one _ _ (fun n => upd (S16x256.rowMajor.symm n)) _ (S16x256.rowMajor (ix2 p q)) (List.mem_finRange _)]
  · rw [Equiv.symm_apply_apply]
  · rw [Equiv.symm_apply_apply, lands idx a b ha hb]
    exact ⟨hk, hj⟩
  · intro n hn
    rw [lands idx a b ha hb] at hn
    rw [← Equiv.symm_apply_eq]
    funext e
    fin_cases e
    · refine Fin.ext ?_
      show (S16x256.rowMajor.symm n 0).val = p.val
      omega
    · refine Fin.ext ?_
      show (S16x256.rowMajor.symm n 1).val = q.val
      omega

/-- An element outside it is the array's. -/
theorem scatter_out {α : Type} (x : S128x512.Idx → α) (idx : IVec S2 32) (upd : S16x256.Idx → α) (a b : ℕ)
    (ha : (idx (ix1 0)).toInt = a) (hb : (idx (ix1 1)).toInt = b) (k : Fin 128) (j : Fin 512)
    (h : ¬(a ≤ k.val ∧ k.val < a + 16 ∧ b ≤ j.val ∧ j.val < b + 256)) :
    Host.scatter scatter_S128x512_S2_S16x256_01_n_01_0 (fun _ b => b) x idx upd (ix2 k j) = x (ix2 k j) := by
  rw [← Routing.scatterIn_finRange, Routing.scatterIn_at]
  rw [foldl_none _ _ (fun n => upd (S16x256.rowMajor.symm n))]
  intro n _ hn
  rw [lands idx a b ha hb] at hn
  have h0 := (S16x256.rowMajor.symm n 0).isLt
  have h1 := (S16x256.rowMajor.symm n 1).isLt
  change (S16x256.rowMajor.symm n 0).val < 16 at h0
  change (S16x256.rowMajor.symm n 1).val < 256 at h1
  omega

/-- The place among the 32 rotated lanes that a lane is rotated with. -/
def partner (e : Fin 32) : Fin 32 := if e.val % 16 < 8 then ⟨(e.val + 8) % 32, by omega⟩ else ⟨e.val - 8, by omega⟩

/-- The host's table of partners, as start places of a gather. -/
def partners (l : S32.Idx → BitVec 32) : IVec S32x1 32 :=
  broadcastInDim S32x1 ![0] bcast_S32_S32x1_0
    (select (constantI S32 1 0#1) (addi l (broadcastInDim S32 ![] bcast_S_S32 (constantI S_ 32 32#32))) l)

/-- The gather of the partners' columns. -/
theorem gather_columns {α : Type} (x : S1024x32.Idx → α) (k : Fin 1024) (e : Fin 32) :
    Host.gather gather_S1024x32_S32x1_S1024x32_0_1_n_n_1_1_10241 x (partners (fun i => lit0 (S32.rowMajor i))) (ix2 k e)
      = x (ix2 k (partner e)) := by
  unfold Host.gather
  congr 1
  funext a
  fin_cases a
  · exact Fin.ext (by
      show 0 + 0 + k.val = k.val
      omega)
  · refine Fin.ext ?_
    fin_cases e <;> rfl

/-- The gather of the partners' lanes in every head. -/
theorem gather_heads {α : Type} (x : S384x8x32.Idx → α) (k : Fin 384) (h : Fin 8) (e : Fin 32) :
    Host.gather gather_S384x8x32_S32x1_S384x8x32_01_2_n_n_2_1_38481 x (partners (fun i => lit1 (S32.rowMajor i)))
      (ix3 k h e) = x (ix3 k h (partner e)) := by
  unfold Host.gather
  congr 1
  funext a
  fin_cases a
  · exact Fin.ext (by
      show 0 + 0 + k.val = k.val
      omega)
  · exact Fin.ext (by
      show 0 + 0 + h.val = h.val
      omega)
  · refine Fin.ext ?_
    fin_cases e <;> rfl

end Inproj

end
-- ==== Proof.Inproj.Host.lean ====
/- What the host's packing of the weights leaves in the launch's operands, element by element. -/
module

public import proofs.«01_k».proof.Proof.Inproj.Scatter
public import proofs.«01_k».proof.Proof.Ffn.Reference
public import Idealize.ShloMosaic.Lib.StableHlo.RunRead
public import Idealize.ShloMosaic.Lib.StableHlo.ReadAt

@[expose] public section

noncomputable section

namespace Inproj

open Idealize.ShloMosaic Cert.InprojIdeal Cert.InprojIdeal.Gen Idealize.ShloMosaic.TcCoe
open Cert.InprojIdeal.Facts

variable (m : (ℓ : Loc nD τ sig) → Buf (Elt Ideal) ℓ) (c : Dev nD)

/-- The fill value is zero. -/
theorem fill_zero : (FloatOps.sitofp (F := Ideal) FTy.f32 (0#32) : EReal) = 0 := by
  show (((0#32 : BitVec 32).toInt : ℝ) : EReal) = 0
  simp

/-- The columns of the rotary key cut from the weight. -/
theorem rotated_columns (w : S2x1024x5824.Idx → EReal) (k : Fin 1024) (e : Fin 32) :
    extractStridedSlice S1024x32 ![0, 2720] (fun i : S1024x5824.Idx => w (ix3 0 (i 0) (i 1)))
      slices_S1024x5824_S1024x32_0_2720 (ix2 k e) = w (ix3 0 k ⟨2720 + e.val, by omega⟩) := by
  pointwise

/-- The packed weight's first columns are the weight's own. -/
theorem w_low (k : Fin 1024) (j : Fin 2944) (h1 : j.val < 1536) :
    (V m c main_v34 : Vec Ideal S1024x2944 .bf16) (ix2 k j) = (m (c, Proc.tc.devRef main_arg3) : Vec Ideal S2x1024x5824 .f32) (ix3 0 k ⟨j.val, by omega⟩) := by
  unfold V
  after_reads_at
  refine (dif_pos (show j.val < 1536 by omega)).trans ?_
  after_reads_at

/-- Its decay columns are the weight's own. -/
theorem w_za (k : Fin 1024) (j : Fin 2944) (h0 : 1536 ≤ j.val) (h1 : j.val < 1568) :
    (V m c main_v34 : Vec Ideal S1024x2944 .bf16) (ix2 k j) = (m (c, Proc.tc.devRef main_arg3) : Vec Ideal S2x1024x5824 .f32) (ix3 0 k ⟨j.val, by omega⟩) := by
  unfold V
  after_reads_at
  refine (dif_neg (show ¬(j.val < 1536) by omega)).trans ?_
  refine (dif_pos (show j.val - 1536 < 128 by omega)).trans ?_
  after_reads_at
  refine (dif_pos (show j.val - 1536 < 32 by omega)).trans ?_
  refine congrArg (fun e => (m (c, Proc.tc.devRef main_arg3) : Vec Ideal S2x1024x5824 .f32) (ix3 0 k e)) (Fin.ext ?_)
  simp only
  omega

/-- Its padded decay columns are zero. -/
theorem w_za_zero (k : Fin 1024) (j : Fin 2944) (h0 : 1568 ≤ j.val) (h1 : j.val < 1664) :
    (V m c main_v34 : Vec Ideal S1024x2944 .bf16) (ix2 k j) = (0 : EReal) := by
  unfold V
  after_reads_at
  refine (dif_neg (show ¬(j.val < 1536) by omega)).trans ?_
  refine (dif_pos (show j.val - 1536 < 128 by omega)).trans ?_
  after_reads_at
  refine (dif_neg (show ¬(j.val - 1536 < 32) by omega)).trans ?_
  exact fill_zero

/-- Its Fourier columns are the weight's, 96 further back. -/
theorem w_fz (k : Fin 1024) (j : Fin 2944) (h0 : 1664 ≤ j.val) (h1 : j.val < 2176) :
    (V m c main_v34 : Vec Ideal S1024x2944 .bf16) (ix2 k j) = (m (c, Proc.tc.devRef main_arg3) : Vec Ideal S2x1024x5824 .f32) (ix3 0 k ⟨j.val - 96, by omega⟩) := by
  unfold V
  after_reads_at
  refine (dif_neg (show ¬(j.val < 1536) by omega)).trans ?_
  refine (dif_neg (show ¬(j.val - 1536 < 128) by omega)).trans ?_
  refine (dif_pos (show j.val - 1536 - 128 < 512 by omega)).trans ?_
  after_reads_at
  refine congrArg (fun e => (m (c, Proc.tc.devRef main_arg3) : Vec Ideal S2x1024x5824 .f32) (ix3 0 k e)) (Fin.ext ?_)
  simp only
  omega

/-- Its low-rank query columns are the weight's, 96 further back. -/
theorem w_cq (k : Fin 1024) (j : Fin 2944) (h0 : 2176 ≤ j.val) (h1 : j.val < 2560) :
    (V m c main_v34 : Vec Ideal S1024x2944 .bf16) (ix2 k j) = (m (c, Proc.tc.devRef main_arg3) : Vec Ideal S2x1024x5824 .f32) (ix3 0 k ⟨j.val - 96, by omega⟩) := by
  unfold V
  after_reads_at
  refine (dif_neg (show ¬(j.val < 1536) by omega)).trans ?_
  refine (dif_neg (show ¬(j.val - 1536 < 128) by omega)).trans ?_
  refine (dif_neg (show ¬(j.val - 1536 - 128 < 512) by omega)).trans ?_
  refine (dif_pos (show j.val - 1536 - 128 - 512 < 384 by omega)).trans ?_
  after_reads_at
  refine congrArg (fun e => (m (c, Proc.tc.devRef main_arg3) : Vec Ideal S2x1024x5824 .f32) (ix3 0 k e)) (Fin.ext ?_)
  simp only
  omega

/-- Its low-rank columns of keys and values are the weight's, 96 further back. -/
theorem w_ckv (k : Fin 1024) (j : Fin 2944) (h0 : 2560 ≤ j.val) (h1 : j.val < 2816) :
    (V m c main_v34 : Vec Ideal S1024x2944 .bf16) (ix2 k j) = (m (c, Proc.tc.devRef main_arg3) : Vec Ideal S2x1024x5824 .f32) (ix3 0 k ⟨j.val - 96, by omega⟩) := by
  unfold V
  after_reads_at
  refine (dif_neg (show ¬(j.val < 1536) by omega)).trans ?_
  refine (dif_neg (show ¬(j.val - 1536 < 128) by omega)).trans ?_
  refine (dif_neg (show ¬(j.val - 1536 - 128 < 512) by omega)).trans ?_
  refine (dif_neg (show ¬(j.val - 1536 - 128 - 512 < 384) by omega)).trans ?_
  refine (dif_pos (show j.val - 1536 - 128 - 512 - 384 < 256 by omega)).trans ?_
  after_reads_at
  refine congrArg (fun e => (m (c, Proc.tc.devRef main_arg3) : Vec Ideal S2x1024x5824 .f32) (ix3 0 k e)) (Fin.ext ?_)
  simp only
  omega

/-- Its rotary key columns are the weight's, 96 further back. -/
theorem w_kr (k : Fin 1024) (j : Fin 2944) (h0 : 2816 ≤ j.val) (h1 : j.val < 2848) :
    (V m c main_v34 : Vec Ideal S1024x2944 .bf16) (ix2 k j) = (m (c, Proc.tc.devRef main_arg3) : Vec Ideal S2x1024x5824 .f32) (ix3 0 k ⟨j.val - 96, by omega⟩) := by
  unfold V
  after_reads_at
  refine (dif_neg (show ¬(j.val < 1536) by omega)).trans ?_
  refine (dif_neg (show ¬(j.val - 1536 < 128) by omega)).trans ?_
  refine (dif_neg (show ¬(j.val - 1536 - 128 < 512) by omega)).trans ?_
  refine (dif_neg (show ¬(j.val - 1536 - 128 - 512 < 384) by omega)).trans ?_
  refine (dif_neg (show ¬(j.val - 1536 - 128 - 512 - 384 < 256) by omega)).trans ?_
  after_reads_at
  refine (dif_pos (show j.val - 1536 - 128 - 512 - 384 - 256 < 64 by omega)).trans ?_
  refine (dif_pos (show j.val - 1536 - 128 - 512 - 384 - 256 < 32 by omega)).trans ?_
  after_reads_at
  refine congrArg (fun e => (m (c, Proc.tc.devRef main_arg3) : Vec Ideal S2x1024x5824 .f32) (ix3 0 k e)) (Fin.ext ?_)
  simp only
  omega

/-- Its partner columns are the rotary key's, in the partners' order. -/
theorem w_partner (k : Fin 1024) (j : Fin 2944) (h0 : 2848 ≤ j.val) (h1 : j.val < 2880) :
    (V m c main_v34 : Vec Ideal S1024x2944 .bf16) (ix2 k j) = (m (c, Proc.tc.devRef main_arg3) : Vec Ideal S2x1024x5824 .f32) (ix3 0 k ⟨2720 + (partner ⟨j.val - 2848, by omega⟩).val, by omega⟩) := by
  unfold V
  after_reads_at
  refine (dif_neg (show ¬(j.val < 1536) by omega)).trans ?_
  refine (dif_neg (show ¬(j.val - 1536 < 128) by omega)).trans ?_
  refine (dif_neg (show ¬(j.val - 1536 - 128 < 512) by omega)).trans ?_
  refine (dif_neg (show ¬(j.val - 1536 - 128 - 512 < 384) by omega)).trans ?_
  refine (dif_neg (show ¬(j.val - 1536 - 128 - 512 - 384 < 256) by omega)).trans ?_
  after_reads_at
  refine (dif_pos (show j.val - 1536 - 128 - 512 - 384 - 256 < 64 by omega)).trans ?_
  refine (dif_neg (show ¬(j.val - 1536 - 128 - 512 - 384 - 256 < 32) by omega)).trans ?_
  after_reads_at
  have he : j.val - 1536 - 128 - 512 - 384 - 256 - 32 = j.val - 2848 := by omega
  simp only [he]
  exact (gather_columns _ k ⟨j.val - 2848, by omega⟩).trans (rotated_columns _ k _)

/-- Its last columns are zero. -/
theorem w_zero (k : Fin 1024) (j : Fin 2944) (h0 : 2880 ≤ j.val) (h1 : j.val < 2944) :
    (V m c main_v34 : Vec Ideal S1024x2944 .bf16) (ix2 k j) = (0 : EReal) := by
  unfold V
  after_reads_at
  refine (dif_neg (show ¬(j.val < 1536) by omega)).trans ?_
  refine (dif_neg (show ¬(j.val - 1536 < 128) by omega)).trans ?_
  refine (dif_neg (show ¬(j.val - 1536 - 128 < 512) by omega)).trans ?_
  refine (dif_neg (show ¬(j.val - 1536 - 128 - 512 < 384) by omega)).trans ?_
  refine (dif_neg (show ¬(j.val - 1536 - 128 - 512 - 384 < 256) by omega)).trans ?_
  after_reads_at
  refine (dif_neg (show ¬(j.val - 1536 - 128 - 512 - 384 - 256 < 64) by omega)).trans ?_
  exact fill_zero

/-- The packed query weight's first 96 lanes of a slot are the head's own columns. -/
theorem uq_low (k : Fin 384) (h : Fin 8) (l : Fin 96) :
    (V m c main_v67 : Vec Ideal S384x1024 .bf16) (ix2 k ⟨128 * h.val + l.val, by omega⟩) = (m (c, Proc.tc.devRef main_arg7) : Vec Ideal S2x384x768 .f32) (ix3 0 k ⟨96 * h.val + l.val, by omega⟩) := by
  unfold V
  after_reads_at
  split_ifs
  all_goals first | (exfalso; omega) | (exfalso; simp at *; done) | skip
  after_reads_at
  try after_reads_at
  refine congrArg (m (c, Proc.tc.devRef main_arg7) : Vec Ideal S2x384x768 .f32) ?_
  funext a
  fin_cases a <;> refine Fin.ext ?_ <;> first | rfl | (simp [ix4, ix3, ix2] <;> omega)

/-- Its last 32 lanes of a slot are the rotary columns in the partners' order. -/
theorem uq_partner (k : Fin 384) (h : Fin 8) (l : Fin 32) :
    (V m c main_v67 : Vec Ideal S384x1024 .bf16) (ix2 k ⟨128 * h.val + (96 + l.val), by omega⟩) = (m (c, Proc.tc.devRef main_arg7) : Vec Ideal S2x384x768 .f32) (ix3 0 k ⟨96 * h.val + (64 + (partner l).val), by omega⟩) := by
  unfold V
  after_reads_at
  split_ifs
  all_goals first | (exfalso; omega) | (exfalso; simp at *; done) | skip
  after_reads_at
  try after_reads_at
  refine (gather_heads _ _ _ _).trans ?_
  generalize he : partner _ = e
  obtain rfl : partner l = e := by
    rw [← he]
    refine congrArg partner (Fin.ext ?_)
    simp only
    omega
  pointwise
  refine congrArg (m (c, Proc.tc.devRef main_arg7) : Vec Ideal S2x384x768 .f32) ?_
  funext a
  fin_cases a <;> refine Fin.ext ?_ <;> first | rfl | (simp [ix4, ix3, ix2] <;> omega)

/-- The packed key weight's first half of a slot is the head's key columns. -/
theorem uk_low (k : Fin 256) (h : Fin 8) (l : Fin 64) :
    (V m c main_v78 : Vec Ideal S256x2048 .bf16) (ix2 k ⟨128 * h.val + l.val, by omega⟩) = (m (c, Proc.tc.devRef main_arg9) : Vec Ideal S2x256x1024 .f32) (ix3 0 k ⟨128 * h.val + l.val, by omega⟩) := by
  unfold V
  after_reads_at
  split_ifs
  all_goals first | (exfalso; omega) | skip
  after_reads_at
  split_ifs
  all_goals first | (exfalso; omega) | skip
  refine congrArg (m (c, Proc.tc.devRef main_arg9) : Vec Ideal S2x256x1024 .f32) ?_
  funext a
  fin_cases a <;> refine Fin.ext ?_ <;> first | rfl | (simp [ix4, ix3, ix2] <;> omega)

/-- Its second half is zero. -/
theorem uk_zero (k : Fin 256) (h : Fin 8) (l : Fin 64) :
    (V m c main_v78 : Vec Ideal S256x2048 .bf16) (ix2 k ⟨128 * h.val + (64 + l.val), by omega⟩) = (0 : EReal) := by
  unfold V
  after_reads_at
  split_ifs
  all_goals first | (exfalso; omega) | skip
  after_reads_at
  split_ifs
  all_goals first | (exfalso; omega) | skip
  exact fill_zero

/-- The packed value weight's first half of a slot is the head's value columns. -/
theorem uv_low (k : Fin 256) (h : Fin 8) (l : Fin 64) :
    (V m c main_v78 : Vec Ideal S256x2048 .bf16) (ix2 k ⟨1024 + (128 * h.val + l.val), by omega⟩) = (m (c, Proc.tc.devRef main_arg9) : Vec Ideal S2x256x1024 .f32) (ix3 0 k ⟨128 * h.val + (64 + l.val), by omega⟩) := by
  unfold V
  after_reads_at
  split_ifs
  all_goals first | (exfalso; omega) | skip
  after_reads_at
  split_ifs
  all_goals first | (exfalso; omega) | skip
  refine congrArg (m (c, Proc.tc.devRef main_arg9) : Vec Ideal S2x256x1024 .f32) ?_
  funext a
  fin_cases a <;> refine Fin.ext ?_ <;> first | rfl | (simp [ix4, ix3, ix2] <;> omega)

/-- Its second half is zero. -/
theorem uv_zero (k : Fin 256) (h : Fin 8) (l : Fin 64) :
    (V m c main_v78 : Vec Ideal S256x2048 .bf16) (ix2 k ⟨1024 + (128 * h.val + (64 + l.val)), by omega⟩) = (0 : EReal) := by
  unfold V
  after_reads_at
  split_ifs
  all_goals first | (exfalso; omega) | skip
  after_reads_at
  split_ifs
  all_goals first | (exfalso; omega) | skip
  exact fill_zero

/-- The scattered decay weight holds the forward weight first. -/
theorem dec_forward (p : Fin 16) (q : Fin 256) :
    (V m c main_v52 : Vec Ideal S128x512 .bf16) (ix2 ⟨p.val, by omega⟩ ⟨q.val, by omega⟩) = (m (c, Proc.tc.devRef main_arg4) : Vec Ideal S2x2x16x256 .f32) (ix4 0 0 p q) := by
  unfold V
  after_reads_at
  rw [scatter_out _ _ _ 16 256 (by after_reads_at; rfl) (by after_reads_at; rfl) _ _ (by simp only; omega)]
  rw [scatter_in _ _ _ 0 0 (by after_reads_at; rfl) (by after_reads_at; rfl) _ _ p q (by simp) (by simp)]
  rfl

/-- It holds the backward weight after the forward one. -/
theorem dec_backward (p : Fin 16) (q : Fin 256) :
    (V m c main_v52 : Vec Ideal S128x512 .bf16) (ix2 ⟨16 + p.val, by omega⟩ ⟨256 + q.val, by omega⟩) = (m (c, Proc.tc.devRef main_arg4) : Vec Ideal S2x2x16x256 .f32) (ix4 0 1 p q) := by
  unfold V
  after_reads_at
  rw [scatter_in _ _ _ 16 256 (by after_reads_at; rfl) (by after_reads_at; rfl) _ _ p q rfl rfl]
  rfl

/-- It is zero elsewhere. -/
theorem dec_zero (k : Fin 128) (j : Fin 512) (h0 : ¬(k.val < 16 ∧ j.val < 256)) (h1 : ¬(16 ≤ k.val ∧ k.val < 32 ∧ 256 ≤ j.val)) :
    (V m c main_v52 : Vec Ideal S128x512 .bf16) (ix2 k j) = (0 : EReal) := by
  unfold V
  after_reads_at
  rw [scatter_out _ _ _ 16 256 (by after_reads_at; rfl) (by after_reads_at; rfl) _ _ (by have := j.isLt; omega)]
  rw [scatter_out _ _ _ 0 0 (by after_reads_at; rfl) (by after_reads_at; rfl) _ _ (by omega)]
  exact Ffn.Reference.ofBits_zero

/-- The decay bias as one row. -/
theorem b_row (j : Fin 512) :
    (V m c main_v55 : Vec Ideal S1x512 .f32) (ix2 0 j) = (m (c, Proc.tc.devRef main_arg5) : Vec Ideal S2x2x256 .f32) (ix3 0 ⟨j.val / 256, by omega⟩ ⟨j.val % 256, by omega⟩) := by
  unfold V
  after_reads_at

/-- The gain as one row. -/
theorem pre_row (j : Fin 1024) :
    (V m c main_v85 : Vec Ideal S1x1024 .f32) (ix2 0 j) = (m (c, Proc.tc.devRef main_arg2) : Vec Ideal S1024 .f32) (ix1 j) := by
  unfold V
  after_reads_at

/-- The query's gain as one row. -/
theorem q_row (j : Fin 384) :
    (V m c main_v81 : Vec Ideal S1x384 .f32) (ix2 0 j) = (m (c, Proc.tc.devRef main_arg6) : Vec Ideal S2x384 .f32) (ix2 0 j) := by
  unfold V
  after_reads_at

/-- The gain of keys and values as one row. -/
theorem kv_row (j : Fin 256) :
    (V m c main_v84 : Vec Ideal S1x256 .f32) (ix2 0 j) = (m (c, Proc.tc.devRef main_arg8) : Vec Ideal S2x256 .f32) (ix2 0 j) := by
  unfold V
  after_reads_at

end Inproj

end
-- ==== Proof.Inproj.Table.lean ====
/- The host's table of rotations, element by element. -/
module

public import proofs.«01_k».proof.Proof.Inproj.Host

@[expose] public section

noncomputable section

namespace Inproj

open Idealize.ShloMosaic Cert.InprojIdeal Cert.InprojIdeal.Gen Idealize.ShloMosaic.TcCoe
open Cert.InprojIdeal.Facts

variable (m : (ℓ : Loc nD τ sig) → Buf (Elt Ideal) ℓ) (c : Dev nD)

/-- One number of a table of cosines or sines. -/
def angle (w : S8192x8.Idx → EReal) (r : Fin 8192) (e : Fin 8) : EReal := w (ix2 r e)

/-- A latent row's table has ones before the cosines. -/
theorem lat_one (r : Fin 8448) (j : Fin 256) (hr : r.val < 8192) (h1 : j.val < 64) :
    (V m c main_v16 : Vec Ideal S8448x256 .f32) (ix2 r j) = (1 : EReal) := by
  unfold V
  after_reads_at
  refine (dif_pos (show r.val < 8192 by omega)).trans ?_
  after_reads_at
  refine (dif_pos (show j.val < 64 by omega)).trans ?_
  after_reads_at

/-- A latent row's table has zeros after the cosines. -/
theorem lat_pad (r : Fin 8448) (j : Fin 256) (hr : r.val < 8192) (h0 : 96 ≤ j.val) (h1 : j.val < 128) :
    (V m c main_v16 : Vec Ideal S8448x256 .f32) (ix2 r j) = (0 : EReal) := by
  unfold V
  after_reads_at
  refine (dif_pos (show r.val < 8192 by omega)).trans ?_
  after_reads_at
  refine (dif_neg (show ¬(j.val < 64) by omega)).trans ?_
  refine (dif_neg (show ¬(j.val - 64 < 32) by omega)).trans ?_
  refine (dif_pos (show j.val - 64 - 32 < 32 by omega)).trans ?_
  after_reads_at

/-- A latent row's table has zeros before the sines. -/
theorem lat_low (r : Fin 8448) (j : Fin 256) (hr : r.val < 8192) (h0 : 128 ≤ j.val) (h1 : j.val < 192) :
    (V m c main_v16 : Vec Ideal S8448x256 .f32) (ix2 r j) = (0 : EReal) := by
  unfold V
  after_reads_at
  refine (dif_pos (show r.val < 8192 by omega)).trans ?_
  after_reads_at
  refine (dif_neg (show ¬(j.val < 64) by omega)).trans ?_
  refine (dif_neg (show ¬(j.val - 64 < 32) by omega)).trans ?_
  refine (dif_neg (show ¬(j.val - 64 - 32 < 32) by omega)).trans ?_
  refine (dif_pos (show j.val - 64 - 32 - 32 < 64 by omega)).trans ?_
  after_reads_at

/-- A latent row's table has zeros after the sines. -/
theorem lat_end (r : Fin 8448) (j : Fin 256) (hr : r.val < 8192) (h0 : 224 ≤ j.val) (h1 : j.val < 256) :
    (V m c main_v16 : Vec Ideal S8448x256 .f32) (ix2 r j) = (0 : EReal) := by
  unfold V
  after_reads_at
  refine (dif_pos (show r.val < 8192 by omega)).trans ?_
  after_reads_at
  refine (dif_neg (show ¬(j.val < 64) by omega)).trans ?_
  refine (dif_neg (show ¬(j.val - 64 < 32) by omega)).trans ?_
  refine (dif_neg (show ¬(j.val - 64 - 32 < 32) by omega)).trans ?_
  refine (dif_neg (show ¬(j.val - 64 - 32 - 32 < 64) by omega)).trans ?_
  refine (dif_neg (show ¬(j.val - 64 - 32 - 32 - 64 < 32) by omega)).trans ?_
  after_reads_at

/-- A context row's table has ones before the cosines. -/
theorem ctx_one (r : Fin 8448) (j : Fin 256) (hr : 8192 ≤ r.val) (h1 : j.val < 64) :
    (V m c main_v16 : Vec Ideal S8448x256 .f32) (ix2 r j) = (1 : EReal) := by
  unfold V
  after_reads_at
  refine (dif_neg (show ¬(r.val < 8192) by omega)).trans ?_
  after_reads_at
  refine (dif_pos (show j.val < 64 by omega)).trans ?_
  after_reads_at

/-- A context row's table has zeros after the cosines. -/
theorem ctx_pad (r : Fin 8448) (j : Fin 256) (hr : 8192 ≤ r.val) (h0 : 96 ≤ j.val) (h1 : j.val < 128) :
    (V m c main_v16 : Vec Ideal S8448x256 .f32) (ix2 r j) = (0 : EReal) := by
  unfold V
  after_reads_at
  refine (dif_neg (show ¬(r.val < 8192) by omega)).trans ?_
  after_reads_at
  refine (dif_neg (show ¬(j.val < 64) by omega)).trans ?_
  refine (dif_neg (show ¬(j.val - 64 < 32) by omega)).trans ?_
  refine (dif_pos (show j.val - 64 - 32 < 32 by omega)).trans ?_
  after_reads_at

/-- A context row's table has zeros before the sines. -/
theorem ctx_low (r : Fin 8448) (j : Fin 256) (hr : 8192 ≤ r.val) (h0 : 128 ≤ j.val) (h1 : j.val < 192) :
    (V m c main_v16 : Vec Ideal S8448x256 .f32) (ix2 r j) = (0 : EReal) := by
  unfold V
  after_reads_at
  refine (dif_neg (show ¬(r.val < 8192) by omega)).trans ?_
  after_reads_at
  refine (dif_neg (show ¬(j.val < 64) by omega)).trans ?_
  refine (dif_neg (show ¬(j.val - 64 < 32) by omega)).trans ?_
  refine (dif_neg (show ¬(j.val - 64 - 32 < 32) by omega)).trans ?_
  refine (dif_pos (show j.val - 64 - 32 - 32 < 64 by omega)).trans ?_
  after_reads_at

/-- A context row's table has zeros after the sines. -/
theorem ctx_end (r : Fin 8448) (j : Fin 256) (hr : 8192 ≤ r.val) (h0 : 224 ≤ j.val) (h1 : j.val < 256) :
    (V m c main_v16 : Vec Ideal S8448x256 .f32) (ix2 r j) = (0 : EReal) := by
  unfold V
  after_reads_at
  refine (dif_neg (show ¬(r.val < 8192) by omega)).trans ?_
  after_reads_at
  refine (dif_neg (show ¬(j.val < 64) by omega)).trans ?_
  refine (dif_neg (show ¬(j.val - 64 < 32) by omega)).trans ?_
  refine (dif_neg (show ¬(j.val - 64 - 32 < 32) by omega)).trans ?_
  refine (dif_neg (show ¬(j.val - 64 - 32 - 32 < 64) by omega)).trans ?_
  refine (dif_neg (show ¬(j.val - 64 - 32 - 32 - 64 < 32) by omega)).trans ?_
  after_reads_at

/-- A context row's cosines are one. -/
theorem ctx_cos (r : Fin 8448) (j : Fin 256) (hr : 8192 ≤ r.val) (h0 : 64 ≤ j.val) (h1 : j.val < 96) :
    (V m c main_v16 : Vec Ideal S8448x256 .f32) (ix2 r j) = (1 : EReal) := by
  unfold V
  after_reads_at
  refine (dif_neg (show ¬(r.val < 8192) by omega)).trans ?_
  after_reads_at
  refine (dif_neg (show ¬(j.val < 64) by omega)).trans ?_
  refine (dif_pos (show j.val - 64 < 32 by omega)).trans ?_
  after_reads_at

/-- A context row's sines are zero. -/
theorem ctx_sin (r : Fin 8448) (j : Fin 256) (hr : 8192 ≤ r.val) (h0 : 192 ≤ j.val) (h1 : j.val < 224) :
    (V m c main_v16 : Vec Ideal S8448x256 .f32) (ix2 r j) = (0 : EReal) := by
  unfold V
  after_reads_at
  refine (dif_neg (show ¬(r.val < 8192) by omega)).trans ?_
  after_reads_at
  refine (dif_neg (show ¬(j.val < 64) by omega)).trans ?_
  refine (dif_neg (show ¬(j.val - 64 < 32) by omega)).trans ?_
  refine (dif_neg (show ¬(j.val - 64 - 32 < 32) by omega)).trans ?_
  refine (dif_neg (show ¬(j.val - 64 - 32 - 32 < 64) by omega)).trans ?_
  refine (dif_pos (show j.val - 64 - 32 - 32 - 64 < 32 by omega)).trans ?_
  after_reads_at

/-- The first quarter of a latent row's cosines. -/
theorem lat_cos0 (r : Fin 8448) (j : Fin 256) (hr : r.val < 8192) (h0 : 64 ≤ j.val) (h1 : j.val < 72) :
    (V m c main_v16 : Vec Ideal S8448x256 .f32) (ix2 r j) = (angle (m (c, Proc.tc.devRef main_arg10) : Vec Ideal S8192x8 .f32) ⟨r.val, hr⟩ ⟨j.val - 64, by omega⟩ : EReal) := by
  unfold V
  after_reads_at
  refine (dif_pos (show r.val < 8192 by omega)).trans ?_
  after_reads_at
  refine (dif_neg (show ¬(j.val < 64) by omega)).trans ?_
  refine (dif_pos (show j.val - 64 < 32 by omega)).trans ?_
  refine (dif_pos (show j.val - 64 < 8 by omega)).trans ?_
  refine congrArg (fun e => angle (m (c, Proc.tc.devRef main_arg10) : Vec Ideal S8192x8 .f32) ⟨r.val, hr⟩ e) (Fin.ext ?_)
  first | rfl | omega | (simp only; omega)

/-- The second quarter of a latent row's cosines. -/
theorem lat_cos1 (r : Fin 8448) (j : Fin 256) (hr : r.val < 8192) (h0 : 72 ≤ j.val) (h1 : j.val < 80) :
    (V m c main_v16 : Vec Ideal S8448x256 .f32) (ix2 r j) = (angle (m (c, Proc.tc.devRef main_arg10) : Vec Ideal S8192x8 .f32) ⟨r.val, hr⟩ ⟨j.val - 72, by omega⟩ : EReal) := by
  unfold V
  after_reads_at
  refine (dif_pos (show r.val < 8192 by omega)).trans ?_
  after_reads_at
  refine (dif_neg (show ¬(j.val < 64) by omega)).trans ?_
  refine (dif_pos (show j.val - 64 < 32 by omega)).trans ?_
  refine (dif_neg (show ¬(j.val - 64 < 8) by omega)).trans ?_
  refine (dif_pos (show j.val - 64 - 8 < 8 by omega)).trans ?_
  refine congrArg (fun e => angle (m (c, Proc.tc.devRef main_arg10) : Vec Ideal S8192x8 .f32) ⟨r.val, hr⟩ e) (Fin.ext ?_)
  first | rfl | omega | (simp only; omega)

/-- The third quarter of a latent row's cosines. -/
theorem lat_cos2 (r : Fin 8448) (j : Fin 256) (hr : r.val < 8192) (h0 : 80 ≤ j.val) (h1 : j.val < 88) :
    (V m c main_v16 : Vec Ideal S8448x256 .f32) (ix2 r j) = (angle (m (c, Proc.tc.devRef main_arg12) : Vec Ideal S8192x8 .f32) ⟨r.val, hr⟩ ⟨j.val - 80, by omega⟩ : EReal) := by
  unfold V
  after_reads_at
  refine (dif_pos (show r.val < 8192 by omega)).trans ?_
  after_reads_at
  refine (dif_neg (show ¬(j.val < 64) by omega)).trans ?_
  refine (dif_pos (show j.val - 64 < 32 by omega)).trans ?_
  refine (dif_neg (show ¬(j.val - 64 < 8) by omega)).trans ?_
  refine (dif_neg (show ¬(j.val - 64 - 8 < 8) by omega)).trans ?_
  refine (dif_pos (show j.val - 64 - 8 - 8 < 8 by omega)).trans ?_
  refine congrArg (fun e => angle (m (c, Proc.tc.devRef main_arg12) : Vec Ideal S8192x8 .f32) ⟨r.val, hr⟩ e) (Fin.ext ?_)
  first | rfl | omega | (simp only; omega)

/-- The fourth quarter of a latent row's cosines. -/
theorem lat_cos3 (r : Fin 8448) (j : Fin 256) (hr : r.val < 8192) (h0 : 88 ≤ j.val) (h1 : j.val < 96) :
    (V m c main_v16 : Vec Ideal S8448x256 .f32) (ix2 r j) = (angle (m (c, Proc.tc.devRef main_arg12) : Vec Ideal S8192x8 .f32) ⟨r.val, hr⟩ ⟨j.val - 88, by omega⟩ : EReal) := by
  unfold V
  after_reads_at
  refine (dif_pos (show r.val < 8192 by omega)).trans ?_
  after_reads_at
  refine (dif_neg (show ¬(j.val < 64) by omega)).trans ?_
  refine (dif_pos (show j.val - 64 < 32 by omega)).trans ?_
  refine (dif_neg (show ¬(j.val - 64 < 8) by omega)).trans ?_
  refine (dif_neg (show ¬(j.val - 64 - 8 < 8) by omega)).trans ?_
  refine (dif_neg (show ¬(j.val - 64 - 8 - 8 < 8) by omega)).trans ?_
  refine congrArg (fun e => angle (m (c, Proc.tc.devRef main_arg12) : Vec Ideal S8192x8 .f32) ⟨r.val, hr⟩ e) (Fin.ext ?_)
  first | rfl | omega | (simp only; omega)

/-- The first quarter of a latent row's signed sines. -/
theorem lat_sin0 (r : Fin 8448) (j : Fin 256) (hr : r.val < 8192) (h0 : 192 ≤ j.val) (h1 : j.val < 200) :
    (V m c main_v16 : Vec Ideal S8448x256 .f32) (ix2 r j) = (-angle (m (c, Proc.tc.devRef main_arg11) : Vec Ideal S8192x8 .f32) ⟨r.val, hr⟩ ⟨j.val - 192, by omega⟩ : EReal) := by
  unfold V
  after_reads_at
  refine (dif_pos (show r.val < 8192 by omega)).trans ?_
  after_reads_at
  refine (dif_neg (show ¬(j.val < 64) by omega)).trans ?_
  refine (dif_neg (show ¬(j.val - 64 < 32) by omega)).trans ?_
  refine (dif_neg (show ¬(j.val - 64 - 32 < 32) by omega)).trans ?_
  refine (dif_neg (show ¬(j.val - 64 - 32 - 32 < 64) by omega)).trans ?_
  refine (dif_pos (show j.val - 64 - 32 - 32 - 64 < 32 by omega)).trans ?_
  after_reads_at
  refine (dif_pos (show j.val - 64 - 32 - 32 - 64 < 8 by omega)).trans ?_
  refine congrArg (fun e => -angle (m (c, Proc.tc.devRef main_arg11) : Vec Ideal S8192x8 .f32) ⟨r.val, hr⟩ e) (Fin.ext ?_)
  first | rfl | omega | (simp only; omega)

/-- The second quarter of a latent row's signed sines. -/
theorem lat_sin1 (r : Fin 8448) (j : Fin 256) (hr : r.val < 8192) (h0 : 200 ≤ j.val) (h1 : j.val < 208) :
    (V m c main_v16 : Vec Ideal S8448x256 .f32) (ix2 r j) = (angle (m (c, Proc.tc.devRef main_arg11) : Vec Ideal S8192x8 .f32) ⟨r.val, hr⟩ ⟨j.val - 200, by omega⟩ : EReal) := by
  unfold V
  after_reads_at
  refine (dif_pos (show r.val < 8192 by omega)).trans ?_
  after_reads_at
  refine (dif_neg (show ¬(j.val < 64) by omega)).trans ?_
  refine (dif_neg (show ¬(j.val - 64 < 32) by omega)).trans ?_
  refine (dif_neg (show ¬(j.val - 64 - 32 < 32) by omega)).trans ?_
  refine (dif_neg (show ¬(j.val - 64 - 32 - 32 < 64) by omega)).trans ?_
  refine (dif_pos (show j.val - 64 - 32 - 32 - 64 < 32 by omega)).trans ?_
  after_reads_at
  refine (dif_neg (show ¬(j.val - 64 - 32 - 32 - 64 < 8) by omega)).trans ?_
  refine (dif_pos (show j.val - 64 - 32 - 32 - 64 - 8 < 8 by omega)).trans ?_
  refine congrArg (fun e => angle (m (c, Proc.tc.devRef main_arg11) : Vec Ideal S8192x8 .f32) ⟨r.val, hr⟩ e) (Fin.ext ?_)
  first | rfl | omega | (simp only; omega)

/-- The third quarter of a latent row's signed sines. -/
theorem lat_sin2 (r : Fin 8448) (j : Fin 256) (hr : r.val < 8192) (h0 : 208 ≤ j.val) (h1 : j.val < 216) :
    (V m c main_v16 : Vec Ideal S8448x256 .f32) (ix2 r j) = (-angle (m (c, Proc.tc.devRef main_arg13) : Vec Ideal S8192x8 .f32) ⟨r.val, hr⟩ ⟨j.val - 208, by omega⟩ : EReal) := by
  unfold V
  after_reads_at
  refine (dif_pos (show r.val < 8192 by omega)).trans ?_
  after_reads_at
  refine (dif_neg (show ¬(j.val < 64) by omega)).trans ?_
  refine (dif_neg (show ¬(j.val - 64 < 32) by omega)).trans ?_
  refine (dif_neg (show ¬(j.val - 64 - 32 < 32) by omega)).trans ?_
  refine (dif_neg (show ¬(j.val - 64 - 32 - 32 < 64) by omega)).trans ?_
  refine (dif_pos (show j.val - 64 - 32 - 32 - 64 < 32 by omega)).trans ?_
  after_reads_at
  refine (dif_neg (show ¬(j.val - 64 - 32 - 32 - 64 < 8) by omega)).trans ?_
  refine (dif_neg (show ¬(j.val - 64 - 32 - 32 - 64 - 8 < 8) by omega)).trans ?_
  refine (dif_pos (show j.val - 64 - 32 - 32 - 64 - 8 - 8 < 8 by omega)).trans ?_
  refine congrArg (fun e => -angle (m (c, Proc.tc.devRef main_arg13) : Vec Ideal S8192x8 .f32) ⟨r.val, hr⟩ e) (Fin.ext ?_)
  first | rfl | omega | (simp only; omega)

/-- The fourth quarter of a latent row's signed sines. -/
theorem lat_sin3 (r : Fin 8448) (j : Fin 256) (hr : r.val < 8192) (h0 : 216 ≤ j.val) (h1 : j.val < 224) :
    (V m c main_v16 : Vec Ideal S8448x256 .f32) (ix2 r j) = (angle (m (c, Proc.tc.devRef main_arg13) : Vec Ideal S8192x8 .f32) ⟨r.val, hr⟩ ⟨j.val - 216, by omega⟩ : EReal) := by
  unfold V
  after_reads_at
  refine (dif_pos (show r.val < 8192 by omega)).trans ?_
  after_reads_at
  refine (dif_neg (show ¬(j.val < 64) by omega)).trans ?_
  refine (dif_neg (show ¬(j.val - 64 < 32) by omega)).trans ?_
  refine (dif_neg (show ¬(j.val - 64 - 32 < 32) by omega)).trans ?_
  refine (dif_neg (show ¬(j.val - 64 - 32 - 32 < 64) by omega)).trans ?_
  refine (dif_pos (show j.val - 64 - 32 - 32 - 64 < 32 by omega)).trans ?_
  after_reads_at
  refine (dif_neg (show ¬(j.val - 64 - 32 - 32 - 64 < 8) by omega)).trans ?_
  refine (dif_neg (show ¬(j.val - 64 - 32 - 32 - 64 - 8 < 8) by omega)).trans ?_
  refine (dif_neg (show ¬(j.val - 64 - 32 - 32 - 64 - 8 - 8 < 8) by omega)).trans ?_
  refine congrArg (fun e => angle (m (c, Proc.tc.devRef main_arg13) : Vec Ideal S8192x8 .f32) ⟨r.val, hr⟩ e) (Fin.ext ?_)
  first | rfl | omega | (simp only; omega)

end Inproj

end
-- ==== Proof.Inproj.Row.lean ====
/- What the in-projection's body stores for one block of rows, element by element, in the body's own steps. -/
module

public import proofs.«01_k».proof.Proof.Inproj.Scatter
public import proofs.«01_k».proof.Proof.Ffn.Claims
public import Idealize.ShloMosaic.Lib.Pointwise

@[expose] public section

noncomputable section

namespace Inproj

open Idealize.ShloMosaic Cert.InprojIdeal Cert.InprojIdeal.Gen
open Cert.InprojIdeal.Facts

/-- An entry of a row divided by the root of the row's mean square, the row's length given as `c`. -/
def rmsBy {n : ℕ} (c : EReal) (x : Fin n → EReal) (k : Fin n) : EReal :=
  x k * Ideal.rsqrt (Ideal.div (∑ d, x d * x d) c + Ideal.ofBits .f32 0x358637BD#32)

/-- The product with the first columns is a sum over the row. -/
theorem dot_low (y : FVec Ideal S256x1024 .bf16) (w : FVec Ideal S1024x2176 .bf16) (i : Fin 256) (j : Fin 2176) :
    matmul dot_S256x1024_S1024x2176_S256x2176_1_0_0_1_n_n none y
      (shapeCast S1024x2176 w shapeCasts_S1024x2176_S1024x2176) (constant (F := Ideal) S256x2176 .f32 0x00000000#32) (ix2 i j)
      = (∑ k : Fin 1024, (y (ix2 i k) : EReal) * w (ix2 k j) : EReal) := by
  pointwise

/-- The product with the last columns is a sum over the row. -/
theorem dot_high (y : FVec Ideal S256x1024 .bf16) (w : FVec Ideal S1024x768 .bf16) (i : Fin 256) (j : Fin 768) :
    matmul dot_S256x1024_S1024x768_S256x768_1_0_0_1_n_n none y
      (shapeCast S1024x768 w shapeCasts_S1024x768_S1024x768) (constant (F := Ideal) S256x768 .f32 0x00000000#32) (ix2 i j)
      = (∑ k : Fin 1024, (y (ix2 i k) : EReal) * w (ix2 k j) : EReal) := by
  pointwise

/-- Row `i` of the block, modulated. -/
def rowHidden (x : FVec Ideal S256x1024 .f32) (gain : FVec Ideal S1x1024 .f32) (shift scale : FVec Ideal S1x1x1x1024 .f32)
    (i : Fin 256) : Fin 1024 → EReal :=
  Ffn.hidden (fun k => x (ix2 i k)) (fun k => gain (ix2 0 k)) (fun k => shift (ix4 0 0 0 k)) (fun k => scale (ix4 0 0 0 k))

/-- The first projection of a block's row. -/
theorem low_apply (x : FVec Ideal S256x1024 .f32) (gain : FVec Ideal S1x1024 .f32) (shift scale : FVec Ideal S1x1x1x1024 .f32)
    (w : FVec Ideal S1024x2176 .bf16) (i : Fin 256) (j : Fin 2176) :
    k0_pay4 (F := Ideal) x gain shift scale w (ix2 i j) = (∑ k : Fin 1024, rowHidden x gain shift scale i k * w (ix2 k j) : EReal) := by
  refine (dot_low (Ffn.modulated x gain shift scale) w i j).trans ?_
  refine Finset.sum_congr rfl fun k _ => ?_
  rw [Ffn.modulated_apply]
  rfl

/-- The second projection of a block's row. -/
theorem high_apply (x : FVec Ideal S256x1024 .f32) (gain : FVec Ideal S1x1024 .f32) (shift scale : FVec Ideal S1x1x1x1024 .f32)
    (w : FVec Ideal S1024x768 .bf16) (i : Fin 256) (j : Fin 768) :
    k0_pay3 (F := Ideal) x gain shift scale w (ix2 i j) = (∑ k : Fin 1024, rowHidden x gain shift scale i k * w (ix2 k j) : EReal) := by
  refine (dot_high (Ffn.modulated x gain shift scale) w i j).trans ?_
  refine Finset.sum_congr rfl fun k _ => ?_
  rw [Ffn.modulated_apply]
  rfl

/-- The query's compressed columns, normalised without their gain. -/
def normedQ (y : FVec Ideal S256x384 .f32) : FVec Ideal S256x384 .f32 :=
  mulf y (broadcastTo S256x384 (rsqrt (addf (divf (shapeCast S256x1
    (multiReduction .add [1] S256 (mulf y y) 0x00000000#32 reduces_S256x384_S256 (.inl rfl) rfl) shapeCasts_S256_S256x1)
    (broadcast S256x1 (Scalar.ofBits (F := Ideal) .f32 0x43C00000#32)))
    (broadcast S256x1 (Scalar.ofBits (F := Ideal) .f32 0x358637BD#32)))) broadcasts_S256x1_S256x384)

/-- The key's and the value's compressed columns, normalised without their gain. -/
def normedKv (y : FVec Ideal S256x256 .f32) : FVec Ideal S256x256 .f32 :=
  mulf y (broadcastTo S256x256 (rsqrt (addf (divf (shapeCast S256x1
    (multiReduction .add [1] S256 (mulf y y) 0x00000000#32 reduces_S256x256_S256 (.inl rfl) rfl) shapeCasts_S256_S256x1)
    (broadcast S256x1 (Scalar.ofBits (F := Ideal) .f32 0x43800000#32)))
    (broadcast S256x1 (Scalar.ofBits (F := Ideal) .f32 0x358637BD#32)))) broadcasts_S256x1_S256x256)

/-- The sum of squares of the query's low-rank columns. -/
theorem sumSqQ (y : FVec Ideal S256x384 .f32) (i : Fin 256) :
    multiReduction .add [1] S256 (mulf y y) 0x00000000#32 reduces_S256x384_S256 (.inl rfl) rfl (ix1 i)
      = (∑ k : Fin 384, (y (ix2 i k) : EReal) * y (ix2 i k) : EReal) := by
  pointwise

/-- The sum of squares of the low-rank columns of keys and values. -/
theorem sumSqKv (y : FVec Ideal S256x256 .f32) (i : Fin 256) :
    multiReduction .add [1] S256 (mulf y y) 0x00000000#32 reduces_S256x256_S256 (.inl rfl) rfl (ix1 i)
      = (∑ k : Fin 256, (y (ix2 i k) : EReal) * y (ix2 i k) : EReal) := by
  pointwise

/-- The query's low-rank columns, normalised. -/
theorem normedQ_apply (y : FVec Ideal S256x384 .f32) (i : Fin 256) (j : Fin 384) :
    normedQ y (ix2 i j) = rmsBy (Ideal.ofBits .f32 0x43C00000#32) (fun k => y (ix2 i k)) j := by
  unfold normedQ
  generalize e : multiReduction .add [1] S256 (mulf y y) 0x00000000#32 reduces_S256x384_S256 (.inl rfl) rfl = s
  have es := congrFun e (ix1 i)
  rw [sumSqQ] at es
  pointwise
  rw [← es]
  rfl

/-- The low-rank columns of keys and values, normalised. -/
theorem normedKv_apply (y : FVec Ideal S256x256 .f32) (i : Fin 256) (j : Fin 256) :
    normedKv y (ix2 i j) = rmsBy (Ideal.ofBits .f32 0x43800000#32) (fun k => y (ix2 i k)) j := by
  unfold normedKv
  generalize e : multiReduction .add [1] S256 (mulf y y) 0x00000000#32 reduces_S256x256_S256 (.inl rfl) rfl = s
  have es := congrFun e (ix1 i)
  rw [sumSqKv] at es
  pointwise
  rw [← es]
  rfl

/-- The queries' product is a sum over the low rank. -/
theorem dotQ (n : FVec Ideal S256x384 .f32) (g : FVec Ideal S1x384 .f32) (w : FVec Ideal S384x1024 .bf16)
    (i : Fin 256) (j : Fin 1024) :
    matmul dot_S256x384_S384x1024_S256x1024_1_0_0_1_n_n none
      (truncf .bf16 (mulf n (broadcastTo S256x384 g broadcasts_S1x384_S256x384)) bitsLt_bf16_f32)
      (shapeCast S384x1024 w shapeCasts_S384x1024_S384x1024) (constant (F := Ideal) S256x1024 .f32 0x00000000#32) (ix2 i j)
      = (∑ a : Fin 384, (n (ix2 i a) : EReal) * g (ix2 0 a) * w (ix2 a j) : EReal) := by
  pointwise

/-- The product of keys and values is a sum over the low rank. -/
theorem dotKv (n : FVec Ideal S256x256 .f32) (g : FVec Ideal S1x256 .f32) (w : FVec Ideal S256x2048 .bf16)
    (i : Fin 256) (j : Fin 2048) :
    matmul dot_S256x256_S256x2048_S256x2048_1_0_0_1_n_n none
      (truncf .bf16 (mulf n (broadcastTo S256x256 (shapeCast S1x256 g shapeCasts_S1x256_S1x256) broadcasts_S1x256_S256x256))
        bitsLt_bf16_f32)
      (shapeCast S256x2048 w shapeCasts_S256x2048_S256x2048) (constant (F := Ideal) S256x2048 .f32 0x00000000#32) (ix2 i j)
      = (∑ a : Fin 256, (n (ix2 i a) : EReal) * g (ix2 0 a) * w (ix2 a j) : EReal) := by
  pointwise

/-- A row's query columns, of all heads, before the rotation. -/
theorem query_apply (y : FVec Ideal S256x384 .f32) (g : FVec Ideal S1x384 .f32) (w : FVec Ideal S384x1024 .bf16)
    (i : Fin 256) (j : Fin 1024) :
    k0_pay7 y g w (ix2 i j)
      = (∑ a : Fin 384, rmsBy (Ideal.ofBits .f32 0x43C00000#32) (fun k => y (ix2 i k)) a * g (ix2 0 a) * w (ix2 a j) : EReal) := by
  refine (dotQ (normedQ y) g w i j).trans ?_
  refine Finset.sum_congr rfl fun a _ => ?_
  rw [normedQ_apply]

/-- The low-rank columns of keys and values. -/
theorem kvCols_apply (z : FVec Ideal S256x768 .f32) (i : Fin 256) (j : Fin 256) :
    extractStridedSlice S256x256 ![0, 384] z slices_S256x768_o0_384_S256x256 (ix2 i j) = z (ix2 i ⟨384 + j.val, by omega⟩) := by
  pointwise

/-- The body's keys and values, step by step. -/
theorem keyValue_eq (z : FVec Ideal S256x768 .f32) (g : FVec Ideal S1x256 .f32) (w : FVec Ideal S256x2048 .bf16) :
    k0_pay8 (F := Ideal) z g w = matmul dot_S256x256_S256x2048_S256x2048_1_0_0_1_n_n none
      (truncf .bf16 (mulf (normedKv (extractStridedSlice S256x256 ![0, 384] z slices_S256x768_o0_384_S256x256))
        (broadcastTo S256x256 (shapeCast S1x256 g shapeCasts_S1x256_S1x256) broadcasts_S1x256_S256x256)) bitsLt_bf16_f32)
      (shapeCast S256x2048 w shapeCasts_S256x2048_S256x2048) (constant (F := Ideal) S256x2048 .f32 0x00000000#32) := rfl

/-- The body's keys and values, element by element. -/
theorem keyValue_apply (z : FVec Ideal S256x768 .f32) (g : FVec Ideal S1x256 .f32) (w : FVec Ideal S256x2048 .bf16)
    (i : Fin 256) (j : Fin 2048) :
    k0_pay8 (F := Ideal) z g w (ix2 i j)
      = (∑ a : Fin 256, rmsBy (Ideal.ofBits .f32 0x43800000#32) (fun k : Fin 256 => z (ix2 i ⟨384 + k.val, by omega⟩)) a
          * g (ix2 0 a) * w (ix2 a j) : EReal) := by
  rw [keyValue_eq]
  generalize e : extractStridedSlice S256x256 ![0, 384] z slices_S256x768_o0_384_S256x256 = y
  have ey : ∀ k : Fin 256, z (ix2 i ⟨384 + k.val, by omega⟩) = y (ix2 i k) := fun k => by
    rw [← e]
    exact (kvCols_apply z i k).symm
  simp only [ey]
  refine (dotKv (normedKv y) g w i j).trans ?_
  refine Finset.sum_congr rfl fun a _ => ?_
  rw [normedKv_apply]

/-- The columns stored scaled. -/
theorem scaled_apply (z : FVec Ideal S256x2176 .f32) (i : Fin 256) (j : Fin 256) :
    k0_pay9 z (ix2 i j) = (z (ix2 i ⟨j.val, by omega⟩) * Ideal.ofBits .f32 0x3E000000#32 : EReal) := by
  pointwise [k0_pay9]

/-- The columns stored as they are. -/
theorem plain_apply (z : FVec Ideal S256x2176 .f32) (i : Fin 256) (j : Fin 1280) :
    k0_pay10 z (ix2 i j) = z (ix2 i ⟨256 + j.val, by omega⟩) := by
  pointwise [k0_pay10]

/-- The Fourier columns. -/
theorem fourier_apply (z : FVec Ideal S256x2176 .f32) (i : Fin 256) (j : Fin 512) :
    k0_pay12 z (ix2 i j) = z (ix2 i ⟨1664 + j.val, by omega⟩) := by
  pointwise [k0_pay12]

/-- The decay before its logarithm. -/
def decay (z : FVec Ideal S256x2176 .f32) (w : FVec Ideal S128x512 .bf16) (b : FVec Ideal S1x512 .f32) :
    FVec Ideal S256x512 .f32 :=
  addf (matmul dot_S256x128_S128x512_S256x512_1_0_0_1_n_n none
    (truncf .bf16 (extractStridedSlice S256x128 ![0, 1536] z slices_S256x2176_o0_1536_S256x128) bitsLt_bf16_f32)
    (shapeCast S128x512 w shapeCasts_S128x512_S128x512) (constant S256x512 .f32 0x00000000#32))
    (broadcastTo S256x512 (shapeCast S1x512 b shapeCasts_S1x512_S1x512) broadcasts_S1x512_S256x512)

/-- The decay's projection with its bias. -/
theorem decay_apply (z : FVec Ideal S256x2176 .f32) (w : FVec Ideal S128x512 .bf16) (b : FVec Ideal S1x512 .f32)
    (i : Fin 256) (j : Fin 512) :
    decay z w b (ix2 i j)
      = ((∑ l : Fin 128, z (ix2 i ⟨1536 + l.val, by omega⟩) * w (ix2 l j)) + b (ix2 0 j) : EReal) := by
  pointwise [decay]

/-- The logarithm of the logistic, as the body computes it. -/
def logSigmoid (x : EReal) : EReal :=
  min x 0 - Ideal.log1p (Ideal.exp (0 - max x (-x)))

/-- The logarithm of the decay, divided by tau. -/
theorem logDecay_apply (z : FVec Ideal S256x2176 .f32) (w : FVec Ideal S128x512 .bf16) (b : FVec Ideal S1x512 .f32)
    (i : Fin 256) (j : Fin 512) :
    k0_pay11 z w b (ix2 i j) = (logSigmoid (decay z w b (ix2 i j)) * Ideal.ofBits .f32 0x3D800000#32 : EReal) := by
  show mulf (subf (minimumf (decay z w b) (broadcast S256x512 (Scalar.ofBits (F := Ideal) .f32 0x00000000#32)))
    (log1p (exp (subf (broadcast S256x512 (Scalar.ofBits (F := Ideal) .f32 0x00000000#32)) (absf (decay z w b))))))
    (broadcast S256x512 (Scalar.ofBits (F := Ideal) .f32 0x3D800000#32)) (ix2 i j) = _
  generalize decay z w b = d
  unfold logSigmoid
  rw [← Ffn.Reference.ofBits_zero]
  pointwise
  rfl

end Inproj

end
-- ==== Proof.Inproj.Slots.lean ====
/- The heads' slots of 128 lanes that the in-projection's body stores, element by element. -/
module

public import proofs.«01_k».proof.Proof.Inproj.Row
public import Idealize.ShloMosaic.Lib.KernelVsHost

@[expose] public section

noncomputable section

namespace Inproj

open Idealize.ShloMosaic Cert.InprojIdeal Cert.InprojIdeal.Gen
open Cert.InprojIdeal.Facts

/-- A slot turned by 96 lanes. -/
theorem turn96 (y : FVec Ideal S256x128 .f32) (i : Fin 256) (l : Fin 128) :
    dynamicRotate 1 96#32 none y rotates_S256x128_d1 (ix2 i l) = y (ix2 i ⟨(l.val + 32) % 128, by omega⟩) := by
  refine dynamicRotate_apply _ _ _ _ _ _ fun b => ?_
  fin_cases b
  · rfl
  · show (l.val + 32) % 128 = (l.val + 128 - 96) % 128
    omega

/-- A slot turned by 64 lanes. -/
theorem turn64 (y : FVec Ideal S256x128 .f32) (i : Fin 256) (l : Fin 128) :
    dynamicRotate 1 64#32 none y rotates_S256x128_d1 (ix2 i l) = y (ix2 i ⟨(l.val + 64) % 128, by omega⟩) := by
  refine dynamicRotate_apply _ _ _ _ _ _ fun b => ?_
  fin_cases b
  · rfl
  · show (l.val + 64) % 128 = (l.val + 128 - 64) % 128
    omega

/-- A slot times its cosines, plus the slot turned by 32 lanes times its sines. -/
def slot (y : FVec Ideal S256x128 .f32) (t : FVec Ideal S256x256 .f32) : FVec Ideal S256x128 .f32 :=
  addf (mulf y (extractStridedSlice S256x128 ![0, 0] t slices_S256x256_o0_0_S256x128))
    (mulf (dynamicRotate 1 96#32 none y rotates_S256x128_d1)
      (extractStridedSlice S256x128 ![0, 128] t slices_S256x256_o0_128_S256x128))

/-- A slot times the table's first half, plus the turned slot times the second half. -/
theorem slot_apply (y : FVec Ideal S256x128 .f32) (t : FVec Ideal S256x256 .f32) (i : Fin 256) (l : Fin 128) :
    slot y t (ix2 i l) = (y (ix2 i l) * t (ix2 i ⟨l.val, by omega⟩)
      + y (ix2 i ⟨(l.val + 32) % 128, by omega⟩) * t (ix2 i ⟨128 + l.val, by omega⟩) : EReal) := by
  unfold slot
  generalize e : dynamicRotate 1 96#32 none y rotates_S256x128_d1 = r
  have er := congrFun e (ix2 i l)
  rw [turn96] at er
  rw [er]
  pointwise

/-- The table as it is read. -/
theorem table_apply (t : FVec Ideal S256x256 .f32) (i j : Fin 256) : k0_pay13 t (ix2 i j) = t (ix2 i j) := by
  pointwise [k0_pay13]

/-- The query's gain as it is read. -/
theorem qGain_apply (g : FVec Ideal S1x384 .f32) (j : Fin 384) : k0_pay6 g (ix2 0 j) = g (ix2 0 j) := by
  pointwise [k0_pay6]

/-- The query's low-rank columns of a block. -/
theorem qCols_apply (x : FVec Ideal S256x1024 .f32) (gain : FVec Ideal S1x1024 .f32)
    (shift scale : FVec Ideal S1x1x1x1024 .f32) (w : FVec Ideal S1024x768 .bf16) (i : Fin 256) (j : Fin 384) :
    k0_pay5 (F := Ideal) x gain shift scale w (ix2 i j)
      = (∑ k : Fin 1024, rowHidden x gain shift scale i k * w (ix2 k ⟨j.val, by omega⟩) : EReal) := by
  refine Eq.trans ?_ (high_apply x gain shift scale w i ⟨j.val, by omega⟩)
  unfold k0_pay5
  generalize k0_pay3 (F := Ideal) x gain shift scale w = z
  pointwise

/-- The rotary key's slot of a block. -/
theorem krCols_apply (z : FVec Ideal S256x768 .f32) (i : Fin 256) (l : Fin 128) :
    extractStridedSlice S256x128 ![0, 640] z slices_S256x768_o0_640_S256x128 (ix2 i l) = z (ix2 i ⟨640 + l.val, by omega⟩) := by
  pointwise

/-- The slot that every head's key shares. -/
theorem keySlot_apply (z : FVec Ideal S256x768 .f32) (t : FVec Ideal S256x256 .f32) (i : Fin 256) (l : Fin 128) :
    k0_pay14 z t (ix2 i l) = (z (ix2 i ⟨640 + (l.val + 64) % 128, by omega⟩) * t (ix2 i ⟨l.val, by omega⟩)
      + z (ix2 i ⟨640 + (l.val + 96) % 128, by omega⟩) * t (ix2 i ⟨128 + l.val, by omega⟩) : EReal) := by
  show slot (dynamicRotate 1 64#32 none (extractStridedSlice S256x128 ![0, 640] z slices_S256x768_o0_640_S256x128)
    rotates_S256x128_d1) (k0_pay13 t) (ix2 i l) = _
  rw [slot_apply, turn64, turn64, krCols_apply, krCols_apply, table_apply, table_apply]
  have e : 640 + ((l.val + 32) % 128 + 64) % 128 = 640 + (l.val + 96) % 128 := by omega
  simp only [e]

/-- The scale of a query slot. -/
theorem head_scale (s : FVec Ideal S256x128 .f32) (i : Fin 256) (l : Fin 128) :
    truncf .bf16 (mulf s (broadcast S256x128 (Scalar.ofBits (F := Ideal) .f32 0x3E16C740#32))) bitsLt_bf16_f32 (ix2 i l)
      = (s (ix2 i l) * Ideal.ofBits .f32 0x3E16C740#32 : EReal) := by
  pointwise

/-- The first slot cut from the queries. -/
theorem qSlice0 (y : FVec Ideal S256x1024 .f32) (i : Fin 256) (l : Fin 128) :
    extractStridedSlice S256x128 ![0, 0] y slices_S256x1024_o0_0_S256x128 (ix2 i l) = y (ix2 i ⟨128 * 0 + l.val, by omega⟩) := by
  pointwise

/-- The first query slot: turned, then scaled. -/
theorem query0_apply (y : FVec Ideal S256x1024 .f32) (t : FVec Ideal S256x256 .f32) (i : Fin 256) (l : Fin 128) :
    k0_pay16 (k0_pay15 y t) (ix2 i l)
      = ((y (ix2 i ⟨128 * 0 + l.val, by omega⟩) * t (ix2 i ⟨l.val, by omega⟩)
        + y (ix2 i ⟨128 * 0 + (l.val + 32) % 128, by omega⟩) * t (ix2 i ⟨128 + l.val, by omega⟩))
          * Ideal.ofBits .f32 0x3E16C740#32 : EReal) := by
  refine (head_scale (slot (extractStridedSlice S256x128 ![0, 0] y slices_S256x1024_o0_0_S256x128) (k0_pay13 t)) i l).trans ?_
  rw [slot_apply, qSlice0, qSlice0, table_apply, table_apply]

/-- The first key slot: the plain part plus the turned part all heads share. -/
theorem key0_apply (y : FVec Ideal S256x2048 .f32) (r : FVec Ideal S256x128 .f32) (i : Fin 256) (l : Fin 128) :
    k0_pay17 y r (ix2 i l) = (y (ix2 i ⟨128 * 0 + l.val, by omega⟩) + r (ix2 i l) : EReal) := by
  pointwise [k0_pay17]

/-- The second slot cut from the queries. -/
theorem qSlice1 (y : FVec Ideal S256x1024 .f32) (i : Fin 256) (l : Fin 128) :
    extractStridedSlice S256x128 ![0, 128] y slices_S256x1024_o0_128_S256x128 (ix2 i l) = y (ix2 i ⟨128 * 1 + l.val, by omega⟩) := by
  pointwise

/-- The second query slot: turned, then scaled. -/
theorem query1_apply (y : FVec Ideal S256x1024 .f32) (t : FVec Ideal S256x256 .f32) (i : Fin 256) (l : Fin 128) :
    k0_pay18 y (k0_pay13 t) (ix2 i l)
      = ((y (ix2 i ⟨128 * 1 + l.val, by omega⟩) * t (ix2 i ⟨l.val, by omega⟩)
        + y (ix2 i ⟨128 * 1 + (l.val + 32) % 128, by omega⟩) * t (ix2 i ⟨128 + l.val, by omega⟩))
          * Ideal.ofBits .f32 0x3E16C740#32 : EReal) := by
  refine (head_scale (slot (extractStridedSlice S256x128 ![0, 128] y slices_S256x1024_o0_128_S256x128) (k0_pay13 t)) i l).trans ?_
  rw [slot_apply, qSlice1, qSlice1, table_apply, table_apply]

/-- The second key slot: the plain part plus the turned part all heads share. -/
theorem key1_apply (y : FVec Ideal S256x2048 .f32) (r : FVec Ideal S256x128 .f32) (i : Fin 256) (l : Fin 128) :
    k0_pay19 y r (ix2 i l) = (y (ix2 i ⟨128 * 1 + l.val, by omega⟩) + r (ix2 i l) : EReal) := by
  pointwise [k0_pay19]

/-- The third slot cut from the queries. -/
theorem qSlice2 (y : FVec Ideal S256x1024 .f32) (i : Fin 256) (l : Fin 128) :
    extractStridedSlice S256x128 ![0, 256] y slices_S256x1024_o0_256_S256x128 (ix2 i l) = y (ix2 i ⟨128 * 2 + l.val, by omega⟩) := by
  pointwise

/-- The third query slot: turned, then scaled. -/
theorem query2_apply (y : FVec Ideal S256x1024 .f32) (t : FVec Ideal S256x256 .f32) (i : Fin 256) (l : Fin 128) :
    k0_pay20 y (k0_pay13 t) (ix2 i l)
      = ((y (ix2 i ⟨128 * 2 + l.val, by omega⟩) * t (ix2 i ⟨l.val, by omega⟩)
        + y (ix2 i ⟨128 * 2 + (l.val + 32) % 128, by omega⟩) * t (ix2 i ⟨128 + l.val, by omega⟩))
          * Ideal.ofBits .f32 0x3E16C740#32 : EReal) := by
  refine (head_scale (slot (extractStridedSlice S256x128 ![0, 256] y slices_S256x1024_o0_256_S256x128) (k0_pay13 t)) i l).trans ?_
  rw [slot_apply, qSlice2, qSlice2, table_apply, table_apply]

/-- The third key slot: the plain part plus the turned part all heads share. -/
theorem key2_apply (y : FVec Ideal S256x2048 .f32) (r : FVec Ideal S256x128 .f32) (i : Fin 256) (l : Fin 128) :
    k0_pay21 y r (ix2 i l) = (y (ix2 i ⟨128 * 2 + l.val, by omega⟩) + r (ix2 i l) : EReal) := by
  pointwise [k0_pay21]

/-- The fourth slot cut from the queries. -/
theorem qSlice3 (y : FVec Ideal S256x1024 .f32) (i : Fin 256) (l : Fin 128) :
    extractStridedSlice S256x128 ![0, 384] y slices_S256x1024_o0_384_S256x128 (ix2 i l) = y (ix2 i ⟨128 * 3 + l.val, by omega⟩) := by
  pointwise

/-- The fourth query slot: turned, then scaled. -/
theorem query3_apply (y : FVec Ideal S256x1024 .f32) (t : FVec Ideal S256x256 .f32) (i : Fin 256) (l : Fin 128) :
    k0_pay22 y (k0_pay13 t) (ix2 i l)
      = ((y (ix2 i ⟨128 * 3 + l.val, by omega⟩) * t (ix2 i ⟨l.val, by omega⟩)
        + y (ix2 i ⟨128 * 3 + (l.val + 32) % 128, by omega⟩) * t (ix2 i ⟨128 + l.val, by omega⟩))
          * Ideal.ofBits .f32 0x3E16C740#32 : EReal) := by
  refine (head_scale (slot (extractStridedSlice S256x128 ![0, 384] y slices_S256x1024_o0_384_S256x128) (k0_pay13 t)) i l).trans ?_
  rw [slot_apply, qSlice3, qSlice3, table_apply, table_apply]

/-- The fourth key slot: the plain part plus the turned part all heads share. -/
theorem key3_apply (y : FVec Ideal S256x2048 .f32) (r : FVec Ideal S256x128 .f32) (i : Fin 256) (l : Fin 128) :
    k0_pay23 y r (ix2 i l) = (y (ix2 i ⟨128 * 3 + l.val, by omega⟩) + r (ix2 i l) : EReal) := by
  pointwise [k0_pay23]

/-- The fifth slot cut from the queries. -/
theorem qSlice4 (y : FVec Ideal S256x1024 .f32) (i : Fin 256) (l : Fin 128) :
    extractStridedSlice S256x128 ![0, 512] y slices_S256x1024_o0_512_S256x128 (ix2 i l) = y (ix2 i ⟨128 * 4 + l.val, by omega⟩) := by
  pointwise

/-- The fifth query slot: turned, then scaled. -/
theorem query4_apply (y : FVec Ideal S256x1024 .f32) (t : FVec Ideal S256x256 .f32) (i : Fin 256) (l : Fin 128) :
    k0_pay24 y (k0_pay13 t) (ix2 i l)
      = ((y (ix2 i ⟨128 * 4 + l.val, by omega⟩) * t (ix2 i ⟨l.val, by omega⟩)
        + y (ix2 i ⟨128 * 4 + (l.val + 32) % 128, by omega⟩) * t (ix2 i ⟨128 + l.val, by omega⟩))
          * Ideal.ofBits .f32 0x3E16C740#32 : EReal) := by
  refine (head_scale (slot (extractStridedSlice S256x128 ![0, 512] y slices_S256x1024_o0_512_S256x128) (k0_pay13 t)) i l).trans ?_
  rw [slot_apply, qSlice4, qSlice4, table_apply, table_apply]

/-- The fifth key slot: the plain part plus the turned part all heads share. -/
theorem key4_apply (y : FVec Ideal S256x2048 .f32) (r : FVec Ideal S256x128 .f32) (i : Fin 256) (l : Fin 128) :
    k0_pay25 y r (ix2 i l) = (y (ix2 i ⟨128 * 4 + l.val, by omega⟩) + r (ix2 i l) : EReal) := by
  pointwise [k0_pay25]

/-- The sixth slot cut from the queries. -/
theorem qSlice5 (y : FVec Ideal S256x1024 .f32) (i : Fin 256) (l : Fin 128) :
    extractStridedSlice S256x128 ![0, 640] y slices_S256x1024_o0_640_S256x128 (ix2 i l) = y (ix2 i ⟨128 * 5 + l.val, by omega⟩) := by
  pointwise

/-- The sixth query slot: turned, then scaled. -/
theorem query5_apply (y : FVec Ideal S256x1024 .f32) (t : FVec Ideal S256x256 .f32) (i : Fin 256) (l : Fin 128) :
    k0_pay26 y (k0_pay13 t) (ix2 i l)
      = ((y (ix2 i ⟨128 * 5 + l.val, by omega⟩) * t (ix2 i ⟨l.val, by omega⟩)
        + y (ix2 i ⟨128 * 5 + (l.val + 32) % 128, by omega⟩) * t (ix2 i ⟨128 + l.val, by omega⟩))
          * Ideal.ofBits .f32 0x3E16C740#32 : EReal) := by
  refine (head_scale (slot (extractStridedSlice S256x128 ![0, 640] y slices_S256x1024_o0_640_S256x128) (k0_pay13 t)) i l).trans ?_
  rw [slot_apply, qSlice5, qSlice5, table_apply, table_apply]

/-- The sixth key slot: the plain part plus the turned part all heads share. -/
theorem key5_apply (y : FVec Ideal S256x2048 .f32) (r : FVec Ideal S256x128 .f32) (i : Fin 256) (l : Fin 128) :
    k0_pay27 y r (ix2 i l) = (y (ix2 i ⟨128 * 5 + l.val, by omega⟩) + r (ix2 i l) : EReal) := by
  pointwise [k0_pay27]

/-- The seventh slot cut from the queries. -/
theorem qSlice6 (y : FVec Ideal S256x1024 .f32) (i : Fin 256) (l : Fin 128) :
    extractStridedSlice S256x128 ![0, 768] y slices_S256x1024_o0_768_S256x128 (ix2 i l) = y (ix2 i ⟨128 * 6 + l.val, by omega⟩) := by
  pointwise

/-- The seventh query slot: turned, then scaled. -/
theorem query6_apply (y : FVec Ideal S256x1024 .f32) (t : FVec Ideal S256x256 .f32) (i : Fin 256) (l : Fin 128) :
    k0_pay28 y (k0_pay13 t) (ix2 i l)
      = ((y (ix2 i ⟨128 * 6 + l.val, by omega⟩) * t (ix2 i ⟨l.val, by omega⟩)
        + y (ix2 i ⟨128 * 6 + (l.val + 32) % 128, by omega⟩) * t (ix2 i ⟨128 + l.val, by omega⟩))
          * Ideal.ofBits .f32 0x3E16C740#32 : EReal) := by
  refine (head_scale (slot (extractStridedSlice S256x128 ![0, 768] y slices_S256x1024_o0_768_S256x128) (k0_pay13 t)) i l).trans ?_
  rw [slot_apply, qSlice6, qSlice6, table_apply, table_apply]

/-- The seventh key slot: the plain part plus the turned part all heads share. -/
theorem key6_apply (y : FVec Ideal S256x2048 .f32) (r : FVec Ideal S256x128 .f32) (i : Fin 256) (l : Fin 128) :
    k0_pay29 y r (ix2 i l) = (y (ix2 i ⟨128 * 6 + l.val, by omega⟩) + r (ix2 i l) : EReal) := by
  pointwise [k0_pay29]

/-- The eighth slot cut from the queries. -/
theorem qSlice7 (y : FVec Ideal S256x1024 .f32) (i : Fin 256) (l : Fin 128) :
    extractStridedSlice S256x128 ![0, 896] y slices_S256x1024_o0_896_S256x128 (ix2 i l) = y (ix2 i ⟨128 * 7 + l.val, by omega⟩) := by
  pointwise

/-- The eighth query slot: turned, then scaled. -/
theorem query7_apply (y : FVec Ideal S256x1024 .f32) (t : FVec Ideal S256x256 .f32) (i : Fin 256) (l : Fin 128) :
    k0_pay30 y (k0_pay13 t) (ix2 i l)
      = ((y (ix2 i ⟨128 * 7 + l.val, by omega⟩) * t (ix2 i ⟨l.val, by omega⟩)
        + y (ix2 i ⟨128 * 7 + (l.val + 32) % 128, by omega⟩) * t (ix2 i ⟨128 + l.val, by omega⟩))
          * Ideal.ofBits .f32 0x3E16C740#32 : EReal) := by
  refine (head_scale (slot (extractStridedSlice S256x128 ![0, 896] y slices_S256x1024_o0_896_S256x128) (k0_pay13 t)) i l).trans ?_
  rw [slot_apply, qSlice7, qSlice7, table_apply, table_apply]

/-- The eighth key slot: the plain part plus the turned part all heads share. -/
theorem key7_apply (y : FVec Ideal S256x2048 .f32) (r : FVec Ideal S256x128 .f32) (i : Fin 256) (l : Fin 128) :
    k0_pay31 y r (ix2 i l) = (y (ix2 i ⟨128 * 7 + l.val, by omega⟩) + r (ix2 i l) : EReal) := by
  pointwise [k0_pay31]

/-- Lane 64 of each of the eight slots, as the body finds it. -/
theorem lane64 : ∀ j : Fin 1024, IntOp.cmpi CmpIPredicate.eq
        (Scalar.select
          (IntOp.andi
            (IntOp.xori (IntOp.cmpi CmpIPredicate.slt (IntOp.remsi ArithUnit.vector (BitVec.ofNat 32 j.val) 128#32) 0#32)
              (Scalar.cmpi CmpIPredicate.slt 128#32 0#32))
            (IntOp.cmpi CmpIPredicate.ne (IntOp.remsi ArithUnit.vector (BitVec.ofNat 32 j.val) 128#32) 0#32))
          (IntOp.addi (IntOp.remsi ArithUnit.vector (BitVec.ofNat 32 j.val) 128#32) 128#32)
          (IntOp.remsi ArithUnit.vector (BitVec.ofNat 32 j.val) 128#32))
        64#32 = if j.val % 128 = 64 then 1#1 else 0#1 := by
  decide +kernel

/-- The values with a one in lane 64 of every slot. -/
theorem value_apply (y : FVec Ideal S256x2048 .f32) (i : Fin 256) (j : Fin 1024) :
    k0_pay1 y (iota Kind.tc S256x1024 32 [1] iota_S256x1024_d1_w32) (128#32) (0#1) (ix2 i j)
      = (if j.val % 128 = 64 then 1 else y (ix2 i ⟨1024 + j.val, by omega⟩) : EReal) := by
  pointwise [k0_pay1]
  rw [lane64]
  by_cases h : j.val % 128 = 64
  · rw [if_pos h, if_pos h]
    rfl
  · rw [if_neg h, if_neg h]
    rfl

end Inproj

end
-- ==== Proof.Inproj.Spec.lean ====
/- The in-projection of one row, in plain terms: what both the kernel and the reference compute. -/
module

public import proofs.«01_k».proof.Proof.Inproj.Table
public import proofs.«01_k».proof.Proof.Inproj.Slots

@[expose] public section

noncomputable section

namespace Inproj

open Idealize.ShloMosaic Cert.InprojIdeal Cert.InprojIdeal.Gen
open Cert.InprojIdeal.Facts

/-- Row `R`, modulated by its condition, times column `e` of the first stack of weights. -/
def proj (x0 : S16896x1024.Idx → EReal) (x1 : S2x8x9x1024.Idx → EReal) (x2 : S1024.Idx → EReal) (x3 : S2x1024x5824.Idx → EReal)
    (R : Fin 16896) (e : Fin 5824) : EReal :=
  ∑ k, Ffn.hidden (fun k => x0 (ix2 R k)) (fun k => x2 (ix1 k)) (Ffn.cond x1 R 3) (Ffn.cond x1 R 4) k * x3 (ix3 0 k e)

/-- The decay of direction `d`, before its logarithm. -/
def decayAt (p : Fin 5824 → EReal) (w : S2x2x16x256.Idx → EReal) (b : S2x2x256.Idx → EReal) (d : Fin 2) (q : Fin 256) : EReal :=
  (∑ l : Fin 16, p ⟨1536 + 16 * d.val + l.val, by omega⟩ * w (ix4 0 d l q)) + b (ix3 0 d q)

/-- The recurrence's columns: scaled queries, then keys, values and gates, then the logarithms of the two directions' decays. -/
def glaAt (p : Fin 5824 → EReal) (w : S2x2x16x256.Idx → EReal) (b : S2x2x256.Idx → EReal) (j : Fin 2048) : EReal :=
  if j.val < 256 then p ⟨j.val, by omega⟩ * Ideal.ofBits .f32 0x3E000000#32
  else if j.val < 1536 then p ⟨j.val, by omega⟩
  else logSigmoid (decayAt p w b ⟨(j.val - 1536) / 256, by omega⟩ ⟨(j.val - 1536) % 256, by omega⟩)
    * Ideal.ofBits .f32 0x3D800000#32

/-- The queries of all heads before the rotation. -/
def qAt (p : Fin 5824 → EReal) (g : S2x384.Idx → EReal) (w : S2x384x768.Idx → EReal) (e : Fin 768) : EReal :=
  ∑ a : Fin 384, rmsBy (Ideal.ofBits .f32 0x43C00000#32) (fun k : Fin 384 => p ⟨2080 + k.val, by omega⟩) a * g (ix2 0 a)
    * w (ix3 0 a e)

/-- The keys and values of all heads. -/
def kvAt (p : Fin 5824 → EReal) (g : S2x256.Idx → EReal) (w : S2x256x1024.Idx → EReal) (e : Fin 1024) : EReal :=
  ∑ a : Fin 256, rmsBy (Ideal.ofBits .f32 0x43800000#32) (fun k : Fin 256 => p ⟨2464 + k.val, by omega⟩) a * g (ix2 0 a)
    * w (ix3 0 a e)

/-- The number of a row's or a column's table for lane `e` of the 32 rotated ones. -/
def angleAt (row col : S8192x8.Idx → EReal) (r : Fin 8192) (e : Fin 32) : EReal :=
  if e.val < 16 then angle row r ⟨e.val % 8, by omega⟩ else angle col r ⟨e.val % 8, by omega⟩

/-- The rotation of 32 lanes by the position of a latent row; a context row stays as it is. -/
def rotAt (cr sr cc sc : S8192x8.Idx → EReal) (R : Fin 16896) (x : Fin 32 → EReal) (e : Fin 32) : EReal :=
  if R.val < 16384 then
    (if e.val % 16 < 8 then
      x e * angleAt cr cc ⟨R.val % 8192, by omega⟩ e - x (partner e) * angleAt sr sc ⟨R.val % 8192, by omega⟩ e
    else x e * angleAt cr cc ⟨R.val % 8192, by omega⟩ e + x (partner e) * angleAt sr sc ⟨R.val % 8192, by omega⟩ e)
  else x e

/-- Lane `l` of head `h`'s query slot. -/
def queryAt (q : Fin 768 → EReal) (rot : (Fin 32 → EReal) → Fin 32 → EReal) (h : Fin 8) (l : Fin 128) : EReal :=
  if h0 : l.val < 64 then q ⟨96 * h.val + l.val, by omega⟩ * Ideal.ofBits .f32 0x3E16C740#32
  else if h1 : l.val < 96 then
    rot (fun e => q ⟨96 * h.val + (64 + e.val), by omega⟩) ⟨l.val - 64, by omega⟩ * Ideal.ofBits .f32 0x3E16C740#32
  else 0

/-- Lane `l` of head `h`'s key slot. -/
def keyAt (p : Fin 5824 → EReal) (kv : Fin 1024 → EReal) (rot : (Fin 32 → EReal) → Fin 32 → EReal) (h : Fin 8) (l : Fin 128) :
    EReal :=
  if h0 : l.val < 64 then kv ⟨128 * h.val + l.val, by omega⟩
  else if h1 : l.val < 96 then rot (fun e => p ⟨2720 + e.val, by omega⟩) ⟨l.val - 64, by omega⟩
  else 0

/-- Lane `l` of head `h`'s value slot. -/
def valueAt (kv : Fin 1024 → EReal) (h : Fin 8) (l : Fin 128) : EReal :=
  if h0 : l.val < 64 then kv ⟨128 * h.val + (64 + l.val), by omega⟩ else if l.val = 64 then 1 else 0

/-- The row that stands at place `r` where the rows are held sample by sample, each sample's 8192 latents before its 256 context
    rows. -/
def sampleRow (r : Fin 16896) : Fin 16896 :=
  if r.val % 8448 < 8192 then ⟨r.val / 8448 * 8192 + r.val % 8448, by omega⟩
  else ⟨16384 + (r.val / 8448 * 256 + (r.val % 8448 - 8192)), by omega⟩

/-- The first result: the recurrence's columns, sample by sample. -/
def G0 (x0 : S16896x1024.Idx → EReal) (x1 : S2x8x9x1024.Idx → EReal) (x2 : S1024.Idx → EReal) (x3 : S2x1024x5824.Idx → EReal)
    (x4 : S2x2x16x256.Idx → EReal) (x5 : S2x2x256.Idx → EReal) : S16896x2048.Idx → EReal := fun I =>
  glaAt (proj x0 x1 x2 x3 (sampleRow (I 0))) x4 x5 (I 1)

/-- The second result: the Fourier mixing's columns. -/
def G1 (x0 : S16896x1024.Idx → EReal) (x1 : S2x8x9x1024.Idx → EReal) (x2 : S1024.Idx → EReal) (x3 : S2x1024x5824.Idx → EReal) :
    S16896x512.Idx → EReal := fun I =>
  proj x0 x1 x2 x3 (I 0) ⟨1568 + (I 1).val, by have : (I 1).val < 512 := (I 1).isLt; omega⟩

/-- The head that a lane of a result belongs to. -/
def headOf (j : Fin 1024) : Fin 8 := ⟨j.val / 128, by omega⟩

/-- The lane of its head's slot. -/
def laneOf (j : Fin 1024) : Fin 128 := ⟨j.val % 128, by omega⟩

/-- The third result: the queries. -/
def G2 (x0 : S16896x1024.Idx → EReal) (x1 : S2x8x9x1024.Idx → EReal) (x2 : S1024.Idx → EReal) (x3 : S2x1024x5824.Idx → EReal)
    (x6 : S2x384.Idx → EReal) (x7 : S2x384x768.Idx → EReal) (x10 x11 x12 x13 : S8192x8.Idx → EReal) :
    S16896x1024.Idx → EReal := fun I =>
  queryAt (qAt (proj x0 x1 x2 x3 (I 0)) x6 x7) (rotAt x10 x11 x12 x13 (I 0)) (headOf (I 1)) (laneOf (I 1))

/-- The fourth result: the keys, sample by sample. -/
def G3 (x0 : S16896x1024.Idx → EReal) (x1 : S2x8x9x1024.Idx → EReal) (x2 : S1024.Idx → EReal) (x3 : S2x1024x5824.Idx → EReal)
    (x8 : S2x256.Idx → EReal) (x9 : S2x256x1024.Idx → EReal) (x10 x11 x12 x13 : S8192x8.Idx → EReal) :
    S16896x1024.Idx → EReal := fun I =>
  keyAt (proj x0 x1 x2 x3 (sampleRow (I 0))) (kvAt (proj x0 x1 x2 x3 (sampleRow (I 0))) x8 x9)
    (rotAt x10 x11 x12 x13 (sampleRow (I 0))) (headOf (I 1)) (laneOf (I 1))

/-- The fifth result: the values, each followed by a one, sample by sample. -/
def G4 (x0 : S16896x1024.Idx → EReal) (x1 : S2x8x9x1024.Idx → EReal) (x2 : S1024.Idx → EReal) (x3 : S2x1024x5824.Idx → EReal)
    (x8 : S2x256.Idx → EReal) (x9 : S2x256x1024.Idx → EReal) : S16896x1024.Idx → EReal := fun I =>
  valueAt (kvAt (proj x0 x1 x2 x3 (sampleRow (I 0))) x8 x9) (headOf (I 1)) (laneOf (I 1))

end Inproj

end
-- ==== Proof.Inproj.Windows.lean ====
/- The in-projection's windows, and its columns before they are split, element by element. -/
module

public import proofs.«01_k».proof.Proof.Inproj.Host
public import proofs.«01_k».proof.Proof.Inproj.Spec
public import Idealize.ShloMosaic.Lib.Pipeline.ValueKit

@[expose] public section

noncomputable section

namespace Inproj

open Idealize.ShloMosaic Cert.InprojIdeal Cert.InprojIdeal.Gen Idealize.ShloMosaic.TcCoe
open Cert.InprojIdeal.Facts
open Idealize.ShloMosaic.Pipeline (Dat)

/-- The rows, the conditions and the table at a point. -/
theorem idx_rows : ∀ t : Fin cfg0.N,
    win0_0.index t 0 = t.val ∧ win0_0.index t 1 = 0 ∧ win0_1.index t 0 = 0 ∧ win0_1.index t 1 = t.val / 32 ∧ win0_1.index t 2 = 0
    ∧ win0_1.index t 3 = 0 ∧ win0_10.index t 0 = (if t.val < 64 then t.val % 32 else 32) ∧ win0_10.index t 1 = 0 :=
  (by decide +kernel : ∀ t : Fin grid0.N, _)

/-- The weights stand at their only block throughout. -/
theorem idx_weights : ∀ t : Fin cfg0.N,
    (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0)
    ∧ (win0_8.index t 0 = 0 ∧ win0_8.index t 1 = 0) ∧ (win0_9.index t 0 = 0 ∧ win0_9.index t 1 = 0) :=
  (by decide +kernel : ∀ t : Fin grid0.N, _)

/-- Row `i` of grid point `t`'s rows. -/
def rowAt (t : Fin cfg0.N) (i : Fin 256) : Fin 16896 :=
  ⟨t.val * 256 + i.val, by have : t.val < 66 := t.isLt; have := i.isLt; omega⟩

/-- Row `i` of the table's rows at grid point `t`. -/
def tabAt (t : Fin cfg0.N) (i : Fin 256) : Fin 8448 :=
  ⟨(if t.val < 64 then t.val % 32 else 32) * 256 + i.val, by have := i.isLt; split <;> omega⟩

variable (m : (ℓ : Loc nD τ sig) → Buf (Elt Ideal) ℓ) (c : Dev nD)

/-- The rows' window. -/
theorem win_x (t : Fin cfg0.N) (i : Fin 256) (k : Fin 1024) :
    (iblk m c 0 t : Vec Ideal S256x1024 .f32) (ix2 i k) = (m (c, Proc.tc.devRef main_arg0) : Vec Ideal S16896x1024 .f32) (ix2 (rowAt t i) k) := by
  obtain ⟨f0, f1, _⟩ := idx_rows t
  have e : ∀ x : S256x1024.Idx, (iblk m c 0 t : Vec Ideal S256x1024 .f32) x = (m (c, Proc.tc.devRef main_arg0) : Vec Ideal S16896x1024 .f32) ((win0_0.blk t).view.emb x) := fun x => by
    have e := V_main_arg0 m c
    exact congrFun e _
  rw [e]
  unfold rowAt
  refine congrArg (m (c, Proc.tc.devRef main_arg0) : Vec Ideal S16896x1024 .f32) ?_
  clear e
  blk_ext []

/-- The conditions' window. -/
theorem win_cond (t : Fin cfg0.N) (i : Fin 256) (n : Fin 9) (k : Fin 1024) :
    (iblk m c 1 t : Vec Ideal S1x1x9x1024 .f32) (ix4 0 0 n k) = Ffn.cond (m (c, Proc.tc.devRef main_arg1) : Vec Ideal S2x8x9x1024 .f32) (rowAt t i) n k := by
  obtain ⟨_, _, f0, f1, f2, f3, _⟩ := idx_rows t
  have ht : t.val < 66 := t.isLt
  have hi := i.isLt
  have e : ∀ x : S1x1x9x1024.Idx, (iblk m c 1 t : Vec Ideal S1x1x9x1024 .f32) x = (m (c, Proc.tc.devRef main_arg1) : Vec Ideal S2x8x9x1024 .f32) ((win0_1.blk t).view.emb x) := fun x => by
    have e := V_main_arg1 m c
    exact congrFun e _
  rw [e]
  unfold Ffn.cond rowAt
  refine congrArg (m (c, Proc.tc.devRef main_arg1) : Vec Ideal S2x8x9x1024 .f32) ?_
  clear e
  blk_ext []

/-- The table's window. -/
theorem win_tab (t : Fin cfg0.N) (i j : Fin 256) :
    (iblk m c 10 t : Vec Ideal S256x256 .f32) (ix2 i j) = (V m c main_v16 : Vec Ideal S8448x256 .f32) (ix2 (tabAt t i) j) := by
  obtain ⟨_, _, _, _, _, _, f0, f1⟩ := idx_rows t
  show (V m c main_v16 : Vec Ideal S8448x256 .f32) ((win0_10.blk t).view.emb (ix2 i j)) = _
  unfold tabAt
  refine congrArg (V m c main_v16 : Vec Ideal S8448x256 .f32) ?_
  blk_ext []

/-- Every step reads the whole gain. -/
theorem win_pre (t : Fin cfg0.N) (i : Fin 1) (j : Fin 1024) :
    (iblk m c 2 t : Vec Ideal S1x1024 .f32) (ix2 i j) = (V m c main_v85 : Vec Ideal S1x1024 .f32) (ix2 i j) := by
  obtain ⟨⟨f0, f1⟩, _⟩ := idx_weights t
  show (V m c main_v85 : Vec Ideal S1x1024 .f32) ((win0_2.blk t).view.emb (ix2 i j)) = _
  refine congrArg (V m c main_v85 : Vec Ideal S1x1024 .f32) ?_
  blk_ext []

/-- Every step reads the whole packed weight. -/
theorem win_w (t : Fin cfg0.N) (i : Fin 1024) (j : Fin 2944) :
    (iblk m c 3 t : Vec Ideal S1024x2944 .bf16) (ix2 i j) = (V m c main_v34 : Vec Ideal S1024x2944 .bf16) (ix2 i j) := by
  obtain ⟨_, ⟨f0, f1⟩, _⟩ := idx_weights t
  show (V m c main_v34 : Vec Ideal S1024x2944 .bf16) ((win0_3.blk t).view.emb (ix2 i j)) = _
  refine congrArg (V m c main_v34 : Vec Ideal S1024x2944 .bf16) ?_
  blk_ext []

/-- Every step reads the whole decay weight. -/
theorem win_dec (t : Fin cfg0.N) (i : Fin 128) (j : Fin 512) :
    (iblk m c 4 t : Vec Ideal S128x512 .bf16) (ix2 i j) = (V m c main_v52 : Vec Ideal S128x512 .bf16) (ix2 i j) := by
  obtain ⟨_, _, ⟨f0, f1⟩, _⟩ := idx_weights t
  show (V m c main_v52 : Vec Ideal S128x512 .bf16) ((win0_4.blk t).view.emb (ix2 i j)) = _
  refine congrArg (V m c main_v52 : Vec Ideal S128x512 .bf16) ?_
  blk_ext []

/-- Every step reads the whole decay bias. -/
theorem win_bias (t : Fin cfg0.N) (i : Fin 1) (j : Fin 512) :
    (iblk m c 5 t : Vec Ideal S1x512 .f32) (ix2 i j) = (V m c main_v55 : Vec Ideal S1x512 .f32) (ix2 i j) := by
  obtain ⟨_, _, _, ⟨f0, f1⟩, _⟩ := idx_weights t
  show (V m c main_v55 : Vec Ideal S1x512 .f32) ((win0_5.blk t).view.emb (ix2 i j)) = _
  refine congrArg (V m c main_v55 : Vec Ideal S1x512 .f32) ?_
  blk_ext []

/-- Every step reads the whole query gain. -/
theorem win_qgain (t : Fin cfg0.N) (i : Fin 1) (j : Fin 384) :
    (iblk m c 6 t : Vec Ideal S1x384 .f32) (ix2 i j) = (V m c main_v81 : Vec Ideal S1x384 .f32) (ix2 i j) := by
  obtain ⟨_, _, _, _, ⟨f0, f1⟩, _⟩ := idx_weights t
  show (V m c main_v81 : Vec Ideal S1x384 .f32) ((win0_6.blk t).view.emb (ix2 i j)) = _
  refine congrArg (V m c main_v81 : Vec Ideal S1x384 .f32) ?_
  blk_ext []

/-- Every step reads the whole query weight. -/
theorem win_uq (t : Fin cfg0.N) (i : Fin 384) (j : Fin 1024) :
    (iblk m c 7 t : Vec Ideal S384x1024 .bf16) (ix2 i j) = (V m c main_v67 : Vec Ideal S384x1024 .bf16) (ix2 i j) := by
  obtain ⟨_, _, _, _, _, ⟨f0, f1⟩, _⟩ := idx_weights t
  show (V m c main_v67 : Vec Ideal S384x1024 .bf16) ((win0_7.blk t).view.emb (ix2 i j)) = _
  refine congrArg (V m c main_v67 : Vec Ideal S384x1024 .bf16) ?_
  blk_ext []

/-- Every step reads the whole gain of keys and values. -/
theorem win_kvgain (t : Fin cfg0.N) (i : Fin 1) (j : Fin 256) :
    (iblk m c 8 t : Vec Ideal S1x256 .f32) (ix2 i j) = (V m c main_v84 : Vec Ideal S1x256 .f32) (ix2 i j) := by
  obtain ⟨_, _, _, _, _, _, ⟨f0, f1⟩, _⟩ := idx_weights t
  show (V m c main_v84 : Vec Ideal S1x256 .f32) ((win0_8.blk t).view.emb (ix2 i j)) = _
  refine congrArg (V m c main_v84 : Vec Ideal S1x256 .f32) ?_
  blk_ext []

/-- Every step reads the whole weight of keys and values. -/
theorem win_ukv (t : Fin cfg0.N) (i : Fin 256) (j : Fin 2048) :
    (iblk m c 9 t : Vec Ideal S256x2048 .bf16) (ix2 i j) = (V m c main_v78 : Vec Ideal S256x2048 .bf16) (ix2 i j) := by
  obtain ⟨_, _, _, _, _, _, _, ⟨f0, f1⟩⟩ := idx_weights t
  show (V m c main_v78 : Vec Ideal S256x2048 .bf16) ((win0_9.blk t).view.emb (ix2 i j)) = _
  refine congrArg (V m c main_v78 : Vec Ideal S256x2048 .bf16) ?_
  blk_ext []

end Inproj

end
-- ==== Proof.Inproj.Columns.lean ====
/- The in-projection's columns before they are split, element by element. -/
module

public import proofs.«01_k».proof.Proof.Inproj.Windows

@[expose] public section

noncomputable section

namespace Inproj

open Idealize.ShloMosaic Cert.InprojIdeal Cert.InprojIdeal.Gen Idealize.ShloMosaic.TcCoe
open Cert.InprojIdeal.Facts
open Idealize.ShloMosaic.Pipeline (Dat)

variable (m : (ℓ : Loc nD τ sig) → Buf (Elt Ideal) ℓ) (c : Dev nD)

/-- Equal factors give equal products. -/
theorem times_eq (a b d : EReal) (h : b = d) : a * b = a * d := h ▸ rfl

/-- The shift of a point's condition. -/
def shiftOf (x1 : Vec Ideal S1x1x9x1024 .f32) : Vec Ideal S1x1x1x1024 .f32 :=
  View.ld x1 (Rect.unit ![0,0,3,0] ![1,1,1,1024] inb_S1x1x9x1024_S1x1x1x1024_0_0_3_0)

/-- The scale of a point's condition. -/
def scaleOf (x1 : Vec Ideal S1x1x9x1024 .f32) : Vec Ideal S1x1x1x1024 .f32 :=
  View.ld x1 (Rect.unit ![0,0,4,0] ![1,1,1,1024] inb_S1x1x9x1024_S1x1x1x1024_0_0_4_0)

/-- The first 2176 columns of the packed weights. -/
def lowW (x3 : Vec Ideal S1024x2944 .bf16) : Vec Ideal S1024x2176 .bf16 :=
  View.ld x3 (Rect.unit ![0,0] ![1024,2176] inb_S1024x2944_S1024x2176_0_0)

/-- The last 768 columns of the packed weights. -/
def highW (x3 : Vec Ideal S1024x2944 .bf16) : Vec Ideal S1024x768 .bf16 :=
  View.ld x3 (Rect.unit ![0,2176] ![1024,768] inb_S1024x2944_S1024x768_0_2176)

/-- The shift is the condition's fourth row. -/
theorem shiftOf_apply (x1 : Vec Ideal S1x1x9x1024 .f32) (k : Fin 1024) : shiftOf x1 (ix4 0 0 0 k) = x1 (ix4 0 0 3 k) := by
  unfold shiftOf
  pointwise

/-- The scale is the condition's fifth row. -/
theorem scaleOf_apply (x1 : Vec Ideal S1x1x9x1024 .f32) (k : Fin 1024) : scaleOf x1 (ix4 0 0 0 k) = x1 (ix4 0 0 4 k) := by
  unfold scaleOf
  pointwise

/-- The first 2176 columns of the packed weight. -/
theorem lowW_apply (x3 : Vec Ideal S1024x2944 .bf16) (k : Fin 1024) (j : Fin 2176) :
    lowW x3 (ix2 k j) = x3 (ix2 k ⟨j.val, by omega⟩) := by
  unfold lowW
  refine congrArg x3 ?_
  funext a
  refine Fin.ext ?_
  fin_cases a <;> simp [ix2]

/-- The last 768 columns of the packed weight. -/
theorem highW_apply (x3 : Vec Ideal S1024x2944 .bf16) (k : Fin 1024) (j : Fin 768) :
    highW x3 (ix2 k j) = x3 (ix2 k ⟨2176 + j.val, by omega⟩) := by
  unfold highW
  refine congrArg x3 ?_
  funext a
  refine Fin.ext ?_
  fin_cases a <;> simp [ix2]

/-- A point's rows times the first 2176 columns. -/
def lowAt (t : Fin cfg0.N) : FVec Ideal S256x2176 .f32 :=
  k0_pay4 (F := Ideal) (iblk m c 0 t) (iblk m c 2 t) (shiftOf (iblk m c 1 t)) (scaleOf (iblk m c 1 t)) (lowW (iblk m c 3 t))

/-- A point's rows times the last 768 columns. -/
def highAt (t : Fin cfg0.N) : FVec Ideal S256x768 .f32 :=
  k0_pay3 (F := Ideal) (iblk m c 0 t) (iblk m c 2 t) (shiftOf (iblk m c 1 t)) (scaleOf (iblk m c 1 t)) (highW (iblk m c 3 t))

/-- A row of a point's rows, modulated. -/
theorem hidden_row (t : Fin cfg0.N) (i : Fin 256) (k : Fin 1024) :
    rowHidden (iblk m c 0 t) (iblk m c 2 t) (shiftOf (iblk m c 1 t)) (scaleOf (iblk m c 1 t)) i k
      = Ffn.hidden (fun k => (m (c, Proc.tc.devRef main_arg0) : Vec Ideal S16896x1024 .f32) (ix2 (rowAt t i) k)) (fun k => (m (c, Proc.tc.devRef main_arg2) : Vec Ideal S1024 .f32) (ix1 k)) (Ffn.cond (m (c, Proc.tc.devRef main_arg1) : Vec Ideal S2x8x9x1024 .f32) (rowAt t i) 3)
          (Ffn.cond (m (c, Proc.tc.devRef main_arg1) : Vec Ideal S2x8x9x1024 .f32) (rowAt t i) 4) k := by
  unfold rowHidden
  refine congrFun ?_ k
  refine congr (congr (congr (congrArg Ffn.hidden (funext fun k => win_x m c t i k))
    (funext fun k => (win_pre m c t 0 k).trans (pre_row m c k)))
    (funext fun k => (shiftOf_apply _ k).trans (win_cond m c t i 3 k)))
    (funext fun k => (scaleOf_apply _ k).trans (win_cond m c t i 4 k))

/-- A step's first projection, over the packed weight. -/
theorem lowAt_apply (t : Fin cfg0.N) (i : Fin 256) (j : Fin 2176) :
    lowAt m c t (ix2 i j) = (∑ k : Fin 1024, Ffn.hidden (fun k => (m (c, Proc.tc.devRef main_arg0) : Vec Ideal S16896x1024 .f32) (ix2 (rowAt t i) k)) (fun k => (m (c, Proc.tc.devRef main_arg2) : Vec Ideal S1024 .f32) (ix1 k))
      (Ffn.cond (m (c, Proc.tc.devRef main_arg1) : Vec Ideal S2x8x9x1024 .f32) (rowAt t i) 3) (Ffn.cond (m (c, Proc.tc.devRef main_arg1) : Vec Ideal S2x8x9x1024 .f32) (rowAt t i) 4) k
        * (V m c main_v34 : Vec Ideal S1024x2944 .bf16) (ix2 k ⟨j.val, by omega⟩) : EReal) := by
  refine (low_apply _ _ _ _ _ i j).trans (Finset.sum_congr rfl fun k _ => ?_)
  exact congr (congrArg (fun a b : EReal => a * b) (hidden_row m c t i k)) ((lowW_apply _ k j).trans (win_w m c t k _))

/-- A step's second projection, over the packed weight. -/
theorem highAt_apply (t : Fin cfg0.N) (i : Fin 256) (j : Fin 768) :
    highAt m c t (ix2 i j) = (∑ k : Fin 1024, Ffn.hidden (fun k => (m (c, Proc.tc.devRef main_arg0) : Vec Ideal S16896x1024 .f32) (ix2 (rowAt t i) k)) (fun k => (m (c, Proc.tc.devRef main_arg2) : Vec Ideal S1024 .f32) (ix1 k))
      (Ffn.cond (m (c, Proc.tc.devRef main_arg1) : Vec Ideal S2x8x9x1024 .f32) (rowAt t i) 3) (Ffn.cond (m (c, Proc.tc.devRef main_arg1) : Vec Ideal S2x8x9x1024 .f32) (rowAt t i) 4) k
        * (V m c main_v34 : Vec Ideal S1024x2944 .bf16) (ix2 k ⟨2176 + j.val, by omega⟩) : EReal) := by
  refine (high_apply _ _ _ _ _ i j).trans (Finset.sum_congr rfl fun k _ => ?_)
  exact congr (congrArg (fun a b : EReal => a * b) (hidden_row m c t i k)) ((highW_apply _ k j).trans (win_w m c t k _))

/-- The recurrence's columns are the plain projection's. -/
theorem low_w (t : Fin cfg0.N) (i : Fin 256) (j : Fin 2176) (h : j.val < 1536) :
    lowAt m c t (ix2 i j) = (proj (m (c, Proc.tc.devRef main_arg0) : Vec Ideal S16896x1024 .f32) (m (c, Proc.tc.devRef main_arg1) : Vec Ideal S2x8x9x1024 .f32) (m (c, Proc.tc.devRef main_arg2) : Vec Ideal S1024 .f32) (m (c, Proc.tc.devRef main_arg3) : Vec Ideal S2x1024x5824 .f32) (rowAt t i) ⟨j.val, by omega⟩ : EReal) := by
  rw [lowAt_apply]
  unfold proj
  refine Finset.sum_congr rfl fun k _ => times_eq _ _ _ ?_
  refine (w_low m c k _ (by simp only; omega)).trans ?_
  refine congrArg (fun e => (m (c, Proc.tc.devRef main_arg3) : Vec Ideal S2x1024x5824 .f32) (ix3 0 k e)) (Fin.ext ?_)
  first | rfl | omega | (simp only; omega)

/-- The decay columns are the plain projection's. -/
theorem low_za (t : Fin cfg0.N) (i : Fin 256) (j : Fin 2176) (h0 : 1536 ≤ j.val) (h1 : j.val < 1568) :
    lowAt m c t (ix2 i j) = (proj (m (c, Proc.tc.devRef main_arg0) : Vec Ideal S16896x1024 .f32) (m (c, Proc.tc.devRef main_arg1) : Vec Ideal S2x8x9x1024 .f32) (m (c, Proc.tc.devRef main_arg2) : Vec Ideal S1024 .f32) (m (c, Proc.tc.devRef main_arg3) : Vec Ideal S2x1024x5824 .f32) (rowAt t i) ⟨j.val, by omega⟩ : EReal) := by
  rw [lowAt_apply]
  unfold proj
  refine Finset.sum_congr rfl fun k _ => times_eq _ _ _ ?_
  refine (w_za m c k _ (by simp only; omega) (by simp only; omega)).trans ?_
  refine congrArg (fun e => (m (c, Proc.tc.devRef main_arg3) : Vec Ideal S2x1024x5824 .f32) (ix3 0 k e)) (Fin.ext ?_)
  first | rfl | omega | (simp only; omega)

/-- The padded decay columns are zero. -/
theorem low_zero (t : Fin cfg0.N) (i : Fin 256) (j : Fin 2176) (h0 : 1568 ≤ j.val) (h1 : j.val < 1664) :
    lowAt m c t (ix2 i j) = (0 : EReal) := by
  rw [lowAt_apply]
  refine Finset.sum_eq_zero fun k _ => ?_
  rw [w_za_zero m c k _ (by simp only; omega) (by simp only; omega)]
  exact mul_zero _

/-- The Fourier columns are the plain projection's, 96 further back. -/
theorem low_fz (t : Fin cfg0.N) (i : Fin 256) (j : Fin 2176) (h0 : 1664 ≤ j.val) :
    lowAt m c t (ix2 i j) = (proj (m (c, Proc.tc.devRef main_arg0) : Vec Ideal S16896x1024 .f32) (m (c, Proc.tc.devRef main_arg1) : Vec Ideal S2x8x9x1024 .f32) (m (c, Proc.tc.devRef main_arg2) : Vec Ideal S1024 .f32) (m (c, Proc.tc.devRef main_arg3) : Vec Ideal S2x1024x5824 .f32) (rowAt t i) ⟨j.val - 96, by omega⟩ : EReal) := by
  rw [lowAt_apply]
  unfold proj
  refine Finset.sum_congr rfl fun k _ => times_eq _ _ _ ?_
  refine (w_fz m c k _ (by simp only; omega) (by simp only; omega)).trans ?_
  refine congrArg (fun e => (m (c, Proc.tc.devRef main_arg3) : Vec Ideal S2x1024x5824 .f32) (ix3 0 k e)) (Fin.ext ?_)
  first | rfl | omega | (simp only; omega)

/-- The query's low-rank columns. -/
theorem high_cq (t : Fin cfg0.N) (i : Fin 256) (j : Fin 768) (h1 : j.val < 384) :
    highAt m c t (ix2 i j) = (proj (m (c, Proc.tc.devRef main_arg0) : Vec Ideal S16896x1024 .f32) (m (c, Proc.tc.devRef main_arg1) : Vec Ideal S2x8x9x1024 .f32) (m (c, Proc.tc.devRef main_arg2) : Vec Ideal S1024 .f32) (m (c, Proc.tc.devRef main_arg3) : Vec Ideal S2x1024x5824 .f32) (rowAt t i) ⟨2080 + j.val, by omega⟩ : EReal) := by
  rw [highAt_apply]
  unfold proj
  refine Finset.sum_congr rfl fun k _ => times_eq _ _ _ ?_
  refine (w_cq m c k _ (by simp only; omega) (by simp only; omega)).trans ?_
  refine congrArg (fun e => (m (c, Proc.tc.devRef main_arg3) : Vec Ideal S2x1024x5824 .f32) (ix3 0 k e)) (Fin.ext ?_)
  first | rfl | omega | (simp only; omega)

/-- The low-rank columns of keys and values. -/
theorem high_ckv (t : Fin cfg0.N) (i : Fin 256) (j : Fin 768) (h0 : 384 ≤ j.val) (h1 : j.val < 640) :
    highAt m c t (ix2 i j) = (proj (m (c, Proc.tc.devRef main_arg0) : Vec Ideal S16896x1024 .f32) (m (c, Proc.tc.devRef main_arg1) : Vec Ideal S2x8x9x1024 .f32) (m (c, Proc.tc.devRef main_arg2) : Vec Ideal S1024 .f32) (m (c, Proc.tc.devRef main_arg3) : Vec Ideal S2x1024x5824 .f32) (rowAt t i) ⟨2080 + j.val, by omega⟩ : EReal) := by
  rw [highAt_apply]
  unfold proj
  refine Finset.sum_congr rfl fun k _ => times_eq _ _ _ ?_
  refine (w_ckv m c k _ (by simp only; omega) (by simp only; omega)).trans ?_
  refine congrArg (fun e => (m (c, Proc.tc.devRef main_arg3) : Vec Ideal S2x1024x5824 .f32) (ix3 0 k e)) (Fin.ext ?_)
  first | rfl | omega | (simp only; omega)

/-- The rotary key's columns. -/
theorem high_kr (t : Fin cfg0.N) (i : Fin 256) (j : Fin 768) (h0 : 640 ≤ j.val) (h1 : j.val < 672) :
    highAt m c t (ix2 i j) = (proj (m (c, Proc.tc.devRef main_arg0) : Vec Ideal S16896x1024 .f32) (m (c, Proc.tc.devRef main_arg1) : Vec Ideal S2x8x9x1024 .f32) (m (c, Proc.tc.devRef main_arg2) : Vec Ideal S1024 .f32) (m (c, Proc.tc.devRef main_arg3) : Vec Ideal S2x1024x5824 .f32) (rowAt t i) ⟨2080 + j.val, by omega⟩ : EReal) := by
  rw [highAt_apply]
  unfold proj
  refine Finset.sum_congr rfl fun k _ => times_eq _ _ _ ?_
  refine (w_kr m c k _ (by simp only; omega) (by simp only; omega)).trans ?_
  refine congrArg (fun e => (m (c, Proc.tc.devRef main_arg3) : Vec Ideal S2x1024x5824 .f32) (ix3 0 k e)) (Fin.ext ?_)
  first | rfl | omega | (simp only; omega)

/-- The columns of the rotary key's partners. -/
theorem high_partner (t : Fin cfg0.N) (i : Fin 256) (j : Fin 768) (h0 : 672 ≤ j.val) (h1 : j.val < 704) :
    highAt m c t (ix2 i j) = (proj (m (c, Proc.tc.devRef main_arg0) : Vec Ideal S16896x1024 .f32) (m (c, Proc.tc.devRef main_arg1) : Vec Ideal S2x8x9x1024 .f32) (m (c, Proc.tc.devRef main_arg2) : Vec Ideal S1024 .f32) (m (c, Proc.tc.devRef main_arg3) : Vec Ideal S2x1024x5824 .f32) (rowAt t i) ⟨2720 + (partner ⟨j.val - 672, by omega⟩).val, by omega⟩ : EReal) := by
  rw [highAt_apply]
  unfold proj
  refine Finset.sum_congr rfl fun k _ => times_eq _ _ _ ?_
  refine (w_partner m c k _ (by simp only; omega) (by simp only; omega)).trans ?_
  refine congrArg (fun e => (m (c, Proc.tc.devRef main_arg3) : Vec Ideal S2x1024x5824 .f32) (ix3 0 k e)) (Fin.ext ?_)
  refine congrArg (fun e : Fin 32 => 2720 + (partner e).val) (Fin.ext ?_)
  simp only
  omega

/-- The padded columns after the partners are zero. -/
theorem high_zero (t : Fin cfg0.N) (i : Fin 256) (j : Fin 768) (h0 : 704 ≤ j.val) :
    highAt m c t (ix2 i j) = (0 : EReal) := by
  rw [highAt_apply]
  refine Finset.sum_eq_zero fun k _ => ?_
  rw [w_zero m c k _ (by simp only; omega) (by simp only; omega)]
  exact mul_zero _

end Inproj

end
-- ==== Proof.Inproj.Gla.lean ====
/- The blocks of the first two results, element by element. -/
module

public import proofs.«01_k».proof.Proof.Inproj.Columns

@[expose] public section

noncomputable section

namespace Inproj

open Idealize.ShloMosaic Cert.InprojIdeal Cert.InprojIdeal.Gen Idealize.ShloMosaic.TcCoe
open Cert.InprojIdeal.Facts
open Idealize.ShloMosaic.Pipeline (Dat)

variable (m : (ℓ : Loc nD τ sig) → Buf (Elt Ideal) ℓ) (c : Dev nD)

/-- A sum over 128 places of which only 16 count. -/
theorem sum_sixteen (f : Fin 128 → EReal) (s : ℕ) (hs : s + 16 ≤ 128)
    (h : ∀ l : Fin 128, ¬(s ≤ l.val ∧ l.val < s + 16) → f l = 0) :
    ∑ l, f l = ∑ l : Fin 16, f ⟨s + l.val, by omega⟩ := by
  symm
  refine Finset.sum_of_injOn (fun l : Fin 16 => (⟨s + l.val, by omega⟩ : Fin 128)) ?_ ?_ ?_ ?_
  · intro a _ b _ hab
    have := congrArg Fin.val hab
    simp only at this
    exact Fin.ext (by omega)
  · intro a _
    exact Finset.mem_coe.2 (Finset.mem_univ _)
  · intro l _ hl
    refine h l fun hl' => hl ⟨⟨l.val - s, by omega⟩, Finset.mem_coe.2 (Finset.mem_univ _), Fin.ext ?_⟩
    simp only
    omega
  · intro a _
    rfl

/-- A point's decays before their logarithm. -/
theorem decay_row (t : Fin cfg0.N) (i : Fin 256) (j : Fin 512) :
    decay (lowAt m c t) (iblk m c 4 t) (iblk m c 5 t) (ix2 i j)
      = decayAt (proj (m (c, Proc.tc.devRef main_arg0) : Vec Ideal S16896x1024 .f32) (m (c, Proc.tc.devRef main_arg1) : Vec Ideal S2x8x9x1024 .f32) (m (c, Proc.tc.devRef main_arg2) : Vec Ideal S1024 .f32) (m (c, Proc.tc.devRef main_arg3) : Vec Ideal S2x1024x5824 .f32) (rowAt t i)) (m (c, Proc.tc.devRef main_arg4) : Vec Ideal S2x2x16x256 .f32) (m (c, Proc.tc.devRef main_arg5) : Vec Ideal S2x2x256 .f32) ⟨j.val / 256, by omega⟩ ⟨j.val % 256, by omega⟩ := by
  have hj := j.isLt
  rw [decay_apply]
  unfold decayAt
  refine congr (congrArg (fun a b : EReal => a + b) ?_) ((win_bias m c t 0 j).trans (b_row m c j))
  by_cases h : j.val < 256
  · rw [sum_sixteen _ 0 (by omega) ?_]
    · refine Finset.sum_congr rfl fun l _ => ?_
      have e : j = ⟨(⟨j.val, h⟩ : Fin 256).val, by omega⟩ := rfl
      rw [low_za m c t i _ (by simp only; omega) (by simp only; omega), win_dec]
      refine congr (congrArg (fun a b : EReal => a * b) ?_) ?_
      · refine congrArg (proj (m (c, Proc.tc.devRef main_arg0) : Vec Ideal S16896x1024 .f32) (m (c, Proc.tc.devRef main_arg1) : Vec Ideal S2x8x9x1024 .f32) (m (c, Proc.tc.devRef main_arg2) : Vec Ideal S1024 .f32) (m (c, Proc.tc.devRef main_arg3) : Vec Ideal S2x1024x5824 .f32) (rowAt t i)) (Fin.ext ?_)
        simp only
        omega
      · refine Eq.trans ?_ ((dec_forward m c l ⟨j.val, h⟩).trans ?_)
        · refine congrArg (fun z => (V m c main_v52 : Vec Ideal S128x512 .bf16) (ix2 z j)) (Fin.ext ?_)
          simp only
          omega
        · refine congrArg (m (c, Proc.tc.devRef main_arg4) : Vec Ideal S2x2x16x256 .f32) (congr (congrArg (fun (d : Fin 2) (q : Fin 256) => (ix4 0 d l q : S2x2x16x256.Idx)) (Fin.ext ?_)) (Fin.ext ?_))
          · show 0 = j.val / 256
            omega
          · show j.val = j.val % 256
            omega
    · intro l hl
      by_cases h2 : l.val < 32
      · rw [win_dec, dec_zero m c l j (by omega) (by omega)]
        exact mul_zero _
      · rw [low_zero m c t i _ (by simp only; omega) (by simp only; omega)]
        exact zero_mul _
  · rw [sum_sixteen _ 16 (by omega) ?_]
    · refine Finset.sum_congr rfl fun l _ => ?_
      rw [low_za m c t i _ (by simp only; omega) (by simp only; omega), win_dec]
      refine congr (congrArg (fun a b : EReal => a * b) ?_) ?_
      · refine congrArg (proj (m (c, Proc.tc.devRef main_arg0) : Vec Ideal S16896x1024 .f32) (m (c, Proc.tc.devRef main_arg1) : Vec Ideal S2x8x9x1024 .f32) (m (c, Proc.tc.devRef main_arg2) : Vec Ideal S1024 .f32) (m (c, Proc.tc.devRef main_arg3) : Vec Ideal S2x1024x5824 .f32) (rowAt t i)) (Fin.ext ?_)
        simp only
        omega
      · refine Eq.trans ?_ ((dec_backward m c l ⟨j.val - 256, by omega⟩).trans ?_)
        · refine congrArg (fun z => (V m c main_v52 : Vec Ideal S128x512 .bf16) (ix2 ⟨16 + l.val, by omega⟩ z)) (Fin.ext ?_)
          simp only
          omega
        · refine congrArg (m (c, Proc.tc.devRef main_arg4) : Vec Ideal S2x2x16x256 .f32) (congr (congrArg (fun (d : Fin 2) (q : Fin 256) => (ix4 0 d l q : S2x2x16x256.Idx)) (Fin.ext ?_)) (Fin.ext ?_))
          · show 1 = j.val / 256
            omega
          · show j.val - 256 = j.val % 256
            omega
    · intro l hl
      by_cases h2 : l.val < 32
      · rw [win_dec, dec_zero m c l j (by omega) (by omega)]
        exact mul_zero _
      · rw [low_zero m c t i _ (by simp only; omega) (by simp only; omega)]
        exact zero_mul _

/-- The decay columns a step stores. -/
theorem piece_decay (t : Fin cfg0.N) (i : Fin 256) (l : Fin 512) :
    k0_pay11 (lowAt m c t) (iblk m c 4 t) (iblk m c 5 t) (ix2 i l) = glaAt (proj (m (c, Proc.tc.devRef main_arg0) : Vec Ideal S16896x1024 .f32) (m (c, Proc.tc.devRef main_arg1) : Vec Ideal S2x8x9x1024 .f32) (m (c, Proc.tc.devRef main_arg2) : Vec Ideal S1024 .f32) (m (c, Proc.tc.devRef main_arg3) : Vec Ideal S2x1024x5824 .f32) (rowAt t i)) (m (c, Proc.tc.devRef main_arg4) : Vec Ideal S2x2x16x256 .f32) (m (c, Proc.tc.devRef main_arg5) : Vec Ideal S2x2x256 .f32) ⟨1536 + l.val, by omega⟩ := by
  rw [logDecay_apply, decay_row]
  unfold glaAt
  rw [if_neg (by simp only; omega), if_neg (by simp only; omega)]
  have e : 1536 + l.val - 1536 = l.val := by omega
  simp only [e]

/-- The columns a step stores as they are. -/
theorem piece_plain (t : Fin cfg0.N) (i : Fin 256) (l : Fin 1280) :
    k0_pay10 (lowAt m c t) (ix2 i l) = glaAt (proj (m (c, Proc.tc.devRef main_arg0) : Vec Ideal S16896x1024 .f32) (m (c, Proc.tc.devRef main_arg1) : Vec Ideal S2x8x9x1024 .f32) (m (c, Proc.tc.devRef main_arg2) : Vec Ideal S1024 .f32) (m (c, Proc.tc.devRef main_arg3) : Vec Ideal S2x1024x5824 .f32) (rowAt t i)) (m (c, Proc.tc.devRef main_arg4) : Vec Ideal S2x2x16x256 .f32) (m (c, Proc.tc.devRef main_arg5) : Vec Ideal S2x2x256 .f32) ⟨256 + l.val, by omega⟩ := by
  rw [plain_apply, low_w m c t i _ (by simp only; omega)]
  unfold glaAt
  rw [if_neg (by simp only; omega), if_pos (by simp only; omega)]

/-- The columns a step stores scaled. -/
theorem piece_scaled (t : Fin cfg0.N) (i : Fin 256) (l : Fin 256) :
    k0_pay9 (lowAt m c t) (ix2 i l) = glaAt (proj (m (c, Proc.tc.devRef main_arg0) : Vec Ideal S16896x1024 .f32) (m (c, Proc.tc.devRef main_arg1) : Vec Ideal S2x8x9x1024 .f32) (m (c, Proc.tc.devRef main_arg2) : Vec Ideal S1024 .f32) (m (c, Proc.tc.devRef main_arg3) : Vec Ideal S2x1024x5824 .f32) (rowAt t i)) (m (c, Proc.tc.devRef main_arg4) : Vec Ideal S2x2x16x256 .f32) (m (c, Proc.tc.devRef main_arg5) : Vec Ideal S2x2x256 .f32) ⟨l.val, by omega⟩ := by
  rw [scaled_apply, low_w m c t i _ (by simp only; omega)]
  unfold glaAt
  rw [if_pos (by simp only; omega)]

/-- The block of the recurrence's columns. -/
theorem block_gla (t : Fin cfg0.N) (i : Fin 256) (j : Fin 2048) :
    (outsAt0 m c t).1 (ix2 i j) = glaAt (proj (m (c, Proc.tc.devRef main_arg0) : Vec Ideal S16896x1024 .f32) (m (c, Proc.tc.devRef main_arg1) : Vec Ideal S2x8x9x1024 .f32) (m (c, Proc.tc.devRef main_arg2) : Vec Ideal S1024 .f32) (m (c, Proc.tc.devRef main_arg3) : Vec Ideal S2x1024x5824 .f32) (rowAt t i)) (m (c, Proc.tc.devRef main_arg4) : Vec Ideal S2x2x16x256 .f32) (m (c, Proc.tc.devRef main_arg5) : Vec Ideal S2x2x256 .f32) j := by
  dsimp only [outsAt0]
  frame_out
  refine View.canon_apply_of_pieces (Val := Elt Ideal) (S := S256x2048) (e := .f32) (fun y : S256x2048.Idx => glaAt (proj (m (c, Proc.tc.devRef main_arg0) : Vec Ideal S16896x1024 .f32) (m (c, Proc.tc.devRef main_arg1) : Vec Ideal S2x8x9x1024 .f32) (m (c, Proc.tc.devRef main_arg2) : Vec Ideal S1024 .f32) (m (c, Proc.tc.devRef main_arg3) : Vec Ideal S2x1024x5824 .f32) (rowAt t (y 0))) (m (c, Proc.tc.devRef main_arg4) : Vec Ideal S2x2x16x256 .f32) (m (c, Proc.tc.devRef main_arg5) : Vec Ideal S2x2x256 .f32) (y 1))
    _ ?_ (ix2 i j) (View.cover_of_tiledBy _ ![256, 256] (by sl_kernel_rfl) _)
  intro p hp
  simp only [List.mem_cons, List.not_mem_nil, or_false] at hp
  rcases hp with rfl | rfl | rfl
  · intro x
    obtain ⟨i, l, rfl⟩ : ∃ (i : Fin 256) (l : Fin 512), x = ix2 i l := ⟨x 0, x 1, by funext a; fin_cases a <;> rfl⟩
    refine (piece_decay m c t i l).trans ?_
    refine congr (congrArg (fun R => glaAt (proj (m (c, Proc.tc.devRef main_arg0) : Vec Ideal S16896x1024 .f32) (m (c, Proc.tc.devRef main_arg1) : Vec Ideal S2x8x9x1024 .f32) (m (c, Proc.tc.devRef main_arg2) : Vec Ideal S1024 .f32) (m (c, Proc.tc.devRef main_arg3) : Vec Ideal S2x1024x5824 .f32) (rowAt t R)) (m (c, Proc.tc.devRef main_arg4) : Vec Ideal S2x2x16x256 .f32) (m (c, Proc.tc.devRef main_arg5) : Vec Ideal S2x2x256 .f32)) (Fin.ext ?_)) (Fin.ext ?_) <;> simp [ix2]
  · intro x
    obtain ⟨i, l, rfl⟩ : ∃ (i : Fin 256) (l : Fin 1280), x = ix2 i l := ⟨x 0, x 1, by funext a; fin_cases a <;> rfl⟩
    refine (piece_plain m c t i l).trans ?_
    refine congr (congrArg (fun R => glaAt (proj (m (c, Proc.tc.devRef main_arg0) : Vec Ideal S16896x1024 .f32) (m (c, Proc.tc.devRef main_arg1) : Vec Ideal S2x8x9x1024 .f32) (m (c, Proc.tc.devRef main_arg2) : Vec Ideal S1024 .f32) (m (c, Proc.tc.devRef main_arg3) : Vec Ideal S2x1024x5824 .f32) (rowAt t R)) (m (c, Proc.tc.devRef main_arg4) : Vec Ideal S2x2x16x256 .f32) (m (c, Proc.tc.devRef main_arg5) : Vec Ideal S2x2x256 .f32)) (Fin.ext ?_)) (Fin.ext ?_) <;> simp [ix2]
  · intro x
    obtain ⟨i, l, rfl⟩ : ∃ (i : Fin 256) (l : Fin 256), x = ix2 i l := ⟨x 0, x 1, by funext a; fin_cases a <;> rfl⟩
    refine (piece_scaled m c t i l).trans ?_
    refine congr (congrArg (fun R => glaAt (proj (m (c, Proc.tc.devRef main_arg0) : Vec Ideal S16896x1024 .f32) (m (c, Proc.tc.devRef main_arg1) : Vec Ideal S2x8x9x1024 .f32) (m (c, Proc.tc.devRef main_arg2) : Vec Ideal S1024 .f32) (m (c, Proc.tc.devRef main_arg3) : Vec Ideal S2x1024x5824 .f32) (rowAt t R)) (m (c, Proc.tc.devRef main_arg4) : Vec Ideal S2x2x16x256 .f32) (m (c, Proc.tc.devRef main_arg5) : Vec Ideal S2x2x256 .f32)) (Fin.ext ?_)) (Fin.ext ?_) <;> simp [ix2]

/-- The block of the Fourier mixing's columns. -/
theorem block_fourier (t : Fin cfg0.N) (i : Fin 256) (j : Fin 512) :
    (outsAt0 m c t).2.1 (ix2 i j) = proj (m (c, Proc.tc.devRef main_arg0) : Vec Ideal S16896x1024 .f32) (m (c, Proc.tc.devRef main_arg1) : Vec Ideal S2x8x9x1024 .f32) (m (c, Proc.tc.devRef main_arg2) : Vec Ideal S1024 .f32) (m (c, Proc.tc.devRef main_arg3) : Vec Ideal S2x1024x5824 .f32) (rowAt t i) ⟨1568 + j.val, by omega⟩ := by
  dsimp only [outsAt0]
  frame_out
  show k0_pay12 (lowAt m c t) (ix2 i j) = _
  rw [fourier_apply, low_fz m c t i _ (by simp only; omega)]
  refine congrArg (proj (m (c, Proc.tc.devRef main_arg0) : Vec Ideal S16896x1024 .f32) (m (c, Proc.tc.devRef main_arg1) : Vec Ideal S2x8x9x1024 .f32) (m (c, Proc.tc.devRef main_arg2) : Vec Ideal S1024 .f32) (m (c, Proc.tc.devRef main_arg3) : Vec Ideal S2x1024x5824 .f32) (rowAt t i)) (Fin.ext ?_)
  simp only
  omega

end Inproj

end
-- ==== Proof.Inproj.Rotation.lean ====
/- The packed table of angles against the plain rotation. -/
module

public import proofs.«01_k».proof.Proof.Inproj.Spec

@[expose] public section

noncomputable section

namespace Inproj

open Idealize.ShloMosaic Cert.InprojIdeal Cert.InprojIdeal.Gen
open Cert.InprojIdeal.Facts

variable (m : (ℓ : Loc nD τ sig) → Buf (Elt Ideal) ℓ) (c : Dev nD)

/-- The latents' part of the table: the cosines. -/
theorem lat_cos (r : Fin 8448) (hr : r.val < 8192) (e : Fin 32) :
    (V m c main_v16 : Vec Ideal S8448x256 .f32) (ix2 r ⟨64 + e.val, by omega⟩) = angleAt (m (c, Proc.tc.devRef main_arg10) : Vec Ideal S8192x8 .f32) (m (c, Proc.tc.devRef main_arg12) : Vec Ideal S8192x8 .f32) ⟨r.val, hr⟩ e := by
  have he := e.isLt
  unfold angleAt
  by_cases h0 : e.val < 8
  · rw [if_pos (by omega)]
    refine (lat_cos0 m c r _ hr (by simp only; omega) (by simp only; omega)).trans ?_
    refine congrArg (fun z : Fin 8 => (angle (m (c, Proc.tc.devRef main_arg10) : Vec Ideal S8192x8 .f32) ⟨r.val, hr⟩ z : EReal)) (Fin.ext ?_)
    simp only
    omega
  by_cases h1 : e.val < 16
  · rw [if_pos (by omega)]
    refine (lat_cos1 m c r _ hr (by simp only; omega) (by simp only; omega)).trans ?_
    refine congrArg (fun z : Fin 8 => (angle (m (c, Proc.tc.devRef main_arg10) : Vec Ideal S8192x8 .f32) ⟨r.val, hr⟩ z : EReal)) (Fin.ext ?_)
    simp only
    omega
  by_cases h2 : e.val < 24
  · rw [if_neg (by omega)]
    refine (lat_cos2 m c r _ hr (by simp only; omega) (by simp only; omega)).trans ?_
    refine congrArg (fun z : Fin 8 => (angle (m (c, Proc.tc.devRef main_arg12) : Vec Ideal S8192x8 .f32) ⟨r.val, hr⟩ z : EReal)) (Fin.ext ?_)
    simp only
    omega
  rw [if_neg (by omega)]
  refine (lat_cos3 m c r _ hr (by simp only; omega) (by simp only; omega)).trans ?_
  refine congrArg (fun z : Fin 8 => (angle (m (c, Proc.tc.devRef main_arg12) : Vec Ideal S8192x8 .f32) ⟨r.val, hr⟩ z : EReal)) (Fin.ext ?_)
  simp only
  omega

/-- The latents' part of the table: the sinines. -/
theorem lat_sin (r : Fin 8448) (hr : r.val < 8192) (e : Fin 32) :
    (V m c main_v16 : Vec Ideal S8448x256 .f32) (ix2 r ⟨192 + e.val, by omega⟩) = (if e.val % 16 < 8 then -angleAt (m (c, Proc.tc.devRef main_arg11) : Vec Ideal S8192x8 .f32) (m (c, Proc.tc.devRef main_arg13) : Vec Ideal S8192x8 .f32) ⟨r.val, hr⟩ e else angleAt (m (c, Proc.tc.devRef main_arg11) : Vec Ideal S8192x8 .f32) (m (c, Proc.tc.devRef main_arg13) : Vec Ideal S8192x8 .f32) ⟨r.val, hr⟩ e : EReal) := by
  have he := e.isLt
  unfold angleAt
  by_cases h0 : e.val < 8
  · rw [if_pos (by omega)]
    rw [if_pos (by omega)]
    refine (lat_sin0 m c r _ hr (by simp only; omega) (by simp only; omega)).trans ?_
    refine congrArg (fun z : Fin 8 => (-angle (m (c, Proc.tc.devRef main_arg11) : Vec Ideal S8192x8 .f32) ⟨r.val, hr⟩ z : EReal)) (Fin.ext ?_)
    simp only
    omega
  by_cases h1 : e.val < 16
  · rw [if_neg (by omega)]
    rw [if_pos (by omega)]
    refine (lat_sin1 m c r _ hr (by simp only; omega) (by simp only; omega)).trans ?_
    refine congrArg (fun z : Fin 8 => (angle (m (c, Proc.tc.devRef main_arg11) : Vec Ideal S8192x8 .f32) ⟨r.val, hr⟩ z : EReal)) (Fin.ext ?_)
    simp only
    omega
  by_cases h2 : e.val < 24
  · rw [if_pos (by omega)]
    rw [if_neg (by omega)]
    refine (lat_sin2 m c r _ hr (by simp only; omega) (by simp only; omega)).trans ?_
    refine congrArg (fun z : Fin 8 => (-angle (m (c, Proc.tc.devRef main_arg13) : Vec Ideal S8192x8 .f32) ⟨r.val, hr⟩ z : EReal)) (Fin.ext ?_)
    simp only
    omega
  rw [if_neg (by omega)]
  rw [if_neg (by omega)]
  refine (lat_sin3 m c r _ hr (by simp only; omega) (by simp only; omega)).trans ?_
  refine congrArg (fun z : Fin 8 => (angle (m (c, Proc.tc.devRef main_arg13) : Vec Ideal S8192x8 .f32) ⟨r.val, hr⟩ z : EReal)) (Fin.ext ?_)
  simp only
  omega

/-- The row of the table that row `R` is rotated by. -/
def tableRow (R : Fin 16896) : Fin 8448 :=
  if R.val < 16384 then ⟨R.val % 8192, by omega⟩ else ⟨8192 + (R.val - 16384) % 256, by omega⟩

/-- A slot times its cosines, plus the slot turned by 32 lanes times its sines, at row `R` of the rows. -/
def turned (R : Fin 16896) (y : Fin 128 → EReal) (l : Fin 128) : EReal :=
  y l * (V m c main_v16 : Vec Ideal S8448x256 .f32) (ix2 (tableRow R) ⟨l.val, by omega⟩)
    + y ⟨(l.val + 32) % 128, by omega⟩ * (V m c main_v16 : Vec Ideal S8448x256 .f32) (ix2 (tableRow R) ⟨128 + l.val, by omega⟩)

/-- The lanes before the rotated ones stay. -/
theorem turned_low (R : Fin 16896) (y : Fin 128 → EReal) (l : Fin 128) (h : l.val < 64) : turned m c R y l = y l := by
  unfold turned tableRow
  by_cases hR : R.val < 16384
  · rw [if_pos hR, lat_one m c _ _ (by simp only; omega) (by simp only; omega),
      lat_low m c _ _ (by simp only; omega) (by simp only; omega) (by simp only; omega), mul_one, mul_zero, add_zero]
  · rw [if_neg hR, ctx_one m c _ _ (by simp only; omega) (by simp only; omega),
      ctx_low m c _ _ (by simp only; omega) (by simp only; omega) (by simp only; omega), mul_one, mul_zero, add_zero]

/-- The lanes after the rotated ones become zero. -/
theorem turned_pad (R : Fin 16896) (y : Fin 128 → EReal) (l : Fin 128) (h : 96 ≤ l.val) : turned m c R y l = 0 := by
  unfold turned tableRow
  have hl := l.isLt
  by_cases hR : R.val < 16384
  · rw [if_pos hR, lat_pad m c _ _ (by simp only; omega) (by simp only; omega) (by simp only; omega),
      lat_end m c _ _ (by simp only; omega) (by simp only; omega) (by simp only; omega), mul_zero, mul_zero, add_zero]
  · rw [if_neg hR, ctx_pad m c _ _ (by simp only; omega) (by simp only; omega) (by simp only; omega),
      ctx_end m c _ _ (by simp only; omega) (by simp only; omega) (by simp only; omega), mul_zero, mul_zero, add_zero]

/-- The rotated lanes, where the 32 lanes after them hold each lane's partner. -/
theorem turned_rot (R : Fin 16896) (y : Fin 128 → EReal) (x : Fin 32 → EReal)
    (hx : ∀ e : Fin 32, y ⟨64 + e.val, by omega⟩ = x e) (hp : ∀ e : Fin 32, y ⟨96 + e.val, by omega⟩ = x (partner e))
    (e : Fin 32) :
    turned m c R y ⟨64 + e.val, by omega⟩ = rotAt (m (c, Proc.tc.devRef main_arg10) : Vec Ideal S8192x8 .f32) (m (c, Proc.tc.devRef main_arg11) : Vec Ideal S8192x8 .f32) (m (c, Proc.tc.devRef main_arg12) : Vec Ideal S8192x8 .f32) (m (c, Proc.tc.devRef main_arg13) : Vec Ideal S8192x8 .f32) R x e := by
  have e3 : (⟨(64 + e.val + 32) % 128, by omega⟩ : Fin 128) = ⟨96 + e.val, by omega⟩ := Fin.ext (by simp only; omega)
  have e4 : (⟨128 + (64 + e.val), by omega⟩ : Fin 256) = ⟨192 + e.val, by omega⟩ := Fin.ext (by simp only; omega)
  unfold turned
  simp only [e3, e4]
  rw [hx, hp]
  unfold rotAt tableRow
  by_cases hR : R.val < 16384
  · rw [if_pos hR, if_pos hR, lat_cos m c _ (by simp only; omega) e, lat_sin m c _ (by simp only; omega) e]
    by_cases h8 : e.val % 16 < 8
    · rw [if_pos h8, if_pos h8, mul_neg, sub_eq_add_neg]
    · rw [if_neg h8, if_neg h8]
  · rw [if_neg hR, if_neg hR, ctx_cos m c _ _ (by simp only; omega) (by simp only; omega) (by simp only; omega),
      ctx_sin m c _ _ (by simp only; omega) (by simp only; omega) (by simp only; omega), mul_one, mul_zero, add_zero]

end Inproj

end
-- ==== Proof.Inproj.Heads.lean ====
/- The queries, keys and values of a point before they are stored, element by element. -/
module

public import proofs.«01_k».proof.Proof.Inproj.Columns
public import proofs.«01_k».proof.Proof.Inproj.Rotation

@[expose] public section

noncomputable section

namespace Inproj

open Idealize.ShloMosaic Cert.InprojIdeal Cert.InprojIdeal.Gen Idealize.ShloMosaic.TcCoe
open Cert.InprojIdeal.Facts
open Idealize.ShloMosaic.Pipeline (Dat)

variable (m : (ℓ : Loc nD τ sig) → Buf (Elt Ideal) ℓ) (c : Dev nD)

/-- A point's queries before the rotation. -/
def qRows (t : Fin cfg0.N) : FVec Ideal S256x1024 .f32 :=
  k0_pay7 (k0_pay5 (F := Ideal) (iblk m c 0 t) (iblk m c 2 t) (shiftOf (iblk m c 1 t)) (scaleOf (iblk m c 1 t))
    (highW (iblk m c 3 t))) (k0_pay6 (iblk m c 6 t)) (iblk m c 7 t)

/-- A point's keys and values. -/
def kvRows (t : Fin cfg0.N) : FVec Ideal S256x2048 .f32 :=
  k0_pay8 (F := Ideal) (highAt m c t) (iblk m c 8 t) (iblk m c 9 t)

/-- A step's low-rank query columns. -/
theorem cq_apply (t : Fin cfg0.N) (i : Fin 256) (j : Fin 384) :
    k0_pay5 (F := Ideal) (iblk m c 0 t) (iblk m c 2 t) (shiftOf (iblk m c 1 t)) (scaleOf (iblk m c 1 t))
      (highW (iblk m c 3 t)) (ix2 i j) = proj (m (c, Proc.tc.devRef main_arg0) : Vec Ideal S16896x1024 .f32) (m (c, Proc.tc.devRef main_arg1) : Vec Ideal S2x8x9x1024 .f32) (m (c, Proc.tc.devRef main_arg2) : Vec Ideal S1024 .f32) (m (c, Proc.tc.devRef main_arg3) : Vec Ideal S2x1024x5824 .f32) (rowAt t i) ⟨2080 + j.val, by omega⟩ := by
  refine Eq.trans ?_ (high_cq m c t i ⟨j.val, by omega⟩ (by simp only; omega))
  unfold highAt k0_pay5
  generalize k0_pay3 (F := Ideal) (iblk m c 0 t) (iblk m c 2 t) (shiftOf (iblk m c 1 t)) (scaleOf (iblk m c 1 t))
    (highW (iblk m c 3 t)) = z
  pointwise

/-- A step's queries, over the packed weight. -/
theorem qRows_apply (t : Fin cfg0.N) (i : Fin 256) (j : Fin 1024) :
    qRows m c t (ix2 i j) = (∑ a : Fin 384, rmsBy (Ideal.ofBits .f32 0x43C00000#32)
      (fun k : Fin 384 => proj (m (c, Proc.tc.devRef main_arg0) : Vec Ideal S16896x1024 .f32) (m (c, Proc.tc.devRef main_arg1) : Vec Ideal S2x8x9x1024 .f32) (m (c, Proc.tc.devRef main_arg2) : Vec Ideal S1024 .f32) (m (c, Proc.tc.devRef main_arg3) : Vec Ideal S2x1024x5824 .f32) (rowAt t i) ⟨2080 + k.val, by omega⟩) a * (m (c, Proc.tc.devRef main_arg6) : Vec Ideal S2x384 .f32) (ix2 0 a)
        * (V m c main_v67 : Vec Ideal S384x1024 .bf16) (ix2 a j) : EReal) := by
  unfold qRows
  refine (query_apply _ _ _ i j).trans (Finset.sum_congr rfl fun a _ => ?_)
  have e : (fun k : Fin 384 => k0_pay5 (F := Ideal) (iblk m c 0 t) (iblk m c 2 t) (shiftOf (iblk m c 1 t))
      (scaleOf (iblk m c 1 t)) (highW (iblk m c 3 t)) (ix2 i k)) = fun k : Fin 384 => proj (m (c, Proc.tc.devRef main_arg0) : Vec Ideal S16896x1024 .f32) (m (c, Proc.tc.devRef main_arg1) : Vec Ideal S2x8x9x1024 .f32) (m (c, Proc.tc.devRef main_arg2) : Vec Ideal S1024 .f32) (m (c, Proc.tc.devRef main_arg3) : Vec Ideal S2x1024x5824 .f32) (rowAt t i) ⟨2080 + k.val, by omega⟩ :=
    funext fun k => cq_apply m c t i k
  refine congr (congrArg (fun a b : EReal => a * b) (congr (congrArg (fun a b : EReal => a * b) ?_) ?_)) (win_uq m c t a j)
  · exact congrArg (fun f => rmsBy (Ideal.ofBits .f32 0x43C00000#32) f a) e
  · exact (qGain_apply _ a).trans ((win_qgain m c t 0 a).trans (q_row m c a))

/-- A query slot's first 96 lanes are the plain query. -/
theorem q_low (t : Fin cfg0.N) (i : Fin 256) (h : Fin 8) (l : Fin 96) :
    qRows m c t (ix2 i ⟨128 * h.val + l.val, by omega⟩) = qAt (proj (m (c, Proc.tc.devRef main_arg0) : Vec Ideal S16896x1024 .f32) (m (c, Proc.tc.devRef main_arg1) : Vec Ideal S2x8x9x1024 .f32) (m (c, Proc.tc.devRef main_arg2) : Vec Ideal S1024 .f32) (m (c, Proc.tc.devRef main_arg3) : Vec Ideal S2x1024x5824 .f32) (rowAt t i)) (m (c, Proc.tc.devRef main_arg6) : Vec Ideal S2x384 .f32) (m (c, Proc.tc.devRef main_arg7) : Vec Ideal S2x384x768 .f32) ⟨96 * h.val + l.val, by omega⟩ := by
  rw [qRows_apply]
  unfold qAt
  exact Finset.sum_congr rfl fun a _ => times_eq _ _ _ (uq_low m c a h l)

/-- A query slot's last 32 lanes are the rotary partners. -/
theorem q_partner (t : Fin cfg0.N) (i : Fin 256) (h : Fin 8) (l : Fin 32) :
    qRows m c t (ix2 i ⟨128 * h.val + (96 + l.val), by omega⟩) = qAt (proj (m (c, Proc.tc.devRef main_arg0) : Vec Ideal S16896x1024 .f32) (m (c, Proc.tc.devRef main_arg1) : Vec Ideal S2x8x9x1024 .f32) (m (c, Proc.tc.devRef main_arg2) : Vec Ideal S1024 .f32) (m (c, Proc.tc.devRef main_arg3) : Vec Ideal S2x1024x5824 .f32) (rowAt t i)) (m (c, Proc.tc.devRef main_arg6) : Vec Ideal S2x384 .f32) (m (c, Proc.tc.devRef main_arg7) : Vec Ideal S2x384x768 .f32) ⟨96 * h.val + (64 + (partner l).val), by omega⟩ := by
  rw [qRows_apply]
  unfold qAt
  exact Finset.sum_congr rfl fun a _ => times_eq _ _ _ (uq_partner m c a h l)

/-- A step's keys and values, over the packed weight. -/
theorem kvRows_apply (t : Fin cfg0.N) (i : Fin 256) (j : Fin 2048) :
    kvRows m c t (ix2 i j) = (∑ a : Fin 256, rmsBy (Ideal.ofBits .f32 0x43800000#32)
      (fun k : Fin 256 => proj (m (c, Proc.tc.devRef main_arg0) : Vec Ideal S16896x1024 .f32) (m (c, Proc.tc.devRef main_arg1) : Vec Ideal S2x8x9x1024 .f32) (m (c, Proc.tc.devRef main_arg2) : Vec Ideal S1024 .f32) (m (c, Proc.tc.devRef main_arg3) : Vec Ideal S2x1024x5824 .f32) (rowAt t i) ⟨2464 + k.val, by omega⟩) a * (m (c, Proc.tc.devRef main_arg8) : Vec Ideal S2x256 .f32) (ix2 0 a)
        * (V m c main_v78 : Vec Ideal S256x2048 .bf16) (ix2 a j) : EReal) := by
  unfold kvRows
  refine (keyValue_apply _ _ _ i j).trans (Finset.sum_congr rfl fun a _ => ?_)
  have e : (fun k : Fin 256 => (highAt m c t (ix2 i ⟨384 + k.val, by omega⟩) : EReal))
      = fun k : Fin 256 => proj (m (c, Proc.tc.devRef main_arg0) : Vec Ideal S16896x1024 .f32) (m (c, Proc.tc.devRef main_arg1) : Vec Ideal S2x8x9x1024 .f32) (m (c, Proc.tc.devRef main_arg2) : Vec Ideal S1024 .f32) (m (c, Proc.tc.devRef main_arg3) : Vec Ideal S2x1024x5824 .f32) (rowAt t i) ⟨2464 + k.val, by omega⟩ := funext fun k => by
    refine (high_ckv m c t i _ (by simp only; omega) (by simp only; omega)).trans ?_
    refine congrArg (proj (m (c, Proc.tc.devRef main_arg0) : Vec Ideal S16896x1024 .f32) (m (c, Proc.tc.devRef main_arg1) : Vec Ideal S2x8x9x1024 .f32) (m (c, Proc.tc.devRef main_arg2) : Vec Ideal S1024 .f32) (m (c, Proc.tc.devRef main_arg3) : Vec Ideal S2x1024x5824 .f32) (rowAt t i)) (Fin.ext ?_)
    simp only
    omega
  refine congr (congrArg (fun a b : EReal => a * b) (congr (congrArg (fun a b : EReal => a * b) ?_) ?_)) (win_ukv m c t a j)
  · exact congrArg (fun f => rmsBy (Ideal.ofBits .f32 0x43800000#32) f a) e
  · exact (win_kvgain m c t 0 a).trans (kv_row m c a)

/-- A key slot's first half is the plain key. -/
theorem k_low (t : Fin cfg0.N) (i : Fin 256) (h : Fin 8) (l : Fin 64) :
    kvRows m c t (ix2 i ⟨128 * h.val + l.val, by omega⟩) = kvAt (proj (m (c, Proc.tc.devRef main_arg0) : Vec Ideal S16896x1024 .f32) (m (c, Proc.tc.devRef main_arg1) : Vec Ideal S2x8x9x1024 .f32) (m (c, Proc.tc.devRef main_arg2) : Vec Ideal S1024 .f32) (m (c, Proc.tc.devRef main_arg3) : Vec Ideal S2x1024x5824 .f32) (rowAt t i)) (m (c, Proc.tc.devRef main_arg8) : Vec Ideal S2x256 .f32) (m (c, Proc.tc.devRef main_arg9) : Vec Ideal S2x256x1024 .f32) ⟨128 * h.val + l.val, by omega⟩ := by
  rw [kvRows_apply]
  unfold kvAt
  exact Finset.sum_congr rfl fun a _ => times_eq _ _ _ (uk_low m c a h l)

/-- A key slot's second half is zero before the rotary key is added. -/
theorem k_zero (t : Fin cfg0.N) (i : Fin 256) (h : Fin 8) (l : Fin 64) :
    kvRows m c t (ix2 i ⟨128 * h.val + (64 + l.val), by omega⟩) = (0 : EReal) := by
  rw [kvRows_apply]
  refine Finset.sum_eq_zero fun a _ => ?_
  rw [uk_zero]
  exact mul_zero _

/-- A value slot's first half is the plain value. -/
theorem v_low (t : Fin cfg0.N) (i : Fin 256) (h : Fin 8) (l : Fin 64) :
    kvRows m c t (ix2 i ⟨1024 + (128 * h.val + l.val), by omega⟩) = kvAt (proj (m (c, Proc.tc.devRef main_arg0) : Vec Ideal S16896x1024 .f32) (m (c, Proc.tc.devRef main_arg1) : Vec Ideal S2x8x9x1024 .f32) (m (c, Proc.tc.devRef main_arg2) : Vec Ideal S1024 .f32) (m (c, Proc.tc.devRef main_arg3) : Vec Ideal S2x1024x5824 .f32) (rowAt t i)) (m (c, Proc.tc.devRef main_arg8) : Vec Ideal S2x256 .f32) (m (c, Proc.tc.devRef main_arg9) : Vec Ideal S2x256x1024 .f32) ⟨128 * h.val + (64 + l.val), by omega⟩ := by
  rw [kvRows_apply]
  unfold kvAt
  exact Finset.sum_congr rfl fun a _ => times_eq _ _ _ (uv_low m c a h l)

/-- A value slot's second half is zero before the one is set. -/
theorem v_zero (t : Fin cfg0.N) (i : Fin 256) (h : Fin 8) (l : Fin 64) :
    kvRows m c t (ix2 i ⟨1024 + (128 * h.val + (64 + l.val)), by omega⟩) = (0 : EReal) := by
  rw [kvRows_apply]
  refine Finset.sum_eq_zero fun a _ => ?_
  rw [uv_zero]
  exact mul_zero _

/-- The table's row at a point's row is the row that the rotation reads. -/
theorem tabAt_eq (t : Fin cfg0.N) (i : Fin 256) : tabAt t i = tableRow (rowAt t i) := by
  have ht : t.val < 66 := t.isLt
  have hi := i.isLt
  unfold tabAt tableRow rowAt
  refine Fin.ext ?_
  by_cases h : t.val < 64
  · simp only [if_pos h]
    rw [if_pos (by omega)]
    simp only
    omega
  · simp only [if_neg h]
    rw [if_neg (by omega)]
    simp only
    omega

/-- The row of the rotary table a step reads. -/
theorem tab_row (t : Fin cfg0.N) (i j : Fin 256) :
    (iblk m c 10 t : Vec Ideal S256x256 .f32) (ix2 i j) = (V m c main_v16 : Vec Ideal S8448x256 .f32) (ix2 (tableRow (rowAt t i)) j) := by
  rw [win_tab, tabAt_eq]

/-- A head's query slot. -/
theorem query_slot (t : Fin cfg0.N) (i : Fin 256) (h : Fin 8) (l : Fin 128) :
    ((qRows m c t (ix2 i ⟨128 * h.val + l.val, by omega⟩) * (iblk m c 10 t : Vec Ideal S256x256 .f32) (ix2 i ⟨l.val, by omega⟩)
      + qRows m c t (ix2 i ⟨128 * h.val + (l.val + 32) % 128, by omega⟩)
        * (iblk m c 10 t : Vec Ideal S256x256 .f32) (ix2 i ⟨128 + l.val, by omega⟩)) * Ideal.ofBits .f32 0x3E16C740#32 : EReal)
      = queryAt (qAt (proj (m (c, Proc.tc.devRef main_arg0) : Vec Ideal S16896x1024 .f32) (m (c, Proc.tc.devRef main_arg1) : Vec Ideal S2x8x9x1024 .f32) (m (c, Proc.tc.devRef main_arg2) : Vec Ideal S1024 .f32) (m (c, Proc.tc.devRef main_arg3) : Vec Ideal S2x1024x5824 .f32) (rowAt t i)) (m (c, Proc.tc.devRef main_arg6) : Vec Ideal S2x384 .f32) (m (c, Proc.tc.devRef main_arg7) : Vec Ideal S2x384x768 .f32)) (rotAt (m (c, Proc.tc.devRef main_arg10) : Vec Ideal S8192x8 .f32) (m (c, Proc.tc.devRef main_arg11) : Vec Ideal S8192x8 .f32) (m (c, Proc.tc.devRef main_arg12) : Vec Ideal S8192x8 .f32) (m (c, Proc.tc.devRef main_arg13) : Vec Ideal S8192x8 .f32) (rowAt t i)) h l := by
  rw [tab_row, tab_row]
  show turned m c (rowAt t i) (fun l : Fin 128 => qRows m c t (ix2 i ⟨128 * h.val + l.val, by omega⟩)) l
    * Ideal.ofBits .f32 0x3E16C740#32 = _
  unfold queryAt
  by_cases h0 : l.val < 64
  · rw [dif_pos h0, turned_low m c _ _ l h0]
    exact congrArg (fun z : EReal => z * Ideal.ofBits .f32 0x3E16C740#32) (q_low m c t i h ⟨l.val, by omega⟩)
  · rw [dif_neg h0]
    by_cases h1 : l.val < 96
    · rw [dif_pos h1]
      refine congrArg (fun z : EReal => z * Ideal.ofBits .f32 0x3E16C740#32) ?_
      refine Eq.trans ?_ (turned_rot m c (rowAt t i) (fun l : Fin 128 => qRows m c t (ix2 i ⟨128 * h.val + l.val, by omega⟩))
        (fun e => qAt (proj (m (c, Proc.tc.devRef main_arg0) : Vec Ideal S16896x1024 .f32) (m (c, Proc.tc.devRef main_arg1) : Vec Ideal S2x8x9x1024 .f32) (m (c, Proc.tc.devRef main_arg2) : Vec Ideal S1024 .f32) (m (c, Proc.tc.devRef main_arg3) : Vec Ideal S2x1024x5824 .f32) (rowAt t i)) (m (c, Proc.tc.devRef main_arg6) : Vec Ideal S2x384 .f32) (m (c, Proc.tc.devRef main_arg7) : Vec Ideal S2x384x768 .f32) ⟨96 * h.val + (64 + e.val), by omega⟩) (fun e => q_low m c t i h ⟨64 + e.val, by omega⟩)
        (fun e => q_partner m c t i h e) ⟨l.val - 64, by omega⟩)
      refine congrArg (turned m c (rowAt t i) _) (Fin.ext ?_)
      simp only
      omega
    · rw [dif_neg h1, turned_pad m c _ _ l (by omega)]
      exact zero_mul _

/-- The key slot that the heads share. -/
theorem shared_slot (t : Fin cfg0.N) (i : Fin 256) (l : Fin 128) :
    k0_pay14 (highAt m c t) (iblk m c 10 t) (ix2 i l)
      = turned m c (rowAt t i) (fun l : Fin 128 => highAt m c t (ix2 i ⟨640 + (l.val + 64) % 128, by omega⟩)) l := by
  rw [keySlot_apply, tab_row, tab_row]
  unfold turned
  have e : ((l.val + 32) % 128 + 64) % 128 = (l.val + 96) % 128 := by omega
  simp only [e]

/-- A head's key slot. -/
theorem key_slot (t : Fin cfg0.N) (i : Fin 256) (h : Fin 8) (l : Fin 128) :
    (kvRows m c t (ix2 i ⟨128 * h.val + l.val, by omega⟩) + k0_pay14 (highAt m c t) (iblk m c 10 t) (ix2 i l) : EReal)
      = keyAt (proj (m (c, Proc.tc.devRef main_arg0) : Vec Ideal S16896x1024 .f32) (m (c, Proc.tc.devRef main_arg1) : Vec Ideal S2x8x9x1024 .f32) (m (c, Proc.tc.devRef main_arg2) : Vec Ideal S1024 .f32) (m (c, Proc.tc.devRef main_arg3) : Vec Ideal S2x1024x5824 .f32) (rowAt t i)) (kvAt (proj (m (c, Proc.tc.devRef main_arg0) : Vec Ideal S16896x1024 .f32) (m (c, Proc.tc.devRef main_arg1) : Vec Ideal S2x8x9x1024 .f32) (m (c, Proc.tc.devRef main_arg2) : Vec Ideal S1024 .f32) (m (c, Proc.tc.devRef main_arg3) : Vec Ideal S2x1024x5824 .f32) (rowAt t i)) (m (c, Proc.tc.devRef main_arg8) : Vec Ideal S2x256 .f32) (m (c, Proc.tc.devRef main_arg9) : Vec Ideal S2x256x1024 .f32)) (rotAt (m (c, Proc.tc.devRef main_arg10) : Vec Ideal S8192x8 .f32) (m (c, Proc.tc.devRef main_arg11) : Vec Ideal S8192x8 .f32) (m (c, Proc.tc.devRef main_arg12) : Vec Ideal S8192x8 .f32) (m (c, Proc.tc.devRef main_arg13) : Vec Ideal S8192x8 .f32) (rowAt t i)) h l := by
  rw [shared_slot]
  unfold keyAt
  by_cases h0 : l.val < 64
  · rw [dif_pos h0, turned_low m c _ _ l h0, high_zero m c t i _ (by simp only; omega)]
    exact (add_zero _).trans (k_low m c t i h ⟨l.val, h0⟩)
  · rw [dif_neg h0]
    have ez : (kvRows m c t (ix2 i ⟨128 * h.val + l.val, by omega⟩) : EReal) = 0 := by
      refine Eq.trans ?_ (k_zero m c t i h ⟨l.val - 64, by omega⟩)
      refine congrArg (fun z => (kvRows m c t (ix2 i z) : EReal)) (Fin.ext ?_)
      simp only
      omega
    rw [ez]
    refine (zero_add _).trans ?_
    by_cases h1 : l.val < 96
    · rw [dif_pos h1]
      refine Eq.trans ?_ (turned_rot m c (rowAt t i)
        (fun l : Fin 128 => highAt m c t (ix2 i ⟨640 + (l.val + 64) % 128, by omega⟩))
        (fun e => proj (m (c, Proc.tc.devRef main_arg0) : Vec Ideal S16896x1024 .f32) (m (c, Proc.tc.devRef main_arg1) : Vec Ideal S2x8x9x1024 .f32) (m (c, Proc.tc.devRef main_arg2) : Vec Ideal S1024 .f32) (m (c, Proc.tc.devRef main_arg3) : Vec Ideal S2x1024x5824 .f32) (rowAt t i) ⟨2720 + e.val, by omega⟩) (fun e => ?_) (fun e => ?_) ⟨l.val - 64, by omega⟩)
      · refine congrArg (turned m c (rowAt t i) _) (Fin.ext ?_)
        simp only
        omega
      · refine (high_kr m c t i _ (by simp only; omega) (by simp only; omega)).trans ?_
        refine congrArg (proj (m (c, Proc.tc.devRef main_arg0) : Vec Ideal S16896x1024 .f32) (m (c, Proc.tc.devRef main_arg1) : Vec Ideal S2x8x9x1024 .f32) (m (c, Proc.tc.devRef main_arg2) : Vec Ideal S1024 .f32) (m (c, Proc.tc.devRef main_arg3) : Vec Ideal S2x1024x5824 .f32) (rowAt t i)) (Fin.ext ?_)
        simp only
        omega
      · refine (high_partner m c t i _ (by simp only; omega) (by simp only; omega)).trans ?_
        have ee : (⟨640 + (96 + e.val + 64) % 128 - 672, by omega⟩ : Fin 32) = e := Fin.ext (by simp only; omega)
        simp only [ee]
    · rw [dif_neg h1, turned_pad m c _ _ l (by omega)]

/-- A head's value slot. -/
theorem value_slot (t : Fin cfg0.N) (i : Fin 256) (h : Fin 8) (l : Fin 128) :
    (if (128 * h.val + l.val) % 128 = 64 then 1 else kvRows m c t (ix2 i ⟨1024 + (128 * h.val + l.val), by omega⟩) : EReal)
      = valueAt (kvAt (proj (m (c, Proc.tc.devRef main_arg0) : Vec Ideal S16896x1024 .f32) (m (c, Proc.tc.devRef main_arg1) : Vec Ideal S2x8x9x1024 .f32) (m (c, Proc.tc.devRef main_arg2) : Vec Ideal S1024 .f32) (m (c, Proc.tc.devRef main_arg3) : Vec Ideal S2x1024x5824 .f32) (rowAt t i)) (m (c, Proc.tc.devRef main_arg8) : Vec Ideal S2x256 .f32) (m (c, Proc.tc.devRef main_arg9) : Vec Ideal S2x256x1024 .f32)) h l := by
  unfold valueAt
  by_cases h0 : l.val < 64
  · rw [dif_pos h0, if_neg (by omega)]
    exact v_low m c t i h ⟨l.val, h0⟩
  · rw [dif_neg h0]
    by_cases h1 : l.val = 64
    · rw [if_pos h1, if_pos (by omega)]
    · rw [if_neg h1, if_neg (by omega)]
      refine Eq.trans ?_ (v_zero m c t i h ⟨l.val - 64, by omega⟩)
      refine congrArg (fun z => (kvRows m c t (ix2 i z) : EReal)) (Fin.ext ?_)
      simp only
      omega

end Inproj

end
-- ==== Proof.Inproj.Blocks.lean ====
/- The blocks of the queries, the keys and the values, element by element. -/
module

public import proofs.«01_k».proof.Proof.Inproj.Heads

@[expose] public section

noncomputable section

namespace Inproj

open Idealize.ShloMosaic Cert.InprojIdeal Cert.InprojIdeal.Gen Idealize.ShloMosaic.TcCoe
open Cert.InprojIdeal.Facts
open Idealize.ShloMosaic.Pipeline (Dat)

variable (m : (ℓ : Loc nD τ sig) → Buf (Elt Ideal) ℓ) (c : Dev nD)

/-- The block of the querys as one function. -/
def queryBlock (t : Fin cfg0.N) (y : S256x1024.Idx) : EReal :=
  queryAt (qAt (proj (m (c, Proc.tc.devRef main_arg0) : Vec Ideal S16896x1024 .f32) (m (c, Proc.tc.devRef main_arg1) : Vec Ideal S2x8x9x1024 .f32) (m (c, Proc.tc.devRef main_arg2) : Vec Ideal S1024 .f32) (m (c, Proc.tc.devRef main_arg3) : Vec Ideal S2x1024x5824 .f32) (rowAt t (y 0))) (m (c, Proc.tc.devRef main_arg6) : Vec Ideal S2x384 .f32) (m (c, Proc.tc.devRef main_arg7) : Vec Ideal S2x384x768 .f32)) (rotAt (m (c, Proc.tc.devRef main_arg10) : Vec Ideal S8192x8 .f32) (m (c, Proc.tc.devRef main_arg11) : Vec Ideal S8192x8 .f32) (m (c, Proc.tc.devRef main_arg12) : Vec Ideal S8192x8 .f32) (m (c, Proc.tc.devRef main_arg13) : Vec Ideal S8192x8 .f32) (rowAt t (y 0))) (headOf (y 1)) (laneOf (y 1))

/-- The query the step stores in the first slot. -/
theorem query_piece0 (t : Fin cfg0.N) (i : Fin 256) (l : Fin 128) :
    (k0_pay16 (k0_pay15 (qRows m c t) (iblk m c 10 t)) (ix2 i l) : EReal) = queryBlock m c t (ix2 i ⟨0 + l.val, by omega⟩) := by
  refine (query0_apply _ _ i l).trans ((query_slot m c t i 0 l).trans ?_)
  unfold queryBlock
  have e0 : headOf ⟨0 + l.val, by omega⟩ = 0 := Fin.ext (by unfold headOf; simp only; omega)
  have e1 : laneOf ⟨0 + l.val, by omega⟩ = l := Fin.ext (by unfold laneOf; simp only; omega)
  show _ = queryAt (qAt (proj (m (c, Proc.tc.devRef main_arg0) : Vec Ideal S16896x1024 .f32) (m (c, Proc.tc.devRef main_arg1) : Vec Ideal S2x8x9x1024 .f32) (m (c, Proc.tc.devRef main_arg2) : Vec Ideal S1024 .f32) (m (c, Proc.tc.devRef main_arg3) : Vec Ideal S2x1024x5824 .f32) (rowAt t i)) (m (c, Proc.tc.devRef main_arg6) : Vec Ideal S2x384 .f32) (m (c, Proc.tc.devRef main_arg7) : Vec Ideal S2x384x768 .f32)) (rotAt (m (c, Proc.tc.devRef main_arg10) : Vec Ideal S8192x8 .f32) (m (c, Proc.tc.devRef main_arg11) : Vec Ideal S8192x8 .f32) (m (c, Proc.tc.devRef main_arg12) : Vec Ideal S8192x8 .f32) (m (c, Proc.tc.devRef main_arg13) : Vec Ideal S8192x8 .f32) (rowAt t i)) (headOf ⟨0 + l.val, by omega⟩) (laneOf ⟨0 + l.val, by omega⟩)
  rw [e0, e1]

/-- The query the step stores in the second slot. -/
theorem query_piece1 (t : Fin cfg0.N) (i : Fin 256) (l : Fin 128) :
    (k0_pay18 (qRows m c t) (k0_pay13 (iblk m c 10 t)) (ix2 i l) : EReal) = queryBlock m c t (ix2 i ⟨128 + l.val, by omega⟩) := by
  refine (query1_apply _ _ i l).trans ((query_slot m c t i 1 l).trans ?_)
  unfold queryBlock
  have e0 : headOf ⟨128 + l.val, by omega⟩ = 1 := Fin.ext (by unfold headOf; simp only; omega)
  have e1 : laneOf ⟨128 + l.val, by omega⟩ = l := Fin.ext (by unfold laneOf; simp only; omega)
  show _ = queryAt (qAt (proj (m (c, Proc.tc.devRef main_arg0) : Vec Ideal S16896x1024 .f32) (m (c, Proc.tc.devRef main_arg1) : Vec Ideal S2x8x9x1024 .f32) (m (c, Proc.tc.devRef main_arg2) : Vec Ideal S1024 .f32) (m (c, Proc.tc.devRef main_arg3) : Vec Ideal S2x1024x5824 .f32) (rowAt t i)) (m (c, Proc.tc.devRef main_arg6) : Vec Ideal S2x384 .f32) (m (c, Proc.tc.devRef main_arg7) : Vec Ideal S2x384x768 .f32)) (rotAt (m (c, Proc.tc.devRef main_arg10) : Vec Ideal S8192x8 .f32) (m (c, Proc.tc.devRef main_arg11) : Vec Ideal S8192x8 .f32) (m (c, Proc.tc.devRef main_arg12) : Vec Ideal S8192x8 .f32) (m (c, Proc.tc.devRef main_arg13) : Vec Ideal S8192x8 .f32) (rowAt t i)) (headOf ⟨128 + l.val, by omega⟩) (laneOf ⟨128 + l.val, by omega⟩)
  rw [e0, e1]

/-- The query the step stores in the third slot. -/
theorem query_piece2 (t : Fin cfg0.N) (i : Fin 256) (l : Fin 128) :
    (k0_pay20 (qRows m c t) (k0_pay13 (iblk m c 10 t)) (ix2 i l) : EReal) = queryBlock m c t (ix2 i ⟨256 + l.val, by omega⟩) := by
  refine (query2_apply _ _ i l).trans ((query_slot m c t i 2 l).trans ?_)
  unfold queryBlock
  have e0 : headOf ⟨256 + l.val, by omega⟩ = 2 := Fin.ext (by unfold headOf; simp only; omega)
  have e1 : laneOf ⟨256 + l.val, by omega⟩ = l := Fin.ext (by unfold laneOf; simp only; omega)
  show _ = queryAt (qAt (proj (m (c, Proc.tc.devRef main_arg0) : Vec Ideal S16896x1024 .f32) (m (c, Proc.tc.devRef main_arg1) : Vec Ideal S2x8x9x1024 .f32) (m (c, Proc.tc.devRef main_arg2) : Vec Ideal S1024 .f32) (m (c, Proc.tc.devRef main_arg3) : Vec Ideal S2x1024x5824 .f32) (rowAt t i)) (m (c, Proc.tc.devRef main_arg6) : Vec Ideal S2x384 .f32) (m (c, Proc.tc.devRef main_arg7) : Vec Ideal S2x384x768 .f32)) (rotAt (m (c, Proc.tc.devRef main_arg10) : Vec Ideal S8192x8 .f32) (m (c, Proc.tc.devRef main_arg11) : Vec Ideal S8192x8 .f32) (m (c, Proc.tc.devRef main_arg12) : Vec Ideal S8192x8 .f32) (m (c, Proc.tc.devRef main_arg13) : Vec Ideal S8192x8 .f32) (rowAt t i)) (headOf ⟨256 + l.val, by omega⟩) (laneOf ⟨256 + l.val, by omega⟩)
  rw [e0, e1]

/-- The query the step stores in the fourth slot. -/
theorem query_piece3 (t : Fin cfg0.N) (i : Fin 256) (l : Fin 128) :
    (k0_pay22 (qRows m c t) (k0_pay13 (iblk m c 10 t)) (ix2 i l) : EReal) = queryBlock m c t (ix2 i ⟨384 + l.val, by omega⟩) := by
  refine (query3_apply _ _ i l).trans ((query_slot m c t i 3 l).trans ?_)
  unfold queryBlock
  have e0 : headOf ⟨384 + l.val, by omega⟩ = 3 := Fin.ext (by unfold headOf; simp only; omega)
  have e1 : laneOf ⟨384 + l.val, by omega⟩ = l := Fin.ext (by unfold laneOf; simp only; omega)
  show _ = queryAt (qAt (proj (m (c, Proc.tc.devRef main_arg0) : Vec Ideal S16896x1024 .f32) (m (c, Proc.tc.devRef main_arg1) : Vec Ideal S2x8x9x1024 .f32) (m (c, Proc.tc.devRef main_arg2) : Vec Ideal S1024 .f32) (m (c, Proc.tc.devRef main_arg3) : Vec Ideal S2x1024x5824 .f32) (rowAt t i)) (m (c, Proc.tc.devRef main_arg6) : Vec Ideal S2x384 .f32) (m (c, Proc.tc.devRef main_arg7) : Vec Ideal S2x384x768 .f32)) (rotAt (m (c, Proc.tc.devRef main_arg10) : Vec Ideal S8192x8 .f32) (m (c, Proc.tc.devRef main_arg11) : Vec Ideal S8192x8 .f32) (m (c, Proc.tc.devRef main_arg12) : Vec Ideal S8192x8 .f32) (m (c, Proc.tc.devRef main_arg13) : Vec Ideal S8192x8 .f32) (rowAt t i)) (headOf ⟨384 + l.val, by omega⟩) (laneOf ⟨384 + l.val, by omega⟩)
  rw [e0, e1]

/-- The query the step stores in the fifth slot. -/
theorem query_piece4 (t : Fin cfg0.N) (i : Fin 256) (l : Fin 128) :
    (k0_pay24 (qRows m c t) (k0_pay13 (iblk m c 10 t)) (ix2 i l) : EReal) = queryBlock m c t (ix2 i ⟨512 + l.val, by omega⟩) := by
  refine (query4_apply _ _ i l).trans ((query_slot m c t i 4 l).trans ?_)
  unfold queryBlock
  have e0 : headOf ⟨512 + l.val, by omega⟩ = 4 := Fin.ext (by unfold headOf; simp only; omega)
  have e1 : laneOf ⟨512 + l.val, by omega⟩ = l := Fin.ext (by unfold laneOf; simp only; omega)
  show _ = queryAt (qAt (proj (m (c, Proc.tc.devRef main_arg0) : Vec Ideal S16896x1024 .f32) (m (c, Proc.tc.devRef main_arg1) : Vec Ideal S2x8x9x1024 .f32) (m (c, Proc.tc.devRef main_arg2) : Vec Ideal S1024 .f32) (m (c, Proc.tc.devRef main_arg3) : Vec Ideal S2x1024x5824 .f32) (rowAt t i)) (m (c, Proc.tc.devRef main_arg6) : Vec Ideal S2x384 .f32) (m (c, Proc.tc.devRef main_arg7) : Vec Ideal S2x384x768 .f32)) (rotAt (m (c, Proc.tc.devRef main_arg10) : Vec Ideal S8192x8 .f32) (m (c, Proc.tc.devRef main_arg11) : Vec Ideal S8192x8 .f32) (m (c, Proc.tc.devRef main_arg12) : Vec Ideal S8192x8 .f32) (m (c, Proc.tc.devRef main_arg13) : Vec Ideal S8192x8 .f32) (rowAt t i)) (headOf ⟨512 + l.val, by omega⟩) (laneOf ⟨512 + l.val, by omega⟩)
  rw [e0, e1]

/-- The query the step stores in the sixth slot. -/
theorem query_piece5 (t : Fin cfg0.N) (i : Fin 256) (l : Fin 128) :
    (k0_pay26 (qRows m c t) (k0_pay13 (iblk m c 10 t)) (ix2 i l) : EReal) = queryBlock m c t (ix2 i ⟨640 + l.val, by omega⟩) := by
  refine (query5_apply _ _ i l).trans ((query_slot m c t i 5 l).trans ?_)
  unfold queryBlock
  have e0 : headOf ⟨640 + l.val, by omega⟩ = 5 := Fin.ext (by unfold headOf; simp only; omega)
  have e1 : laneOf ⟨640 + l.val, by omega⟩ = l := Fin.ext (by unfold laneOf; simp only; omega)
  show _ = queryAt (qAt (proj (m (c, Proc.tc.devRef main_arg0) : Vec Ideal S16896x1024 .f32) (m (c, Proc.tc.devRef main_arg1) : Vec Ideal S2x8x9x1024 .f32) (m (c, Proc.tc.devRef main_arg2) : Vec Ideal S1024 .f32) (m (c, Proc.tc.devRef main_arg3) : Vec Ideal S2x1024x5824 .f32) (rowAt t i)) (m (c, Proc.tc.devRef main_arg6) : Vec Ideal S2x384 .f32) (m (c, Proc.tc.devRef main_arg7) : Vec Ideal S2x384x768 .f32)) (rotAt (m (c, Proc.tc.devRef main_arg10) : Vec Ideal S8192x8 .f32) (m (c, Proc.tc.devRef main_arg11) : Vec Ideal S8192x8 .f32) (m (c, Proc.tc.devRef main_arg12) : Vec Ideal S8192x8 .f32) (m (c, Proc.tc.devRef main_arg13) : Vec Ideal S8192x8 .f32) (rowAt t i)) (headOf ⟨640 + l.val, by omega⟩) (laneOf ⟨640 + l.val, by omega⟩)
  rw [e0, e1]

/-- The query the step stores in the seventh slot. -/
theorem query_piece6 (t : Fin cfg0.N) (i : Fin 256) (l : Fin 128) :
    (k0_pay28 (qRows m c t) (k0_pay13 (iblk m c 10 t)) (ix2 i l) : EReal) = queryBlock m c t (ix2 i ⟨768 + l.val, by omega⟩) := by
  refine (query6_apply _ _ i l).trans ((query_slot m c t i 6 l).trans ?_)
  unfold queryBlock
  have e0 : headOf ⟨768 + l.val, by omega⟩ = 6 := Fin.ext (by unfold headOf; simp only; omega)
  have e1 : laneOf ⟨768 + l.val, by omega⟩ = l := Fin.ext (by unfold laneOf; simp only; omega)
  show _ = queryAt (qAt (proj (m (c, Proc.tc.devRef main_arg0) : Vec Ideal S16896x1024 .f32) (m (c, Proc.tc.devRef main_arg1) : Vec Ideal S2x8x9x1024 .f32) (m (c, Proc.tc.devRef main_arg2) : Vec Ideal S1024 .f32) (m (c, Proc.tc.devRef main_arg3) : Vec Ideal S2x1024x5824 .f32) (rowAt t i)) (m (c, Proc.tc.devRef main_arg6) : Vec Ideal S2x384 .f32) (m (c, Proc.tc.devRef main_arg7) : Vec Ideal S2x384x768 .f32)) (rotAt (m (c, Proc.tc.devRef main_arg10) : Vec Ideal S8192x8 .f32) (m (c, Proc.tc.devRef main_arg11) : Vec Ideal S8192x8 .f32) (m (c, Proc.tc.devRef main_arg12) : Vec Ideal S8192x8 .f32) (m (c, Proc.tc.devRef main_arg13) : Vec Ideal S8192x8 .f32) (rowAt t i)) (headOf ⟨768 + l.val, by omega⟩) (laneOf ⟨768 + l.val, by omega⟩)
  rw [e0, e1]

/-- The query the step stores in the eighth slot. -/
theorem query_piece7 (t : Fin cfg0.N) (i : Fin 256) (l : Fin 128) :
    (k0_pay30 (qRows m c t) (k0_pay13 (iblk m c 10 t)) (ix2 i l) : EReal) = queryBlock m c t (ix2 i ⟨896 + l.val, by omega⟩) := by
  refine (query7_apply _ _ i l).trans ((query_slot m c t i 7 l).trans ?_)
  unfold queryBlock
  have e0 : headOf ⟨896 + l.val, by omega⟩ = 7 := Fin.ext (by unfold headOf; simp only; omega)
  have e1 : laneOf ⟨896 + l.val, by omega⟩ = l := Fin.ext (by unfold laneOf; simp only; omega)
  show _ = queryAt (qAt (proj (m (c, Proc.tc.devRef main_arg0) : Vec Ideal S16896x1024 .f32) (m (c, Proc.tc.devRef main_arg1) : Vec Ideal S2x8x9x1024 .f32) (m (c, Proc.tc.devRef main_arg2) : Vec Ideal S1024 .f32) (m (c, Proc.tc.devRef main_arg3) : Vec Ideal S2x1024x5824 .f32) (rowAt t i)) (m (c, Proc.tc.devRef main_arg6) : Vec Ideal S2x384 .f32) (m (c, Proc.tc.devRef main_arg7) : Vec Ideal S2x384x768 .f32)) (rotAt (m (c, Proc.tc.devRef main_arg10) : Vec Ideal S8192x8 .f32) (m (c, Proc.tc.devRef main_arg11) : Vec Ideal S8192x8 .f32) (m (c, Proc.tc.devRef main_arg12) : Vec Ideal S8192x8 .f32) (m (c, Proc.tc.devRef main_arg13) : Vec Ideal S8192x8 .f32) (rowAt t i)) (headOf ⟨896 + l.val, by omega⟩) (laneOf ⟨896 + l.val, by omega⟩)
  rw [e0, e1]

/-- The block of the querys. -/
theorem block_query (t : Fin cfg0.N) (y : S256x1024.Idx) : (outsAt0 m c t).2.2.1 y = queryBlock m c t y := by
  dsimp only [outsAt0]
  frame_out
  refine View.canon_apply_of_pieces (Val := Elt Ideal) (S := S256x1024) (e := .bf16) (fun y : S256x1024.Idx => queryBlock m c t y)
    _ ?_ y (View.cover_of_tiledL _ ![256, 128] (by sl_kernel_rfl) _)
  intro p hp
  simp only [List.mem_cons, List.not_mem_nil, or_false] at hp
  rcases hp with rfl | rfl | rfl | rfl | rfl | rfl | rfl | rfl
  · intro x
    obtain ⟨i, l, rfl⟩ : ∃ (i : Fin 256) (l : Fin 128), x = ix2 i l := ⟨x 0, x 1, by funext a; fin_cases a <;> rfl⟩
    refine (query_piece7 m c t i l).trans (congrArg (queryBlock m c t) ?_)
    funext a
    refine Fin.ext ?_
    fin_cases a <;> simp [ix2]
  · intro x
    obtain ⟨i, l, rfl⟩ : ∃ (i : Fin 256) (l : Fin 128), x = ix2 i l := ⟨x 0, x 1, by funext a; fin_cases a <;> rfl⟩
    refine (query_piece6 m c t i l).trans (congrArg (queryBlock m c t) ?_)
    funext a
    refine Fin.ext ?_
    fin_cases a <;> simp [ix2]
  · intro x
    obtain ⟨i, l, rfl⟩ : ∃ (i : Fin 256) (l : Fin 128), x = ix2 i l := ⟨x 0, x 1, by funext a; fin_cases a <;> rfl⟩
    refine (query_piece5 m c t i l).trans (congrArg (queryBlock m c t) ?_)
    funext a
    refine Fin.ext ?_
    fin_cases a <;> simp [ix2]
  · intro x
    obtain ⟨i, l, rfl⟩ : ∃ (i : Fin 256) (l : Fin 128), x = ix2 i l := ⟨x 0, x 1, by funext a; fin_cases a <;> rfl⟩
    refine (query_piece4 m c t i l).trans (congrArg (queryBlock m c t) ?_)
    funext a
    refine Fin.ext ?_
    fin_cases a <;> simp [ix2]
  · intro x
    obtain ⟨i, l, rfl⟩ : ∃ (i : Fin 256) (l : Fin 128), x = ix2 i l := ⟨x 0, x 1, by funext a; fin_cases a <;> rfl⟩
    refine (query_piece3 m c t i l).trans (congrArg (queryBlock m c t) ?_)
    funext a
    refine Fin.ext ?_
    fin_cases a <;> simp [ix2]
  · intro x
    obtain ⟨i, l, rfl⟩ : ∃ (i : Fin 256) (l : Fin 128), x = ix2 i l := ⟨x 0, x 1, by funext a; fin_cases a <;> rfl⟩
    refine (query_piece2 m c t i l).trans (congrArg (queryBlock m c t) ?_)
    funext a
    refine Fin.ext ?_
    fin_cases a <;> simp [ix2]
  · intro x
    obtain ⟨i, l, rfl⟩ : ∃ (i : Fin 256) (l : Fin 128), x = ix2 i l := ⟨x 0, x 1, by funext a; fin_cases a <;> rfl⟩
    refine (query_piece1 m c t i l).trans (congrArg (queryBlock m c t) ?_)
    funext a
    refine Fin.ext ?_
    fin_cases a <;> simp [ix2]
  · intro x
    obtain ⟨i, l, rfl⟩ : ∃ (i : Fin 256) (l : Fin 128), x = ix2 i l := ⟨x 0, x 1, by funext a; fin_cases a <;> rfl⟩
    refine (query_piece0 m c t i l).trans (congrArg (queryBlock m c t) ?_)
    funext a
    refine Fin.ext ?_
    fin_cases a <;> simp [ix2]

/-- The block of the keys as one function. -/
def keyBlock (t : Fin cfg0.N) (y : S256x1024.Idx) : EReal :=
  keyAt (proj (m (c, Proc.tc.devRef main_arg0) : Vec Ideal S16896x1024 .f32) (m (c, Proc.tc.devRef main_arg1) : Vec Ideal S2x8x9x1024 .f32) (m (c, Proc.tc.devRef main_arg2) : Vec Ideal S1024 .f32) (m (c, Proc.tc.devRef main_arg3) : Vec Ideal S2x1024x5824 .f32) (rowAt t (y 0))) (kvAt (proj (m (c, Proc.tc.devRef main_arg0) : Vec Ideal S16896x1024 .f32) (m (c, Proc.tc.devRef main_arg1) : Vec Ideal S2x8x9x1024 .f32) (m (c, Proc.tc.devRef main_arg2) : Vec Ideal S1024 .f32) (m (c, Proc.tc.devRef main_arg3) : Vec Ideal S2x1024x5824 .f32) (rowAt t (y 0))) (m (c, Proc.tc.devRef main_arg8) : Vec Ideal S2x256 .f32) (m (c, Proc.tc.devRef main_arg9) : Vec Ideal S2x256x1024 .f32)) (rotAt (m (c, Proc.tc.devRef main_arg10) : Vec Ideal S8192x8 .f32) (m (c, Proc.tc.devRef main_arg11) : Vec Ideal S8192x8 .f32) (m (c, Proc.tc.devRef main_arg12) : Vec Ideal S8192x8 .f32) (m (c, Proc.tc.devRef main_arg13) : Vec Ideal S8192x8 .f32) (rowAt t (y 0))) (headOf (y 1)) (laneOf (y 1))

/-- The key the step stores in the first slot. -/
theorem key_piece0 (t : Fin cfg0.N) (i : Fin 256) (l : Fin 128) :
    (k0_pay17 (kvRows m c t) (k0_pay14 (highAt m c t) (iblk m c 10 t)) (ix2 i l) : EReal) = keyBlock m c t (ix2 i ⟨0 + l.val, by omega⟩) := by
  refine (key0_apply _ _ i l).trans ((key_slot m c t i 0 l).trans ?_)
  unfold keyBlock
  have e0 : headOf ⟨0 + l.val, by omega⟩ = 0 := Fin.ext (by unfold headOf; simp only; omega)
  have e1 : laneOf ⟨0 + l.val, by omega⟩ = l := Fin.ext (by unfold laneOf; simp only; omega)
  show _ = keyAt (proj (m (c, Proc.tc.devRef main_arg0) : Vec Ideal S16896x1024 .f32) (m (c, Proc.tc.devRef main_arg1) : Vec Ideal S2x8x9x1024 .f32) (m (c, Proc.tc.devRef main_arg2) : Vec Ideal S1024 .f32) (m (c, Proc.tc.devRef main_arg3) : Vec Ideal S2x1024x5824 .f32) (rowAt t i)) (kvAt (proj (m (c, Proc.tc.devRef main_arg0) : Vec Ideal S16896x1024 .f32) (m (c, Proc.tc.devRef main_arg1) : Vec Ideal S2x8x9x1024 .f32) (m (c, Proc.tc.devRef main_arg2) : Vec Ideal S1024 .f32) (m (c, Proc.tc.devRef main_arg3) : Vec Ideal S2x1024x5824 .f32) (rowAt t i)) (m (c, Proc.tc.devRef main_arg8) : Vec Ideal S2x256 .f32) (m (c, Proc.tc.devRef main_arg9) : Vec Ideal S2x256x1024 .f32)) (rotAt (m (c, Proc.tc.devRef main_arg10) : Vec Ideal S8192x8 .f32) (m (c, Proc.tc.devRef main_arg11) : Vec Ideal S8192x8 .f32) (m (c, Proc.tc.devRef main_arg12) : Vec Ideal S8192x8 .f32) (m (c, Proc.tc.devRef main_arg13) : Vec Ideal S8192x8 .f32) (rowAt t i)) (headOf ⟨0 + l.val, by omega⟩) (laneOf ⟨0 + l.val, by omega⟩)
  rw [e0, e1]

/-- The key the step stores in the second slot. -/
theorem key_piece1 (t : Fin cfg0.N) (i : Fin 256) (l : Fin 128) :
    (k0_pay19 (kvRows m c t) (k0_pay14 (highAt m c t) (iblk m c 10 t)) (ix2 i l) : EReal) = keyBlock m c t (ix2 i ⟨128 + l.val, by omega⟩) := by
  refine (key1_apply _ _ i l).trans ((key_slot m c t i 1 l).trans ?_)
  unfold keyBlock
  have e0 : headOf ⟨128 + l.val, by omega⟩ = 1 := Fin.ext (by unfold headOf; simp only; omega)
  have e1 : laneOf ⟨128 + l.val, by omega⟩ = l := Fin.ext (by unfold laneOf; simp only; omega)
  show _ = keyAt (proj (m (c, Proc.tc.devRef main_arg0) : Vec Ideal S16896x1024 .f32) (m (c, Proc.tc.devRef main_arg1) : Vec Ideal S2x8x9x1024 .f32) (m (c, Proc.tc.devRef main_arg2) : Vec Ideal S1024 .f32) (m (c, Proc.tc.devRef main_arg3) : Vec Ideal S2x1024x5824 .f32) (rowAt t i)) (kvAt (proj (m (c, Proc.tc.devRef main_arg0) : Vec Ideal S16896x1024 .f32) (m (c, Proc.tc.devRef main_arg1) : Vec Ideal S2x8x9x1024 .f32) (m (c, Proc.tc.devRef main_arg2) : Vec Ideal S1024 .f32) (m (c, Proc.tc.devRef main_arg3) : Vec Ideal S2x1024x5824 .f32) (rowAt t i)) (m (c, Proc.tc.devRef main_arg8) : Vec Ideal S2x256 .f32) (m (c, Proc.tc.devRef main_arg9) : Vec Ideal S2x256x1024 .f32)) (rotAt (m (c, Proc.tc.devRef main_arg10) : Vec Ideal S8192x8 .f32) (m (c, Proc.tc.devRef main_arg11) : Vec Ideal S8192x8 .f32) (m (c, Proc.tc.devRef main_arg12) : Vec Ideal S8192x8 .f32) (m (c, Proc.tc.devRef main_arg13) : Vec Ideal S8192x8 .f32) (rowAt t i)) (headOf ⟨128 + l.val, by omega⟩) (laneOf ⟨128 + l.val, by omega⟩)
  rw [e0, e1]

/-- The key the step stores in the third slot. -/
theorem key_piece2 (t : Fin cfg0.N) (i : Fin 256) (l : Fin 128) :
    (k0_pay21 (kvRows m c t) (k0_pay14 (highAt m c t) (iblk m c 10 t)) (ix2 i l) : EReal) = keyBlock m c t (ix2 i ⟨256 + l.val, by omega⟩) := by
  refine (key2_apply _ _ i l).trans ((key_slot m c t i 2 l).trans ?_)
  unfold keyBlock
  have e0 : headOf ⟨256 + l.val, by omega⟩ = 2 := Fin.ext (by unfold headOf; simp only; omega)
  have e1 : laneOf ⟨256 + l.val, by omega⟩ = l := Fin.ext (by unfold laneOf; simp only; omega)
  show _ = keyAt (proj (m (c, Proc.tc.devRef main_arg0) : Vec Ideal S16896x1024 .f32) (m (c, Proc.tc.devRef main_arg1) : Vec Ideal S2x8x9x1024 .f32) (m (c, Proc.tc.devRef main_arg2) : Vec Ideal S1024 .f32) (m (c, Proc.tc.devRef main_arg3) : Vec Ideal S2x1024x5824 .f32) (rowAt t i)) (kvAt (proj (m (c, Proc.tc.devRef main_arg0) : Vec Ideal S16896x1024 .f32) (m (c, Proc.tc.devRef main_arg1) : Vec Ideal S2x8x9x1024 .f32) (m (c, Proc.tc.devRef main_arg2) : Vec Ideal S1024 .f32) (m (c, Proc.tc.devRef main_arg3) : Vec Ideal S2x1024x5824 .f32) (rowAt t i)) (m (c, Proc.tc.devRef main_arg8) : Vec Ideal S2x256 .f32) (m (c, Proc.tc.devRef main_arg9) : Vec Ideal S2x256x1024 .f32)) (rotAt (m (c, Proc.tc.devRef main_arg10) : Vec Ideal S8192x8 .f32) (m (c, Proc.tc.devRef main_arg11) : Vec Ideal S8192x8 .f32) (m (c, Proc.tc.devRef main_arg12) : Vec Ideal S8192x8 .f32) (m (c, Proc.tc.devRef main_arg13) : Vec Ideal S8192x8 .f32) (rowAt t i)) (headOf ⟨256 + l.val, by omega⟩) (laneOf ⟨256 + l.val, by omega⟩)
  rw [e0, e1]

/-- The key the step stores in the fourth slot. -/
theorem key_piece3 (t : Fin cfg0.N) (i : Fin 256) (l : Fin 128) :
    (k0_pay23 (kvRows m c t) (k0_pay14 (highAt m c t) (iblk m c 10 t)) (ix2 i l) : EReal) = keyBlock m c t (ix2 i ⟨384 + l.val, by omega⟩) := by
  refine (key3_apply _ _ i l).trans ((key_slot m c t i 3 l).trans ?_)
  unfold keyBlock
  have e0 : headOf ⟨384 + l.val, by omega⟩ = 3 := Fin.ext (by unfold headOf; simp only; omega)
  have e1 : laneOf ⟨384 + l.val, by omega⟩ = l := Fin.ext (by unfold laneOf; simp only; omega)
  show _ = keyAt (proj (m (c, Proc.tc.devRef main_arg0) : Vec Ideal S16896x1024 .f32) (m (c, Proc.tc.devRef main_arg1) : Vec Ideal S2x8x9x1024 .f32) (m (c, Proc.tc.devRef main_arg2) : Vec Ideal S1024 .f32) (m (c, Proc.tc.devRef main_arg3) : Vec Ideal S2x1024x5824 .f32) (rowAt t i)) (kvAt (proj (m (c, Proc.tc.devRef main_arg0) : Vec Ideal S16896x1024 .f32) (m (c, Proc.tc.devRef main_arg1) : Vec Ideal S2x8x9x1024 .f32) (m (c, Proc.tc.devRef main_arg2) : Vec Ideal S1024 .f32) (m (c, Proc.tc.devRef main_arg3) : Vec Ideal S2x1024x5824 .f32) (rowAt t i)) (m (c, Proc.tc.devRef main_arg8) : Vec Ideal S2x256 .f32) (m (c, Proc.tc.devRef main_arg9) : Vec Ideal S2x256x1024 .f32)) (rotAt (m (c, Proc.tc.devRef main_arg10) : Vec Ideal S8192x8 .f32) (m (c, Proc.tc.devRef main_arg11) : Vec Ideal S8192x8 .f32) (m (c, Proc.tc.devRef main_arg12) : Vec Ideal S8192x8 .f32) (m (c, Proc.tc.devRef main_arg13) : Vec Ideal S8192x8 .f32) (rowAt t i)) (headOf ⟨384 + l.val, by omega⟩) (laneOf ⟨384 + l.val, by omega⟩)
  rw [e0, e1]

/-- The key the step stores in the fifth slot. -/
theorem key_piece4 (t : Fin cfg0.N) (i : Fin 256) (l : Fin 128) :
    (k0_pay25 (kvRows m c t) (k0_pay14 (highAt m c t) (iblk m c 10 t)) (ix2 i l) : EReal) = keyBlock m c t (ix2 i ⟨512 + l.val, by omega⟩) := by
  refine (key4_apply _ _ i l).trans ((key_slot m c t i 4 l).trans ?_)
  unfold keyBlock
  have e0 : headOf ⟨512 + l.val, by omega⟩ = 4 := Fin.ext (by unfold headOf; simp only; omega)
  have e1 : laneOf ⟨512 + l.val, by omega⟩ = l := Fin.ext (by unfold laneOf; simp only; omega)
  show _ = keyAt (proj (m (c, Proc.tc.devRef main_arg0) : Vec Ideal S16896x1024 .f32) (m (c, Proc.tc.devRef main_arg1) : Vec Ideal S2x8x9x1024 .f32) (m (c, Proc.tc.devRef main_arg2) : Vec Ideal S1024 .f32) (m (c, Proc.tc.devRef main_arg3) : Vec Ideal S2x1024x5824 .f32) (rowAt t i)) (kvAt (proj (m (c, Proc.tc.devRef main_arg0) : Vec Ideal S16896x1024 .f32) (m (c, Proc.tc.devRef main_arg1) : Vec Ideal S2x8x9x1024 .f32) (m (c, Proc.tc.devRef main_arg2) : Vec Ideal S1024 .f32) (m (c, Proc.tc.devRef main_arg3) : Vec Ideal S2x1024x5824 .f32) (rowAt t i)) (m (c, Proc.tc.devRef main_arg8) : Vec Ideal S2x256 .f32) (m (c, Proc.tc.devRef main_arg9) : Vec Ideal S2x256x1024 .f32)) (rotAt (m (c, Proc.tc.devRef main_arg10) : Vec Ideal S8192x8 .f32) (m (c, Proc.tc.devRef main_arg11) : Vec Ideal S8192x8 .f32) (m (c, Proc.tc.devRef main_arg12) : Vec Ideal S8192x8 .f32) (m (c, Proc.tc.devRef main_arg13) : Vec Ideal S8192x8 .f32) (rowAt t i)) (headOf ⟨512 + l.val, by omega⟩) (laneOf ⟨512 + l.val, by omega⟩)
  rw [e0, e1]

/-- The key the step stores in the sixth slot. -/
theorem key_piece5 (t : Fin cfg0.N) (i : Fin 256) (l : Fin 128) :
    (k0_pay27 (kvRows m c t) (k0_pay14 (highAt m c t) (iblk m c 10 t)) (ix2 i l) : EReal) = keyBlock m c t (ix2 i ⟨640 + l.val, by omega⟩) := by
  refine (key5_apply _ _ i l).trans ((key_slot m c t i 5 l).trans ?_)
  unfold keyBlock
  have e0 : headOf ⟨640 + l.val, by omega⟩ = 5 := Fin.ext (by unfold headOf; simp only; omega)
  have e1 : laneOf ⟨640 + l.val, by omega⟩ = l := Fin.ext (by unfold laneOf; simp only; omega)
  show _ = keyAt (proj (m (c, Proc.tc.devRef main_arg0) : Vec Ideal S16896x1024 .f32) (m (c, Proc.tc.devRef main_arg1) : Vec Ideal S2x8x9x1024 .f32) (m (c, Proc.tc.devRef main_arg2) : Vec Ideal S1024 .f32) (m (c, Proc.tc.devRef main_arg3) : Vec Ideal S2x1024x5824 .f32) (rowAt t i)) (kvAt (proj (m (c, Proc.tc.devRef main_arg0) : Vec Ideal S16896x1024 .f32) (m (c, Proc.tc.devRef main_arg1) : Vec Ideal S2x8x9x1024 .f32) (m (c, Proc.tc.devRef main_arg2) : Vec Ideal S1024 .f32) (m (c, Proc.tc.devRef main_arg3) : Vec Ideal S2x1024x5824 .f32) (rowAt t i)) (m (c, Proc.tc.devRef main_arg8) : Vec Ideal S2x256 .f32) (m (c, Proc.tc.devRef main_arg9) : Vec Ideal S2x256x1024 .f32)) (rotAt (m (c, Proc.tc.devRef main_arg10) : Vec Ideal S8192x8 .f32) (m (c, Proc.tc.devRef main_arg11) : Vec Ideal S8192x8 .f32) (m (c, Proc.tc.devRef main_arg12) : Vec Ideal S8192x8 .f32) (m (c, Proc.tc.devRef main_arg13) : Vec Ideal S8192x8 .f32) (rowAt t i)) (headOf ⟨640 + l.val, by omega⟩) (laneOf ⟨640 + l.val, by omega⟩)
  rw [e0, e1]

/-- The key the step stores in the seventh slot. -/
theorem key_piece6 (t : Fin cfg0.N) (i : Fin 256) (l : Fin 128) :
    (k0_pay29 (kvRows m c t) (k0_pay14 (highAt m c t) (iblk m c 10 t)) (ix2 i l) : EReal) = keyBlock m c t (ix2 i ⟨768 + l.val, by omega⟩) := by
  refine (key6_apply _ _ i l).trans ((key_slot m c t i 6 l).trans ?_)
  unfold keyBlock
  have e0 : headOf ⟨768 + l.val, by omega⟩ = 6 := Fin.ext (by unfold headOf; simp only; omega)
  have e1 : laneOf ⟨768 + l.val, by omega⟩ = l := Fin.ext (by unfold laneOf; simp only; omega)
  show _ = keyAt (proj (m (c, Proc.tc.devRef main_arg0) : Vec Ideal S16896x1024 .f32) (m (c, Proc.tc.devRef main_arg1) : Vec Ideal S2x8x9x1024 .f32) (m (c, Proc.tc.devRef main_arg2) : Vec Ideal S1024 .f32) (m (c, Proc.tc.devRef main_arg3) : Vec Ideal S2x1024x5824 .f32) (rowAt t i)) (kvAt (proj (m (c, Proc.tc.devRef main_arg0) : Vec Ideal S16896x1024 .f32) (m (c, Proc.tc.devRef main_arg1) : Vec Ideal S2x8x9x1024 .f32) (m (c, Proc.tc.devRef main_arg2) : Vec Ideal S1024 .f32) (m (c, Proc.tc.devRef main_arg3) : Vec Ideal S2x1024x5824 .f32) (rowAt t i)) (m (c, Proc.tc.devRef main_arg8) : Vec Ideal S2x256 .f32) (m (c, Proc.tc.devRef main_arg9) : Vec Ideal S2x256x1024 .f32)) (rotAt (m (c, Proc.tc.devRef main_arg10) : Vec Ideal S8192x8 .f32) (m (c, Proc.tc.devRef main_arg11) : Vec Ideal S8192x8 .f32) (m (c, Proc.tc.devRef main_arg12) : Vec Ideal S8192x8 .f32) (m (c, Proc.tc.devRef main_arg13) : Vec Ideal S8192x8 .f32) (rowAt t i)) (headOf ⟨768 + l.val, by omega⟩) (laneOf ⟨768 + l.val, by omega⟩)
  rw [e0, e1]

/-- The key the step stores in the eighth slot. -/
theorem key_piece7 (t : Fin cfg0.N) (i : Fin 256) (l : Fin 128) :
    (k0_pay31 (kvRows m c t) (k0_pay14 (highAt m c t) (iblk m c 10 t)) (ix2 i l) : EReal) = keyBlock m c t (ix2 i ⟨896 + l.val, by omega⟩) := by
  refine (key7_apply _ _ i l).trans ((key_slot m c t i 7 l).trans ?_)
  unfold keyBlock
  have e0 : headOf ⟨896 + l.val, by omega⟩ = 7 := Fin.ext (by unfold headOf; simp only; omega)
  have e1 : laneOf ⟨896 + l.val, by omega⟩ = l := Fin.ext (by unfold laneOf; simp only; omega)
  show _ = keyAt (proj (m (c, Proc.tc.devRef main_arg0) : Vec Ideal S16896x1024 .f32) (m (c, Proc.tc.devRef main_arg1) : Vec Ideal S2x8x9x1024 .f32) (m (c, Proc.tc.devRef main_arg2) : Vec Ideal S1024 .f32) (m (c, Proc.tc.devRef main_arg3) : Vec Ideal S2x1024x5824 .f32) (rowAt t i)) (kvAt (proj (m (c, Proc.tc.devRef main_arg0) : Vec Ideal S16896x1024 .f32) (m (c, Proc.tc.devRef main_arg1) : Vec Ideal S2x8x9x1024 .f32) (m (c, Proc.tc.devRef main_arg2) : Vec Ideal S1024 .f32) (m (c, Proc.tc.devRef main_arg3) : Vec Ideal S2x1024x5824 .f32) (rowAt t i)) (m (c, Proc.tc.devRef main_arg8) : Vec Ideal S2x256 .f32) (m (c, Proc.tc.devRef main_arg9) : Vec Ideal S2x256x1024 .f32)) (rotAt (m (c, Proc.tc.devRef main_arg10) : Vec Ideal S8192x8 .f32) (m (c, Proc.tc.devRef main_arg11) : Vec Ideal S8192x8 .f32) (m (c, Proc.tc.devRef main_arg12) : Vec Ideal S8192x8 .f32) (m (c, Proc.tc.devRef main_arg13) : Vec Ideal S8192x8 .f32) (rowAt t i)) (headOf ⟨896 + l.val, by omega⟩) (laneOf ⟨896 + l.val, by omega⟩)
  rw [e0, e1]

/-- The block of the keys. -/
theorem block_key (t : Fin cfg0.N) (y : S256x1024.Idx) : (outsAt0 m c t).2.2.2.1 y = keyBlock m c t y := by
  dsimp only [outsAt0]
  frame_out
  refine View.canon_apply_of_pieces (Val := Elt Ideal) (S := S256x1024) (e := .bf16) (fun y : S256x1024.Idx => keyBlock m c t y)
    _ ?_ y (View.cover_of_tiledL _ ![256, 128] (by sl_kernel_rfl) _)
  intro p hp
  simp only [List.mem_cons, List.not_mem_nil, or_false] at hp
  rcases hp with rfl | rfl | rfl | rfl | rfl | rfl | rfl | rfl
  · intro x
    obtain ⟨i, l, rfl⟩ : ∃ (i : Fin 256) (l : Fin 128), x = ix2 i l := ⟨x 0, x 1, by funext a; fin_cases a <;> rfl⟩
    refine (key_piece7 m c t i l).trans (congrArg (keyBlock m c t) ?_)
    funext a
    refine Fin.ext ?_
    fin_cases a <;> simp [ix2]
  · intro x
    obtain ⟨i, l, rfl⟩ : ∃ (i : Fin 256) (l : Fin 128), x = ix2 i l := ⟨x 0, x 1, by funext a; fin_cases a <;> rfl⟩
    refine (key_piece6 m c t i l).trans (congrArg (keyBlock m c t) ?_)
    funext a
    refine Fin.ext ?_
    fin_cases a <;> simp [ix2]
  · intro x
    obtain ⟨i, l, rfl⟩ : ∃ (i : Fin 256) (l : Fin 128), x = ix2 i l := ⟨x 0, x 1, by funext a; fin_cases a <;> rfl⟩
    refine (key_piece5 m c t i l).trans (congrArg (keyBlock m c t) ?_)
    funext a
    refine Fin.ext ?_
    fin_cases a <;> simp [ix2]
  · intro x
    obtain ⟨i, l, rfl⟩ : ∃ (i : Fin 256) (l : Fin 128), x = ix2 i l := ⟨x 0, x 1, by funext a; fin_cases a <;> rfl⟩
    refine (key_piece4 m c t i l).trans (congrArg (keyBlock m c t) ?_)
    funext a
    refine Fin.ext ?_
    fin_cases a <;> simp [ix2]
  · intro x
    obtain ⟨i, l, rfl⟩ : ∃ (i : Fin 256) (l : Fin 128), x = ix2 i l := ⟨x 0, x 1, by funext a; fin_cases a <;> rfl⟩
    refine (key_piece3 m c t i l).trans (congrArg (keyBlock m c t) ?_)
    funext a
    refine Fin.ext ?_
    fin_cases a <;> simp [ix2]
  · intro x
    obtain ⟨i, l, rfl⟩ : ∃ (i : Fin 256) (l : Fin 128), x = ix2 i l := ⟨x 0, x 1, by funext a; fin_cases a <;> rfl⟩
    refine (key_piece2 m c t i l).trans (congrArg (keyBlock m c t) ?_)
    funext a
    refine Fin.ext ?_
    fin_cases a <;> simp [ix2]
  · intro x
    obtain ⟨i, l, rfl⟩ : ∃ (i : Fin 256) (l : Fin 128), x = ix2 i l := ⟨x 0, x 1, by funext a; fin_cases a <;> rfl⟩
    refine (key_piece1 m c t i l).trans (congrArg (keyBlock m c t) ?_)
    funext a
    refine Fin.ext ?_
    fin_cases a <;> simp [ix2]
  · intro x
    obtain ⟨i, l, rfl⟩ : ∃ (i : Fin 256) (l : Fin 128), x = ix2 i l := ⟨x 0, x 1, by funext a; fin_cases a <;> rfl⟩
    refine (key_piece0 m c t i l).trans (congrArg (keyBlock m c t) ?_)
    funext a
    refine Fin.ext ?_
    fin_cases a <;> simp [ix2]

/-- The block of the values. -/
theorem block_value (t : Fin cfg0.N) (i : Fin 256) (j : Fin 1024) :
    (outsAt0 m c t).2.2.2.2 (ix2 i j) = valueAt (kvAt (proj (m (c, Proc.tc.devRef main_arg0) : Vec Ideal S16896x1024 .f32) (m (c, Proc.tc.devRef main_arg1) : Vec Ideal S2x8x9x1024 .f32) (m (c, Proc.tc.devRef main_arg2) : Vec Ideal S1024 .f32) (m (c, Proc.tc.devRef main_arg3) : Vec Ideal S2x1024x5824 .f32) (rowAt t i)) (m (c, Proc.tc.devRef main_arg8) : Vec Ideal S2x256 .f32) (m (c, Proc.tc.devRef main_arg9) : Vec Ideal S2x256x1024 .f32)) (headOf j) (laneOf j) := by
  dsimp only [outsAt0]
  frame_out
  refine (value_apply (kvRows m c t) i j).trans ?_
  refine Eq.trans ?_ (value_slot m c t i (headOf j) (laneOf j))
  have e : 128 * (headOf j).val + (laneOf j).val = j.val := by
    unfold headOf laneOf
    simp only
    omega
  simp only [e]

end Inproj

end
-- ==== Proof.Inproj.Array.lean ====
/- The result arrays of the in-projection, element by element. -/
module

public import proofs.«01_k».proof.Proof.Inproj.Gla
public import proofs.«01_k».proof.Proof.Inproj.Blocks
public import Idealize.ShloMosaic.Lib.Pipeline.ValueKit

@[expose] public section

noncomputable section

namespace Inproj

open Idealize.ShloMosaic Cert.InprojIdeal Cert.InprojIdeal.Gen Idealize.ShloMosaic.TcCoe
open Cert.InprojIdeal.Facts
open Idealize.ShloMosaic.Pipeline (Dat)

variable (m : (ℓ : Loc nD τ sig) → Buf (Elt Ideal) ℓ) (c : Dev nD)

/-- Where the windows stand of the results held sample by sample. -/
theorem idx_sample : ∀ t : Fin cfg0.N,
    win0_11.index t 0 = (if t.val < 64 then t.val / 32 * 33 + t.val % 32 else if t.val = 64 then 32 else 65) ∧ win0_11.index t 1 = 0 ∧
    win0_14.index t 0 = (if t.val < 64 then t.val / 32 * 33 + t.val % 32 else if t.val = 64 then 32 else 65) ∧ win0_14.index t 1 = 0 ∧
    win0_15.index t 0 = (if t.val < 64 then t.val / 32 * 33 + t.val % 32 else if t.val = 64 then 32 else 65) ∧ win0_15.index t 1 = 0 :=
  (by decide +kernel : ∀ t : Fin grid0.N, _)

/-- Where the windows stand of the results held as the rows come. -/
theorem idx_plain : ∀ t : Fin cfg0.N,
    win0_12.index t 0 = t.val ∧ win0_12.index t 1 = 0 ∧ win0_13.index t 0 = t.val ∧ win0_13.index t 1 = 0 :=
  (by decide +kernel : ∀ t : Fin grid0.N, _)

/-- The row of a result held sample by sample that row `i` of grid point `t` fills. -/
def outRow (t : Fin cfg0.N) (i : Fin 256) : Fin 16896 :=
  ⟨(if t.val < 64 then t.val / 32 * 33 + t.val % 32 else if t.val = 64 then 32 else 65) * 256 + i.val, by
    have : t.val < 66 := t.isLt
    have := i.isLt
    split
    · omega
    · split <;> omega⟩

/-- The sample-by-sample row a step writes is the row it reads. -/
theorem sampleRow_outRow (t : Fin cfg0.N) (i : Fin 256) : sampleRow (outRow t i) = rowAt t i := by
  have ht : t.val < 66 := t.isLt
  have hi := i.isLt
  unfold sampleRow outRow rowAt
  by_cases h : t.val < 64
  · simp only [if_pos h]
    rw [if_pos (by omega)]
    refine Fin.ext ?_
    simp only
    omega
  · simp only [if_neg h]
    by_cases h' : t.val = 64
    · simp only [if_pos h']
      rw [if_neg (by omega)]
      refine Fin.ext ?_
      simp only
      omega
    · simp only [if_neg h']
      rw [if_neg (by omega)]
      refine Fin.ext ?_
      simp only
      omega

/-- The first result's array: the recurrence. -/
theorem final0 : (dats m 0 c).arrAt 11 cfg0.N = G0 (m (c, Proc.tc.devRef main_arg0) : Vec Ideal S16896x1024 .f32) (m (c, Proc.tc.devRef main_arg1) : Vec Ideal S2x8x9x1024 .f32) (m (c, Proc.tc.devRef main_arg2) : Vec Ideal S1024 .f32) (m (c, Proc.tc.devRef main_arg3) : Vec Ideal S2x1024x5824 .f32) (m (c, Proc.tc.devRef main_arg4) : Vec Ideal S2x2x16x256 .f32) (m (c, Proc.tc.devRef main_arg5) : Vec Ideal S2x2x256 .f32) := by
  refine (dats m 0 c).arrAt_eq_of_covers 11 _ (by decide +kernel) fun t hf y => ?_
  obtain ⟨f0, f1, f2, f3, f4, f5⟩ := idx_sample t
  blk_simp
  rw [after0_11]
  obtain ⟨i, j, rfl⟩ : ∃ (i : Fin 256) (j : Fin 2048), y = ix2 i j := ⟨y 0, y 1, by funext a; fin_cases a <;> rfl⟩
  refine (block_gla m c t i j).trans ?_
  have g : (win0_11.blk t).view.emb (ix2 i j) = (ix2 (outRow t i) j : S16896x2048.Idx) := by
    unfold outRow
    blk_ext []
  rw [g]
  show _ = glaAt (proj (m (c, Proc.tc.devRef main_arg0) : Vec Ideal S16896x1024 .f32) (m (c, Proc.tc.devRef main_arg1) : Vec Ideal S2x8x9x1024 .f32) (m (c, Proc.tc.devRef main_arg2) : Vec Ideal S1024 .f32) (m (c, Proc.tc.devRef main_arg3) : Vec Ideal S2x1024x5824 .f32) (sampleRow (outRow t i))) (m (c, Proc.tc.devRef main_arg4) : Vec Ideal S2x2x16x256 .f32) (m (c, Proc.tc.devRef main_arg5) : Vec Ideal S2x2x256 .f32) j
  rw [sampleRow_outRow]

/-- The second result's array: the Fourier mixing. -/
theorem final1 : (dats m 0 c).arrAt 12 cfg0.N = G1 (m (c, Proc.tc.devRef main_arg0) : Vec Ideal S16896x1024 .f32) (m (c, Proc.tc.devRef main_arg1) : Vec Ideal S2x8x9x1024 .f32) (m (c, Proc.tc.devRef main_arg2) : Vec Ideal S1024 .f32) (m (c, Proc.tc.devRef main_arg3) : Vec Ideal S2x1024x5824 .f32) := by
  refine (dats m 0 c).arrAt_eq_of_covers 12 _ (by decide +kernel) fun t hf y => ?_
  obtain ⟨f0, f1, f2, f3⟩ := idx_plain t
  blk_simp
  rw [after0_12]
  obtain ⟨i, j, rfl⟩ : ∃ (i : Fin 256) (j : Fin 512), y = ix2 i j := ⟨y 0, y 1, by funext a; fin_cases a <;> rfl⟩
  refine (block_fourier m c t i j).trans ?_
  have g : (win0_12.blk t).view.emb (ix2 i j) = (ix2 (rowAt t i) j : S16896x512.Idx) := by
    unfold rowAt
    blk_ext []
  rw [g]
  rfl

/-- The third result's array: the queries. -/
theorem final2 : (dats m 0 c).arrAt 13 cfg0.N = G2 (m (c, Proc.tc.devRef main_arg0) : Vec Ideal S16896x1024 .f32) (m (c, Proc.tc.devRef main_arg1) : Vec Ideal S2x8x9x1024 .f32) (m (c, Proc.tc.devRef main_arg2) : Vec Ideal S1024 .f32) (m (c, Proc.tc.devRef main_arg3) : Vec Ideal S2x1024x5824 .f32) (m (c, Proc.tc.devRef main_arg6) : Vec Ideal S2x384 .f32) (m (c, Proc.tc.devRef main_arg7) : Vec Ideal S2x384x768 .f32) (m (c, Proc.tc.devRef main_arg10) : Vec Ideal S8192x8 .f32) (m (c, Proc.tc.devRef main_arg11) : Vec Ideal S8192x8 .f32) (m (c, Proc.tc.devRef main_arg12) : Vec Ideal S8192x8 .f32) (m (c, Proc.tc.devRef main_arg13) : Vec Ideal S8192x8 .f32) := by
  refine (dats m 0 c).arrAt_eq_of_covers 13 _ (by decide +kernel) fun t hf y => ?_
  obtain ⟨f0, f1, f2, f3⟩ := idx_plain t
  blk_simp
  rw [after0_13]
  obtain ⟨i, j, rfl⟩ : ∃ (i : Fin 256) (j : Fin 1024), y = ix2 i j := ⟨y 0, y 1, by funext a; fin_cases a <;> rfl⟩
  refine (block_query m c t (ix2 i j)).trans ?_
  have g : (win0_13.blk t).view.emb (ix2 i j) = (ix2 (rowAt t i) j : S16896x1024.Idx) := by
    unfold rowAt
    blk_ext []
  rw [g]
  rfl

/-- The fourth result's array: the keys. -/
theorem final3 : (dats m 0 c).arrAt 14 cfg0.N = G3 (m (c, Proc.tc.devRef main_arg0) : Vec Ideal S16896x1024 .f32) (m (c, Proc.tc.devRef main_arg1) : Vec Ideal S2x8x9x1024 .f32) (m (c, Proc.tc.devRef main_arg2) : Vec Ideal S1024 .f32) (m (c, Proc.tc.devRef main_arg3) : Vec Ideal S2x1024x5824 .f32) (m (c, Proc.tc.devRef main_arg8) : Vec Ideal S2x256 .f32) (m (c, Proc.tc.devRef main_arg9) : Vec Ideal S2x256x1024 .f32) (m (c, Proc.tc.devRef main_arg10) : Vec Ideal S8192x8 .f32) (m (c, Proc.tc.devRef main_arg11) : Vec Ideal S8192x8 .f32) (m (c, Proc.tc.devRef main_arg12) : Vec Ideal S8192x8 .f32) (m (c, Proc.tc.devRef main_arg13) : Vec Ideal S8192x8 .f32) := by
  refine (dats m 0 c).arrAt_eq_of_covers 14 _ (by decide +kernel) fun t hf y => ?_
  obtain ⟨f0, f1, f2, f3, f4, f5⟩ := idx_sample t
  blk_simp
  rw [after0_14]
  obtain ⟨i, j, rfl⟩ : ∃ (i : Fin 256) (j : Fin 1024), y = ix2 i j := ⟨y 0, y 1, by funext a; fin_cases a <;> rfl⟩
  refine (block_key m c t (ix2 i j)).trans ?_
  have g : (win0_14.blk t).view.emb (ix2 i j) = (ix2 (outRow t i) j : S16896x1024.Idx) := by
    unfold outRow
    blk_ext []
  rw [g]
  show _ = keyAt (proj (m (c, Proc.tc.devRef main_arg0) : Vec Ideal S16896x1024 .f32) (m (c, Proc.tc.devRef main_arg1) : Vec Ideal S2x8x9x1024 .f32) (m (c, Proc.tc.devRef main_arg2) : Vec Ideal S1024 .f32) (m (c, Proc.tc.devRef main_arg3) : Vec Ideal S2x1024x5824 .f32) (sampleRow (outRow t i))) (kvAt (proj (m (c, Proc.tc.devRef main_arg0) : Vec Ideal S16896x1024 .f32) (m (c, Proc.tc.devRef main_arg1) : Vec Ideal S2x8x9x1024 .f32) (m (c, Proc.tc.devRef main_arg2) : Vec Ideal S1024 .f32) (m (c, Proc.tc.devRef main_arg3) : Vec Ideal S2x1024x5824 .f32) (sampleRow (outRow t i))) (m (c, Proc.tc.devRef main_arg8) : Vec Ideal S2x256 .f32) (m (c, Proc.tc.devRef main_arg9) : Vec Ideal S2x256x1024 .f32)) (rotAt (m (c, Proc.tc.devRef main_arg10) : Vec Ideal S8192x8 .f32) (m (c, Proc.tc.devRef main_arg11) : Vec Ideal S8192x8 .f32) (m (c, Proc.tc.devRef main_arg12) : Vec Ideal S8192x8 .f32) (m (c, Proc.tc.devRef main_arg13) : Vec Ideal S8192x8 .f32) (sampleRow (outRow t i))) (headOf j) (laneOf j)
  rw [sampleRow_outRow]
  rfl

/-- The fifth result's array: the values. -/
theorem final4 : (dats m 0 c).arrAt 15 cfg0.N = G4 (m (c, Proc.tc.devRef main_arg0) : Vec Ideal S16896x1024 .f32) (m (c, Proc.tc.devRef main_arg1) : Vec Ideal S2x8x9x1024 .f32) (m (c, Proc.tc.devRef main_arg2) : Vec Ideal S1024 .f32) (m (c, Proc.tc.devRef main_arg3) : Vec Ideal S2x1024x5824 .f32) (m (c, Proc.tc.devRef main_arg8) : Vec Ideal S2x256 .f32) (m (c, Proc.tc.devRef main_arg9) : Vec Ideal S2x256x1024 .f32) := by
  refine (dats m 0 c).arrAt_eq_of_covers 15 _ (by decide +kernel) fun t hf y => ?_
  obtain ⟨f0, f1, f2, f3, f4, f5⟩ := idx_sample t
  blk_simp
  rw [after0_15]
  obtain ⟨i, j, rfl⟩ : ∃ (i : Fin 256) (j : Fin 1024), y = ix2 i j := ⟨y 0, y 1, by funext a; fin_cases a <;> rfl⟩
  refine (block_value m c t i j).trans ?_
  have g : (win0_15.blk t).view.emb (ix2 i j) = (ix2 (outRow t i) j : S16896x1024.Idx) := by
    unfold outRow
    blk_ext []
  rw [g]
  show _ = valueAt (kvAt (proj (m (c, Proc.tc.devRef main_arg0) : Vec Ideal S16896x1024 .f32) (m (c, Proc.tc.devRef main_arg1) : Vec Ideal S2x8x9x1024 .f32) (m (c, Proc.tc.devRef main_arg2) : Vec Ideal S1024 .f32) (m (c, Proc.tc.devRef main_arg3) : Vec Ideal S2x1024x5824 .f32) (sampleRow (outRow t i))) (m (c, Proc.tc.devRef main_arg8) : Vec Ideal S2x256 .f32) (m (c, Proc.tc.devRef main_arg9) : Vec Ideal S2x256x1024 .f32)) (headOf j) (laneOf j)
  rw [sampleRow_outRow]

end Inproj

end
-- ==== Proof.Inproj.RefProj.lean ====
/- The plain in-projection up to its columns, element by element. -/
module

public import proofs.«01_k».proof.Proof.Inproj.Spec
public import proofs.«01_k».proof.Proof.Gen.InprojReferenceIdeal.Read

@[expose] public section

noncomputable section

namespace Inproj.Reference

open Idealize.ShloMosaic Cert.InprojReferenceIdeal Cert.InprojReferenceIdeal.Gen Cert.InprojReferenceIdeal.Read

variable (x0 : S16896x1024.Idx → EReal) (x1 : S2x8x9x1024.Idx → EReal) (x2 : S1024.Idx → EReal) (x3 : S2x1024x5824.Idx → EReal)
  (x4 : S2x2x16x256.Idx → EReal) (x5 : S2x2x256.Idx → EReal) (x6 : S2x384.Idx → EReal) (x7 : S2x384x768.Idx → EReal)
  (x8 : S2x256.Idx → EReal) (x9 : S2x256x1024.Idx → EReal) (x10 x11 x12 x13 : S8192x8.Idx → EReal)

/-- One of the latents. -/
def latRow (b : Fin 2) (r : Fin 8192) (k : Fin 1024) : EReal := x0 (ix2 ⟨b.val * 8192 + r.val, by omega⟩ k)

/-- A latent row. -/
theorem lat_x (b : Fin 2) (r : Fin 8192) (k : Fin 1024) : (val_main_v1 (F := Ideal) x0 (ix3 b r k) : EReal) = latRow x0 b r k := by
  rw [val_main_v1_apply, val_main_v0_apply]
  refine congrArg x0 ?_
  have := b.isLt; have := r.isLt; have := k.isLt; funext a; fin_cases a <;> refine Fin.ext ?_ <;> first | rfl | (simp [ix4, ix3, ix2, ix1] <;> omega)

/-- A latent row's shift, of its sample's condition. -/
theorem lat_shift (b : Fin 2) (r : Fin 8192) (k : Fin 1024) : (val_main_v25 (F := Ideal) x1 (ix3 b r k) : EReal) = x1 (ix4 0 ⟨b.val, by omega⟩ 3 k) := by
  rw [val_main_v25_apply, val_main_v24_apply, val_main_v23_apply, val_main_v22_apply]
  refine congrArg x1 ?_
  have := b.isLt; have := r.isLt; have := k.isLt; funext a; fin_cases a <;> refine Fin.ext ?_ <;> first | rfl | (simp [ix4, ix3, ix2, ix1] <;> omega)

/-- A latent row's scale, of its sample's condition. -/
theorem lat_scale (b : Fin 2) (r : Fin 8192) (k : Fin 1024) : (val_main_v20 (F := Ideal) x1 (ix3 b r k) : EReal) = Ideal.ofBits .f32 0x3F800000#32 + x1 (ix4 0 ⟨b.val, by omega⟩ 4 k) := by
  rw [val_main_v20_apply, val_main_v19_apply, val_main_v18_apply, val_main_cst_2_apply, val_main_v17_apply, val_main_v16_apply, val_main_v15_apply]
  refine congrArg (fun z : EReal => Ideal.ofBits .f32 0x3F800000#32 + z) (congrArg x1 ?_)
  have := b.isLt; have := r.isLt; have := k.isLt; funext a; fin_cases a <;> refine Fin.ext ?_ <;> first | rfl | (simp [ix4, ix3, ix2, ix1] <;> omega)

/-- The gain at a latent row. -/
theorem lat_gain (b : Fin 2) (r : Fin 8192) (k : Fin 1024) : (val_main_v13 (F := Ideal) x2 (ix3 b r k) : EReal) = x2 (ix1 k) := by
  rw [val_main_v13_apply, val_main_v12_apply]
  refine congrArg x2 ?_
  funext a; fin_cases a; rfl

/-- A latent row, normalised. -/
theorem lat_rms (b : Fin 2) (r : Fin 8192) (k : Fin 1024) : (val_main_v11 (F := Ideal) x0 (ix3 b r k) : EReal) = Ffn.rms (latRow x0 b r) k := by
  rw [val_main_v11_apply, val_main_v10_apply, val_main_v9_apply, val_main_v8_apply, val_main_v6_apply, val_main_v4_apply, val_main_v3_apply, val_main_v5_apply, val_main_v7_apply, val_main_cst_apply, val_main_cst_0_apply, val_main_cst_1_apply, lat_x]
  have e : ∀ d : Fin 1024, idx_main_v3 (idx_main_v4 (idx_main_v10 (ix3 b r k))) d = ix3 b r d := fun d => by
    funext a; fin_cases a <;> rfl
  simp only [e, val_main_v2_apply, lat_x]
  show latRow x0 b r k * Ideal.rsqrt (Ideal.div (Ideal.ofBits .f32 0x00000000#32 + ∑ d, latRow x0 b r d * latRow x0 b r d) _ + _) = _
  rw [Ffn.Reference.ofBits_zero, zero_add]
  rfl

/-- The modulated latents. -/
theorem lat_hidden (b : Fin 2) (r : Fin 8192) (k : Fin 1024) : (val_main_v26 (F := Ideal) x0 x1 x2 (ix3 b r k) : EReal)
    = Ffn.hidden (latRow x0 b r) (fun k => x2 (ix1 k)) (fun k => x1 (ix4 0 ⟨b.val, by omega⟩ 3 k)) (fun k => x1 (ix4 0 ⟨b.val, by omega⟩ 4 k)) k := by
  rw [val_main_v26_apply, val_main_v21_apply, val_main_v14_apply, lat_rms, lat_gain, lat_scale, lat_shift]
  unfold Ffn.hidden
  rfl

/-- One of the context rows. -/
def ctxRow (r : Fin 512) (k : Fin 1024) : EReal := x0 (ix2 ⟨16384 + r.val, by omega⟩ k)

/-- A context row. -/
theorem ctx_x (r : Fin 512) (k : Fin 1024) : (val_main_v27 (F := Ideal) x0 (ix2 r k) : EReal) = ctxRow x0 r k := by
  rw [val_main_v27_apply]
  refine congrArg x0 ?_
  have := r.isLt; have := k.isLt; funext a; fin_cases a <;> refine Fin.ext ?_ <;> first | rfl | (simp [ix4, ix3, ix2, ix1] <;> omega)

/-- A context row's shift. -/
theorem ctx_shift (r : Fin 512) (k : Fin 1024) : (val_main_v51 (F := Ideal) x1 (ix2 r k) : EReal) = x1 (ix4 0 2 3 k) := by
  rw [val_main_v51_apply, val_main_v50_apply, val_main_v49_apply, val_main_v48_apply]
  refine congrArg x1 ?_
  have := r.isLt; have := k.isLt; funext a; fin_cases a <;> refine Fin.ext ?_ <;> first | rfl | (simp [ix4, ix3, ix2, ix1] <;> omega)

/-- A context row's scale. -/
theorem ctx_scale (r : Fin 512) (k : Fin 1024) : (val_main_v46 (F := Ideal) x1 (ix2 r k) : EReal) = Ideal.ofBits .f32 0x3F800000#32 + x1 (ix4 0 2 4 k) := by
  rw [val_main_v46_apply, val_main_v45_apply, val_main_v44_apply, val_main_v43_apply, val_main_cst_6_apply, val_main_v42_apply, val_main_v41_apply]
  refine congrArg (fun z : EReal => Ideal.ofBits .f32 0x3F800000#32 + z) (congrArg x1 ?_)
  have := r.isLt; have := k.isLt; funext a; fin_cases a <;> refine Fin.ext ?_ <;> first | rfl | (simp [ix4, ix3, ix2, ix1] <;> omega)

/-- The gain at a context row. -/
theorem ctx_gain (r : Fin 512) (k : Fin 1024) : (val_main_v39 (F := Ideal) x2 (ix2 r k) : EReal) = x2 (ix1 k) := by
  rw [val_main_v39_apply, val_main_v38_apply]
  refine congrArg x2 ?_
  funext a; fin_cases a; rfl

/-- A context row, normalised. -/
theorem ctx_rms (r : Fin 512) (k : Fin 1024) : (val_main_v37 (F := Ideal) x0 (ix2 r k) : EReal) = Ffn.rms (ctxRow x0 r) k := by
  rw [val_main_v37_apply, val_main_v36_apply, val_main_v35_apply, val_main_v34_apply, val_main_v32_apply, val_main_v30_apply, val_main_v29_apply, val_main_v31_apply, val_main_v33_apply, val_main_cst_3_apply, val_main_cst_4_apply, val_main_cst_5_apply, ctx_x]
  have e : ∀ d : Fin 1024, idx_main_v29 (idx_main_v30 (idx_main_v36 (ix2 r k))) d = ix2 r d := fun d => by
    funext a; fin_cases a <;> rfl
  simp only [e, val_main_v28_apply, ctx_x]
  show ctxRow x0 r k * Ideal.rsqrt (Ideal.div (Ideal.ofBits .f32 0x00000000#32 + ∑ d, ctxRow x0 r d * ctxRow x0 r d) _ + _) = _
  rw [Ffn.Reference.ofBits_zero, zero_add]
  rfl

/-- The modulated context rows. -/
theorem ctx_hidden (r : Fin 512) (k : Fin 1024) : (val_main_v52 (F := Ideal) x0 x1 x2 (ix2 r k) : EReal)
    = Ffn.hidden (ctxRow x0 r) (fun k => x2 (ix1 k)) (fun k => x1 (ix4 0 2 3 k)) (fun k => x1 (ix4 0 2 4 k)) k := by
  rw [val_main_v52_apply, val_main_v47_apply, val_main_v40_apply, ctx_rms, ctx_gain, ctx_scale, ctx_shift]
  unfold Ffn.hidden
  rfl

/-- All modulated rows. -/
theorem hidden_apply (R : Fin 16896) (k : Fin 1024) : (val_main_v54 (F := Ideal) x0 x1 x2 (ix2 R k) : EReal)
    = Ffn.hidden (fun k => x0 (ix2 R k)) (fun k => x2 (ix1 k)) (Ffn.cond x1 R 3) (Ffn.cond x1 R 4) k := by
  have hR := R.isLt
  have hk := k.isLt
  by_cases h : R.val < 16384
  · have e : (val_main_v54 (F := Ideal) x0 x1 x2 (ix2 R k) : EReal) = val_main_v53 (F := Ideal) x0 x1 x2 (ix2 ⟨R.val, h⟩ k) := by
      unfold val_main_v54
      generalize val_main_v53 (F := Ideal) x0 x1 x2 = a
      generalize val_main_v52 (F := Ideal) x0 x1 x2 = b
      pointwise
      rw [dif_pos h]
    have ei : idx_main_v53 (ix2 ⟨R.val, h⟩ k) = ix3 ⟨R.val / 8192, by omega⟩ ⟨R.val % 8192, by omega⟩ k := by
      funext a
      fin_cases a <;> refine Fin.ext ?_ <;> simp [ix3, ix2] <;> omega
    rw [e, val_main_v53_apply, ei, lat_hidden]
    have ex : latRow x0 ⟨R.val / 8192, by omega⟩ ⟨R.val % 8192, by omega⟩ = fun k => x0 (ix2 R k) := funext fun k => by
      unfold latRow
      refine congrArg x0 (congrArg (fun z => ix2 z k) (Fin.ext ?_))
      show R.val / 8192 * 8192 + R.val % 8192 = R.val
      omega
    rw [ex]
    rfl
  · have e : (val_main_v54 (F := Ideal) x0 x1 x2 (ix2 R k) : EReal) = val_main_v52 (F := Ideal) x0 x1 x2 (ix2 ⟨R.val - 16384, by omega⟩ k) := by
      unfold val_main_v54
      generalize val_main_v53 (F := Ideal) x0 x1 x2 = a
      generalize val_main_v52 (F := Ideal) x0 x1 x2 = b
      pointwise
      rw [dif_neg h]
    rw [e, ctx_hidden]
    have ex : ctxRow x0 ⟨R.val - 16384, by omega⟩ = fun k => x0 (ix2 R k) := funext fun k => by
      unfold ctxRow
      refine congrArg x0 (congrArg (fun z => ix2 z k) (Fin.ext ?_))
      show 16384 + (R.val - 16384) = R.val
      omega
    have ed : ∀ n : Fin 9, (fun k => x1 (ix4 0 2 n k)) = Ffn.cond x1 R n := fun n => funext fun k => by
      unfold Ffn.cond
      refine congrArg x1 (congrArg (fun z => ix4 0 z n k) (Fin.ext ?_))
      show 2 = R.val / 8192
      omega
    rw [ex, ed, ed]

/-- The columns of all branches. -/
theorem proj_apply (R : Fin 16896) (e : Fin 2752) : (val_main_v57 (F := Ideal) x0 x1 x2 x3 (ix2 R e) : EReal) = proj x0 x1 x2 x3 R ⟨e.val, by omega⟩ := by
  rw [val_main_v57_apply]
  unfold proj
  refine Finset.sum_congr rfl fun k _ => ?_
  have el : lidx_main_v57 (ix2 R e) k = ix2 R k := by funext a; fin_cases a <;> rfl
  have er : ridx_main_v57 (ix2 R e) k = ix2 k e := by funext a; fin_cases a <;> rfl
  rw [el, er, hidden_apply, val_main_v56_apply, val_main_v55_apply]
  refine congrArg (fun z : EReal => _ * z) (congrArg x3 ?_)
  have := e.isLt; have := k.isLt; funext a; fin_cases a <;> refine Fin.ext ?_ <;> first | rfl | (simp [ix4, ix3, ix2, ix1] <;> omega)

/-- The recurrence's query columns. -/
theorem query_cols (R : Fin 16896) (j : Fin 256) : (val_main_v58 (F := Ideal) x0 x1 x2 x3 (ix2 R j) : EReal) = proj x0 x1 x2 x3 R ⟨0 + j.val, by omega⟩ := by
  rw [val_main_v58_apply]
  have e : idx_main_v58 (ix2 R j) = ix2 R ⟨0 + j.val, by omega⟩ := by
    have := R.isLt; have := j.isLt; funext a; fin_cases a <;> refine Fin.ext ?_ <;> first | rfl | (simp [ix4, ix3, ix2, ix1] <;> omega)
  rw [e, proj_apply]

/-- The recurrence's key columns. -/
theorem key_cols (R : Fin 16896) (j : Fin 256) : (val_main_v59 (F := Ideal) x0 x1 x2 x3 (ix2 R j) : EReal) = proj x0 x1 x2 x3 R ⟨256 + j.val, by omega⟩ := by
  rw [val_main_v59_apply]
  have e : idx_main_v59 (ix2 R j) = ix2 R ⟨256 + j.val, by omega⟩ := by
    have := R.isLt; have := j.isLt; funext a; fin_cases a <;> refine Fin.ext ?_ <;> first | rfl | (simp [ix4, ix3, ix2, ix1] <;> omega)
  rw [e, proj_apply]

/-- The recurrence's value columns. -/
theorem value_cols (R : Fin 16896) (j : Fin 512) : (val_main_v60 (F := Ideal) x0 x1 x2 x3 (ix2 R j) : EReal) = proj x0 x1 x2 x3 R ⟨512 + j.val, by omega⟩ := by
  rw [val_main_v60_apply]
  have e : idx_main_v60 (ix2 R j) = ix2 R ⟨512 + j.val, by omega⟩ := by
    have := R.isLt; have := j.isLt; funext a; fin_cases a <;> refine Fin.ext ?_ <;> first | rfl | (simp [ix4, ix3, ix2, ix1] <;> omega)
  rw [e, proj_apply]

/-- The recurrence's gate columns. -/
theorem gate_cols (R : Fin 16896) (j : Fin 512) : (val_main_v61 (F := Ideal) x0 x1 x2 x3 (ix2 R j) : EReal) = proj x0 x1 x2 x3 R ⟨1024 + j.val, by omega⟩ := by
  rw [val_main_v61_apply]
  have e : idx_main_v61 (ix2 R j) = ix2 R ⟨1024 + j.val, by omega⟩ := by
    have := R.isLt; have := j.isLt; funext a; fin_cases a <;> refine Fin.ext ?_ <;> first | rfl | (simp [ix4, ix3, ix2, ix1] <;> omega)
  rw [e, proj_apply]

/-- The forward decay's columns. -/
theorem forward_cols (R : Fin 16896) (j : Fin 16) : (val_main_v62 (F := Ideal) x0 x1 x2 x3 (ix2 R j) : EReal) = proj x0 x1 x2 x3 R ⟨1536 + j.val, by omega⟩ := by
  rw [val_main_v62_apply]
  have e : idx_main_v62 (ix2 R j) = ix2 R ⟨1536 + j.val, by omega⟩ := by
    have := R.isLt; have := j.isLt; funext a; fin_cases a <;> refine Fin.ext ?_ <;> first | rfl | (simp [ix4, ix3, ix2, ix1] <;> omega)
  rw [e, proj_apply]

/-- The backward decay's columns. -/
theorem backward_cols (R : Fin 16896) (j : Fin 16) : (val_main_v63 (F := Ideal) x0 x1 x2 x3 (ix2 R j) : EReal) = proj x0 x1 x2 x3 R ⟨1552 + j.val, by omega⟩ := by
  rw [val_main_v63_apply]
  have e : idx_main_v63 (ix2 R j) = ix2 R ⟨1552 + j.val, by omega⟩ := by
    have := R.isLt; have := j.isLt; funext a; fin_cases a <;> refine Fin.ext ?_ <;> first | rfl | (simp [ix4, ix3, ix2, ix1] <;> omega)
  rw [e, proj_apply]

/-- The Fourier columns. -/
theorem fourier_cols (R : Fin 16896) (j : Fin 512) : (val_main_v64 (F := Ideal) x0 x1 x2 x3 (ix2 R j) : EReal) = proj x0 x1 x2 x3 R ⟨1568 + j.val, by omega⟩ := by
  rw [val_main_v64_apply]
  have e : idx_main_v64 (ix2 R j) = ix2 R ⟨1568 + j.val, by omega⟩ := by
    have := R.isLt; have := j.isLt; funext a; fin_cases a <;> refine Fin.ext ?_ <;> first | rfl | (simp [ix4, ix3, ix2, ix1] <;> omega)
  rw [e, proj_apply]

/-- The query's low-rank columns. -/
theorem cq_cols (R : Fin 16896) (j : Fin 384) : (val_main_v65 (F := Ideal) x0 x1 x2 x3 (ix2 R j) : EReal) = proj x0 x1 x2 x3 R ⟨2080 + j.val, by omega⟩ := by
  rw [val_main_v65_apply]
  have e : idx_main_v65 (ix2 R j) = ix2 R ⟨2080 + j.val, by omega⟩ := by
    have := R.isLt; have := j.isLt; funext a; fin_cases a <;> refine Fin.ext ?_ <;> first | rfl | (simp [ix4, ix3, ix2, ix1] <;> omega)
  rw [e, proj_apply]

/-- The low-rank columns of keys and values. -/
theorem ckv_cols (R : Fin 16896) (j : Fin 256) : (val_main_v66 (F := Ideal) x0 x1 x2 x3 (ix2 R j) : EReal) = proj x0 x1 x2 x3 R ⟨2464 + j.val, by omega⟩ := by
  rw [val_main_v66_apply]
  have e : idx_main_v66 (ix2 R j) = ix2 R ⟨2464 + j.val, by omega⟩ := by
    have := R.isLt; have := j.isLt; funext a; fin_cases a <;> refine Fin.ext ?_ <;> first | rfl | (simp [ix4, ix3, ix2, ix1] <;> omega)
  rw [e, proj_apply]

/-- The rotary key's columns. -/
theorem kr_cols (R : Fin 16896) (j : Fin 32) : (val_main_v67 (F := Ideal) x0 x1 x2 x3 (ix2 R j) : EReal) = proj x0 x1 x2 x3 R ⟨2720 + j.val, by omega⟩ := by
  rw [val_main_v67_apply]
  have e : idx_main_v67 (ix2 R j) = ix2 R ⟨2720 + j.val, by omega⟩ := by
    have := R.isLt; have := j.isLt; funext a; fin_cases a <;> refine Fin.ext ?_ <;> first | rfl | (simp [ix4, ix3, ix2, ix1] <;> omega)
  rw [e, proj_apply]

end Inproj.Reference

end
-- ==== Proof.Inproj.LogSigmoid.lean ====
/- The logarithm of the logistic in the two forms in which the kernel and the reference compute it. -/
module

public import proofs.«01_k».proof.Proof.Inproj.Row

@[expose] public section

noncomputable section

namespace Inproj

open Idealize.ShloMosaic

/-- The pattern of sixteen. -/
theorem ofBits_sixteen : Ideal.ofBits .f32 0x41800000#32 = ((16 : ℝ) : EReal) := by
  simp [Ideal.ofBits, Ideal.ieee, -EReal.coe_mul]; norm_num

/-- The pattern of a sixteenth. -/
theorem ofBits_sixteenth : Ideal.ofBits .f32 0x3D800000#32 = (((16 : ℝ)⁻¹ : ℝ) : EReal) := by
  simp [Ideal.ofBits, Ideal.ieee, -EReal.coe_mul]; norm_num

/-- Dividing by sixteen is multiplying by a sixteenth. -/
theorem div_sixteen (x : EReal) : Ideal.div x (Ideal.ofBits .f32 0x41800000#32) = x * Ideal.ofBits .f32 0x3D800000#32 := by
  rw [ofBits_sixteen, ofBits_sixteenth]
  unfold Ideal.div
  rw [if_neg (by norm_num), ← EReal.coe_inv]

/-- The lesser of a number and zero, from the greater of its negation and zero. -/
theorem min_zero (x : EReal) : min x 0 = -max (-x) 0 := by
  rcases le_total x 0 with h | h
  · have h' : (0 : EReal) ≤ -x := by simpa using EReal.neg_le_neg_iff.mpr h
    rw [min_eq_left h, max_eq_left h', neg_neg]
  · have h' : -x ≤ (0 : EReal) := by simpa using EReal.neg_le_neg_iff.mpr h
    rw [min_eq_right h, max_eq_right h', neg_zero]

/-- The logarithm's correction is a real number. -/
theorem correction_real (a : EReal) (h : 0 ≤ a) : ∃ r : ℝ, Ideal.log1p (Ideal.exp (-a)) = (r : EReal) := by
  induction a with
  | bot => simp at h
  | top =>
    refine ⟨Real.log 1, ?_⟩
    have e : Ideal.exp (-⊤ : EReal) = ((0 : ℝ) : EReal) := by rw [EReal.neg_top]; rfl
    rw [e]
    unfold Ideal.log1p
    have e1 : (1 : EReal) + ((0 : ℝ) : EReal) = ((1 : ℝ) : EReal) := by norm_num
    rw [e1]
    unfold Ideal.log
    exact if_neg (by norm_num)
  | coe r =>
    refine ⟨Real.log (1 + Real.exp (-r)), ?_⟩
    have e : Ideal.exp (-(r : EReal)) = ((Real.exp (-r) : ℝ) : EReal) := by rw [← EReal.coe_neg]; rfl
    rw [e]
    unfold Ideal.log1p
    have e1 : (1 : EReal) + ((Real.exp (-r) : ℝ) : EReal) = ((1 + Real.exp (-r) : ℝ) : EReal) := by
      rw [EReal.coe_add, EReal.coe_one]
    rw [e1]
    unfold Ideal.log
    exact if_neg (by have := Real.exp_pos (-r); linarith)

/-- The reference's form, divided by sixteen, is the kernel's, times a sixteenth. -/
theorem logSigmoid_eq (x : EReal) :
    Ideal.div (-(max (-x) 0 + Ideal.log1p (Ideal.exp (-max (-x) (-(-x)))))) (Ideal.ofBits .f32 0x41800000#32)
      = logSigmoid x * Ideal.ofBits .f32 0x3D800000#32 := by
  rw [div_sixteen]
  refine congrArg (fun z : EReal => z * Ideal.ofBits .f32 0x3D800000#32) ?_
  unfold logSigmoid
  rw [neg_neg, max_comm (-x) x, zero_sub, min_zero]
  have h : (0 : EReal) ≤ max x (-x) := by
    rcases le_total x 0 with h | h
    · exact le_max_of_le_right (by simpa using EReal.neg_le_neg_iff.mpr h)
    · exact le_max_of_le_left h
  obtain ⟨r, hr⟩ := correction_real _ h
  rw [hr]
  exact EReal.neg_add (Or.inr (EReal.coe_ne_top r)) (Or.inr (EReal.coe_ne_bot r))

end Inproj

end
-- ==== Proof.Inproj.RefRanks.lean ====
/- The recurrence's columns, the low-rank queries and the keys and values of the plain in-projection, element by element. -/
module

public import proofs.«01_k».proof.Proof.Inproj.RefProj
public import proofs.«01_k».proof.Proof.Inproj.LogSigmoid
public import proofs.«01_k».proof.Proof.Inproj.Columns

@[expose] public section

noncomputable section

namespace Inproj.Reference

open Idealize.ShloMosaic Cert.InprojReferenceIdeal Cert.InprojReferenceIdeal.Gen Cert.InprojReferenceIdeal.Read

variable (x0 : S16896x1024.Idx → EReal) (x1 : S2x8x9x1024.Idx → EReal) (x2 : S1024.Idx → EReal) (x3 : S2x1024x5824.Idx → EReal)
  (x4 : S2x2x16x256.Idx → EReal) (x5 : S2x2x256.Idx → EReal) (x6 : S2x384.Idx → EReal) (x7 : S2x384x768.Idx → EReal)
  (x8 : S2x256.Idx → EReal) (x9 : S2x256x1024.Idx → EReal) (x10 x11 x12 x13 : S8192x8.Idx → EReal)

/-- The softplus of the negation, divided by sixteen after a negation, in the reference's operations. -/
theorem soft_form (x : EReal) :
    (FloatOps.hostDivf (F := Ideal) (φ := .f32) (FloatOps.hostNegf (F := Ideal) (φ := .f32) (Scalar.select
      (FloatOps.cmpf (F := Ideal) (φ := .f32) .une (FloatOps.subf (F := Ideal) (φ := .f32) (FloatOps.hostNegf (F := Ideal) (φ := .f32) x) (FloatOps.ofBits (F := Ideal) .f32 0x00000000#32))
        (FloatOps.subf (F := Ideal) (φ := .f32) (FloatOps.hostNegf (F := Ideal) (φ := .f32) x) (FloatOps.ofBits (F := Ideal) .f32 0x00000000#32)))
      (FloatOps.addf (F := Ideal) (φ := .f32) (FloatOps.hostNegf (F := Ideal) (φ := .f32) x) (FloatOps.ofBits (F := Ideal) .f32 0x00000000#32))
      (FloatOps.addf (F := Ideal) (φ := .f32) (FloatOps.maximumf (F := Ideal) (φ := .f32) (FloatOps.hostNegf (F := Ideal) (φ := .f32) x) (FloatOps.ofBits (F := Ideal) .f32 0x00000000#32))
        (FloatOps.hostUnary (F := Ideal) (φ := .f32) .log1p (FloatOps.hostUnary (F := Ideal) (φ := .f32) .exp (FloatOps.hostNegf (F := Ideal) (φ := .f32)
          (FloatOps.hostAbsf (F := Ideal) (φ := .f32) (FloatOps.subf (F := Ideal) (φ := .f32) (FloatOps.hostNegf (F := Ideal) (φ := .f32) x) (FloatOps.ofBits (F := Ideal) .f32 0x00000000#32)))))))))
      (FloatOps.ofBits (F := Ideal) .f32 0x41800000#32) : EReal) = logSigmoid x * Ideal.ofBits .f32 0x3D800000#32 := by
  refine Eq.trans ?_ (logSigmoid_eq x)
  have ez : (FloatOps.ofBits (F := Ideal) .f32 0x00000000#32 : EReal) = 0 := Ffn.Reference.ofBits_zero
  have es : ∀ z : EReal, (FloatOps.subf (F := Ideal) (φ := .f32) z (FloatOps.ofBits (F := Ideal) .f32 0x00000000#32) : EReal) = z := fun z => by
    rw [ez]
    exact sub_zero z
  have ec : ∀ z : EReal, FloatOps.cmpf (F := Ideal) (φ := .f32) .une z z = 0#1 := fun z => by
    simp [FloatOps.cmpf, Ideal.cmp]
  rw [es, ec, ez]
  rfl

/-- The forward decays before their logarithm. -/
theorem forward_decay (R : Fin 16896) (q : Fin 256) : (val_main_v75 (F := Ideal) x0 x1 x2 x3 x4 x5 (ix2 R q) : EReal) = decayAt (proj x0 x1 x2 x3 R) x4 x5 0 q := by
  rw [val_main_v75_apply, val_main_v70_apply, val_main_v74_apply, val_main_v73_apply, val_main_v72_apply, val_main_v71_apply]
  unfold decayAt
  refine congr (congrArg (fun a b : EReal => a + b) (Finset.sum_congr rfl fun l _ => ?_)) (congrArg x5 ?_)
  · have el : lidx_main_v70 (ix2 R q) l = ix2 R l := by funext a; fin_cases a <;> rfl
    have er : ridx_main_v70 (ix2 R q) l = ix2 l q := by funext a; fin_cases a <;> rfl
    rw [el, er, forward_cols, val_main_v69_apply, val_main_v68_apply]
    refine congr (congrArg (fun a b : EReal => a * b) (congrArg (proj x0 x1 x2 x3 R) (Fin.ext ?_))) (congrArg x4 ?_)
    · simp
    · have := l.isLt; have := q.isLt; funext a; fin_cases a <;> refine Fin.ext ?_ <;> first | rfl | (simp [ix4, ix3, ix2, ix1] <;> omega)
  · have := q.isLt; funext a; fin_cases a <;> refine Fin.ext ?_ <;> first | rfl | (simp [ix4, ix3, ix2, ix1] <;> omega)

/-- The forward decays. -/
theorem forward_apply (R : Fin 16896) (q : Fin 256) : (val_main_v78 (F := Ideal) x0 x1 x2 x3 x4 x5 (ix2 R q) : EReal)
    = logSigmoid (decayAt (proj x0 x1 x2 x3 R) x4 x5 0 q) * Ideal.ofBits .f32 0x3D800000#32 := by
  rw [val_main_v78_apply, val_main_v77_apply, val_main_cst_7_apply, val_main_v76_apply, val_main_call0_v1_apply, val_main_call0_call0_v4_apply, val_main_call0_call0_v6_apply, val_main_call0_call0_v11_apply, val_main_call0_call0_v10_apply, val_main_call0_call0_v9_apply, val_main_call0_call0_v8_apply, val_main_call0_call0_v7_apply, val_main_call0_call0_v3_apply, val_main_call0_call0_v1_apply, val_main_call0_call0_v0_apply, val_main_call0_call0_v2_apply, val_main_call0_call0_v5_apply]
  simp only [val_main_call0_call0_cst_apply, val_main_call0_v0_apply, forward_decay]
  exact soft_form _

/-- The backward decays before their logarithm. -/
theorem backward_decay (R : Fin 16896) (q : Fin 256) : (val_main_v86 (F := Ideal) x0 x1 x2 x3 x4 x5 (ix2 R q) : EReal) = decayAt (proj x0 x1 x2 x3 R) x4 x5 1 q := by
  rw [val_main_v86_apply, val_main_v81_apply, val_main_v85_apply, val_main_v84_apply, val_main_v83_apply, val_main_v82_apply]
  unfold decayAt
  refine congr (congrArg (fun a b : EReal => a + b) (Finset.sum_congr rfl fun l _ => ?_)) (congrArg x5 ?_)
  · have el : lidx_main_v81 (ix2 R q) l = ix2 R l := by funext a; fin_cases a <;> rfl
    have er : ridx_main_v81 (ix2 R q) l = ix2 l q := by funext a; fin_cases a <;> rfl
    rw [el, er, backward_cols, val_main_v80_apply, val_main_v79_apply]
    refine congr (congrArg (fun a b : EReal => a * b) (congrArg (proj x0 x1 x2 x3 R) (Fin.ext ?_))) (congrArg x4 ?_)
    · simp
    · have := l.isLt; have := q.isLt; funext a; fin_cases a <;> refine Fin.ext ?_ <;> first | rfl | (simp [ix4, ix3, ix2, ix1] <;> omega)
  · have := q.isLt; funext a; fin_cases a <;> refine Fin.ext ?_ <;> first | rfl | (simp [ix4, ix3, ix2, ix1] <;> omega)

/-- The backward decays. -/
theorem backward_apply (R : Fin 16896) (q : Fin 256) : (val_main_v89 (F := Ideal) x0 x1 x2 x3 x4 x5 (ix2 R q) : EReal)
    = logSigmoid (decayAt (proj x0 x1 x2 x3 R) x4 x5 1 q) * Ideal.ofBits .f32 0x3D800000#32 := by
  rw [val_main_v89_apply, val_main_v88_apply, val_main_cst_8_apply, val_main_v87_apply, val_main_call1_v1_apply, val_main_call1_call0_v4_apply, val_main_call1_call0_v6_apply, val_main_call1_call0_v11_apply, val_main_call1_call0_v10_apply, val_main_call1_call0_v9_apply, val_main_call1_call0_v8_apply, val_main_call1_call0_v7_apply, val_main_call1_call0_v3_apply, val_main_call1_call0_v1_apply, val_main_call1_call0_v0_apply, val_main_call1_call0_v2_apply, val_main_call1_call0_v5_apply]
  simp only [val_main_call1_call0_cst_apply, val_main_call1_v0_apply, backward_decay]
  exact soft_form _

/-- The recurrence's first columns are scaled. -/
theorem gla_low (p : Fin 5824 → EReal) (j : Fin 2048) (h : j.val < 256) :
    glaAt p x4 x5 j = p ⟨j.val, by omega⟩ * Ideal.ofBits .f32 0x3E000000#32 := by
  unfold glaAt
  rw [if_pos h]

/-- The recurrence's middle columns are the projection's. -/
theorem gla_mid (p : Fin 5824 → EReal) (j : Fin 2048) (h : ¬j.val < 256) (h' : j.val < 1536) :
    glaAt p x4 x5 j = p ⟨j.val, by omega⟩ := by
  unfold glaAt
  rw [if_neg h, if_pos h']

/-- The recurrence's last columns are the decays. -/
theorem gla_high (p : Fin 5824 → EReal) (j : Fin 2048) (h : 1536 ≤ j.val) :
    glaAt p x4 x5 j = logSigmoid (decayAt p x4 x5 ⟨(j.val - 1536) / 256, by omega⟩ ⟨(j.val - 1536) % 256, by omega⟩)
      * Ideal.ofBits .f32 0x3D800000#32 := by
  unfold glaAt
  rw [if_neg (by omega), if_neg (by omega)]

/-- The recurrence's columns side by side. -/
theorem gla_apply (R : Fin 16896) (j : Fin 2048) : (val_main_v92 (F := Ideal) x0 x1 x2 x3 x4 x5 (ix2 R j) : EReal) = glaAt (proj x0 x1 x2 x3 R) x4 x5 j := by
  have hj := j.isLt
  have eq : ∀ j : Fin 256, (val_main_v91 (F := Ideal) x0 x1 x2 x3 (ix2 R j) : EReal) = proj x0 x1 x2 x3 R ⟨0 + j.val, by omega⟩ * Ideal.ofBits .f32 0x3E000000#32 := fun j => by
    rw [val_main_v91_apply, query_cols, val_main_v90_apply, val_main_cst_9_apply]
    rfl
  have ek := key_cols x0 x1 x2 x3 R
  have ev := value_cols x0 x1 x2 x3 R
  have eg := gate_cols x0 x1 x2 x3 R
  have ef := forward_apply x0 x1 x2 x3 x4 x5 R
  have eb := backward_apply x0 x1 x2 x3 x4 x5 R
  unfold val_main_v92
  generalize val_main_v91 (F := Ideal) x0 x1 x2 x3 = a at eq ⊢
  generalize val_main_v59 (F := Ideal) x0 x1 x2 x3 = b at ek ⊢
  generalize val_main_v60 (F := Ideal) x0 x1 x2 x3 = c at ev ⊢
  generalize val_main_v61 (F := Ideal) x0 x1 x2 x3 = d at eg ⊢
  generalize val_main_v78 (F := Ideal) x0 x1 x2 x3 x4 x5 = f at ef ⊢
  generalize val_main_v89 (F := Ideal) x0 x1 x2 x3 x4 x5 = g at eb ⊢
  generalize hp : proj x0 x1 x2 x3 R = p at eq ek ev eg ef eb ⊢
  pointwise
  by_cases h0 : j.val < 256
  · refine (dif_pos (show _ by omega)).trans ((eq ⟨j.val, h0⟩).trans (Eq.trans ?_ (gla_low x4 x5 p j h0).symm))
    simp only [Nat.zero_add]
  refine (dif_neg (show _ by omega)).trans ?_
  by_cases h1 : j.val < 512
  · refine (dif_pos (show _ by omega)).trans ((ek ⟨j.val - 256, by omega⟩).trans
      (Eq.trans (congrArg p (Fin.ext ?_)) (gla_mid x4 x5 p j h0 (by omega)).symm))
    show 256 + (j.val - 256) = j.val
    omega
  refine (dif_neg (show _ by omega)).trans ?_
  by_cases h2 : j.val < 1024
  · refine (dif_pos (show _ by omega)).trans ((congrArg (fun z => c (ix2 R z)) (Fin.ext (show j.val - 256 - 256 = j.val - 512 by omega))).trans
      ((ev ⟨j.val - 512, by omega⟩).trans (Eq.trans (congrArg p (Fin.ext ?_)) (gla_mid x4 x5 p j h0 (by omega)).symm)))
    show 512 + (j.val - 512) = j.val
    omega
  refine (dif_neg (show _ by omega)).trans ?_
  by_cases h3 : j.val < 1536
  · refine (dif_pos (show _ by omega)).trans ((congrArg (fun z => d (ix2 R z)) (Fin.ext (show j.val - 256 - 256 - 512 = j.val - 1024 by omega))).trans
      ((eg ⟨j.val - 1024, by omega⟩).trans (Eq.trans (congrArg p (Fin.ext ?_)) (gla_mid x4 x5 p j h0 (by omega)).symm)))
    show 1024 + (j.val - 1024) = j.val
    omega
  refine (dif_neg (show _ by omega)).trans ?_
  refine Eq.trans ?_ (gla_high x4 x5 p j (by omega)).symm
  by_cases h4 : j.val < 1792
  · refine (dif_pos (show _ by omega)).trans ((congrArg (fun z => f (ix2 R z)) (Fin.ext ?_)).trans ((ef ⟨j.val - 1536, by omega⟩).trans ?_))
    · show j.val - 256 - 256 - 512 - 512 = j.val - 1536
      omega
    refine congrArg (fun z : EReal => logSigmoid z * Ideal.ofBits .f32 0x3D800000#32) ?_
    refine congr (congrArg (fun (d : Fin 2) (q : Fin 256) => decayAt p x4 x5 d q) (Fin.ext ?_)) (Fin.ext ?_)
    · show 0 = (j.val - 1536) / 256
      omega
    · show j.val - 1536 = (j.val - 1536) % 256
      omega
  refine (dif_neg (show _ by omega)).trans ((congrArg (fun z => g (ix2 R z)) (Fin.ext ?_)).trans ((eb ⟨j.val - 1792, by omega⟩).trans ?_))
  · show j.val - 256 - 256 - 512 - 512 - 256 = j.val - 1792
    omega
  refine congrArg (fun z : EReal => logSigmoid z * Ideal.ofBits .f32 0x3D800000#32) ?_
  refine congr (congrArg (fun (d : Fin 2) (q : Fin 256) => decayAt p x4 x5 d q) (Fin.ext ?_)) (Fin.ext ?_)
  · show 1 = (j.val - 1536) / 256
    omega
  · show j.val - 1792 = (j.val - 1536) % 256
    omega

/-- The query's low-rank columns, normalised. -/
theorem q_rms (R : Fin 16896) (a : Fin 384) : (val_main_v104 (F := Ideal) x0 x1 x2 x3 (ix2 R a) : EReal)
    = rmsBy (Ideal.ofBits .f32 0x43C00000#32) (fun k : Fin 384 => proj x0 x1 x2 x3 R ⟨2080 + k.val, by omega⟩) a := by
  rw [val_main_v104_apply, val_main_v103_apply, val_main_v102_apply, val_main_v101_apply, val_main_v99_apply, val_main_v97_apply, val_main_v96_apply, val_main_v98_apply, val_main_v100_apply, val_main_cst_10_apply, val_main_cst_11_apply, val_main_cst_12_apply, cq_cols]
  have e : ∀ d : Fin 384, idx_main_v96 (idx_main_v97 (idx_main_v103 (ix2 R a))) d = ix2 R d := fun d => by
    funext a; fin_cases a <;> rfl
  simp only [e, val_main_v95_apply, cq_cols]
  generalize proj x0 x1 x2 x3 R = p
  show p ⟨2080 + a.val, _⟩ * Ideal.rsqrt (Ideal.div (Ideal.ofBits .f32 0x00000000#32 + ∑ d : Fin 384, p ⟨2080 + d.val, _⟩ * p ⟨2080 + d.val, _⟩) _ + _) = _
  rw [Ffn.Reference.ofBits_zero, zero_add]
  rfl

/-- The queries of all heads. -/
theorem q_apply (R : Fin 16896) (e : Fin 768) : (val_main_v110 (F := Ideal) x0 x1 x2 x3 x6 x7 (ix2 R e) : EReal) = qAt (proj x0 x1 x2 x3 R) x6 x7 e := by
  rw [val_main_v110_apply]
  unfold qAt
  refine Finset.sum_congr rfl fun a _ => ?_
  have el : lidx_main_v110 (ix2 R e) a = ix2 R a := by funext a; fin_cases a <;> rfl
  have er : ridx_main_v110 (ix2 R e) a = ix2 a e := by funext a; fin_cases a <;> rfl
  rw [el, er, val_main_v107_apply, q_rms, val_main_v106_apply, val_main_v105_apply, val_main_v94_apply, val_main_v93_apply, val_main_v109_apply, val_main_v108_apply]
  refine congr (congrArg (fun a b : EReal => a * b) (times_eq _ _ _ (congrArg x6 ?_))) (congrArg x7 ?_)
  · have := a.isLt; funext a; fin_cases a <;> refine Fin.ext ?_ <;> first | rfl | (simp [ix4, ix3, ix2, ix1] <;> omega)
  · have := a.isLt; have := e.isLt; funext a; fin_cases a <;> refine Fin.ext ?_ <;> first | rfl | (simp [ix4, ix3, ix2, ix1] <;> omega)

/-- The low-rank columns of keys and values, normalised. -/
theorem kv_rms (R : Fin 16896) (a : Fin 256) : (val_main_v123 (F := Ideal) x0 x1 x2 x3 (ix2 R a) : EReal)
    = rmsBy (Ideal.ofBits .f32 0x43800000#32) (fun k : Fin 256 => proj x0 x1 x2 x3 R ⟨2464 + k.val, by omega⟩) a := by
  rw [val_main_v123_apply, val_main_v122_apply, val_main_v121_apply, val_main_v120_apply, val_main_v118_apply, val_main_v116_apply, val_main_v115_apply, val_main_v117_apply, val_main_v119_apply, val_main_cst_13_apply, val_main_cst_14_apply, val_main_cst_15_apply, ckv_cols]
  have e : ∀ d : Fin 256, idx_main_v115 (idx_main_v116 (idx_main_v122 (ix2 R a))) d = ix2 R d := fun d => by
    funext a; fin_cases a <;> rfl
  simp only [e, val_main_v114_apply, ckv_cols]
  generalize proj x0 x1 x2 x3 R = p
  show p ⟨2464 + a.val, _⟩ * Ideal.rsqrt (Ideal.div (Ideal.ofBits .f32 0x00000000#32 + ∑ d : Fin 256, p ⟨2464 + d.val, _⟩ * p ⟨2464 + d.val, _⟩) _ + _) = _
  rw [Ffn.Reference.ofBits_zero, zero_add]
  rfl

/-- The keys and values of all heads. -/
theorem kv_apply (R : Fin 16896) (e : Fin 1024) : (val_main_v129 (F := Ideal) x0 x1 x2 x3 x8 x9 (ix2 R e) : EReal) = kvAt (proj x0 x1 x2 x3 R) x8 x9 e := by
  rw [val_main_v129_apply]
  unfold kvAt
  refine Finset.sum_congr rfl fun a _ => ?_
  have el : lidx_main_v129 (ix2 R e) a = ix2 R a := by funext a; fin_cases a <;> rfl
  have er : ridx_main_v129 (ix2 R e) a = ix2 a e := by funext a; fin_cases a <;> rfl
  rw [el, er, val_main_v126_apply, kv_rms, val_main_v125_apply, val_main_v124_apply, val_main_v113_apply, val_main_v112_apply, val_main_v128_apply, val_main_v127_apply]
  refine congr (congrArg (fun a b : EReal => a * b) (times_eq _ _ _ (congrArg x8 ?_))) (congrArg x9 ?_)
  · have := a.isLt; funext a; fin_cases a <;> refine Fin.ext ?_ <;> first | rfl | (simp [ix4, ix3, ix2, ix1] <;> omega)
  · have := a.isLt; have := e.isLt; funext a; fin_cases a <;> refine Fin.ext ?_ <;> first | rfl | (simp [ix4, ix3, ix2, ix1] <;> omega)

end Inproj.Reference

end
-- ==== Proof.Inproj.RefRotation.lean ====
/- The rotations of the plain in-projection, element by element. -/
module

public import proofs.«01_k».proof.Proof.Inproj.RefRanks

@[expose] public section

noncomputable section

namespace Inproj.Reference

open Idealize.ShloMosaic Cert.InprojReferenceIdeal Cert.InprojReferenceIdeal.Gen Cert.InprojReferenceIdeal.Read

variable (x0 : S16896x1024.Idx → EReal) (x1 : S2x8x9x1024.Idx → EReal) (x2 : S1024.Idx → EReal) (x3 : S2x1024x5824.Idx → EReal)
  (x4 : S2x2x16x256.Idx → EReal) (x5 : S2x2x256.Idx → EReal) (x6 : S2x384.Idx → EReal) (x7 : S2x384x768.Idx → EReal)
  (x8 : S2x256.Idx → EReal) (x9 : S2x256x1024.Idx → EReal) (x10 x11 x12 x13 : S8192x8.Idx → EReal)

/-- The first quarter of a latent row's rotation. -/
theorem rot_part0 (cr sr cc sc : S8192x8.Idx → EReal) (R : Fin 16896) (hR : R.val < 16384) (x : Fin 32 → EReal) (u : Fin 8) :
    rotAt cr sr cc sc R x ⟨0 + u.val, by omega⟩ = x ⟨0 + u.val, by omega⟩ * cr (ix2 ⟨R.val % 8192, by omega⟩ u)
      - x ⟨8 + u.val, by omega⟩ * sr (ix2 ⟨R.val % 8192, by omega⟩ u) := by
  have hu := u.isLt
  have ep : partner ⟨0 + u.val, by omega⟩ = ⟨8 + u.val, by omega⟩ := by
    unfold partner
    refine Fin.ext ?_
    simp only
    rw [if_pos (by omega)]
    simp only
    omega
  have em : (⟨(0 + u.val) % 8, by omega⟩ : Fin 8) = u := Fin.ext (by simp only; omega)
  unfold rotAt angleAt angle
  rw [if_pos hR, if_pos (by simp only; omega)]
  simp only [ep, em]
  rw [if_pos (by omega), if_pos (by omega)]

/-- The second quarter of a latent row's rotation. -/
theorem rot_part1 (cr sr cc sc : S8192x8.Idx → EReal) (R : Fin 16896) (hR : R.val < 16384) (x : Fin 32 → EReal) (u : Fin 8) :
    rotAt cr sr cc sc R x ⟨8 + u.val, by omega⟩ = x ⟨8 + u.val, by omega⟩ * cr (ix2 ⟨R.val % 8192, by omega⟩ u)
      + x ⟨0 + u.val, by omega⟩ * sr (ix2 ⟨R.val % 8192, by omega⟩ u) := by
  have hu := u.isLt
  have ep : partner ⟨8 + u.val, by omega⟩ = ⟨0 + u.val, by omega⟩ := by
    unfold partner
    refine Fin.ext ?_
    simp only
    rw [if_neg (by omega)]
    simp only
    omega
  have em : (⟨(8 + u.val) % 8, by omega⟩ : Fin 8) = u := Fin.ext (by simp only; omega)
  unfold rotAt angleAt angle
  rw [if_pos hR, if_neg (by simp only; omega)]
  simp only [ep, em]
  rw [if_pos (by omega), if_pos (by omega)]

/-- The third quarter of a latent row's rotation. -/
theorem rot_part2 (cr sr cc sc : S8192x8.Idx → EReal) (R : Fin 16896) (hR : R.val < 16384) (x : Fin 32 → EReal) (u : Fin 8) :
    rotAt cr sr cc sc R x ⟨16 + u.val, by omega⟩ = x ⟨16 + u.val, by omega⟩ * cc (ix2 ⟨R.val % 8192, by omega⟩ u)
      - x ⟨24 + u.val, by omega⟩ * sc (ix2 ⟨R.val % 8192, by omega⟩ u) := by
  have hu := u.isLt
  have ep : partner ⟨16 + u.val, by omega⟩ = ⟨24 + u.val, by omega⟩ := by
    unfold partner
    refine Fin.ext ?_
    simp only
    rw [if_pos (by omega)]
    simp only
    omega
  have em : (⟨(16 + u.val) % 8, by omega⟩ : Fin 8) = u := Fin.ext (by simp only; omega)
  unfold rotAt angleAt angle
  rw [if_pos hR, if_pos (by simp only; omega)]
  simp only [ep, em]
  rw [if_neg (by omega), if_neg (by omega)]

/-- The fourth quarter of a latent row's rotation. -/
theorem rot_part3 (cr sr cc sc : S8192x8.Idx → EReal) (R : Fin 16896) (hR : R.val < 16384) (x : Fin 32 → EReal) (u : Fin 8) :
    rotAt cr sr cc sc R x ⟨24 + u.val, by omega⟩ = x ⟨24 + u.val, by omega⟩ * cc (ix2 ⟨R.val % 8192, by omega⟩ u)
      + x ⟨16 + u.val, by omega⟩ * sc (ix2 ⟨R.val % 8192, by omega⟩ u) := by
  have hu := u.isLt
  have ep : partner ⟨24 + u.val, by omega⟩ = ⟨16 + u.val, by omega⟩ := by
    unfold partner
    refine Fin.ext ?_
    simp only
    rw [if_neg (by omega)]
    simp only
    omega
  have em : (⟨(24 + u.val) % 8, by omega⟩ : Fin 8) = u := Fin.ext (by simp only; omega)
  unfold rotAt angleAt angle
  rw [if_pos hR, if_neg (by simp only; omega)]
  simp only [ep, em]
  rw [if_neg (by omega), if_neg (by omega)]

/-- A context row is not turned. -/
theorem rot_context (cr sr cc sc : S8192x8.Idx → EReal) (R : Fin 16896) (hR : ¬R.val < 16384) (x : Fin 32 → EReal) (e : Fin 32) :
    rotAt cr sr cc sc R x e = x e := by
  unfold rotAt
  exact if_neg hR

/-- The first quarter of a latent row's rotary query. -/
theorem q_quarter0 (R : Fin 16896) (hR : R.val < 16384) (h : Fin 8) (u : Fin 8) :
    (val_main_v139 (F := Ideal) x0 x1 x2 x3 x6 x7 (ix4 ⟨R.val / 8192, by omega⟩ ⟨R.val % 8192, by omega⟩ h u) : EReal) = val_main_v131 (F := Ideal) x0 x1 x2 x3 x6 x7 (ix3 R h ⟨0 + u.val, by omega⟩) := by
  rw [val_main_v139_apply, val_main_v138_apply, val_main_v137_apply, val_main_v136_apply]
  refine congrArg (val_main_v131 (F := Ideal) x0 x1 x2 x3 x6 x7) ?_
  have := h.isLt; have := u.isLt
  funext a; fin_cases a <;> refine Fin.ext ?_ <;> first | rfl | (simp [ix4, ix3, ix2, ix1] <;> omega)

/-- The second quarter of a latent row's rotary query. -/
theorem q_quarter1 (R : Fin 16896) (hR : R.val < 16384) (h : Fin 8) (u : Fin 8) :
    (val_main_v140 (F := Ideal) x0 x1 x2 x3 x6 x7 (ix4 ⟨R.val / 8192, by omega⟩ ⟨R.val % 8192, by omega⟩ h u) : EReal) = val_main_v131 (F := Ideal) x0 x1 x2 x3 x6 x7 (ix3 R h ⟨8 + u.val, by omega⟩) := by
  rw [val_main_v140_apply, val_main_v138_apply, val_main_v137_apply, val_main_v136_apply]
  refine congrArg (val_main_v131 (F := Ideal) x0 x1 x2 x3 x6 x7) ?_
  have := h.isLt; have := u.isLt
  funext a; fin_cases a <;> refine Fin.ext ?_ <;> first | rfl | (simp [ix4, ix3, ix2, ix1] <;> omega)

/-- The third quarter of a latent row's rotary query. -/
theorem q_quarter2 (R : Fin 16896) (hR : R.val < 16384) (h : Fin 8) (u : Fin 8) :
    (val_main_v157 (F := Ideal) x0 x1 x2 x3 x6 x7 (ix4 ⟨R.val / 8192, by omega⟩ ⟨R.val % 8192, by omega⟩ h u) : EReal) = val_main_v131 (F := Ideal) x0 x1 x2 x3 x6 x7 (ix3 R h ⟨16 + u.val, by omega⟩) := by
  rw [val_main_v157_apply, val_main_v156_apply, val_main_v137_apply, val_main_v136_apply]
  refine congrArg (val_main_v131 (F := Ideal) x0 x1 x2 x3 x6 x7) ?_
  have := h.isLt; have := u.isLt
  funext a; fin_cases a <;> refine Fin.ext ?_ <;> first | rfl | (simp [ix4, ix3, ix2, ix1] <;> omega)

/-- The fourth quarter of a latent row's rotary query. -/
theorem q_quarter3 (R : Fin 16896) (hR : R.val < 16384) (h : Fin 8) (u : Fin 8) :
    (val_main_v158 (F := Ideal) x0 x1 x2 x3 x6 x7 (ix4 ⟨R.val / 8192, by omega⟩ ⟨R.val % 8192, by omega⟩ h u) : EReal) = val_main_v131 (F := Ideal) x0 x1 x2 x3 x6 x7 (ix3 R h ⟨24 + u.val, by omega⟩) := by
  rw [val_main_v158_apply, val_main_v156_apply, val_main_v137_apply, val_main_v136_apply]
  refine congrArg (val_main_v131 (F := Ideal) x0 x1 x2 x3 x6 x7) ?_
  have := h.isLt; have := u.isLt
  funext a; fin_cases a <;> refine Fin.ext ?_ <;> first | rfl | (simp [ix4, ix3, ix2, ix1] <;> omega)

/-- The first quarter of the rotary query as the reference turns it. -/
theorem q_turn0 (R : Fin 16896) (hR : R.val < 16384) (h : Fin 8) (u : Fin 8) :
    (val_main_v147 (F := Ideal) x0 x1 x2 x3 x6 x7 x10 x11 (ix4 ⟨R.val / 8192, by omega⟩ ⟨R.val % 8192, by omega⟩ h u) : EReal) = rotAt x10 x11 x12 x13 R (fun e => val_main_v131 (F := Ideal) x0 x1 x2 x3 x6 x7 (ix3 R h e)) ⟨0 + u.val, by omega⟩ := by
  rw [rot_part0 x10 x11 x12 x13 R hR, val_main_v147_apply, val_main_v143_apply, val_main_v146_apply, q_quarter0 (hR := hR), q_quarter1 (hR := hR), val_main_v142_apply, val_main_v141_apply, val_main_v132_apply, val_main_v145_apply, val_main_v144_apply, val_main_v133_apply]
  have e1 : idx_main_v132 (idx_main_v141 (idx_main_v142 (ix4 ⟨R.val / 8192, by omega⟩ ⟨R.val % 8192, by omega⟩ h u))) = ix2 ⟨R.val % 8192, by omega⟩ u := by
    funext a; fin_cases a <;> rfl
  have e2 : idx_main_v133 (idx_main_v144 (idx_main_v145 (ix4 ⟨R.val / 8192, by omega⟩ ⟨R.val % 8192, by omega⟩ h u))) = ix2 ⟨R.val % 8192, by omega⟩ u := by
    funext a; fin_cases a <;> rfl
  rw [e1, e2]
  rfl

/-- The second quarter of the rotary query as the reference turns it. -/
theorem q_turn1 (R : Fin 16896) (hR : R.val < 16384) (h : Fin 8) (u : Fin 8) :
    (val_main_v154 (F := Ideal) x0 x1 x2 x3 x6 x7 x10 x11 (ix4 ⟨R.val / 8192, by omega⟩ ⟨R.val % 8192, by omega⟩ h u) : EReal) = rotAt x10 x11 x12 x13 R (fun e => val_main_v131 (F := Ideal) x0 x1 x2 x3 x6 x7 (ix3 R h e)) ⟨8 + u.val, by omega⟩ := by
  rw [rot_part1 x10 x11 x12 x13 R hR, val_main_v154_apply, val_main_v150_apply, val_main_v153_apply, q_quarter1 (hR := hR), q_quarter0 (hR := hR), val_main_v149_apply, val_main_v148_apply, val_main_v132_apply, val_main_v152_apply, val_main_v151_apply, val_main_v133_apply]
  have e1 : idx_main_v132 (idx_main_v148 (idx_main_v149 (ix4 ⟨R.val / 8192, by omega⟩ ⟨R.val % 8192, by omega⟩ h u))) = ix2 ⟨R.val % 8192, by omega⟩ u := by
    funext a; fin_cases a <;> rfl
  have e2 : idx_main_v133 (idx_main_v151 (idx_main_v152 (ix4 ⟨R.val / 8192, by omega⟩ ⟨R.val % 8192, by omega⟩ h u))) = ix2 ⟨R.val % 8192, by omega⟩ u := by
    funext a; fin_cases a <;> rfl
  rw [e1, e2]
  rfl

/-- The third quarter of the rotary query as the reference turns it. -/
theorem q_turn2 (R : Fin 16896) (hR : R.val < 16384) (h : Fin 8) (u : Fin 8) :
    (val_main_v165 (F := Ideal) x0 x1 x2 x3 x6 x7 x12 x13 (ix4 ⟨R.val / 8192, by omega⟩ ⟨R.val % 8192, by omega⟩ h u) : EReal) = rotAt x10 x11 x12 x13 R (fun e => val_main_v131 (F := Ideal) x0 x1 x2 x3 x6 x7 (ix3 R h e)) ⟨16 + u.val, by omega⟩ := by
  rw [rot_part2 x10 x11 x12 x13 R hR, val_main_v165_apply, val_main_v161_apply, val_main_v164_apply, q_quarter2 (hR := hR), q_quarter3 (hR := hR), val_main_v160_apply, val_main_v159_apply, val_main_v134_apply, val_main_v163_apply, val_main_v162_apply, val_main_v135_apply]
  have e1 : idx_main_v134 (idx_main_v159 (idx_main_v160 (ix4 ⟨R.val / 8192, by omega⟩ ⟨R.val % 8192, by omega⟩ h u))) = ix2 ⟨R.val % 8192, by omega⟩ u := by
    funext a; fin_cases a <;> rfl
  have e2 : idx_main_v135 (idx_main_v162 (idx_main_v163 (ix4 ⟨R.val / 8192, by omega⟩ ⟨R.val % 8192, by omega⟩ h u))) = ix2 ⟨R.val % 8192, by omega⟩ u := by
    funext a; fin_cases a <;> rfl
  rw [e1, e2]
  rfl

/-- The fourth quarter of the rotary query as the reference turns it. -/
theorem q_turn3 (R : Fin 16896) (hR : R.val < 16384) (h : Fin 8) (u : Fin 8) :
    (val_main_v172 (F := Ideal) x0 x1 x2 x3 x6 x7 x12 x13 (ix4 ⟨R.val / 8192, by omega⟩ ⟨R.val % 8192, by omega⟩ h u) : EReal) = rotAt x10 x11 x12 x13 R (fun e => val_main_v131 (F := Ideal) x0 x1 x2 x3 x6 x7 (ix3 R h e)) ⟨24 + u.val, by omega⟩ := by
  rw [rot_part3 x10 x11 x12 x13 R hR, val_main_v172_apply, val_main_v168_apply, val_main_v171_apply, q_quarter3 (hR := hR), q_quarter2 (hR := hR), val_main_v167_apply, val_main_v166_apply, val_main_v134_apply, val_main_v170_apply, val_main_v169_apply, val_main_v135_apply]
  have e1 : idx_main_v134 (idx_main_v166 (idx_main_v167 (ix4 ⟨R.val / 8192, by omega⟩ ⟨R.val % 8192, by omega⟩ h u))) = ix2 ⟨R.val % 8192, by omega⟩ u := by
    funext a; fin_cases a <;> rfl
  have e2 : idx_main_v135 (idx_main_v169 (idx_main_v170 (ix4 ⟨R.val / 8192, by omega⟩ ⟨R.val % 8192, by omega⟩ h u))) = ix2 ⟨R.val % 8192, by omega⟩ u := by
    funext a; fin_cases a <;> rfl
  rw [e1, e2]
  rfl

/-- The first quarter of the turned query is the rotation's. -/
theorem q_part0 (R : Fin 16896) (hR : R.val < 16384) (h : Fin 8) (u : Fin 8) :
    (val_main_v174 (F := Ideal) x0 x1 x2 x3 x6 x7 x10 x11 x12 x13 (ix4 ⟨R.val / 8192, by omega⟩ ⟨R.val % 8192, by omega⟩ h ⟨0 + u.val, by omega⟩) : EReal) = rotAt x10 x11 x12 x13 R (fun e => val_main_v131 (F := Ideal) x0 x1 x2 x3 x6 x7 (ix3 R h e)) ⟨0 + u.val, by omega⟩ := by
  have hu := u.isLt
  refine Eq.trans ?_ (q_turn0 x0 x1 x2 x3 x6 x7 x10 x11 x12 x13 R hR h u)
  have e1 : (val_main_v174 (F := Ideal) x0 x1 x2 x3 x6 x7 x10 x11 x12 x13 (ix4 ⟨R.val / 8192, by omega⟩ ⟨R.val % 8192, by omega⟩ h ⟨0 + u.val, by omega⟩) : EReal) = val_main_v155 (F := Ideal) x0 x1 x2 x3 x6 x7 x10 x11 (ix4 ⟨R.val / 8192, by omega⟩ ⟨R.val % 8192, by omega⟩ h ⟨0 + u.val, by omega⟩) := by
    unfold val_main_v174
    generalize val_main_v155 (F := Ideal) x0 x1 x2 x3 x6 x7 x10 x11 = a
    generalize val_main_v173 (F := Ideal) x0 x1 x2 x3 x6 x7 x12 x13 = b
    pointwise
    refine (dif_pos (show _ by omega)).trans ?_
    rfl
  have e2 : (val_main_v155 (F := Ideal) x0 x1 x2 x3 x6 x7 x10 x11 (ix4 ⟨R.val / 8192, by omega⟩ ⟨R.val % 8192, by omega⟩ h ⟨0 + u.val, by omega⟩) : EReal) = val_main_v147 (F := Ideal) x0 x1 x2 x3 x6 x7 x10 x11 (ix4 ⟨R.val / 8192, by omega⟩ ⟨R.val % 8192, by omega⟩ h u) := by
    unfold val_main_v155
    generalize val_main_v147 (F := Ideal) x0 x1 x2 x3 x6 x7 x10 x11 = a
    generalize val_main_v154 (F := Ideal) x0 x1 x2 x3 x6 x7 x10 x11 = b
    pointwise
  exact e1.trans e2

/-- The second quarter of the turned query is the rotation's. -/
theorem q_part1 (R : Fin 16896) (hR : R.val < 16384) (h : Fin 8) (u : Fin 8) :
    (val_main_v174 (F := Ideal) x0 x1 x2 x3 x6 x7 x10 x11 x12 x13 (ix4 ⟨R.val / 8192, by omega⟩ ⟨R.val % 8192, by omega⟩ h ⟨8 + u.val, by omega⟩) : EReal) = rotAt x10 x11 x12 x13 R (fun e => val_main_v131 (F := Ideal) x0 x1 x2 x3 x6 x7 (ix3 R h e)) ⟨8 + u.val, by omega⟩ := by
  have hu := u.isLt
  refine Eq.trans ?_ (q_turn1 x0 x1 x2 x3 x6 x7 x10 x11 x12 x13 R hR h u)
  have e1 : (val_main_v174 (F := Ideal) x0 x1 x2 x3 x6 x7 x10 x11 x12 x13 (ix4 ⟨R.val / 8192, by omega⟩ ⟨R.val % 8192, by omega⟩ h ⟨8 + u.val, by omega⟩) : EReal) = val_main_v155 (F := Ideal) x0 x1 x2 x3 x6 x7 x10 x11 (ix4 ⟨R.val / 8192, by omega⟩ ⟨R.val % 8192, by omega⟩ h ⟨8 + u.val, by omega⟩) := by
    unfold val_main_v174
    generalize val_main_v155 (F := Ideal) x0 x1 x2 x3 x6 x7 x10 x11 = a
    generalize val_main_v173 (F := Ideal) x0 x1 x2 x3 x6 x7 x12 x13 = b
    pointwise
    refine (dif_pos (show _ by omega)).trans ?_
    rfl
  have e2 : (val_main_v155 (F := Ideal) x0 x1 x2 x3 x6 x7 x10 x11 (ix4 ⟨R.val / 8192, by omega⟩ ⟨R.val % 8192, by omega⟩ h ⟨8 + u.val, by omega⟩) : EReal) = val_main_v154 (F := Ideal) x0 x1 x2 x3 x6 x7 x10 x11 (ix4 ⟨R.val / 8192, by omega⟩ ⟨R.val % 8192, by omega⟩ h u) := by
    unfold val_main_v155
    generalize val_main_v147 (F := Ideal) x0 x1 x2 x3 x6 x7 x10 x11 = a
    generalize val_main_v154 (F := Ideal) x0 x1 x2 x3 x6 x7 x10 x11 = b
    pointwise
  exact e1.trans e2

/-- The third quarter of the turned query is the rotation's. -/
theorem q_part2 (R : Fin 16896) (hR : R.val < 16384) (h : Fin 8) (u : Fin 8) :
    (val_main_v174 (F := Ideal) x0 x1 x2 x3 x6 x7 x10 x11 x12 x13 (ix4 ⟨R.val / 8192, by omega⟩ ⟨R.val % 8192, by omega⟩ h ⟨16 + u.val, by omega⟩) : EReal) = rotAt x10 x11 x12 x13 R (fun e => val_main_v131 (F := Ideal) x0 x1 x2 x3 x6 x7 (ix3 R h e)) ⟨16 + u.val, by omega⟩ := by
  have hu := u.isLt
  refine Eq.trans ?_ (q_turn2 x0 x1 x2 x3 x6 x7 x10 x11 x12 x13 R hR h u)
  have e1 : (val_main_v174 (F := Ideal) x0 x1 x2 x3 x6 x7 x10 x11 x12 x13 (ix4 ⟨R.val / 8192, by omega⟩ ⟨R.val % 8192, by omega⟩ h ⟨16 + u.val, by omega⟩) : EReal) = val_main_v173 (F := Ideal) x0 x1 x2 x3 x6 x7 x12 x13 (ix4 ⟨R.val / 8192, by omega⟩ ⟨R.val % 8192, by omega⟩ h ⟨0 + u.val, by omega⟩) := by
    unfold val_main_v174
    generalize val_main_v155 (F := Ideal) x0 x1 x2 x3 x6 x7 x10 x11 = a
    generalize val_main_v173 (F := Ideal) x0 x1 x2 x3 x6 x7 x12 x13 = b
    pointwise
  have e2 : (val_main_v173 (F := Ideal) x0 x1 x2 x3 x6 x7 x12 x13 (ix4 ⟨R.val / 8192, by omega⟩ ⟨R.val % 8192, by omega⟩ h ⟨0 + u.val, by omega⟩) : EReal) = val_main_v165 (F := Ideal) x0 x1 x2 x3 x6 x7 x12 x13 (ix4 ⟨R.val / 8192, by omega⟩ ⟨R.val % 8192, by omega⟩ h u) := by
    unfold val_main_v173
    generalize val_main_v165 (F := Ideal) x0 x1 x2 x3 x6 x7 x12 x13 = a
    generalize val_main_v172 (F := Ideal) x0 x1 x2 x3 x6 x7 x12 x13 = b
    pointwise
  exact e1.trans e2

/-- The fourth quarter of the turned query is the rotation's. -/
theorem q_part3 (R : Fin 16896) (hR : R.val < 16384) (h : Fin 8) (u : Fin 8) :
    (val_main_v174 (F := Ideal) x0 x1 x2 x3 x6 x7 x10 x11 x12 x13 (ix4 ⟨R.val / 8192, by omega⟩ ⟨R.val % 8192, by omega⟩ h ⟨24 + u.val, by omega⟩) : EReal) = rotAt x10 x11 x12 x13 R (fun e => val_main_v131 (F := Ideal) x0 x1 x2 x3 x6 x7 (ix3 R h e)) ⟨24 + u.val, by omega⟩ := by
  have hu := u.isLt
  refine Eq.trans ?_ (q_turn3 x0 x1 x2 x3 x6 x7 x10 x11 x12 x13 R hR h u)
  have e1 : (val_main_v174 (F := Ideal) x0 x1 x2 x3 x6 x7 x10 x11 x12 x13 (ix4 ⟨R.val / 8192, by omega⟩ ⟨R.val % 8192, by omega⟩ h ⟨24 + u.val, by omega⟩) : EReal) = val_main_v173 (F := Ideal) x0 x1 x2 x3 x6 x7 x12 x13 (ix4 ⟨R.val / 8192, by omega⟩ ⟨R.val % 8192, by omega⟩ h ⟨8 + u.val, by omega⟩) := by
    unfold val_main_v174
    generalize val_main_v155 (F := Ideal) x0 x1 x2 x3 x6 x7 x10 x11 = a
    generalize val_main_v173 (F := Ideal) x0 x1 x2 x3 x6 x7 x12 x13 = b
    pointwise
    refine (dif_neg (show _ by omega)).trans (congrArg (fun z => b (ix4 ⟨R.val / 8192, by omega⟩ ⟨R.val % 8192, by omega⟩ h z)) (Fin.ext ?_))
    show 24 + u.val - 16 = 8 + u.val
    omega
  have e2 : (val_main_v173 (F := Ideal) x0 x1 x2 x3 x6 x7 x12 x13 (ix4 ⟨R.val / 8192, by omega⟩ ⟨R.val % 8192, by omega⟩ h ⟨8 + u.val, by omega⟩) : EReal) = val_main_v172 (F := Ideal) x0 x1 x2 x3 x6 x7 x12 x13 (ix4 ⟨R.val / 8192, by omega⟩ ⟨R.val % 8192, by omega⟩ h u) := by
    unfold val_main_v173
    generalize val_main_v165 (F := Ideal) x0 x1 x2 x3 x6 x7 x12 x13 = a
    generalize val_main_v172 (F := Ideal) x0 x1 x2 x3 x6 x7 x12 x13 = b
    pointwise
  exact e1.trans e2

/-- The rotated lanes. -/
theorem q_rotated (R : Fin 16896) (h : Fin 8) (e : Fin 32) :
    (val_main_v177 (F := Ideal) x0 x1 x2 x3 x6 x7 x10 x11 x12 x13 (ix3 R h e) : EReal) = rotAt x10 x11 x12 x13 R (fun e => val_main_v131 (F := Ideal) x0 x1 x2 x3 x6 x7 (ix3 R h e)) e := by
  have hRR := R.isLt
  have he := e.isLt
  by_cases hR : R.val < 16384
  · have e1 : (val_main_v177 (F := Ideal) x0 x1 x2 x3 x6 x7 x10 x11 x12 x13 (ix3 R h e) : EReal) = val_main_v175 (F := Ideal) x0 x1 x2 x3 x6 x7 x10 x11 x12 x13 (ix3 ⟨R.val, hR⟩ h e) := by
      unfold val_main_v177
      generalize val_main_v175 (F := Ideal) x0 x1 x2 x3 x6 x7 x10 x11 x12 x13 = a
      generalize val_main_v176 (F := Ideal) x0 x1 x2 x3 x6 x7 = b
      pointwise
      rw [dif_pos hR]
    have ei : idx_main_v175 (ix3 ⟨R.val, hR⟩ h e) = ix4 ⟨R.val / 8192, by omega⟩ ⟨R.val % 8192, by omega⟩ h e := by
      have := h.isLt
      funext a; fin_cases a <;> refine Fin.ext ?_ <;> simp [ix4, ix3] <;> omega
    rw [e1, val_main_v175_apply, ei]
    by_cases h0 : e.val < 8
    · have ee : e = ⟨0 + (⟨e.val, h0⟩ : Fin 8).val, by simp only; omega⟩ := Fin.ext (by simp only; omega)
      rw [ee]
      exact q_part0 x0 x1 x2 x3 x6 x7 x10 x11 x12 x13 R hR h ⟨e.val, h0⟩
    by_cases h1 : e.val < 16
    · have ee : e = ⟨8 + (⟨e.val - 8, by omega⟩ : Fin 8).val, by simp only; omega⟩ := Fin.ext (by simp only; omega)
      rw [ee]
      exact q_part1 x0 x1 x2 x3 x6 x7 x10 x11 x12 x13 R hR h ⟨e.val - 8, by omega⟩
    by_cases h2 : e.val < 24
    · have ee : e = ⟨16 + (⟨e.val - 16, by omega⟩ : Fin 8).val, by simp only; omega⟩ := Fin.ext (by simp only; omega)
      rw [ee]
      exact q_part2 x0 x1 x2 x3 x6 x7 x10 x11 x12 x13 R hR h ⟨e.val - 16, by omega⟩
    · have ee : e = ⟨24 + (⟨e.val - 24, by omega⟩ : Fin 8).val, by simp only; omega⟩ := Fin.ext (by simp only; omega)
      rw [ee]
      exact q_part3 x0 x1 x2 x3 x6 x7 x10 x11 x12 x13 R hR h ⟨e.val - 24, by omega⟩
  · have e1 : (val_main_v177 (F := Ideal) x0 x1 x2 x3 x6 x7 x10 x11 x12 x13 (ix3 R h e) : EReal) = val_main_v176 (F := Ideal) x0 x1 x2 x3 x6 x7 (ix3 ⟨R.val - 16384, by omega⟩ h e) := by
      unfold val_main_v177
      generalize val_main_v175 (F := Ideal) x0 x1 x2 x3 x6 x7 x10 x11 x12 x13 = a
      generalize val_main_v176 (F := Ideal) x0 x1 x2 x3 x6 x7 = b
      pointwise
      rw [dif_neg hR]
    have ei : idx_main_v176 (ix3 ⟨R.val - 16384, by omega⟩ h e) = ix3 R h e := by
      have := h.isLt
      funext a; fin_cases a <;> refine Fin.ext ?_ <;> simp [ix4, ix3] <;> omega
    rw [e1, val_main_v176_apply, ei, rot_context x10 x11 x12 x13 R hR]

/-- The first quarter of a latent row's rotary key. -/
theorem kr_quarter0 (R : Fin 16896) (hR : R.val < 16384) (u : Fin 8) :
    (val_main_v186 (F := Ideal) x0 x1 x2 x3 (ix4 ⟨R.val / 8192, by omega⟩ ⟨R.val % 8192, by omega⟩ 0 u) : EReal) = val_main_v178 (F := Ideal) x0 x1 x2 x3 (ix3 R 0 ⟨0 + u.val, by omega⟩) := by
  rw [val_main_v186_apply, val_main_v185_apply, val_main_v184_apply, val_main_v183_apply]
  refine congrArg (val_main_v178 (F := Ideal) x0 x1 x2 x3) ?_
  have := u.isLt
  funext a; fin_cases a <;> refine Fin.ext ?_ <;> first | rfl | (simp [ix4, ix3, ix2, ix1] <;> omega)

/-- The second quarter of a latent row's rotary key. -/
theorem kr_quarter1 (R : Fin 16896) (hR : R.val < 16384) (u : Fin 8) :
    (val_main_v187 (F := Ideal) x0 x1 x2 x3 (ix4 ⟨R.val / 8192, by omega⟩ ⟨R.val % 8192, by omega⟩ 0 u) : EReal) = val_main_v178 (F := Ideal) x0 x1 x2 x3 (ix3 R 0 ⟨8 + u.val, by omega⟩) := by
  rw [val_main_v187_apply, val_main_v185_apply, val_main_v184_apply, val_main_v183_apply]
  refine congrArg (val_main_v178 (F := Ideal) x0 x1 x2 x3) ?_
  have := u.isLt
  funext a; fin_cases a <;> refine Fin.ext ?_ <;> first | rfl | (simp [ix4, ix3, ix2, ix1] <;> omega)

/-- The third quarter of a latent row's rotary key. -/
theorem kr_quarter2 (R : Fin 16896) (hR : R.val < 16384) (u : Fin 8) :
    (val_main_v204 (F := Ideal) x0 x1 x2 x3 (ix4 ⟨R.val / 8192, by omega⟩ ⟨R.val % 8192, by omega⟩ 0 u) : EReal) = val_main_v178 (F := Ideal) x0 x1 x2 x3 (ix3 R 0 ⟨16 + u.val, by omega⟩) := by
  rw [val_main_v204_apply, val_main_v203_apply, val_main_v184_apply, val_main_v183_apply]
  refine congrArg (val_main_v178 (F := Ideal) x0 x1 x2 x3) ?_
  have := u.isLt
  funext a; fin_cases a <;> refine Fin.ext ?_ <;> first | rfl | (simp [ix4, ix3, ix2, ix1] <;> omega)

/-- The fourth quarter of a latent row's rotary key. -/
theorem kr_quarter3 (R : Fin 16896) (hR : R.val < 16384) (u : Fin 8) :
    (val_main_v205 (F := Ideal) x0 x1 x2 x3 (ix4 ⟨R.val / 8192, by omega⟩ ⟨R.val % 8192, by omega⟩ 0 u) : EReal) = val_main_v178 (F := Ideal) x0 x1 x2 x3 (ix3 R 0 ⟨24 + u.val, by omega⟩) := by
  rw [val_main_v205_apply, val_main_v203_apply, val_main_v184_apply, val_main_v183_apply]
  refine congrArg (val_main_v178 (F := Ideal) x0 x1 x2 x3) ?_
  have := u.isLt
  funext a; fin_cases a <;> refine Fin.ext ?_ <;> first | rfl | (simp [ix4, ix3, ix2, ix1] <;> omega)

/-- The first quarter of the rotary key as the reference turns it. -/
theorem kr_turn0 (R : Fin 16896) (hR : R.val < 16384) (u : Fin 8) :
    (val_main_v194 (F := Ideal) x0 x1 x2 x3 x10 x11 (ix4 ⟨R.val / 8192, by omega⟩ ⟨R.val % 8192, by omega⟩ 0 u) : EReal) = rotAt x10 x11 x12 x13 R (fun e => val_main_v178 (F := Ideal) x0 x1 x2 x3 (ix3 R 0 e)) ⟨0 + u.val, by omega⟩ := by
  rw [rot_part0 x10 x11 x12 x13 R hR, val_main_v194_apply, val_main_v190_apply, val_main_v193_apply, kr_quarter0 (hR := hR), kr_quarter1 (hR := hR), val_main_v189_apply, val_main_v188_apply, val_main_v179_apply, val_main_v192_apply, val_main_v191_apply, val_main_v180_apply]
  have e1 : idx_main_v179 (idx_main_v188 (idx_main_v189 (ix4 ⟨R.val / 8192, by omega⟩ ⟨R.val % 8192, by omega⟩ 0 u))) = ix2 ⟨R.val % 8192, by omega⟩ u := by
    funext a; fin_cases a <;> rfl
  have e2 : idx_main_v180 (idx_main_v191 (idx_main_v192 (ix4 ⟨R.val / 8192, by omega⟩ ⟨R.val % 8192, by omega⟩ 0 u))) = ix2 ⟨R.val % 8192, by omega⟩ u := by
    funext a; fin_cases a <;> rfl
  rw [e1, e2]
  rfl

/-- The second quarter of the rotary key as the reference turns it. -/
theorem kr_turn1 (R : Fin 16896) (hR : R.val < 16384) (u : Fin 8) :
    (val_main_v201 (F := Ideal) x0 x1 x2 x3 x10 x11 (ix4 ⟨R.val / 8192, by omega⟩ ⟨R.val % 8192, by omega⟩ 0 u) : EReal) = rotAt x10 x11 x12 x13 R (fun e => val_main_v178 (F := Ideal) x0 x1 x2 x3 (ix3 R 0 e)) ⟨8 + u.val, by omega⟩ := by
  rw [rot_part1 x10 x11 x12 x13 R hR, val_main_v201_apply, val_main_v197_apply, val_main_v200_apply, kr_quarter1 (hR := hR), kr_quarter0 (hR := hR), val_main_v196_apply, val_main_v195_apply, val_main_v179_apply, val_main_v199_apply, val_main_v198_apply, val_main_v180_apply]
  have e1 : idx_main_v179 (idx_main_v195 (idx_main_v196 (ix4 ⟨R.val / 8192, by omega⟩ ⟨R.val % 8192, by omega⟩ 0 u))) = ix2 ⟨R.val % 8192, by omega⟩ u := by
    funext a; fin_cases a <;> rfl
  have e2 : idx_main_v180 (idx_main_v198 (idx_main_v199 (ix4 ⟨R.val / 8192, by omega⟩ ⟨R.val % 8192, by omega⟩ 0 u))) = ix2 ⟨R.val % 8192, by omega⟩ u := by
    funext a; fin_cases a <;> rfl
  rw [e1, e2]
  rfl

/-- The third quarter of the rotary key as the reference turns it. -/
theorem kr_turn2 (R : Fin 16896) (hR : R.val < 16384) (u : Fin 8) :
    (val_main_v212 (F := Ideal) x0 x1 x2 x3 x12 x13 (ix4 ⟨R.val / 8192, by omega⟩ ⟨R.val % 8192, by omega⟩ 0 u) : EReal) = rotAt x10 x11 x12 x13 R (fun e => val_main_v178 (F := Ideal) x0 x1 x2 x3 (ix3 R 0 e)) ⟨16 + u.val, by omega⟩ := by
  rw [rot_part2 x10 x11 x12 x13 R hR, val_main_v212_apply, val_main_v208_apply, val_main_v211_apply, kr_quarter2 (hR := hR), kr_quarter3 (hR := hR), val_main_v207_apply, val_main_v206_apply, val_main_v181_apply, val_main_v210_apply, val_main_v209_apply, val_main_v182_apply]
  have e1 : idx_main_v181 (idx_main_v206 (idx_main_v207 (ix4 ⟨R.val / 8192, by omega⟩ ⟨R.val % 8192, by omega⟩ 0 u))) = ix2 ⟨R.val % 8192, by omega⟩ u := by
    funext a; fin_cases a <;> rfl
  have e2 : idx_main_v182 (idx_main_v209 (idx_main_v210 (ix4 ⟨R.val / 8192, by omega⟩ ⟨R.val % 8192, by omega⟩ 0 u))) = ix2 ⟨R.val % 8192, by omega⟩ u := by
    funext a; fin_cases a <;> rfl
  rw [e1, e2]
  rfl

/-- The fourth quarter of the rotary key as the reference turns it. -/
theorem kr_turn3 (R : Fin 16896) (hR : R.val < 16384) (u : Fin 8) :
    (val_main_v219 (F := Ideal) x0 x1 x2 x3 x12 x13 (ix4 ⟨R.val / 8192, by omega⟩ ⟨R.val % 8192, by omega⟩ 0 u) : EReal) = rotAt x10 x11 x12 x13 R (fun e => val_main_v178 (F := Ideal) x0 x1 x2 x3 (ix3 R 0 e)) ⟨24 + u.val, by omega⟩ := by
  rw [rot_part3 x10 x11 x12 x13 R hR, val_main_v219_apply, val_main_v215_apply, val_main_v218_apply, kr_quarter3 (hR := hR), kr_quarter2 (hR := hR), val_main_v214_apply, val_main_v213_apply, val_main_v181_apply, val_main_v217_apply, val_main_v216_apply, val_main_v182_apply]
  have e1 : idx_main_v181 (idx_main_v213 (idx_main_v214 (ix4 ⟨R.val / 8192, by omega⟩ ⟨R.val % 8192, by omega⟩ 0 u))) = ix2 ⟨R.val % 8192, by omega⟩ u := by
    funext a; fin_cases a <;> rfl
  have e2 : idx_main_v182 (idx_main_v216 (idx_main_v217 (ix4 ⟨R.val / 8192, by omega⟩ ⟨R.val % 8192, by omega⟩ 0 u))) = ix2 ⟨R.val % 8192, by omega⟩ u := by
    funext a; fin_cases a <;> rfl
  rw [e1, e2]
  rfl

/-- The first quarter of the turned key is the rotation's. -/
theorem kr_part0 (R : Fin 16896) (hR : R.val < 16384) (u : Fin 8) :
    (val_main_v221 (F := Ideal) x0 x1 x2 x3 x10 x11 x12 x13 (ix4 ⟨R.val / 8192, by omega⟩ ⟨R.val % 8192, by omega⟩ 0 ⟨0 + u.val, by omega⟩) : EReal) = rotAt x10 x11 x12 x13 R (fun e => val_main_v178 (F := Ideal) x0 x1 x2 x3 (ix3 R 0 e)) ⟨0 + u.val, by omega⟩ := by
  have hu := u.isLt
  refine Eq.trans ?_ (kr_turn0 x0 x1 x2 x3 x10 x11 x12 x13 R hR u)
  have e1 : (val_main_v221 (F := Ideal) x0 x1 x2 x3 x10 x11 x12 x13 (ix4 ⟨R.val / 8192, by omega⟩ ⟨R.val % 8192, by omega⟩ 0 ⟨0 + u.val, by omega⟩) : EReal) = val_main_v202 (F := Ideal) x0 x1 x2 x3 x10 x11 (ix4 ⟨R.val / 8192, by omega⟩ ⟨R.val % 8192, by omega⟩ 0 ⟨0 + u.val, by omega⟩) := by
    unfold val_main_v221
    generalize val_main_v202 (F := Ideal) x0 x1 x2 x3 x10 x11 = a
    generalize val_main_v220 (F := Ideal) x0 x1 x2 x3 x12 x13 = b
    pointwise
    refine (dif_pos (show _ by omega)).trans ?_
    rfl
  have e2 : (val_main_v202 (F := Ideal) x0 x1 x2 x3 x10 x11 (ix4 ⟨R.val / 8192, by omega⟩ ⟨R.val % 8192, by omega⟩ 0 ⟨0 + u.val, by omega⟩) : EReal) = val_main_v194 (F := Ideal) x0 x1 x2 x3 x10 x11 (ix4 ⟨R.val / 8192, by omega⟩ ⟨R.val % 8192, by omega⟩ 0 u) := by
    unfold val_main_v202
    generalize val_main_v194 (F := Ideal) x0 x1 x2 x3 x10 x11 = a
    generalize val_main_v201 (F := Ideal) x0 x1 x2 x3 x10 x11 = b
    pointwise
  exact e1.trans e2

/-- The second quarter of the turned key is the rotation's. -/
theorem kr_part1 (R : Fin 16896) (hR : R.val < 16384) (u : Fin 8) :
    (val_main_v221 (F := Ideal) x0 x1 x2 x3 x10 x11 x12 x13 (ix4 ⟨R.val / 8192, by omega⟩ ⟨R.val % 8192, by omega⟩ 0 ⟨8 + u.val, by omega⟩) : EReal) = rotAt x10 x11 x12 x13 R (fun e => val_main_v178 (F := Ideal) x0 x1 x2 x3 (ix3 R 0 e)) ⟨8 + u.val, by omega⟩ := by
  have hu := u.isLt
  refine Eq.trans ?_ (kr_turn1 x0 x1 x2 x3 x10 x11 x12 x13 R hR u)
  have e1 : (val_main_v221 (F := Ideal) x0 x1 x2 x3 x10 x11 x12 x13 (ix4 ⟨R.val / 8192, by omega⟩ ⟨R.val % 8192, by omega⟩ 0 ⟨8 + u.val, by omega⟩) : EReal) = val_main_v202 (F := Ideal) x0 x1 x2 x3 x10 x11 (ix4 ⟨R.val / 8192, by omega⟩ ⟨R.val % 8192, by omega⟩ 0 ⟨8 + u.val, by omega⟩) := by
    unfold val_main_v221
    generalize val_main_v202 (F := Ideal) x0 x1 x2 x3 x10 x11 = a
    generalize val_main_v220 (F := Ideal) x0 x1 x2 x3 x12 x13 = b
    pointwise
    refine (dif_pos (show _ by omega)).trans ?_
    rfl
  have e2 : (val_main_v202 (F := Ideal) x0 x1 x2 x3 x10 x11 (ix4 ⟨R.val / 8192, by omega⟩ ⟨R.val % 8192, by omega⟩ 0 ⟨8 + u.val, by omega⟩) : EReal) = val_main_v201 (F := Ideal) x0 x1 x2 x3 x10 x11 (ix4 ⟨R.val / 8192, by omega⟩ ⟨R.val % 8192, by omega⟩ 0 u) := by
    unfold val_main_v202
    generalize val_main_v194 (F := Ideal) x0 x1 x2 x3 x10 x11 = a
    generalize val_main_v201 (F := Ideal) x0 x1 x2 x3 x10 x11 = b
    pointwise
  exact e1.trans e2

/-- The third quarter of the turned key is the rotation's. -/
theorem kr_part2 (R : Fin 16896) (hR : R.val < 16384) (u : Fin 8) :
    (val_main_v221 (F := Ideal) x0 x1 x2 x3 x10 x11 x12 x13 (ix4 ⟨R.val / 8192, by omega⟩ ⟨R.val % 8192, by omega⟩ 0 ⟨16 + u.val, by omega⟩) : EReal) = rotAt x10 x11 x12 x13 R (fun e => val_main_v178 (F := Ideal) x0 x1 x2 x3 (ix3 R 0 e)) ⟨16 + u.val, by omega⟩ := by
  have hu := u.isLt
  refine Eq.trans ?_ (kr_turn2 x0 x1 x2 x3 x10 x11 x12 x13 R hR u)
  have e1 : (val_main_v221 (F := Ideal) x0 x1 x2 x3 x10 x11 x12 x13 (ix4 ⟨R.val / 8192, by omega⟩ ⟨R.val % 8192, by omega⟩ 0 ⟨16 + u.val, by omega⟩) : EReal) = val_main_v220 (F := Ideal) x0 x1 x2 x3 x12 x13 (ix4 ⟨R.val / 8192, by omega⟩ ⟨R.val % 8192, by omega⟩ 0 ⟨0 + u.val, by omega⟩) := by
    unfold val_main_v221
    generalize val_main_v202 (F := Ideal) x0 x1 x2 x3 x10 x11 = a
    generalize val_main_v220 (F := Ideal) x0 x1 x2 x3 x12 x13 = b
    pointwise
  have e2 : (val_main_v220 (F := Ideal) x0 x1 x2 x3 x12 x13 (ix4 ⟨R.val / 8192, by omega⟩ ⟨R.val % 8192, by omega⟩ 0 ⟨0 + u.val, by omega⟩) : EReal) = val_main_v212 (F := Ideal) x0 x1 x2 x3 x12 x13 (ix4 ⟨R.val / 8192, by omega⟩ ⟨R.val % 8192, by omega⟩ 0 u) := by
    unfold val_main_v220
    generalize val_main_v212 (F := Ideal) x0 x1 x2 x3 x12 x13 = a
    generalize val_main_v219 (F := Ideal) x0 x1 x2 x3 x12 x13 = b
    pointwise
  exact e1.trans e2

/-- The fourth quarter of the turned key is the rotation's. -/
theorem kr_part3 (R : Fin 16896) (hR : R.val < 16384) (u : Fin 8) :
    (val_main_v221 (F := Ideal) x0 x1 x2 x3 x10 x11 x12 x13 (ix4 ⟨R.val / 8192, by omega⟩ ⟨R.val % 8192, by omega⟩ 0 ⟨24 + u.val, by omega⟩) : EReal) = rotAt x10 x11 x12 x13 R (fun e => val_main_v178 (F := Ideal) x0 x1 x2 x3 (ix3 R 0 e)) ⟨24 + u.val, by omega⟩ := by
  have hu := u.isLt
  refine Eq.trans ?_ (kr_turn3 x0 x1 x2 x3 x10 x11 x12 x13 R hR u)
  have e1 : (val_main_v221 (F := Ideal) x0 x1 x2 x3 x10 x11 x12 x13 (ix4 ⟨R.val / 8192, by omega⟩ ⟨R.val % 8192, by omega⟩ 0 ⟨24 + u.val, by omega⟩) : EReal) = val_main_v220 (F := Ideal) x0 x1 x2 x3 x12 x13 (ix4 ⟨R.val / 8192, by omega⟩ ⟨R.val % 8192, by omega⟩ 0 ⟨8 + u.val, by omega⟩) := by
    unfold val_main_v221
    generalize val_main_v202 (F := Ideal) x0 x1 x2 x3 x10 x11 = a
    generalize val_main_v220 (F := Ideal) x0 x1 x2 x3 x12 x13 = b
    pointwise
    refine (dif_neg (show _ by omega)).trans (congrArg (fun z => b (ix4 ⟨R.val / 8192, by omega⟩ ⟨R.val % 8192, by omega⟩ 0 z)) (Fin.ext ?_))
    show 24 + u.val - 16 = 8 + u.val
    omega
  have e2 : (val_main_v220 (F := Ideal) x0 x1 x2 x3 x12 x13 (ix4 ⟨R.val / 8192, by omega⟩ ⟨R.val % 8192, by omega⟩ 0 ⟨8 + u.val, by omega⟩) : EReal) = val_main_v219 (F := Ideal) x0 x1 x2 x3 x12 x13 (ix4 ⟨R.val / 8192, by omega⟩ ⟨R.val % 8192, by omega⟩ 0 u) := by
    unfold val_main_v220
    generalize val_main_v212 (F := Ideal) x0 x1 x2 x3 x12 x13 = a
    generalize val_main_v219 (F := Ideal) x0 x1 x2 x3 x12 x13 = b
    pointwise
  exact e1.trans e2

/-- The rotated lanes. -/
theorem kr_rotated (R : Fin 16896) (e : Fin 32) :
    (val_main_v224 (F := Ideal) x0 x1 x2 x3 x10 x11 x12 x13 (ix3 R 0 e) : EReal) = rotAt x10 x11 x12 x13 R (fun e => val_main_v178 (F := Ideal) x0 x1 x2 x3 (ix3 R 0 e)) e := by
  have hRR := R.isLt
  have he := e.isLt
  by_cases hR : R.val < 16384
  · have e1 : (val_main_v224 (F := Ideal) x0 x1 x2 x3 x10 x11 x12 x13 (ix3 R 0 e) : EReal) = val_main_v222 (F := Ideal) x0 x1 x2 x3 x10 x11 x12 x13 (ix3 ⟨R.val, hR⟩ 0 e) := by
      unfold val_main_v224
      generalize val_main_v222 (F := Ideal) x0 x1 x2 x3 x10 x11 x12 x13 = a
      generalize val_main_v223 (F := Ideal) x0 x1 x2 x3 = b
      pointwise
      rw [dif_pos hR]
    have ei : idx_main_v222 (ix3 ⟨R.val, hR⟩ 0 e) = ix4 ⟨R.val / 8192, by omega⟩ ⟨R.val % 8192, by omega⟩ 0 e := by
      skip
      funext a; fin_cases a <;> refine Fin.ext ?_ <;> simp [ix4, ix3] <;> omega
    rw [e1, val_main_v222_apply, ei]
    by_cases h0 : e.val < 8
    · have ee : e = ⟨0 + (⟨e.val, h0⟩ : Fin 8).val, by simp only; omega⟩ := Fin.ext (by simp only; omega)
      rw [ee]
      exact kr_part0 x0 x1 x2 x3 x10 x11 x12 x13 R hR ⟨e.val, h0⟩
    by_cases h1 : e.val < 16
    · have ee : e = ⟨8 + (⟨e.val - 8, by omega⟩ : Fin 8).val, by simp only; omega⟩ := Fin.ext (by simp only; omega)
      rw [ee]
      exact kr_part1 x0 x1 x2 x3 x10 x11 x12 x13 R hR ⟨e.val - 8, by omega⟩
    by_cases h2 : e.val < 24
    · have ee : e = ⟨16 + (⟨e.val - 16, by omega⟩ : Fin 8).val, by simp only; omega⟩ := Fin.ext (by simp only; omega)
      rw [ee]
      exact kr_part2 x0 x1 x2 x3 x10 x11 x12 x13 R hR ⟨e.val - 16, by omega⟩
    · have ee : e = ⟨24 + (⟨e.val - 24, by omega⟩ : Fin 8).val, by simp only; omega⟩ := Fin.ext (by simp only; omega)
      rw [ee]
      exact kr_part3 x0 x1 x2 x3 x10 x11 x12 x13 R hR ⟨e.val - 24, by omega⟩
  · have e1 : (val_main_v224 (F := Ideal) x0 x1 x2 x3 x10 x11 x12 x13 (ix3 R 0 e) : EReal) = val_main_v223 (F := Ideal) x0 x1 x2 x3 (ix3 ⟨R.val - 16384, by omega⟩ 0 e) := by
      unfold val_main_v224
      generalize val_main_v222 (F := Ideal) x0 x1 x2 x3 x10 x11 x12 x13 = a
      generalize val_main_v223 (F := Ideal) x0 x1 x2 x3 = b
      pointwise
      rw [dif_neg hR]
    have ei : idx_main_v223 (ix3 ⟨R.val - 16384, by omega⟩ 0 e) = ix3 R 0 e := by
      skip
      funext a; fin_cases a <;> refine Fin.ext ?_ <;> simp [ix4, ix3] <;> omega
    rw [e1, val_main_v223_apply, ei, rot_context x10 x11 x12 x13 R hR]

end Inproj.Reference

end
-- ==== Proof.Inproj.RefResults.lean ====
/- The results of the plain in-projection, element by element, and their agreement with the kernel's. -/
module

public import proofs.«01_k».proof.Proof.Inproj.RefRotation

@[expose] public section

noncomputable section

namespace Inproj.Reference

open Idealize.ShloMosaic Cert.InprojReferenceIdeal Cert.InprojReferenceIdeal.Gen Cert.InprojReferenceIdeal.Read

variable (x0 : S16896x1024.Idx → EReal) (x1 : S2x8x9x1024.Idx → EReal) (x2 : S1024.Idx → EReal) (x3 : S2x1024x5824.Idx → EReal)
  (x4 : S2x2x16x256.Idx → EReal) (x5 : S2x2x256.Idx → EReal) (x6 : S2x384.Idx → EReal) (x7 : S2x384x768.Idx → EReal)
  (x8 : S2x256.Idx → EReal) (x9 : S2x256x1024.Idx → EReal) (x10 x11 x12 x13 : S8192x8.Idx → EReal)

/-- A head's query. -/
theorem q_head (R : Fin 16896) (h : Fin 8) (l : Fin 96) :
    (val_main_v111 (F := Ideal) x0 x1 x2 x3 x6 x7 (ix3 R h l) : EReal) = qAt (proj x0 x1 x2 x3 R) x6 x7 ⟨96 * h.val + l.val, by omega⟩ := by
  have e : idx_main_v111 (ix3 R h l) = ix2 R ⟨96 * h.val + l.val, by omega⟩ := by
    have := h.isLt; have := l.isLt; funext a; fin_cases a <;> refine Fin.ext ?_ <;> simp [ix4, ix3, ix2] <;> omega
  rw [val_main_v111_apply, e, q_apply]

/-- A head's key and value. -/
theorem kv_head (R : Fin 16896) (h : Fin 8) (l : Fin 128) :
    (val_main_v130 (F := Ideal) x0 x1 x2 x3 x8 x9 (ix3 R h l) : EReal) = kvAt (proj x0 x1 x2 x3 R) x8 x9 ⟨128 * h.val + l.val, by omega⟩ := by
  have e : idx_main_v130 (ix3 R h l) = ix2 R ⟨128 * h.val + l.val, by omega⟩ := by
    have := h.isLt; have := l.isLt; funext a; fin_cases a <;> refine Fin.ext ?_ <;> simp [ix4, ix3, ix2] <;> omega
  rw [val_main_v130_apply, e, kv_apply]

/-- A head's rotary query, turned. -/
theorem q_turn (R : Fin 16896) (h : Fin 8) (e : Fin 32) :
    (val_main_v177 (F := Ideal) x0 x1 x2 x3 x6 x7 x10 x11 x12 x13 (ix3 R h e) : EReal) = rotAt x10 x11 x12 x13 R (fun e => qAt (proj x0 x1 x2 x3 R) x6 x7 ⟨96 * h.val + (64 + e.val), by omega⟩) e := by
  rw [q_rotated]
  refine congrArg (fun f => rotAt x10 x11 x12 x13 R f e) (funext fun e => ?_)
  have ei : idx_main_v131 (ix3 R h e) = ix3 R h ⟨64 + e.val, by omega⟩ := by
    funext a; fin_cases a <;> refine Fin.ext ?_ <;> first | rfl | (simp [ix4, ix3, ix2, ix1] <;> omega)
  rw [val_main_v131_apply, ei, q_head]

/-- The rotary key, turned, the same for every head. -/
theorem k_turn (R : Fin 16896) (h : Fin 8) (e : Fin 32) :
    (val_main_v225 (F := Ideal) x0 x1 x2 x3 x10 x11 x12 x13 (ix3 R h e) : EReal) = rotAt x10 x11 x12 x13 R (fun e => proj x0 x1 x2 x3 R ⟨2720 + e.val, by omega⟩) e := by
  have ei : idx_main_v225 (ix3 R h e) = ix3 R 0 e := by
    funext a; fin_cases a <;> refine Fin.ext ?_ <;> first | rfl | (simp [ix4, ix3, ix2, ix1] <;> omega)
  rw [val_main_v225_apply, ei, kr_rotated]
  refine congrArg (fun f => rotAt x10 x11 x12 x13 R f e) (funext fun e => ?_)
  have ei : idx_main_v178 (ix3 R 0 e) = ix2 R e := by
    funext a; fin_cases a <;> refine Fin.ext ?_ <;> first | rfl | (simp [ix4, ix3, ix2, ix1] <;> omega)
  rw [val_main_v178_apply, ei, kr_cols]

/-- The zeros after the rotary lanes. -/
theorem zeros_apply (R : Fin 16896) (h : Fin 8) (e : Fin 32) : (val_main_v226 (F := Ideal) (ix3 R h e) : EReal) = 0 := by
  rw [val_main_v226_apply, val_main_cst_16_apply]
  exact Ffn.Reference.ofBits_zero

/-- The one after the values. -/
theorem ones_apply (R : Fin 16896) (h : Fin 8) (e : Fin 1) : (val_main_v227 (F := Ideal) (ix3 R h e) : EReal) = 1 := by
  rw [val_main_v227_apply, val_main_cst_17_apply]
  exact Ffn.Reference.ofBits_one

/-- The zeros after the one. -/
theorem tail_apply (R : Fin 16896) (h : Fin 8) (e : Fin 63) : (val_main_v235 (F := Ideal) (ix3 R h e) : EReal) = 0 := by
  rw [val_main_v235_apply, val_main_cst_19_apply]
  exact Ffn.Reference.ofBits_zero

/-- A head's query without the rotary part. -/
theorem q_plain (R : Fin 16896) (h : Fin 8) (l : Fin 64) :
    (val_main_v228 (F := Ideal) x0 x1 x2 x3 x6 x7 (ix3 R h l) : EReal) = qAt (proj x0 x1 x2 x3 R) x6 x7 ⟨96 * h.val + l.val, by omega⟩ := by
  have e : idx_main_v228 (ix3 R h l) = ix3 R h ⟨l.val, by omega⟩ := by
    funext a; fin_cases a <;> refine Fin.ext ?_ <;> first | rfl | (simp [ix4, ix3, ix2, ix1] <;> omega)
  rw [val_main_v228_apply, e, q_head]

/-- A head's key without the rotary part. -/
theorem k_plain (R : Fin 16896) (h : Fin 8) (l : Fin 64) :
    (val_main_v232 (F := Ideal) x0 x1 x2 x3 x8 x9 (ix3 R h l) : EReal) = kvAt (proj x0 x1 x2 x3 R) x8 x9 ⟨128 * h.val + l.val, by omega⟩ := by
  have e : idx_main_v232 (ix3 R h l) = ix3 R h ⟨l.val, by omega⟩ := by
    funext a; fin_cases a <;> refine Fin.ext ?_ <;> first | rfl | (simp [ix4, ix3, ix2, ix1] <;> omega)
  rw [val_main_v232_apply, e, kv_head]

/-- A head's value. -/
theorem v_plain (R : Fin 16896) (h : Fin 8) (l : Fin 64) :
    (val_main_v234 (F := Ideal) x0 x1 x2 x3 x8 x9 (ix3 R h l) : EReal) = kvAt (proj x0 x1 x2 x3 R) x8 x9 ⟨128 * h.val + (64 + l.val), by omega⟩ := by
  have e : idx_main_v234 (ix3 R h l) = ix3 R h ⟨64 + l.val, by omega⟩ := by
    funext a; fin_cases a <;> refine Fin.ext ?_ <;> first | rfl | (simp [ix4, ix3, ix2, ix1] <;> omega)
  rw [val_main_v234_apply, e, kv_head]

/-- A query slot is the plain part, the turned part and zeros. -/
theorem query_parts (R : Fin 16896) (h : Fin 8) (l : Fin 128) :
    (val_main_v229 (F := Ideal) x0 x1 x2 x3 x6 x7 x10 x11 x12 x13 (ix3 R h l) : EReal) = if h0 : l.val < 64 then val_main_v228 (F := Ideal) x0 x1 x2 x3 x6 x7 (ix3 R h ⟨l.val, h0⟩)
      else if h1 : l.val < 96 then val_main_v177 (F := Ideal) x0 x1 x2 x3 x6 x7 x10 x11 x12 x13 (ix3 R h ⟨l.val - 64, by omega⟩)
      else val_main_v226 (F := Ideal) (ix3 R h ⟨l.val - 96, by omega⟩) := by
  have hl := l.isLt
  unfold val_main_v229
  generalize val_main_v228 (F := Ideal) x0 x1 x2 x3 x6 x7 = a
  generalize val_main_v177 (F := Ideal) x0 x1 x2 x3 x6 x7 x10 x11 x12 x13 = b
  generalize val_main_v226 (F := Ideal) = c
  pointwise
  by_cases h0 : l.val < 64
  · refine (dif_pos h0).trans (Eq.symm ?_)
    exact dif_pos h0
  refine (dif_neg h0).trans (Eq.trans ?_ (dif_neg h0).symm)
  by_cases h1 : l.val < 96
  · refine (dif_pos (show _ by omega)).trans (Eq.symm ?_)
    exact dif_pos h1
  refine Eq.trans ?_ (dif_neg h1).symm
  refine (dif_neg (show _ by omega)).trans (congrArg (fun z => c (ix3 R h z)) (Fin.ext ?_))
  show l.val - 64 - 32 = l.val - 96
  omega

/-- A key slot is the plain part, the turned part and zeros. -/
theorem key_parts (R : Fin 16896) (h : Fin 8) (l : Fin 128) :
    (val_main_v233 (F := Ideal) x0 x1 x2 x3 x8 x9 x10 x11 x12 x13 (ix3 R h l) : EReal) = if h0 : l.val < 64 then val_main_v232 (F := Ideal) x0 x1 x2 x3 x8 x9 (ix3 R h ⟨l.val, h0⟩)
      else if h1 : l.val < 96 then val_main_v225 (F := Ideal) x0 x1 x2 x3 x10 x11 x12 x13 (ix3 R h ⟨l.val - 64, by omega⟩)
      else val_main_v226 (F := Ideal) (ix3 R h ⟨l.val - 96, by omega⟩) := by
  have hl := l.isLt
  unfold val_main_v233
  generalize val_main_v232 (F := Ideal) x0 x1 x2 x3 x8 x9 = a
  generalize val_main_v225 (F := Ideal) x0 x1 x2 x3 x10 x11 x12 x13 = b
  generalize val_main_v226 (F := Ideal) = c
  pointwise
  by_cases h0 : l.val < 64
  · refine (dif_pos h0).trans (Eq.symm ?_)
    exact dif_pos h0
  refine (dif_neg h0).trans (Eq.trans ?_ (dif_neg h0).symm)
  by_cases h1 : l.val < 96
  · refine (dif_pos (show _ by omega)).trans (Eq.symm ?_)
    exact dif_pos h1
  refine Eq.trans ?_ (dif_neg h1).symm
  refine (dif_neg (show _ by omega)).trans (congrArg (fun z => c (ix3 R h z)) (Fin.ext ?_))
  show l.val - 64 - 32 = l.val - 96
  omega

/-- A value slot is the value, a one and zeros. -/
theorem value_parts (R : Fin 16896) (h : Fin 8) (l : Fin 128) :
    (val_main_v236 (F := Ideal) x0 x1 x2 x3 x8 x9 (ix3 R h l) : EReal) = if h0 : l.val < 64 then val_main_v234 (F := Ideal) x0 x1 x2 x3 x8 x9 (ix3 R h ⟨l.val, h0⟩)
      else if h1 : l.val < 65 then val_main_v227 (F := Ideal) (ix3 R h ⟨l.val - 64, by omega⟩)
      else val_main_v235 (F := Ideal) (ix3 R h ⟨l.val - 65, by omega⟩) := by
  have hl := l.isLt
  unfold val_main_v236
  generalize val_main_v234 (F := Ideal) x0 x1 x2 x3 x8 x9 = a
  generalize val_main_v227 (F := Ideal) = b
  generalize val_main_v235 (F := Ideal) = c
  pointwise
  by_cases h0 : l.val < 64
  · refine (dif_pos h0).trans (Eq.symm ?_)
    exact dif_pos h0
  refine (dif_neg h0).trans (Eq.trans ?_ (dif_neg h0).symm)
  by_cases h1 : l.val < 65
  · refine (dif_pos (show _ by omega)).trans (Eq.symm ?_)
    exact dif_pos h1
  refine Eq.trans ?_ (dif_neg h1).symm
  refine (dif_neg (show _ by omega)).trans (congrArg (fun z => c (ix3 R h z)) (Fin.ext ?_))
  show l.val - 64 - 1 = l.val - 65
  omega

/-- A head's query slot. -/
theorem query_lane (R : Fin 16896) (h : Fin 8) (l : Fin 128) :
    (val_main_v231 (F := Ideal) x0 x1 x2 x3 x6 x7 x10 x11 x12 x13 (ix3 R h l) : EReal) = queryAt (qAt (proj x0 x1 x2 x3 R) x6 x7) (rotAt x10 x11 x12 x13 R) h l := by
  rw [val_main_v231_apply, val_main_v230_apply, val_main_cst_18_apply, query_parts]
  unfold queryAt
  by_cases h0 : l.val < 64
  · rw [dif_pos h0, dif_pos h0, q_plain]
    rfl
  rw [dif_neg h0, dif_neg h0]
  by_cases h1 : l.val < 96
  · rw [dif_pos h1, dif_pos h1, q_turn]
    rfl
  rw [dif_neg h1, dif_neg h1, zeros_apply]
  exact zero_mul _

/-- A head's key slot. -/
theorem key_lane (R : Fin 16896) (h : Fin 8) (l : Fin 128) :
    (val_main_v233 (F := Ideal) x0 x1 x2 x3 x8 x9 x10 x11 x12 x13 (ix3 R h l) : EReal) = keyAt (proj x0 x1 x2 x3 R) (kvAt (proj x0 x1 x2 x3 R) x8 x9) (rotAt x10 x11 x12 x13 R) h l := by
  rw [key_parts]
  unfold keyAt
  by_cases h0 : l.val < 64
  · rw [dif_pos h0, dif_pos h0, k_plain]
  rw [dif_neg h0, dif_neg h0]
  by_cases h1 : l.val < 96
  · rw [dif_pos h1, dif_pos h1, k_turn]
  rw [dif_neg h1, dif_neg h1, zeros_apply]

/-- A head's value slot. -/
theorem value_lane (R : Fin 16896) (h : Fin 8) (l : Fin 128) :
    (val_main_v236 (F := Ideal) x0 x1 x2 x3 x8 x9 (ix3 R h l) : EReal) = valueAt (kvAt (proj x0 x1 x2 x3 R) x8 x9) h l := by
  rw [value_parts]
  unfold valueAt
  by_cases h0 : l.val < 64
  · rw [dif_pos h0, dif_pos h0, v_plain]
  rw [dif_neg h0, dif_neg h0]
  by_cases h1 : l.val < 65
  · rw [dif_pos h1, ones_apply, if_pos (by omega)]
  rw [dif_neg h1, tail_apply, if_neg (by omega)]

/-- The queries, head and lane by head and lane. -/
theorem query_cols_apply (R : Fin 16896) (j : Fin 1024) : (val_main_v244 (F := Ideal) x0 x1 x2 x3 x6 x7 x10 x11 x12 x13 (ix2 R j) : EReal) = queryAt (qAt (proj x0 x1 x2 x3 R) x6 x7) (rotAt x10 x11 x12 x13 R) (headOf j) (laneOf j) := by
  have e : idx_main_v243 (ix2 R j) = ix3 R (headOf j) (laneOf j) := by
    have := R.isLt; have := j.isLt; unfold headOf laneOf; funext a; fin_cases a <;> refine Fin.ext ?_ <;> simp [ix4, ix3, ix2] <;> omega
  rw [val_main_v244_apply, val_main_v243_apply, e, query_lane]
  rfl

/-- The keys, head and lane by head and lane. -/
theorem key_cols_apply (R : Fin 16896) (j : Fin 1024) : (val_main_v246 (F := Ideal) x0 x1 x2 x3 x8 x9 x10 x11 x12 x13 (ix2 R j) : EReal) = keyAt (proj x0 x1 x2 x3 R) (kvAt (proj x0 x1 x2 x3 R) x8 x9) (rotAt x10 x11 x12 x13 R) (headOf j) (laneOf j) := by
  have e : idx_main_v245 (ix2 R j) = ix3 R (headOf j) (laneOf j) := by
    have := R.isLt; have := j.isLt; unfold headOf laneOf; funext a; fin_cases a <;> refine Fin.ext ?_ <;> simp [ix4, ix3, ix2] <;> omega
  rw [val_main_v246_apply, val_main_v245_apply, e, key_lane]
  rfl

/-- The values, head and lane by head and lane. -/
theorem value_cols_apply (R : Fin 16896) (j : Fin 1024) : (val_main_v254 (F := Ideal) x0 x1 x2 x3 x8 x9 (ix2 R j) : EReal) = valueAt (kvAt (proj x0 x1 x2 x3 R) x8 x9) (headOf j) (laneOf j) := by
  have e : idx_main_v253 (ix2 R j) = ix3 R (headOf j) (laneOf j) := by
    have := R.isLt; have := j.isLt; unfold headOf laneOf; funext a; fin_cases a <;> refine Fin.ext ?_ <;> simp [ix4, ix3, ix2] <;> omega
  rw [val_main_v254_apply, val_main_v253_apply, e, value_lane]
  rfl

/-- The recurrence's columns, sample by sample. -/
theorem gla_sample (r : Fin 16896) (j : Fin 2048) :
    (val_main_v242 (F := Ideal) x0 x1 x2 x3 x4 x5 (ix2 r j) : EReal) = val_main_v92 (F := Ideal) x0 x1 x2 x3 x4 x5 (ix2 (sampleRow r) j) := by
  have hr := r.isLt
  have hj := j.isLt
  have e : idx_main_v242 (ix2 r j) = ix3 ⟨r.val / 8448, by omega⟩ ⟨r.val % 8448, by omega⟩ j := by
    funext a; fin_cases a <;> refine Fin.ext ?_ <;> simp [ix4, ix3, ix2] <;> omega
  rw [val_main_v242_apply, e]
  by_cases h : r.val % 8448 < 8192
  · have e1 : (val_main_v241 (F := Ideal) x0 x1 x2 x3 x4 x5 (ix3 ⟨r.val / 8448, by omega⟩ ⟨r.val % 8448, by omega⟩ j) : EReal)
        = val_main_v238 (F := Ideal) x0 x1 x2 x3 x4 x5 (ix3 ⟨r.val / 8448, by omega⟩ ⟨r.val % 8448, h⟩ j) := by
      unfold val_main_v241
      generalize val_main_v238 (F := Ideal) x0 x1 x2 x3 x4 x5 = a
      generalize val_main_v240 (F := Ideal) x0 x1 x2 x3 x4 x5 = b
      pointwise
      exact dif_pos h
    rw [e1, val_main_v238_apply, val_main_v237_apply]
    refine congrArg (val_main_v92 (F := Ideal) x0 x1 x2 x3 x4 x5) ?_
    unfold sampleRow
    rw [if_pos h]
    funext a; fin_cases a <;> refine Fin.ext ?_ <;> simp [ix4, ix3, ix2] <;> omega
  · have e1 : (val_main_v241 (F := Ideal) x0 x1 x2 x3 x4 x5 (ix3 ⟨r.val / 8448, by omega⟩ ⟨r.val % 8448, by omega⟩ j) : EReal)
        = val_main_v240 (F := Ideal) x0 x1 x2 x3 x4 x5 (ix3 ⟨r.val / 8448, by omega⟩ ⟨r.val % 8448 - 8192, by omega⟩ j) := by
      unfold val_main_v241
      generalize val_main_v238 (F := Ideal) x0 x1 x2 x3 x4 x5 = a
      generalize val_main_v240 (F := Ideal) x0 x1 x2 x3 x4 x5 = b
      pointwise
      exact dif_neg h
    rw [e1, val_main_v240_apply, val_main_v239_apply]
    refine congrArg (val_main_v92 (F := Ideal) x0 x1 x2 x3 x4 x5) ?_
    unfold sampleRow
    rw [if_neg h]
    funext a; fin_cases a <;> refine Fin.ext ?_ <;> simp [ix4, ix3, ix2] <;> omega

/-- The keys, sample by sample. -/
theorem key_sample (r : Fin 16896) (j : Fin 1024) :
    (val_main_v252 (F := Ideal) x0 x1 x2 x3 x8 x9 x10 x11 x12 x13 (ix2 r j) : EReal) = val_main_v246 (F := Ideal) x0 x1 x2 x3 x8 x9 x10 x11 x12 x13 (ix2 (sampleRow r) j) := by
  have hr := r.isLt
  have hj := j.isLt
  have e : idx_main_v252 (ix2 r j) = ix3 ⟨r.val / 8448, by omega⟩ ⟨r.val % 8448, by omega⟩ j := by
    funext a; fin_cases a <;> refine Fin.ext ?_ <;> simp [ix4, ix3, ix2] <;> omega
  rw [val_main_v252_apply, e]
  by_cases h : r.val % 8448 < 8192
  · have e1 : (val_main_v251 (F := Ideal) x0 x1 x2 x3 x8 x9 x10 x11 x12 x13 (ix3 ⟨r.val / 8448, by omega⟩ ⟨r.val % 8448, by omega⟩ j) : EReal)
        = val_main_v248 (F := Ideal) x0 x1 x2 x3 x8 x9 x10 x11 x12 x13 (ix3 ⟨r.val / 8448, by omega⟩ ⟨r.val % 8448, h⟩ j) := by
      unfold val_main_v251
      generalize val_main_v248 (F := Ideal) x0 x1 x2 x3 x8 x9 x10 x11 x12 x13 = a
      generalize val_main_v250 (F := Ideal) x0 x1 x2 x3 x8 x9 x10 x11 x12 x13 = b
      pointwise
      exact dif_pos h
    rw [e1, val_main_v248_apply, val_main_v247_apply]
    refine congrArg (val_main_v246 (F := Ideal) x0 x1 x2 x3 x8 x9 x10 x11 x12 x13) ?_
    unfold sampleRow
    rw [if_pos h]
    funext a; fin_cases a <;> refine Fin.ext ?_ <;> simp [ix4, ix3, ix2] <;> omega
  · have e1 : (val_main_v251 (F := Ideal) x0 x1 x2 x3 x8 x9 x10 x11 x12 x13 (ix3 ⟨r.val / 8448, by omega⟩ ⟨r.val % 8448, by omega⟩ j) : EReal)
        = val_main_v250 (F := Ideal) x0 x1 x2 x3 x8 x9 x10 x11 x12 x13 (ix3 ⟨r.val / 8448, by omega⟩ ⟨r.val % 8448 - 8192, by omega⟩ j) := by
      unfold val_main_v251
      generalize val_main_v248 (F := Ideal) x0 x1 x2 x3 x8 x9 x10 x11 x12 x13 = a
      generalize val_main_v250 (F := Ideal) x0 x1 x2 x3 x8 x9 x10 x11 x12 x13 = b
      pointwise
      exact dif_neg h
    rw [e1, val_main_v250_apply, val_main_v249_apply]
    refine congrArg (val_main_v246 (F := Ideal) x0 x1 x2 x3 x8 x9 x10 x11 x12 x13) ?_
    unfold sampleRow
    rw [if_neg h]
    funext a; fin_cases a <;> refine Fin.ext ?_ <;> simp [ix4, ix3, ix2] <;> omega

/-- The values, sample by sample. -/
theorem value_sample (r : Fin 16896) (j : Fin 1024) :
    (val_main_v260 (F := Ideal) x0 x1 x2 x3 x8 x9 (ix2 r j) : EReal) = val_main_v254 (F := Ideal) x0 x1 x2 x3 x8 x9 (ix2 (sampleRow r) j) := by
  have hr := r.isLt
  have hj := j.isLt
  have e : idx_main_v260 (ix2 r j) = ix3 ⟨r.val / 8448, by omega⟩ ⟨r.val % 8448, by omega⟩ j := by
    funext a; fin_cases a <;> refine Fin.ext ?_ <;> simp [ix4, ix3, ix2] <;> omega
  rw [val_main_v260_apply, e]
  by_cases h : r.val % 8448 < 8192
  · have e1 : (val_main_v259 (F := Ideal) x0 x1 x2 x3 x8 x9 (ix3 ⟨r.val / 8448, by omega⟩ ⟨r.val % 8448, by omega⟩ j) : EReal)
        = val_main_v256 (F := Ideal) x0 x1 x2 x3 x8 x9 (ix3 ⟨r.val / 8448, by omega⟩ ⟨r.val % 8448, h⟩ j) := by
      unfold val_main_v259
      generalize val_main_v256 (F := Ideal) x0 x1 x2 x3 x8 x9 = a
      generalize val_main_v258 (F := Ideal) x0 x1 x2 x3 x8 x9 = b
      pointwise
      exact dif_pos h
    rw [e1, val_main_v256_apply, val_main_v255_apply]
    refine congrArg (val_main_v254 (F := Ideal) x0 x1 x2 x3 x8 x9) ?_
    unfold sampleRow
    rw [if_pos h]
    funext a; fin_cases a <;> refine Fin.ext ?_ <;> simp [ix4, ix3, ix2] <;> omega
  · have e1 : (val_main_v259 (F := Ideal) x0 x1 x2 x3 x8 x9 (ix3 ⟨r.val / 8448, by omega⟩ ⟨r.val % 8448, by omega⟩ j) : EReal)
        = val_main_v258 (F := Ideal) x0 x1 x2 x3 x8 x9 (ix3 ⟨r.val / 8448, by omega⟩ ⟨r.val % 8448 - 8192, by omega⟩ j) := by
      unfold val_main_v259
      generalize val_main_v256 (F := Ideal) x0 x1 x2 x3 x8 x9 = a
      generalize val_main_v258 (F := Ideal) x0 x1 x2 x3 x8 x9 = b
      pointwise
      exact dif_neg h
    rw [e1, val_main_v258_apply, val_main_v257_apply]
    refine congrArg (val_main_v254 (F := Ideal) x0 x1 x2 x3 x8 x9) ?_
    unfold sampleRow
    rw [if_neg h]
    funext a; fin_cases a <;> refine Fin.ext ?_ <;> simp [ix4, ix3, ix2] <;> omega

/-- The first result is the kernel's. -/
theorem result0 : val_main_v242 (F := Ideal) x0 x1 x2 x3 x4 x5 = G0 x0 x1 x2 x3 x4 x5 := by
  funext I
  obtain ⟨R, j, rfl⟩ : ∃ (R : Fin 16896) (j : Fin 2048), I = ix2 R j := ⟨I 0, I 1, by funext a; fin_cases a <;> rfl⟩
  rw [gla_sample, gla_apply]
  rfl

/-- The second result is the kernel's. -/
theorem result1 : val_main_v64 (F := Ideal) x0 x1 x2 x3 = G1 x0 x1 x2 x3 := by
  funext I
  obtain ⟨R, j, rfl⟩ : ∃ (R : Fin 16896) (j : Fin 512), I = ix2 R j := ⟨I 0, I 1, by funext a; fin_cases a <;> rfl⟩
  rw [fourier_cols]
  rfl

/-- The third result is the kernel's. -/
theorem result2 : val_main_v244 (F := Ideal) x0 x1 x2 x3 x6 x7 x10 x11 x12 x13 = G2 x0 x1 x2 x3 x6 x7 x10 x11 x12 x13 := by
  funext I
  obtain ⟨R, j, rfl⟩ : ∃ (R : Fin 16896) (j : Fin 1024), I = ix2 R j := ⟨I 0, I 1, by funext a; fin_cases a <;> rfl⟩
  rw [query_cols_apply]
  rfl

/-- The fourth result is the kernel's. -/
theorem result3 : val_main_v252 (F := Ideal) x0 x1 x2 x3 x8 x9 x10 x11 x12 x13 = G3 x0 x1 x2 x3 x8 x9 x10 x11 x12 x13 := by
  funext I
  obtain ⟨R, j, rfl⟩ : ∃ (R : Fin 16896) (j : Fin 1024), I = ix2 R j := ⟨I 0, I 1, by funext a; fin_cases a <;> rfl⟩
  rw [key_sample, key_cols_apply]
  rfl

/-- The fifth result is the kernel's. -/
theorem result4 : val_main_v260 (F := Ideal) x0 x1 x2 x3 x8 x9 = G4 x0 x1 x2 x3 x8 x9 := by
  funext I
  obtain ⟨R, j, rfl⟩ : ∃ (R : Fin 16896) (j : Fin 1024), I = ix2 R j := ⟨I 0, I 1, by funext a; fin_cases a <;> rfl⟩
  rw [value_sample, value_cols_apply]
  rfl

end Inproj.Reference

end
-- ==== Proof.Inproj.Claims.lean ====
/- The input projection's claims, each from the modules before: the reference's frame and the equality of the kernel's
   five results with the reference's. -/
module

public import proofs.«01_k».proof.Defs
public import proofs.«01_k».proof.Proof.Inproj.Array
public import proofs.«01_k».proof.Proof.Inproj.RefResults
public import proofs.«01_k».proof.Proof.Gen.Inproj.Frame
public import proofs.«01_k».proof.Proof.Gen.InprojIdeal.Frame
public import proofs.«01_k».proof.Proof.Gen.InprojReferenceIdeal.Run
public import proofs.«01_k».proof.Proof.Gen.InprojReferenceIdeal.Read

@[expose] public section

noncomputable section

namespace Inproj.Claims

open Idealize.ShloMosaic Idealize.SL.Sem

/-- The reference of the input projection terminates with its arguments unchanged and every counter at zero. -/
theorem frame_reference (m : (ℓ : Loc Cert.InprojReferenceIdeal.nD Cert.InprojReferenceIdeal.τ Cert.InprojReferenceIdeal.sig) → Buf (Elt Ideal) ℓ)
    (ρ : Dev Cert.InprojReferenceIdeal.nD → PrngReg) :
    θ_run (Cert.InprojReferenceIdeal.defs (F := Ideal)) (onTc (τ := Cert.InprojReferenceIdeal.τ) (Cert.InprojReferenceIdeal.main (F := Ideal)))
      ⟨m, fun _ => 0, ρ⟩ fun r => (∀ c : Dev Cert.InprojReferenceIdeal.nD,
        r.2.mem ((c.tc : Thread Cert.InprojReferenceIdeal.nD Cert.InprojReferenceIdeal.τ).loc Cert.InprojReferenceIdeal.main_arg0)
            = m ((c.tc : Thread Cert.InprojReferenceIdeal.nD Cert.InprojReferenceIdeal.τ).loc Cert.InprojReferenceIdeal.main_arg0)
        ∧ r.2.mem ((c.tc : Thread Cert.InprojReferenceIdeal.nD Cert.InprojReferenceIdeal.τ).loc Cert.InprojReferenceIdeal.main_arg1)
            = m ((c.tc : Thread Cert.InprojReferenceIdeal.nD Cert.InprojReferenceIdeal.τ).loc Cert.InprojReferenceIdeal.main_arg1)
        ∧ r.2.mem ((c.tc : Thread Cert.InprojReferenceIdeal.nD Cert.InprojReferenceIdeal.τ).loc Cert.InprojReferenceIdeal.main_arg2)
            = m ((c.tc : Thread Cert.InprojReferenceIdeal.nD Cert.InprojReferenceIdeal.τ).loc Cert.InprojReferenceIdeal.main_arg2)
        ∧ r.2.mem ((c.tc : Thread Cert.InprojReferenceIdeal.nD Cert.InprojReferenceIdeal.τ).loc Cert.InprojReferenceIdeal.main_arg3)
            = m ((c.tc : Thread Cert.InprojReferenceIdeal.nD Cert.InprojReferenceIdeal.τ).loc Cert.InprojReferenceIdeal.main_arg3)
        ∧ r.2.mem ((c.tc : Thread Cert.InprojReferenceIdeal.nD Cert.InprojReferenceIdeal.τ).loc Cert.InprojReferenceIdeal.main_arg4)
            = m ((c.tc : Thread Cert.InprojReferenceIdeal.nD Cert.InprojReferenceIdeal.τ).loc Cert.InprojReferenceIdeal.main_arg4)
        ∧ r.2.mem ((c.tc : Thread Cert.InprojReferenceIdeal.nD Cert.InprojReferenceIdeal.τ).loc Cert.InprojReferenceIdeal.main_arg5)
            = m ((c.tc : Thread Cert.InprojReferenceIdeal.nD Cert.InprojReferenceIdeal.τ).loc Cert.InprojReferenceIdeal.main_arg5)
        ∧ r.2.mem ((c.tc : Thread Cert.InprojReferenceIdeal.nD Cert.InprojReferenceIdeal.τ).loc Cert.InprojReferenceIdeal.main_arg6)
            = m ((c.tc : Thread Cert.InprojReferenceIdeal.nD Cert.InprojReferenceIdeal.τ).loc Cert.InprojReferenceIdeal.main_arg6)
        ∧ r.2.mem ((c.tc : Thread Cert.InprojReferenceIdeal.nD Cert.InprojReferenceIdeal.τ).loc Cert.InprojReferenceIdeal.main_arg7)
            = m ((c.tc : Thread Cert.InprojReferenceIdeal.nD Cert.InprojReferenceIdeal.τ).loc Cert.InprojReferenceIdeal.main_arg7)
        ∧ r.2.mem ((c.tc : Thread Cert.InprojReferenceIdeal.nD Cert.InprojReferenceIdeal.τ).loc Cert.InprojReferenceIdeal.main_arg8)
            = m ((c.tc : Thread Cert.InprojReferenceIdeal.nD Cert.InprojReferenceIdeal.τ).loc Cert.InprojReferenceIdeal.main_arg8)
        ∧ r.2.mem ((c.tc : Thread Cert.InprojReferenceIdeal.nD Cert.InprojReferenceIdeal.τ).loc Cert.InprojReferenceIdeal.main_arg9)
            = m ((c.tc : Thread Cert.InprojReferenceIdeal.nD Cert.InprojReferenceIdeal.τ).loc Cert.InprojReferenceIdeal.main_arg9)
        ∧ r.2.mem ((c.tc : Thread Cert.InprojReferenceIdeal.nD Cert.InprojReferenceIdeal.τ).loc Cert.InprojReferenceIdeal.main_arg10)
            = m ((c.tc : Thread Cert.InprojReferenceIdeal.nD Cert.InprojReferenceIdeal.τ).loc Cert.InprojReferenceIdeal.main_arg10)
        ∧ r.2.mem ((c.tc : Thread Cert.InprojReferenceIdeal.nD Cert.InprojReferenceIdeal.τ).loc Cert.InprojReferenceIdeal.main_arg11)
            = m ((c.tc : Thread Cert.InprojReferenceIdeal.nD Cert.InprojReferenceIdeal.τ).loc Cert.InprojReferenceIdeal.main_arg11)
        ∧ r.2.mem ((c.tc : Thread Cert.InprojReferenceIdeal.nD Cert.InprojReferenceIdeal.τ).loc Cert.InprojReferenceIdeal.main_arg12)
            = m ((c.tc : Thread Cert.InprojReferenceIdeal.nD Cert.InprojReferenceIdeal.τ).loc Cert.InprojReferenceIdeal.main_arg12)
        ∧ r.2.mem ((c.tc : Thread Cert.InprojReferenceIdeal.nD Cert.InprojReferenceIdeal.τ).loc Cert.InprojReferenceIdeal.main_arg13)
            = m ((c.tc : Thread Cert.InprojReferenceIdeal.nD Cert.InprojReferenceIdeal.τ).loc Cert.InprojReferenceIdeal.main_arg13))
      ∧ r.2.sem = fun _ => 0 :=
  (θ_run Cert.InprojReferenceIdeal.defs _ _).mono
    (fun r h => ⟨fun c => (h c).2.2.2.2.2, sem_eq_zero_of_no_sems (by decide) r.2⟩)
    (Cert.InprojReferenceIdeal.Value.run (F := Ideal) m ρ)

/-- From memories that agree on the arguments, the kernel and the reference end with the same five results: the gates'
    and the recurrence's columns of every row's projection, the Fourier columns, and the queries, keys and values of every
    head. -/
theorem algebraic : Cert.algebraic_InprojIdeal_InprojReferenceIdeal := by
  intro m g m' g' _ hag
  refine ⟨fun c => Inproj.G0 (m ((c.tc : Thread Cert.InprojIdeal.nD Cert.InprojIdeal.τ).loc Cert.InprojIdeal.main_arg0))
      (m ((c.tc : Thread Cert.InprojIdeal.nD Cert.InprojIdeal.τ).loc Cert.InprojIdeal.main_arg1))
      (m ((c.tc : Thread Cert.InprojIdeal.nD Cert.InprojIdeal.τ).loc Cert.InprojIdeal.main_arg2))
      (m ((c.tc : Thread Cert.InprojIdeal.nD Cert.InprojIdeal.τ).loc Cert.InprojIdeal.main_arg3))
      (m ((c.tc : Thread Cert.InprojIdeal.nD Cert.InprojIdeal.τ).loc Cert.InprojIdeal.main_arg4))
      (m ((c.tc : Thread Cert.InprojIdeal.nD Cert.InprojIdeal.τ).loc Cert.InprojIdeal.main_arg5)),
    fun c => Inproj.G1 (m ((c.tc : Thread Cert.InprojIdeal.nD Cert.InprojIdeal.τ).loc Cert.InprojIdeal.main_arg0))
      (m ((c.tc : Thread Cert.InprojIdeal.nD Cert.InprojIdeal.τ).loc Cert.InprojIdeal.main_arg1))
      (m ((c.tc : Thread Cert.InprojIdeal.nD Cert.InprojIdeal.τ).loc Cert.InprojIdeal.main_arg2))
      (m ((c.tc : Thread Cert.InprojIdeal.nD Cert.InprojIdeal.τ).loc Cert.InprojIdeal.main_arg3)),
    fun c => Inproj.G2 (m ((c.tc : Thread Cert.InprojIdeal.nD Cert.InprojIdeal.τ).loc Cert.InprojIdeal.main_arg0))
      (m ((c.tc : Thread Cert.InprojIdeal.nD Cert.InprojIdeal.τ).loc Cert.InprojIdeal.main_arg1))
      (m ((c.tc : Thread Cert.InprojIdeal.nD Cert.InprojIdeal.τ).loc Cert.InprojIdeal.main_arg2))
      (m ((c.tc : Thread Cert.InprojIdeal.nD Cert.InprojIdeal.τ).loc Cert.InprojIdeal.main_arg3))
      (m ((c.tc : Thread Cert.InprojIdeal.nD Cert.InprojIdeal.τ).loc Cert.InprojIdeal.main_arg6))
      (m ((c.tc : Thread Cert.InprojIdeal.nD Cert.InprojIdeal.τ).loc Cert.InprojIdeal.main_arg7))
      (m ((c.tc : Thread Cert.InprojIdeal.nD Cert.InprojIdeal.τ).loc Cert.InprojIdeal.main_arg10))
      (m ((c.tc : Thread Cert.InprojIdeal.nD Cert.InprojIdeal.τ).loc Cert.InprojIdeal.main_arg11))
      (m ((c.tc : Thread Cert.InprojIdeal.nD Cert.InprojIdeal.τ).loc Cert.InprojIdeal.main_arg12))
      (m ((c.tc : Thread Cert.InprojIdeal.nD Cert.InprojIdeal.τ).loc Cert.InprojIdeal.main_arg13)),
    fun c => Inproj.G3 (m ((c.tc : Thread Cert.InprojIdeal.nD Cert.InprojIdeal.τ).loc Cert.InprojIdeal.main_arg0))
      (m ((c.tc : Thread Cert.InprojIdeal.nD Cert.InprojIdeal.τ).loc Cert.InprojIdeal.main_arg1))
      (m ((c.tc : Thread Cert.InprojIdeal.nD Cert.InprojIdeal.τ).loc Cert.InprojIdeal.main_arg2))
      (m ((c.tc : Thread Cert.InprojIdeal.nD Cert.InprojIdeal.τ).loc Cert.InprojIdeal.main_arg3))
      (m ((c.tc : Thread Cert.InprojIdeal.nD Cert.InprojIdeal.τ).loc Cert.InprojIdeal.main_arg8))
      (m ((c.tc : Thread Cert.InprojIdeal.nD Cert.InprojIdeal.τ).loc Cert.InprojIdeal.main_arg9))
      (m ((c.tc : Thread Cert.InprojIdeal.nD Cert.InprojIdeal.τ).loc Cert.InprojIdeal.main_arg10))
      (m ((c.tc : Thread Cert.InprojIdeal.nD Cert.InprojIdeal.τ).loc Cert.InprojIdeal.main_arg11))
      (m ((c.tc : Thread Cert.InprojIdeal.nD Cert.InprojIdeal.τ).loc Cert.InprojIdeal.main_arg12))
      (m ((c.tc : Thread Cert.InprojIdeal.nD Cert.InprojIdeal.τ).loc Cert.InprojIdeal.main_arg13)),
    fun c => Inproj.G4 (m ((c.tc : Thread Cert.InprojIdeal.nD Cert.InprojIdeal.τ).loc Cert.InprojIdeal.main_arg0))
      (m ((c.tc : Thread Cert.InprojIdeal.nD Cert.InprojIdeal.τ).loc Cert.InprojIdeal.main_arg1))
      (m ((c.tc : Thread Cert.InprojIdeal.nD Cert.InprojIdeal.τ).loc Cert.InprojIdeal.main_arg2))
      (m ((c.tc : Thread Cert.InprojIdeal.nD Cert.InprojIdeal.τ).loc Cert.InprojIdeal.main_arg3))
      (m ((c.tc : Thread Cert.InprojIdeal.nD Cert.InprojIdeal.τ).loc Cert.InprojIdeal.main_arg8))
      (m ((c.tc : Thread Cert.InprojIdeal.nD Cert.InprojIdeal.τ).loc Cert.InprojIdeal.main_arg9)), ?_, ?_⟩
  · exact (θ_run Cert.InprojIdeal.defs _ _).mono (fun r h c => ⟨(h c).1.trans (Inproj.final0 m c),
        (h c).2.1.trans (Inproj.final1 m c), (h c).2.2.1.trans (Inproj.final2 m c),
        (h c).2.2.2.1.trans (Inproj.final3 m c), (h c).2.2.2.2.1.trans (Inproj.final4 m c), (h c).2.2.2.2.2⟩)
      (Cert.InprojIdeal.Value.run_blocks (F := Ideal) m g)
  · refine (θ_run Cert.InprojReferenceIdeal.defs _ _).mono (fun r h c => ⟨(h c).1.trans ?_, (h c).2.1.trans ?_,
        (h c).2.2.1.trans ?_, (h c).2.2.2.1.trans ?_, (h c).2.2.2.2.1.trans ?_, (h c).2.2.2.2.2⟩)
      (Cert.InprojReferenceIdeal.Value.run (F := Ideal) m' g')
    all_goals clear h
    all_goals obtain ⟨a0, a1, a2, a3, a4, a5, a6, a7, a8, a9, a10, a11, a12, a13⟩ := hag c
    · refine (Cert.InprojReferenceIdeal.Read.val_main_v242_eq (StableHlo.launchContents m' c)).trans ?_
      refine (Inproj.Reference.result0 _ _ _ _ _ _).trans ?_
      show Inproj.G0 (m' ((c.tc : Thread Cert.InprojReferenceIdeal.nD Cert.InprojReferenceIdeal.τ).loc Cert.InprojReferenceIdeal.main_arg0)) (m' ((c.tc : Thread Cert.InprojReferenceIdeal.nD Cert.InprojReferenceIdeal.τ).loc Cert.InprojReferenceIdeal.main_arg1)) (m' ((c.tc : Thread Cert.InprojReferenceIdeal.nD Cert.InprojReferenceIdeal.τ).loc Cert.InprojReferenceIdeal.main_arg2)) (m' ((c.tc : Thread Cert.InprojReferenceIdeal.nD Cert.InprojReferenceIdeal.τ).loc Cert.InprojReferenceIdeal.main_arg3)) (m' ((c.tc : Thread Cert.InprojReferenceIdeal.nD Cert.InprojReferenceIdeal.τ).loc Cert.InprojReferenceIdeal.main_arg4)) (m' ((c.tc : Thread Cert.InprojReferenceIdeal.nD Cert.InprojReferenceIdeal.τ).loc Cert.InprojReferenceIdeal.main_arg5)) = _
      rw [a0, a1, a2, a3, a4, a5]
    · refine (Cert.InprojReferenceIdeal.Read.val_main_v64_eq (StableHlo.launchContents m' c)).trans ?_
      refine (Inproj.Reference.result1 _ _ _ _).trans ?_
      show Inproj.G1 (m' ((c.tc : Thread Cert.InprojReferenceIdeal.nD Cert.InprojReferenceIdeal.τ).loc Cert.InprojReferenceIdeal.main_arg0)) (m' ((c.tc : Thread Cert.InprojReferenceIdeal.nD Cert.InprojReferenceIdeal.τ).loc Cert.InprojReferenceIdeal.main_arg1)) (m' ((c.tc : Thread Cert.InprojReferenceIdeal.nD Cert.InprojReferenceIdeal.τ).loc Cert.InprojReferenceIdeal.main_arg2)) (m' ((c.tc : Thread Cert.InprojReferenceIdeal.nD Cert.InprojReferenceIdeal.τ).loc Cert.InprojReferenceIdeal.main_arg3)) = _
      rw [a0, a1, a2, a3]
    · refine (Cert.InprojReferenceIdeal.Read.val_main_v244_eq (StableHlo.launchContents m' c)).trans ?_
      refine (Inproj.Reference.result2 _ _ _ _ _ _ _ _ _ _).trans ?_
      show Inproj.G2 (m' ((c.tc : Thread Cert.InprojReferenceIdeal.nD Cert.InprojReferenceIdeal.τ).loc Cert.InprojReferenceIdeal.main_arg0)) (m' ((c.tc : Thread Cert.InprojReferenceIdeal.nD Cert.InprojReferenceIdeal.τ).loc Cert.InprojReferenceIdeal.main_arg1)) (m' ((c.tc : Thread Cert.InprojReferenceIdeal.nD Cert.InprojReferenceIdeal.τ).loc Cert.InprojReferenceIdeal.main_arg2)) (m' ((c.tc : Thread Cert.InprojReferenceIdeal.nD Cert.InprojReferenceIdeal.τ).loc Cert.InprojReferenceIdeal.main_arg3)) (m' ((c.tc : Thread Cert.InprojReferenceIdeal.nD Cert.InprojReferenceIdeal.τ).loc Cert.InprojReferenceIdeal.main_arg6)) (m' ((c.tc : Thread Cert.InprojReferenceIdeal.nD Cert.InprojReferenceIdeal.τ).loc Cert.InprojReferenceIdeal.main_arg7)) (m' ((c.tc : Thread Cert.InprojReferenceIdeal.nD Cert.InprojReferenceIdeal.τ).loc Cert.InprojReferenceIdeal.main_arg10)) (m' ((c.tc : Thread Cert.InprojReferenceIdeal.nD Cert.InprojReferenceIdeal.τ).loc Cert.InprojReferenceIdeal.main_arg11)) (m' ((c.tc : Thread Cert.InprojReferenceIdeal.nD Cert.InprojReferenceIdeal.τ).loc Cert.InprojReferenceIdeal.main_arg12)) (m' ((c.tc : Thread Cert.InprojReferenceIdeal.nD Cert.InprojReferenceIdeal.τ).loc Cert.InprojReferenceIdeal.main_arg13)) = _
      rw [a0, a1, a2, a3, a6, a7, a10, a11, a12, a13]
    · refine (Cert.InprojReferenceIdeal.Read.val_main_v252_eq (StableHlo.launchContents m' c)).trans ?_
      refine (Inproj.Reference.result3 _ _ _ _ _ _ _ _ _ _).trans ?_
      show Inproj.G3 (m' ((c.tc : Thread Cert.InprojReferenceIdeal.nD Cert.InprojReferenceIdeal.τ).loc Cert.InprojReferenceIdeal.main_arg0)) (m' ((c.tc : Thread Cert.InprojReferenceIdeal.nD Cert.InprojReferenceIdeal.τ).loc Cert.InprojReferenceIdeal.main_arg1)) (m' ((c.tc : Thread Cert.InprojReferenceIdeal.nD Cert.InprojReferenceIdeal.τ).loc Cert.InprojReferenceIdeal.main_arg2)) (m' ((c.tc : Thread Cert.InprojReferenceIdeal.nD Cert.InprojReferenceIdeal.τ).loc Cert.InprojReferenceIdeal.main_arg3)) (m' ((c.tc : Thread Cert.InprojReferenceIdeal.nD Cert.InprojReferenceIdeal.τ).loc Cert.InprojReferenceIdeal.main_arg8)) (m' ((c.tc : Thread Cert.InprojReferenceIdeal.nD Cert.InprojReferenceIdeal.τ).loc Cert.InprojReferenceIdeal.main_arg9)) (m' ((c.tc : Thread Cert.InprojReferenceIdeal.nD Cert.InprojReferenceIdeal.τ).loc Cert.InprojReferenceIdeal.main_arg10)) (m' ((c.tc : Thread Cert.InprojReferenceIdeal.nD Cert.InprojReferenceIdeal.τ).loc Cert.InprojReferenceIdeal.main_arg11)) (m' ((c.tc : Thread Cert.InprojReferenceIdeal.nD Cert.InprojReferenceIdeal.τ).loc Cert.InprojReferenceIdeal.main_arg12)) (m' ((c.tc : Thread Cert.InprojReferenceIdeal.nD Cert.InprojReferenceIdeal.τ).loc Cert.InprojReferenceIdeal.main_arg13)) = _
      rw [a0, a1, a2, a3, a8, a9, a10, a11, a12, a13]
    · refine (Cert.InprojReferenceIdeal.Read.val_main_v260_eq (StableHlo.launchContents m' c)).trans ?_
      refine (Inproj.Reference.result4 _ _ _ _ _ _).trans ?_
      show Inproj.G4 (m' ((c.tc : Thread Cert.InprojReferenceIdeal.nD Cert.InprojReferenceIdeal.τ).loc Cert.InprojReferenceIdeal.main_arg0)) (m' ((c.tc : Thread Cert.InprojReferenceIdeal.nD Cert.InprojReferenceIdeal.τ).loc Cert.InprojReferenceIdeal.main_arg1)) (m' ((c.tc : Thread Cert.InprojReferenceIdeal.nD Cert.InprojReferenceIdeal.τ).loc Cert.InprojReferenceIdeal.main_arg2)) (m' ((c.tc : Thread Cert.InprojReferenceIdeal.nD Cert.InprojReferenceIdeal.τ).loc Cert.InprojReferenceIdeal.main_arg3)) (m' ((c.tc : Thread Cert.InprojReferenceIdeal.nD Cert.InprojReferenceIdeal.τ).loc Cert.InprojReferenceIdeal.main_arg8)) (m' ((c.tc : Thread Cert.InprojReferenceIdeal.nD Cert.InprojReferenceIdeal.τ).loc Cert.InprojReferenceIdeal.main_arg9)) = _
      rw [a0, a1, a2, a3, a8, a9]

end Inproj.Claims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_readable
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.FfnReferenceIdeal
public import proofs.«01_k».proof.Proof.Gen.FfnReferenceIdeal.Run
public import proofs.«01_k».proof.Proof.Gen.FfnReferenceIdeal.Read
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeReferenceIdeal
public import proofs.«01_k».proof.Proof.Gen.MergeReferenceIdeal.Run
public import proofs.«01_k».proof.Proof.Gen.MergeReferenceIdeal.Read
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojIdeal.Value
public import proofs.«01_k».proof.Proof.Gen.InprojReferenceIdeal
public import proofs.«01_k».proof.Proof.Gen.InprojReferenceIdeal.Run
public import proofs.«01_k».proof.Proof.Gen.InprojReferenceIdeal.Read
public import proofs.«01_k».proof.Proof.Attn.Claims
public import proofs.«01_k».proof.Proof.Ffn.Claims
public import proofs.«01_k».proof.Proof.Merge.Claims
public import proofs.«01_k».proof.Proof.Inproj.Claims
public import Idealize.ShloMosaic.Adequacy
public import Idealize.ShloMosaic.Init

@[expose] public section

noncomputable section

namespace Cert.Proof

open Idealize.ShloMosaic Idealize.SL.Sem Cert.Kernel

/-- Every claim of the certificate, for the attention, the half feed-forward, the merge and the input projection: the
    frames of the kernel, of its ideal form and of its reference (for the attention the last two also under the precondition), the idealization
    without a rewrite, and the equality of the results. -/
theorem claim : Cert.Claim :=
  ⟨Cert.Kernel.Gen.facts, Cert.KernelIdeal.Gen.facts, Cert.ReferenceIdeal.Gen.facts, Cert.Ffn.Gen.facts,
    Cert.FfnIdeal.Gen.facts, Cert.FfnReferenceIdeal.Gen.facts,
    Cert.Merge.Gen.facts, Cert.MergeIdeal.Gen.facts, Cert.MergeReferenceIdeal.Gen.facts,
    Cert.Inproj.Gen.facts, Cert.InprojIdeal.Gen.facts, Cert.InprojReferenceIdeal.Gen.facts, Cert.Pre_readable.Gen.facts,
    fun m ρ _ => Cert.Kernel.Gen.frame m ρ,
    fun m ρ _ => Cert.KernelIdeal.Gen.frame m ρ,
    fun m ρ _ => Cert.KernelIdeal.Gen.frame m ρ,
    fun m ρ _ => Attn.Claims.frame_reference m ρ,
    fun m ρ _ => Attn.Claims.frame_reference m ρ,
    fun m ρ _ => Cert.Ffn.Gen.frame m ρ,
    fun m ρ _ => Cert.FfnIdeal.Gen.frame m ρ,
    fun m ρ _ => Ffn.Claims.frame_reference m ρ,
    fun m ρ _ => Cert.Merge.Gen.frame m ρ,
    fun m ρ _ => Cert.MergeIdeal.Gen.frame m ρ,
    fun m ρ _ => Merge.Claims.frame_reference m ρ,
    fun m ρ _ => Cert.Inproj.Gen.frame m ρ,
    fun m ρ _ => Cert.InprojIdeal.Gen.frame m ρ,
    fun m ρ _ => Inproj.Claims.frame_reference m ρ,
    trivial,
    Attn.Claims.algebraic,
    trivial,
    Ffn.Claims.algebraic,
    trivial,
    Merge.Claims.algebraic,
    trivial,
    Inproj.Claims.algebraic⟩

end Cert.Proof

end
